-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)) (v1 : (c : Dev Cert.Kernel2Ideal.nD) → Buf (Elt Ideal) ((c.tc : Thread Cert.Kernel2Ideal.nD Cert.Kernel2Ideal.τ).loc Cert.Kernel2Ideal.main_v8)) (v2 : (c : Dev Cert.Kernel2Ideal.nD) → Buf (Elt Ideal) ((c.tc : Thread Cert.Kernel2Ideal.nD Cert.Kernel2Ideal.τ).loc Cert.Kernel2Ideal.main_v9)) (v3 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_v8) = v1 c
          ∧ r.2.mem ((c.tc : Thread Cert.Kernel2Ideal.nD Cert.Kernel2Ideal.τ).loc Cert.Kernel2Ideal.main_v9) = v2 c
          ∧ r.2.mem ((c.tc : Thread Cert.Kernel2Ideal.nD Cert.Kernel2Ideal.τ).loc Cert.Kernel2Ideal.main_v7) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_v18) = v2 c
          ∧ r.2.mem ((c.tc : Thread Cert.Reference2Ideal.nD Cert.Reference2Ideal.τ).loc Cert.Reference2Ideal.main_v12) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v15)) (v1 : (c : Dev Cert.Kernel3Ideal.nD) → Buf (Elt Ideal) ((c.tc : Thread Cert.Kernel3Ideal.nD Cert.Kernel3Ideal.τ).loc Cert.Kernel3Ideal.main_v20)) (v2 : (c : Dev Cert.Kernel3Ideal.nD) → Buf (Elt Ideal) ((c.tc : Thread Cert.Kernel3Ideal.nD Cert.Kernel3Ideal.τ).loc Cert.Kernel3Ideal.main_v28)) (v3 : (c : Dev Cert.Kernel3Ideal.nD) → Buf (Elt Ideal) ((c.tc : Thread Cert.Kernel3Ideal.nD Cert.Kernel3Ideal.τ).loc Cert.Kernel3Ideal.main_v29)) (v4 : (c : Dev Cert.Kernel3Ideal.nD) → Buf (Elt Ideal) ((c.tc : Thread Cert.Kernel3Ideal.nD Cert.Kernel3Ideal.τ).loc Cert.Kernel3Ideal.main_v19)) (v5 : (c : Dev Cert.Kernel3Ideal.nD) → Buf (Elt Ideal) ((c.tc : Thread Cert.Kernel3Ideal.nD Cert.Kernel3Ideal.τ).loc Cert.Kernel3Ideal.main_v21)) (v6 : (c : Dev Cert.Kernel3Ideal.nD) → Buf (Elt Ideal) ((c.tc : Thread Cert.Kernel3Ideal.nD Cert.Kernel3Ideal.τ).loc Cert.Kernel3Ideal.main_v26)) (v7 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_v20) = v1 c
          ∧ r.2.mem ((c.tc : Thread Cert.Kernel3Ideal.nD Cert.Kernel3Ideal.τ).loc Cert.Kernel3Ideal.main_v28) = v2 c
          ∧ r.2.mem ((c.tc : Thread Cert.Kernel3Ideal.nD Cert.Kernel3Ideal.τ).loc Cert.Kernel3Ideal.main_v29) = v3 c
          ∧ r.2.mem ((c.tc : Thread Cert.Kernel3Ideal.nD Cert.Kernel3Ideal.τ).loc Cert.Kernel3Ideal.main_v19) = v4 c
          ∧ r.2.mem ((c.tc : Thread Cert.Kernel3Ideal.nD Cert.Kernel3Ideal.τ).loc Cert.Kernel3Ideal.main_v21) = v5 c
          ∧ r.2.mem ((c.tc : Thread Cert.Kernel3Ideal.nD Cert.Kernel3Ideal.τ).loc Cert.Kernel3Ideal.main_v26) = v6 c
          ∧ r.2.mem ((c.tc : Thread Cert.Kernel3Ideal.nD Cert.Kernel3Ideal.τ).loc Cert.Kernel3Ideal.main_v17) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_v34) = v2 c
          ∧ r.2.mem ((c.tc : Thread Cert.Reference3Ideal.nD Cert.Reference3Ideal.τ).loc Cert.Reference3Ideal.main_v49) = v3 c
          ∧ r.2.mem ((c.tc : Thread Cert.Reference3Ideal.nD Cert.Reference3Ideal.τ).loc Cert.Reference3Ideal.main_v48) = v4 c
          ∧ r.2.mem ((c.tc : Thread Cert.Reference3Ideal.nD Cert.Reference3Ideal.τ).loc Cert.Reference3Ideal.main_v40) = v5 c
          ∧ r.2.mem ((c.tc : Thread Cert.Reference3Ideal.nD Cert.Reference3Ideal.τ).loc Cert.Reference3Ideal.main_v32) = v6 c
          ∧ r.2.mem ((c.tc : Thread Cert.Reference3Ideal.nD Cert.Reference3Ideal.τ).loc Cert.Reference3Ideal.main_v27) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v30)) (v1 : (c : Dev Cert.Kernel4Ideal.nD) → Buf (Elt Ideal) ((c.tc : Thread Cert.Kernel4Ideal.nD Cert.Kernel4Ideal.τ).loc Cert.Kernel4Ideal.main_v31)) (v2 : (c : Dev Cert.Kernel4Ideal.nD) → Buf (Elt Ideal) ((c.tc : Thread Cert.Kernel4Ideal.nD Cert.Kernel4Ideal.τ).loc Cert.Kernel4Ideal.main_v32)) (v3 : (c : Dev Cert.Kernel4Ideal.nD) → Buf (Elt Ideal) ((c.tc : Thread Cert.Kernel4Ideal.nD Cert.Kernel4Ideal.τ).loc Cert.Kernel4Ideal.main_v33)) (v4 : (c : Dev Cert.Kernel4Ideal.nD) → Buf (Elt Ideal) ((c.tc : Thread Cert.Kernel4Ideal.nD Cert.Kernel4Ideal.τ).loc Cert.Kernel4Ideal.main_v34)) (v5 : (c : Dev Cert.Kernel4Ideal.nD) → Buf (Elt Ideal) ((c.tc : Thread Cert.Kernel4Ideal.nD Cert.Kernel4Ideal.τ).loc Cert.Kernel4Ideal.main_v22)) (v6 : (c : Dev Cert.Kernel4Ideal.nD) → Buf (Elt Ideal) ((c.tc : Thread Cert.Kernel4Ideal.nD Cert.Kernel4Ideal.τ).loc Cert.Kernel4Ideal.main_v29)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30) = v0 c
          ∧ r.2.mem ((c.tc : Thread Cert.Kernel4Ideal.nD Cert.Kernel4Ideal.τ).loc Cert.Kernel4Ideal.main_v31) = v1 c
          ∧ r.2.mem ((c.tc : Thread Cert.Kernel4Ideal.nD Cert.Kernel4Ideal.τ).loc Cert.Kernel4Ideal.main_v32) = v2 c
          ∧ r.2.mem ((c.tc : Thread Cert.Kernel4Ideal.nD Cert.Kernel4Ideal.τ).loc Cert.Kernel4Ideal.main_v33) = v3 c
          ∧ r.2.mem ((c.tc : Thread Cert.Kernel4Ideal.nD Cert.Kernel4Ideal.τ).loc Cert.Kernel4Ideal.main_v34) = v4 c
          ∧ r.2.mem ((c.tc : Thread Cert.Kernel4Ideal.nD Cert.Kernel4Ideal.τ).loc Cert.Kernel4Ideal.main_v22) = v5 c
          ∧ r.2.mem ((c.tc : Thread Cert.Kernel4Ideal.nD Cert.Kernel4Ideal.τ).loc Cert.Kernel4Ideal.main_v29) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_v2) = v1 c
          ∧ r.2.mem ((c.tc : Thread Cert.Reference4Ideal.nD Cert.Reference4Ideal.τ).loc Cert.Reference4Ideal.main_v3) = v2 c
          ∧ r.2.mem ((c.tc : Thread Cert.Reference4Ideal.nD Cert.Reference4Ideal.τ).loc Cert.Reference4Ideal.main_v4) = v3 c
          ∧ r.2.mem ((c.tc : Thread Cert.Reference4Ideal.nD Cert.Reference4Ideal.τ).loc Cert.Reference4Ideal.main_v5) = v4 c
          ∧ r.2.mem ((c.tc : Thread Cert.Reference4Ideal.nD Cert.Reference4Ideal.τ).loc Cert.Reference4Ideal.main_v9) = v5 c
          ∧ r.2.mem ((c.tc : Thread Cert.Reference4Ideal.nD Cert.Reference4Ideal.τ).loc Cert.Reference4Ideal.main_v8) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v9)) (v1 : (c : Dev Cert.Kernel5Ideal.nD) → Buf (Elt Ideal) ((c.tc : Thread Cert.Kernel5Ideal.nD Cert.Kernel5Ideal.τ).loc Cert.Kernel5Ideal.main_v10)) (v2 : (c : Dev Cert.Kernel5Ideal.nD) → Buf (Elt Ideal) ((c.tc : Thread Cert.Kernel5Ideal.nD Cert.Kernel5Ideal.τ).loc Cert.Kernel5Ideal.main_v8)) (v3 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_v10) = v1 c
          ∧ r.2.mem ((c.tc : Thread Cert.Kernel5Ideal.nD Cert.Kernel5Ideal.τ).loc Cert.Kernel5Ideal.main_v8) = v2 c
          ∧ r.2.mem ((c.tc : Thread Cert.Kernel5Ideal.nD Cert.Kernel5Ideal.τ).loc Cert.Kernel5Ideal.main_v11) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v41) = v1 c
          ∧ r.2.mem ((c.tc : Thread Cert.Reference5Ideal.nD Cert.Reference5Ideal.τ).loc Cert.Reference5Ideal.main_v39) = v2 c
          ∧ r.2.mem ((c.tc : Thread Cert.Reference5Ideal.nD Cert.Reference5Ideal.τ).loc Cert.Reference5Ideal.main_v37) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v42)) (v1 : (c : Dev Cert.Kernel6Ideal.nD) → Buf (Elt Ideal) ((c.tc : Thread Cert.Kernel6Ideal.nD Cert.Kernel6Ideal.τ).loc Cert.Kernel6Ideal.main_v45)) (v2 : (c : Dev Cert.Kernel6Ideal.nD) → Buf (Elt Ideal) ((c.tc : Thread Cert.Kernel6Ideal.nD Cert.Kernel6Ideal.τ).loc Cert.Kernel6Ideal.main_v48)) (v3 : (c : Dev Cert.Kernel6Ideal.nD) → Buf (Elt Ideal) ((c.tc : Thread Cert.Kernel6Ideal.nD Cert.Kernel6Ideal.τ).loc Cert.Kernel6Ideal.main_v26)) (v4 : (c : Dev Cert.Kernel6Ideal.nD) → Buf (Elt Ideal) ((c.tc : Thread Cert.Kernel6Ideal.nD Cert.Kernel6Ideal.τ).loc Cert.Kernel6Ideal.main_v31)) (v5 : (c : Dev Cert.Kernel6Ideal.nD) → Buf (Elt Ideal) ((c.tc : Thread Cert.Kernel6Ideal.nD Cert.Kernel6Ideal.τ).loc Cert.Kernel6Ideal.main_v30)) (v6 : (c : Dev Cert.Kernel6Ideal.nD) → Buf (Elt Ideal) ((c.tc : Thread Cert.Kernel6Ideal.nD Cert.Kernel6Ideal.τ).loc Cert.Kernel6Ideal.main_v40)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v42) = v0 c
          ∧ r.2.mem ((c.tc : Thread Cert.Kernel6Ideal.nD Cert.Kernel6Ideal.τ).loc Cert.Kernel6Ideal.main_v45) = v1 c
          ∧ r.2.mem ((c.tc : Thread Cert.Kernel6Ideal.nD Cert.Kernel6Ideal.τ).loc Cert.Kernel6Ideal.main_v48) = v2 c
          ∧ r.2.mem ((c.tc : Thread Cert.Kernel6Ideal.nD Cert.Kernel6Ideal.τ).loc Cert.Kernel6Ideal.main_v26) = v3 c
          ∧ r.2.mem ((c.tc : Thread Cert.Kernel6Ideal.nD Cert.Kernel6Ideal.τ).loc Cert.Kernel6Ideal.main_v31) = v4 c
          ∧ r.2.mem ((c.tc : Thread Cert.Kernel6Ideal.nD Cert.Kernel6Ideal.τ).loc Cert.Kernel6Ideal.main_v30) = v5 c
          ∧ r.2.mem ((c.tc : Thread Cert.Kernel6Ideal.nD Cert.Kernel6Ideal.τ).loc Cert.Kernel6Ideal.main_v40) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v5) = v2 c
          ∧ r.2.mem ((c.tc : Thread Cert.Reference6Ideal.nD Cert.Reference6Ideal.τ).loc Cert.Reference6Ideal.main_v16) = v3 c
          ∧ r.2.mem ((c.tc : Thread Cert.Reference6Ideal.nD Cert.Reference6Ideal.τ).loc Cert.Reference6Ideal.main_v12) = v4 c
          ∧ r.2.mem ((c.tc : Thread Cert.Reference6Ideal.nD Cert.Reference6Ideal.τ).loc Cert.Reference6Ideal.main_v15) = v5 c
          ∧ r.2.mem ((c.tc : Thread Cert.Reference6Ideal.nD Cert.Reference6Ideal.τ).loc Cert.Reference6Ideal.main_v11) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_

variable [Facts]

def fn_part1 {F : FTy → Type} [FloatOps F] (main_v13 : IVec S_ 1) (main_v16 : IVec S8192x8x64 1) : IVec S_ 1 :=
  let main_c_5 : IVec S_ 1 := constantI S_ 1 1#1
  let main_v17 : IVec S_ 1 := (fun x v => Host.reduce IntOp.andi x v reducesTo_S8192x8x64_S_d0_1_2 h_S_) main_v16 main_c_5
  let main_v18 : IVec S_ 1 := andi main_v13 main_v17
  main_v18

def fn {F : FTy → Type} [FloatOps F] (main_arg0 : FVec F S8192x8x96 .f32) (main_arg1 : FVec F S8192x8x96 .f32) (main_arg2 : FVec F S8192x8x64 .f32) (main_arg3 : FVec F S8192x8x64 .f32) : IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8192x8x96 .f32 := Host.absf main_arg1
  let main_cst_0 : FVec F S_ .f32 := constant S_ .f32 0x7F800000#32
  let main_v5 : FVec F S8192x8x96 .f32 := broadcastInDim S8192x8x96 ![] bcast_S_S8192x8x96 main_cst_0
  let main_v6 : IVec S8192x8x96 1 := cmpf .olt main_v4 main_v5
  let main_c_1 : IVec S_ 1 := constantI S_ 1 1#1
  let main_v7 : IVec S_ 1 := (fun x v => Host.reduce IntOp.andi x v reducesTo_S8192x8x96_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x8x64 .f32 := Host.absf main_arg3
  let main_cst_4 : FVec F S_ .f32 := constant S_ .f32 0x7F800000#32
  let main_v15 : FVec F S8192x8x64 .f32 := broadcastInDim S8192x8x64 ![] bcast_S_S8192x8x64 main_cst_4
  let main_v16 : IVec S8192x8x64 1 := cmpf .olt main_v14 main_v15
  fn_part1 (F := F) main_v13 main_v16
-- ==== Kernel.lean ====
abbrev S8192x8x96 : Shape := ⟨3, ![8192, 8, 96]⟩
abbrev S8192x8x64 : Shape := ⟨3, ![8192, 8, 64]⟩
abbrev S_ : Shape := ⟨0, ![]⟩
abbrev S8192x8x1 : Shape := ⟨3, ![8192, 8, 1]⟩
abbrev S8192x8x65 : Shape := ⟨3, ![8192, 8, 65]⟩
abbrev S8192x8x128 : Shape := ⟨3, ![8192, 8, 128]⟩
abbrev S8192x1024 : Shape := ⟨2, ![8192, 1024]⟩
abbrev S8x8x8192 : Shape := ⟨3, ![8, 8, 8192]⟩
abbrev S2048x128 : Shape := ⟨2, ![2048, 128]⟩
abbrev S8192x128 : Shape := ⟨2, ![8192, 128]⟩
abbrev S1x8x2048 : Shape := ⟨3, ![1, 8, 2048]⟩
abbrev S2048x1 : Shape := ⟨2, ![2048, 1]⟩
abbrev S1024x128 : Shape := ⟨2, ![1024, 128]⟩
abbrev S2048x1024 : Shape := ⟨2, ![2048, 1024]⟩
abbrev S2048 : Shape := ⟨1, ![2048]⟩
abbrev S128x2048 : Shape := ⟨2, ![128, 2048]⟩
abbrev S8x2048 : Shape := ⟨2, ![8, 2048]⟩
abbrev S1x2048 : Shape := ⟨2, ![1, 2048]⟩
abbrev S2048x2048 : Shape := ⟨2, ![2048, 2048]⟩
abbrev S1x1x2048 : Shape := ⟨3, ![1, 1, 2048]⟩

abbrev nBuf : Space → Nat
  | .hbm => 35
  | .vmem => 30
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S_, .f32⟩
  | .hbm, ⟨5, _⟩ => ⟨S8192x8x1, .f32⟩
  | .hbm, ⟨6, _⟩ => ⟨S8192x8x65, .f32⟩
  | .hbm, ⟨7, _⟩ => ⟨S_, .f32⟩
  | .hbm, ⟨8, _⟩ => ⟨S8192x8x128, .f32⟩
  | .hbm, ⟨9, _⟩ => ⟨S8192x1024, .f32⟩
  | .hbm, ⟨10, _⟩ => ⟨S8192x1024, .bf16⟩
  | .hbm, ⟨11, _⟩ => ⟨S_, .f32⟩
  | .hbm, ⟨12, _⟩ => ⟨S8192x8x128, .f32⟩
  | .hbm, ⟨13, _⟩ => ⟨S8192x1024, .f32⟩
  | .hbm, ⟨14, _⟩ => ⟨S8192x1024, .bf16⟩
  | .hbm, ⟨15, _⟩ => ⟨S_, .f32⟩
  | .hbm, ⟨16, _⟩ => ⟨S8192x8x128, .f32⟩
  | .hbm, ⟨17, _⟩ => ⟨S8192x1024, .f32⟩
  | .hbm, ⟨18, _⟩ => ⟨S8192x1024, .bf16⟩
  | .hbm, ⟨19, _⟩ => ⟨S8192x1024, .f32⟩
  | .hbm, ⟨20, _⟩ => ⟨S8x8x8192, .f32⟩
  | .hbm, ⟨21, _⟩ => ⟨S_, .f32⟩
  | .hbm, ⟨22, _⟩ => ⟨S8192x8x128, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x8x128, .f32⟩
  | .hbm, ⟨28, _⟩ => ⟨S8192x8x64, .f32⟩
  | .hbm, ⟨29, _⟩ => ⟨S8192x8x128, .f32⟩
  | .hbm, ⟨30, _⟩ => ⟨S8192x8x96, .f32⟩
  | .hbm, ⟨31, _⟩ => ⟨S8192x8x128, .f32⟩
  | .hbm, ⟨32, _⟩ => ⟨S8192x8x96, .f32⟩
  | .hbm, ⟨33, _⟩ => ⟨S8192x8x128, .f32⟩
  | .hbm, ⟨34, _⟩ => ⟨S8192x8x64, .f32⟩
  | .local _ .vmem, ⟨0, _⟩ => ⟨S2048x128, .bf16⟩
  | .local _ .vmem, ⟨1, _⟩ => ⟨S2048x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S2048x128, .f32⟩
  | .local _ .vmem, ⟨7, _⟩ => ⟨S2048x128, .f32⟩
  | .local _ .vmem, ⟨8, _⟩ => ⟨S1x8x2048, .f32⟩
  | .local _ .vmem, ⟨9, _⟩ => ⟨S1x8x2048, .f32⟩
  | .local _ .vmem, ⟨10, _⟩ => ⟨S2048x1, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S1x8x2048, .f32⟩
  | .local _ .vmem, ⟨23, _⟩ => ⟨S1x8x2048, .f32⟩
  | .local _ .vmem, ⟨24, _⟩ => ⟨S8192x128, .f32⟩
  | .local _ .vmem, ⟨25, _⟩ => ⟨S8192x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  let c1024_i32 : BitVec 32 := 1024#32
  let v10 : BitVec 32 := Scalar.muli c0_i32 c1024_i32
  v10
def k0_off1 (c0_i32 : BitVec 32) : Fin 2 → Nat :=
  let c1024_i32 : BitVec 32 := 1024#32
  let v10 : BitVec 32 := Scalar.muli c0_i32 c1024_i32
  let v11 : BitVec 32 := v10
  let v12 : Index := Scalar.indexCast v11
  let c0_6 : Index := 0#32
  ![v12.toNat, 0]
def k0_mult2 : BitVec 32 :=
  let c1_i32 : BitVec 32 := 1#32
  let c1024_i32_19 : BitVec 32 := 1024#32
  let v40 : BitVec 32 := Scalar.muli c1_i32 c1024_i32_19
  v40
def k0_mult3 : BitVec 32 :=
  let c2_i32 : BitVec 32 := 2#32
  let c1024_i32_33 : BitVec 32 := 1024#32
  let v70 : BitVec 32 := Scalar.muli c2_i32 c1024_i32_33
  v70
def k0_mult4 : BitVec 32 :=
  let c3_i32 : BitVec 32 := 3#32
  let c1024_i32_47 : BitVec 32 := 1024#32
  let v100 : BitVec 32 := Scalar.muli c3_i32 c1024_i32_47
  v100
def k0_mult5 : BitVec 32 :=
  let c4_i32 : BitVec 32 := 4#32
  let c1024_i32_61 : BitVec 32 := 1024#32
  let v130 : BitVec 32 := Scalar.muli c4_i32 c1024_i32_61
  v130
def k0_mult6 : BitVec 32 :=
  let c5_i32 : BitVec 32 := 5#32
  let c1024_i32_75 : BitVec 32 := 1024#32
  let v160 : BitVec 32 := Scalar.muli c5_i32 c1024_i32_75
  v160
def k0_mult7 : BitVec 32 :=
  let c6_i32 : BitVec 32 := 6#32
  let c1024_i32_89 : BitVec 32 := 1024#32
  let v190 : BitVec 32 := Scalar.muli c6_i32 c1024_i32_89
  v190
def k0_mult8 : BitVec 32 :=
  let c7_i32 : BitVec 32 := 7#32
  let c1024_i32_103 : BitVec 32 := 1024#32
  let v220 : BitVec 32 := Scalar.muli c7_i32 c1024_i32_103
  v220
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![8, 4, 4], ![false, false, false]⟩

def k1_mult1 (i : grid1.Coords) : BitVec 32 :=
  let arg2 : BitVec 32 := BitVec.ofNat 32 (i 2).val
  let c2048_i32 : BitVec 32 := 2048#32
  let v49 : BitVec 32 := Scalar.muli arg2 c2048_i32
  v49
def k1_off1 (i : grid1.Coords) : Fin 2 → Nat :=
  let arg2 : BitVec 32 := BitVec.ofNat 32 (i 2).val
  let c2048_i32 : BitVec 32 := 2048#32
  let v49 : BitVec 32 := Scalar.muli arg2 c2048_i32
  let v50 : BitVec 32 := v49
  let v51 : Index := Scalar.indexCast v50
  let c0_28 : Index := 0#32
  ![v51.toNat, 0]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 2 → Memref sig .tc .vmem S1x8x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, true]

abbrev stage1_6 : Fin 2 → Memref sig .tc .vmem S8192x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, false]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]
-- ==== ReferenceIdeal.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩

abbrev nBuf : Space → Nat
  | .hbm => 67
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S8x8192x8192, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S8x8192x8192, .f32⟩
  | .hbm, ⟨9, _⟩ => ⟨S8x8192x8192, .i1⟩
  | .hbm, ⟨10, _⟩ => ⟨S8x8192x8192, .f32⟩
  | .hbm, ⟨11, _⟩ => ⟨S_, .f32⟩
  | .hbm, ⟨12, _⟩ => ⟨S8x8192, .f32⟩
  | .hbm, ⟨13, _⟩ => ⟨S_, .f32⟩
  | .hbm, ⟨14, _⟩ => ⟨S8x8192, .f32⟩
  | .hbm, ⟨15, _⟩ => ⟨S8x8192, .f32⟩
  | .hbm, ⟨16, _⟩ => ⟨S_, .f32⟩
  | .hbm, ⟨17, _⟩ => ⟨S8x8192, .f32⟩
  | .hbm, ⟨18, _⟩ => ⟨S8x8192, .i1⟩
  | .hbm, ⟨19, _⟩ => ⟨S_, .f32⟩
  | .hbm, ⟨20, _⟩ => ⟨S8x8192, .f32⟩
  | .hbm, ⟨21, _⟩ => ⟨S8x8192, .i1⟩
  | .hbm, ⟨22, _⟩ => ⟨S_, .f32⟩
  | .hbm, ⟨23, _⟩ => ⟨S8x8192, .f32⟩
  | .hbm, ⟨24, _⟩ => ⟨S_, .f32⟩
  | .hbm, ⟨25, _⟩ => ⟨S8x8192, .f32⟩
  | .hbm, ⟨26, _⟩ => ⟨S_, .f32⟩
  | .hbm, ⟨27, _⟩ => ⟨S8x8192, .f32⟩
  | .hbm, ⟨28, _⟩ => ⟨S8x8192, .f32⟩
  | .hbm, ⟨29, _⟩ => ⟨S8x8192, .f32⟩
  | .hbm, ⟨30, _⟩ => ⟨S8x8192x1, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .f32⟩
  | .hbm, ⟨39, _⟩ => ⟨S8x8192x1, .f32⟩
  | .hbm, ⟨40, _⟩ => ⟨S_, .f32⟩
  | .hbm, ⟨41, _⟩ => ⟨S8x8192x1, .f32⟩
  | .hbm, ⟨42, _⟩ => ⟨S8x8192x1, .f32⟩
  | .hbm, ⟨43, _⟩ => ⟨S8x64x8192, .f32⟩
  | .hbm, ⟨44, _⟩ => ⟨S8192x8x64, .f32⟩
  | .hbm, ⟨45, _⟩ => ⟨S8x64x8192, .f32⟩
  | .hbm, ⟨46, _⟩ => ⟨S8x8192x8192, .f32⟩
  | .hbm, ⟨47, _⟩ => ⟨S8x64x8192, .f32⟩
  | .hbm, ⟨48, _⟩ => ⟨S8192x8x64, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S_, .f32⟩
  | .hbm, ⟨53, _⟩ => ⟨S8x8192, .f32⟩
  | .hbm, ⟨54, _⟩ => ⟨S8x8192x1, .f32⟩
  | .hbm, ⟨55, _⟩ => ⟨S8x8192x1, .f32⟩
  | .hbm, ⟨56, _⟩ => ⟨S8x8192x8192, .f32⟩
  | .hbm, ⟨57, _⟩ => ⟨S8x8192x8192, .f32⟩
  | .hbm, ⟨58, _⟩ => ⟨S_, .f32⟩
  | .hbm, ⟨59, _⟩ => ⟨S8x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S8x8192x96, .f32⟩
  | .hbm, ⟨64, _⟩ => ⟨S8192x8x96, .f32⟩
  | .hbm, ⟨65, _⟩ => ⟨S8x8192x96, .f32⟩
  | .hbm, ⟨66, _⟩ => ⟨S8192x8x96, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Kernel2.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S1024x1024 : Shape := ⟨2, ![1024, 1024]⟩
abbrev S1024x2048 : Shape := ⟨2, ![1024, 2048]⟩
abbrev S512x4096 : Shape := ⟨2, ![512, 4096]⟩
abbrev S512x1024 : Shape := ⟨2, ![512, 1024]⟩
abbrev S2048x1024 : Shape := ⟨2, ![2048, 1024]⟩

abbrev nBuf : Space → Nat
  | .hbm => 16
  | .vmem => 40
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .bf16⟩
  | .hbm, ⟨6, _⟩ => ⟨S1024x4096, .bf16⟩
  | .hbm, ⟨7, _⟩ => ⟨S4096x1024, .bf16⟩
  | .hbm, ⟨8, _⟩ => ⟨S8192x1024, .bf16⟩
  | .hbm, ⟨9, _⟩ => ⟨S8192x4096, .f32⟩
  | .hbm, ⟨10, _⟩ => ⟨S8192x4096, .bf16⟩
  | .hbm, ⟨11, _⟩ => ⟨S8192x1024, .f32⟩
  | .hbm, ⟨12, _⟩ => ⟨S8192x4096, .bf16⟩
  | .hbm, ⟨13, _⟩ => ⟨S4096x1024, .f32⟩
  | .hbm, ⟨14, _⟩ => ⟨S8192x1024, .f32⟩
  | .hbm, ⟨15, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | .local _ .vmem, ⟨7, _⟩ => ⟨S1024x2048, .bf16⟩
  | .local _ .vmem, ⟨8, _⟩ => ⟨S512x4096, .bf16⟩
  | .local _ .vmem, ⟨9, _⟩ => ⟨S512x4096, .bf16⟩
  | .local _ .vmem, ⟨10, _⟩ => ⟨S4096x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1024x1024, .bf16⟩
  | .local _ .vmem, ⟨16, _⟩ => ⟨S1024x1024, .bf16⟩
  | .local _ .vmem, ⟨17, _⟩ => ⟨S2048x1024, .bf16⟩
  | .local _ .vmem, ⟨18, _⟩ => ⟨S2048x1024, .bf16⟩
  | .local _ .vmem, ⟨19, _⟩ => ⟨S1024x2048, .f32⟩
  | .local _ .vmem, ⟨20, _⟩ => ⟨S1024x2048, .f32⟩
  | .local _ .vmem, ⟨21, _⟩ => ⟨S1024x2048, .bf16⟩
  | .local _ .vmem, ⟨22, _⟩ => ⟨S1024x2048, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .f32⟩
  | .local _ .vmem, ⟨28, _⟩ => ⟨S1024x1024, .f32⟩
  | .local _ .vmem, ⟨29, _⟩ => ⟨S512x4096, .bf16⟩
  | .local _ .vmem, ⟨30, _⟩ => ⟨S512x4096, .bf16⟩
  | .local _ .vmem, ⟨31, _⟩ => ⟨S1024x4096, .bf16⟩
  | .local _ .vmem, ⟨32, _⟩ => ⟨S512x1024, .f32⟩
  | .local _ .vmem, ⟨33, _⟩ => ⟨S512x1024, .f32⟩
  | .local _ .vmem, ⟨34, _⟩ => ⟨S1024x1024, .bf16⟩
  | .local _ .vmem, ⟨35, _⟩ => ⟨S1024x1024, .bf16⟩
  | .local _ .vmem, ⟨36, _⟩ => ⟨S1024x2048, .bf16⟩
  | .local _ .vmem, ⟨37, _⟩ => ⟨S1024x2048, .bf16⟩
  | .local _ .vmem, ⟨38, _⟩ => ⟨S1024x2048, .f32⟩
  | .local _ .vmem, ⟨39, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![1, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![4, 1, 8], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨2, ![1, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S1024x4096 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨3, ![1, 2, 8], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference2Ideal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .i1⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x4096, .f32⟩
  | .hbm, ⟨22, _⟩ => ⟨S4096x1024, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S4096x1024, .f32⟩
  | .hbm, ⟨29, _⟩ => ⟨S1024x4096, .f32⟩
  | .hbm, ⟨30, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel3.lean ====
abbrev S8192x512 : Shape := ⟨2, ![8192, 512]⟩
abbrev S8192x8x64 : Shape := ⟨3, ![8192, 8, 64]⟩
abbrev S8192x2048 : Shape := ⟨2, ![8192, 2048]⟩
abbrev S2x1024 : Shape := ⟨2, ![2, 1024]⟩
abbrev S512x1024 : Shape := ⟨2, ![512, 1024]⟩
abbrev S1024x1024 : Shape := ⟨2, ![1024, 1024]⟩
abbrev S8192x1024 : Shape := ⟨2, ![8192, 1024]⟩
abbrev S_ : Shape := ⟨0, ![]⟩
abbrev S8192x8x1 : Shape := ⟨3, ![8192, 8, 1]⟩
abbrev S8192x8x65 : Shape := ⟨3, ![8192, 8, 65]⟩
abbrev S8192x8x128 : Shape := ⟨3, ![8192, 8, 128]⟩
abbrev S8x64x1024 : Shape := ⟨3, ![8, 64, 1024]⟩
abbrev S8x128x1024 : Shape := ⟨3, ![8, 128, 1024]⟩
abbrev S1024x512 : Shape := ⟨2, ![1024, 512]⟩
abbrev S1x1024 : Shape := ⟨2, ![1, 1024]⟩
abbrev S256x1024 : Shape := ⟨2, ![256, 1024]⟩
abbrev S256x2048 : Shape := ⟨2, ![256, 2048]⟩
abbrev S1024 : Shape := ⟨1, ![1024]⟩

abbrev nBuf : Space → Nat
  | .hbm => 47
  | .vmem => 77
  | .smem => 0
  | _ => 0

abbrev bufTy : (tb : Table) → Fin (tcTables nBuf tb) → BufTy
  | .hbm, ⟨0, _⟩ => ⟨S8192x512, .f32⟩
  | .hbm, ⟨1, _⟩ => ⟨S8192x8x64, .f32⟩
  | .hbm, ⟨2, _⟩ => ⟨S8192x2048, .f32⟩
  | .hbm, ⟨3, _⟩ => ⟨S2x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x512, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S8192x1024, .bf16⟩
  | .hbm, ⟨14, _⟩ => ⟨S_, .f32⟩
  | .hbm, ⟨15, _⟩ => ⟨S8192x8x1, .f32⟩
  | .hbm, ⟨16, _⟩ => ⟨S8192x8x65, .f32⟩
  | .hbm, ⟨17, _⟩ => ⟨S_, .f32⟩
  | .hbm, ⟨18, _⟩ => ⟨S8192x8x128, .f32⟩
  | .hbm, ⟨19, _⟩ => ⟨S8192x1024, .f32⟩
  | .hbm, ⟨20, _⟩ => ⟨S8x64x1024, .bf16⟩
  | .hbm, ⟨21, _⟩ => ⟨S_, .i32⟩
  | .hbm, ⟨22, _⟩ => ⟨S_, .bf16⟩
  | .hbm, ⟨23, _⟩ => ⟨S8x128x1024, .bf16⟩
  | .hbm, ⟨24, _⟩ => ⟨S1024x1024, .bf16⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8192x1024, .f32⟩
  | .hbm, ⟨29, _⟩ => ⟨S8192x1024, .f32⟩
  | .hbm, ⟨30, _⟩ => ⟨S1024x1024, .f32⟩
  | .hbm, ⟨31, _⟩ => ⟨S8192x1024, .bf16⟩
  | .hbm, ⟨32, _⟩ => ⟨S8192x1024, .bf16⟩
  | .hbm, ⟨33, _⟩ => ⟨S8192x2048, .bf16⟩
  | .hbm, ⟨34, _⟩ => ⟨S1x1024, .f32⟩
  | .hbm, ⟨35, _⟩ => ⟨S1x1024, .f32⟩
  | .hbm, ⟨36, _⟩ => ⟨S2x1024, .f32⟩
  | .hbm, ⟨37, _⟩ => ⟨S8192x512, .f32⟩
  | .hbm, ⟨38, _⟩ => ⟨S512x1024, .f32⟩
  | .hbm, ⟨39, _⟩ => ⟨S8192x1024, .f32⟩
  | .hbm, ⟨40, _⟩ => ⟨S1024x1024, .f32⟩
  | .hbm, ⟨41, _⟩ => ⟨S8x128x1024, .f32⟩
  | .hbm, ⟨42, _⟩ => ⟨S8x64x1024, .f32⟩
  | .hbm, ⟨43, _⟩ => ⟨S512x1024, .f32⟩
  | .hbm, ⟨44, _⟩ => ⟨S8192x8x128, .f32⟩
  | .hbm, ⟨45, _⟩ => ⟨S8192x8x64, .f32⟩
  | .hbm, ⟨46, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S2x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .f32⟩
  | .local _ .vmem, ⟨32, _⟩ => ⟨S1024x1024, .f32⟩
  | .local _ .vmem, ⟨33, _⟩ => ⟨S1024x1024, .bf16⟩
  | .local _ .vmem, ⟨34, _⟩ => ⟨S1024x1024, .bf16⟩
  | .local _ .vmem, ⟨35, _⟩ => ⟨S1024x1024, .bf16⟩
  | .local _ .vmem, ⟨36, _⟩ => ⟨S1024x1024, .bf16⟩
  | .local _ .vmem, ⟨37, _⟩ => ⟨S1024x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | .local _ .vmem, ⟨45, _⟩ => ⟨S256x1024, .f32⟩
  | .local _ .vmem, ⟨46, _⟩ => ⟨S256x1024, .f32⟩
  | .local _ .vmem, ⟨47, _⟩ => ⟨S256x1024, .f32⟩
  | .local _ .vmem, ⟨48, _⟩ => ⟨S2x1024, .f32⟩
  | .local _ .vmem, ⟨49, _⟩ => ⟨S256x1024, .bf16⟩
  | .local _ .vmem, ⟨50, _⟩ => ⟨S256x1024, .bf16⟩
  | .local _ .vmem, ⟨51, _⟩ => ⟨S256x1024, .bf16⟩
  | .local _ .vmem, ⟨52, _⟩ => ⟨S256x1024, .bf16⟩
  | .local _ .vmem, ⟨53, _⟩ => ⟨S256x2048, .bf16⟩
  | .local _ .vmem, ⟨54, _⟩ => ⟨S256x2048, .bf16⟩
  | .local _ .vmem, ⟨55, _⟩ => ⟨S1x1024, .f32⟩
  | .local _ .vmem, ⟨56, _⟩ => ⟨S1x1024, .f32⟩
  | .local _ .vmem, ⟨57, _⟩ => ⟨S1024x1024, .bf16⟩
  | .local _ .vmem, ⟨58, _⟩ => ⟨S1024x1024, .bf16⟩
  | .local _ .vmem, ⟨59, _⟩ => ⟨S512x1024, .bf16⟩
  | .local _ .vmem, ⟨60, _⟩ => ⟨S1024x512, .f32⟩
  | .local _ .vmem, ⟨61, _⟩ => ⟨S1024x512, .f32⟩
  | .local _ .vmem, ⟨62, _⟩ => ⟨S1024x512, .bf16⟩
  | .local _ .vmem, ⟨63, _⟩ => ⟨S1024x512, .bf16⟩
  | .local _ .vmem, ⟨64, _⟩ => ⟨S1024x1024, .bf16⟩
  | .local _ .vmem, ⟨65, _⟩ => ⟨S1024x1024, .bf16⟩
  | .local _ .vmem, ⟨66, _⟩ => ⟨S512x1024, .f32⟩
  | .local _ .vmem, ⟨67, _⟩ => ⟨S1024x1024, .bf16⟩
  | .local _ .vmem, ⟨68, _⟩ => ⟨S1024x1024, .bf16⟩
  | .local _ .vmem, ⟨69, _⟩ => ⟨S1024x1024, .bf16⟩
  | .local _ .vmem, ⟨70, _⟩ => ⟨S1024x1024, .f32⟩
  | .local _ .vmem, ⟨71, _⟩ => ⟨S1024x1024, .f32⟩
  | .local _ .vmem, ⟨72, _⟩ => ⟨S1024x1024, .f32⟩
  | .local _ .vmem, ⟨73, _⟩ => ⟨S1024x1024, .f32⟩
  | .local _ .vmem, ⟨74, _⟩ => ⟨S1024x1024, .bf16⟩
  | .local _ .vmem, ⟨75, _⟩ => ⟨S1024x1024, .bf16⟩
  | .local _ .vmem, ⟨76, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_call0_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc6_stg3_0 : Ref sig .tc := ⟨.vmem, 44, rfl⟩
abbrev cc6_stg3_1 : Ref sig .tc := ⟨.vmem, 45, rfl⟩
abbrev cc6_stg4_0 : Ref sig .tc := ⟨.vmem, 46, rfl⟩
abbrev cc6_stg4_1 : Ref sig .tc := ⟨.vmem, 47, rfl⟩
abbrev cc6_stg5_0 : Ref sig .tc := ⟨.vmem, 48, rfl⟩
abbrev cc6_stg6_0 : Ref sig .tc := ⟨.vmem, 49, rfl⟩
abbrev cc6_stg6_1 : Ref sig .tc := ⟨.vmem, 50, rfl⟩
abbrev cc6_stg7_0 : Ref sig .tc := ⟨.vmem, 51, rfl⟩
abbrev cc6_stg7_1 : Ref sig .tc := ⟨.vmem, 52, rfl⟩
abbrev cc6_stg8_0 : Ref sig .tc := ⟨.vmem, 53, rfl⟩
abbrev cc6_stg8_1 : Ref sig .tc := ⟨.vmem, 54, rfl⟩
abbrev cc6_stg9_0 : Ref sig .tc := ⟨.vmem, 55, rfl⟩
abbrev cc6_stg10_0 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg2_0 : Ref sig .tc := ⟨.vmem, 60, rfl⟩
abbrev cc7_stg2_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg1_1 : Ref sig .tc := ⟨.vmem, 65, rfl⟩
abbrev cc8_stg2_0 : Ref sig .tc := ⟨.vmem, 66, rfl⟩
abbrev cc9_stg0_0 : Ref sig .tc := ⟨.vmem, 67, rfl⟩
abbrev cc9_stg0_1 : Ref sig .tc := ⟨.vmem, 68, rfl⟩
abbrev cc9_stg1_0 : Ref sig .tc := ⟨.vmem, 69, rfl⟩
abbrev cc9_stg2_0 : Ref sig .tc := ⟨.vmem, 70, rfl⟩
abbrev cc9_stg2_1 : Ref sig .tc := ⟨.vmem, 71, rfl⟩
abbrev cc10_stg0_0 : Ref sig .tc := ⟨.vmem, 72, rfl⟩
abbrev cc10_stg0_1 : Ref sig .tc := ⟨.vmem, 73, rfl⟩
abbrev cc10_stg1_0 : Ref sig .tc := ⟨.vmem, 74, rfl⟩
abbrev cc10_stg1_1 : Ref sig .tc := ⟨.vmem, 75, rfl⟩
abbrev cc10_stg2_0 : Ref sig .tc := ⟨.vmem, 76, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc6_sem3_0 : DmaSem sig := 44
abbrev cc6_sem3_1 : DmaSem sig := 45
abbrev cc6_sem4_0 : DmaSem sig := 46
abbrev cc6_sem4_1 : DmaSem sig := 47
abbrev cc6_sem5_0 : DmaSem sig := 48
abbrev cc6_sem6_0 : DmaSem sig := 49
abbrev cc6_sem6_1 : DmaSem sig := 50
abbrev cc6_sem7_0 : DmaSem sig := 51
abbrev cc6_sem7_1 : DmaSem sig := 52
abbrev cc6_sem8_0 : DmaSem sig := 53
abbrev cc6_sem8_1 : DmaSem sig := 54
abbrev cc6_sem9_0 : DmaSem sig := 55
abbrev cc6_sem10_0 : DmaSem sig := 56
abbrev cc7_sem0_0 : DmaSem sig := 57
abbrev cc7_sem0_1 : DmaSem sig := 58
abbrev cc7_sem1_0 : DmaSem sig := 59
abbrev cc7_sem2_0 : DmaSem sig := 60
abbrev cc7_sem2_1 : DmaSem sig := 61
abbrev cc8_sem0_0 : DmaSem sig := 62
abbrev cc8_sem0_1 : DmaSem sig := 63
abbrev cc8_sem1_0 : DmaSem sig := 64
abbrev cc8_sem1_1 : DmaSem sig := 65
abbrev cc8_sem2_0 : DmaSem sig := 66
abbrev cc9_sem0_0 : DmaSem sig := 67
abbrev cc9_sem0_1 : DmaSem sig := 68
abbrev cc9_sem1_0 : DmaSem sig := 69
abbrev cc9_sem2_0 : DmaSem sig := 70
abbrev cc9_sem2_1 : DmaSem sig := 71
abbrev cc10_sem0_0 : DmaSem sig := 72
abbrev cc10_sem0_1 : DmaSem sig := 73
abbrev cc10_sem1_0 : DmaSem sig := 74
abbrev cc10_sem1_1 : DmaSem sig := 75
abbrev cc10_sem2_0 : DmaSem sig := 76

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S2x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![1, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨3, ![1, 1, 8], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 1 → Memref sig .tc .vmem S1024x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c1_i32 : BitVec 32 := 1#32
  let c0_i32 : BitVec 32 := 0#32
  ![arg0.toNat, c1_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S256x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S256x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S256x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S2x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S256x1024 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S256x1024 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S256x2048 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 1 → Memref sig .tc .vmem S1x1024 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x1024 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev grid7 : Pipeline.Grid := ⟨2, ![1, 8], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 1 → Memref sig .tc .vmem S512x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true, false]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨3, ![1, 1, 8], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S1024x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 1 → Memref sig .tc .vmem S512x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true, true, false]

abbrev grid9 : Pipeline.Grid := ⟨2, ![1, 8], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage9_0 : Fin 2 → Memref sig .tc .vmem S1024x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true]

abbrev stage9_1 : Fin 1 → Memref sig .tc .vmem S1024x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true, false]

abbrev stage9_2 : Fin 2 → Memref sig .tc .vmem S1024x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨3, ![1, 1, 8], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S1024x1024 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S1024x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 1 → Memref sig .tc .vmem S1024x1024 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![true, true, false]
-- ==== Reference3Ideal.lean ====
abbrev S8192x512 : Shape := ⟨2, ![8192, 512]⟩
abbrev S8192x8x64 : Shape := ⟨3, ![8192, 8, 64]⟩
abbrev S8192x2048 : Shape := ⟨2, ![8192, 2048]⟩
abbrev S2x1024 : Shape := ⟨2, ![2, 1024]⟩
abbrev S512x1024 : Shape := ⟨2, ![512, 1024]⟩
abbrev S1024x1024 : Shape := ⟨2, ![1024, 1024]⟩
abbrev S8192x1024 : Shape := ⟨2, ![8192, 1024]⟩
abbrev S8192x2x1024 : Shape := ⟨3, ![8192, 2, 1024]⟩
abbrev S1x2x1024 : Shape := ⟨3, ![1, 2, 1024]⟩
abbrev S_ : Shape := ⟨0, ![]⟩
abbrev S8192x1x1024 : Shape := ⟨3, ![8192, 1, 1024]⟩
abbrev S1024x512 : Shape := ⟨2, ![1024, 512]⟩

abbrev nBuf : Space → Nat
  | .hbm => 66
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8x64, .f32⟩
  | .hbm, ⟨2, _⟩ => ⟨S8192x2048, .f32⟩
  | .hbm, ⟨3, _⟩ => ⟨S2x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x2x1024, .f32⟩
  | .hbm, ⟨10, _⟩ => ⟨S1x2x1024, .f32⟩
  | .hbm, ⟨11, _⟩ => ⟨S8192x2x1024, .f32⟩
  | .hbm, ⟨12, _⟩ => ⟨S8192x2x1024, .f32⟩
  | .hbm, ⟨13, _⟩ => ⟨S8192x2x1024, .f32⟩
  | .hbm, ⟨14, _⟩ => ⟨S8192x2x1024, .f32⟩
  | .hbm, ⟨15, _⟩ => ⟨S_, .f32⟩
  | .hbm, ⟨16, _⟩ => ⟨S8192x2x1024, .f32⟩
  | .hbm, ⟨17, _⟩ => ⟨S8192x2x1024, .f32⟩
  | .hbm, ⟨18, _⟩ => ⟨S_, .f32⟩
  | .hbm, ⟨19, _⟩ => ⟨S8192x2x1024, .f32⟩
  | .hbm, ⟨20, _⟩ => ⟨S8192x2x1024, .f32⟩
  | .hbm, ⟨21, _⟩ => ⟨S_, .f32⟩
  | .hbm, ⟨22, _⟩ => ⟨S8192x2x1024, .f32⟩
  | .hbm, ⟨23, _⟩ => ⟨S8192x2x1024, .f32⟩
  | .hbm, ⟨24, _⟩ => ⟨S8192x2x1024, .f32⟩
  | .hbm, ⟨25, _⟩ => ⟨S8192x1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1x1024, .f32⟩
  | .hbm, ⟨30, _⟩ => ⟨S8192x1024, .f32⟩
  | .hbm, ⟨31, _⟩ => ⟨S8192x512, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S1024x1024, .f32⟩
  | .hbm, ⟨39, _⟩ => ⟨S1024x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S1024x512, .f32⟩
  | .hbm, ⟨44, _⟩ => ⟨S512x1024, .f32⟩
  | .hbm, ⟨45, _⟩ => ⟨S8192x512, .f32⟩
  | .hbm, ⟨46, _⟩ => ⟨S8192x8x64, .f32⟩
  | .hbm, ⟨47, _⟩ => ⟨S8192x1x1024, .f32⟩
  | .hbm, ⟨48, _⟩ => ⟨S_, .f32⟩
  | .hbm, ⟨49, _⟩ => ⟨S8192x2x1024, .f32⟩
  | .hbm, ⟨50, _⟩ => ⟨S8192x1024, .f32⟩
  | .hbm, ⟨51, _⟩ => ⟨S8192x1024, .f32⟩
  | .hbm, ⟨52, _⟩ => ⟨S1024x512, .f32⟩
  | .hbm, ⟨53, _⟩ => ⟨S512x1024, .f32⟩
  | .hbm, ⟨54, _⟩ => ⟨S8192x512, .f32⟩
  | .hbm, ⟨55, _⟩ => ⟨S8192x1x1024, .f32⟩
  | .hbm, ⟨56, _⟩ => ⟨S_, .f32⟩
  | .hbm, ⟨57, _⟩ => ⟨S8192x2x1024, .f32⟩
  | .hbm, ⟨58, _⟩ => ⟨S8192x2x1024, .f32⟩
  | .hbm, ⟨59, _⟩ => ⟨S8192x2x1024, .f32⟩
  | .hbm, ⟨60, _⟩ => ⟨S_, .f32⟩
  | .hbm, ⟨61, _⟩ => ⟨S2x1024, .f32⟩
  | .hbm, ⟨62, _⟩ => ⟨S1x2x1024, .f32⟩
  | .hbm, ⟨63, _⟩ => ⟨S_, .f32⟩
  | .hbm, ⟨64, _⟩ => ⟨S2x1024, .f32⟩
  | .hbm, ⟨65, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Kernel4.lean ====
abbrev S8192x1024 : Shape := ⟨2, ![8192, 1024]⟩
abbrev S1024x3232 : Shape := ⟨2, ![1024, 3232]⟩
abbrev S8192x512 : Shape := ⟨2, ![8192, 512]⟩
abbrev S8192x384 : Shape := ⟨2, ![8192, 384]⟩
abbrev S8192x256 : Shape := ⟨2, ![8192, 256]⟩
abbrev S8192x32 : Shape := ⟨2, ![8192, 32]⟩
abbrev S8192x2048 : Shape := ⟨2, ![8192, 2048]⟩
abbrev S1024x2048 : Shape := ⟨2, ![1024, 2048]⟩
abbrev S1024x512 : Shape := ⟨2, ![1024, 512]⟩
abbrev S1024x256 : Shape := ⟨2, ![1024, 256]⟩
abbrev S_ : Shape := ⟨0, ![]⟩
abbrev S1024x64 : Shape := ⟨2, ![1024, 64]⟩
abbrev S1024x32 : Shape := ⟨2, ![1024, 32]⟩
abbrev S1024x128 : Shape := ⟨2, ![1024, 128]⟩
abbrev S1024x384 : Shape := ⟨2, ![1024, 384]⟩
abbrev S1024x3584 : Shape := ⟨2, ![1024, 3584]⟩
abbrev S8192x3584 : Shape := ⟨2, ![8192, 3584]⟩
abbrev S1024x1024 : Shape := ⟨2, ![1024, 1024]⟩
abbrev S1024x1792 : Shape := ⟨2, ![1024, 1792]⟩
abbrev S8192x128 : Shape := ⟨2, ![8192, 128]⟩
abbrev S512x3584 : Shape := ⟨2, ![512, 3584]⟩
abbrev S512x1024 : Shape := ⟨2, ![512, 1024]⟩

abbrev nBuf : Space → Nat
  | .hbm => 49
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x3232, .f32⟩
  | .hbm, ⟨2, _⟩ => ⟨S8192x512, .f32⟩
  | .hbm, ⟨3, _⟩ => ⟨S8192x384, .f32⟩
  | .hbm, ⟨4, _⟩ => ⟨S8192x256, .f32⟩
  | .hbm, ⟨5, _⟩ => ⟨S8192x32, .f32⟩
  | .hbm, ⟨6, _⟩ => ⟨S8192x2048, .f32⟩
  | .hbm, ⟨7, _⟩ => ⟨S8192x1024, .bf16⟩
  | .hbm, ⟨8, _⟩ => ⟨S1024x3232, .bf16⟩
  | .hbm, ⟨9, _⟩ => ⟨S8192x512, .bf16⟩
  | .hbm, ⟨10, _⟩ => ⟨S8192x384, .bf16⟩
  | .hbm, ⟨11, _⟩ => ⟨S8192x256, .bf16⟩
  | .hbm, ⟨12, _⟩ => ⟨S8192x32, .bf16⟩
  | .hbm, ⟨13, _⟩ => ⟨S8192x2048, .bf16⟩
  | .hbm, ⟨14, _⟩ => ⟨S1024x2048, .bf16⟩
  | .hbm, ⟨15, _⟩ => ⟨S1024x512, .bf16⟩
  | .hbm, ⟨16, _⟩ => ⟨S1024x256, .bf16⟩
  | .hbm, ⟨17, _⟩ => ⟨S_, .bf16⟩
  | .hbm, ⟨18, _⟩ => ⟨S1024x64, .bf16⟩
  | .hbm, ⟨19, _⟩ => ⟨S1024x32, .bf16⟩
  | .hbm, ⟨20, _⟩ => ⟨S_, .bf16⟩
  | .hbm, ⟨21, _⟩ => ⟨S1024x32, .bf16⟩
  | .hbm, ⟨22, _⟩ => ⟨S_, .bf16⟩
  | .hbm, ⟨23, _⟩ => ⟨S1024x128, .bf16⟩
  | .hbm, ⟨24, _⟩ => ⟨S1024x384, .bf16⟩
  | .hbm, ⟨25, _⟩ => ⟨S_, .bf16⟩
  | .hbm, ⟨26, _⟩ => ⟨S1024x128, .bf16⟩
  | .hbm, ⟨27, _⟩ => ⟨S1024x3584, .bf16⟩
  | .hbm, ⟨28, _⟩ => ⟨S8192x3584, .f32⟩
  | .hbm, ⟨29, _⟩ => ⟨S_, .bf16⟩
  | .hbm, ⟨30, _⟩ => ⟨S8192x128, .bf16⟩
  | .hbm, ⟨31, _⟩ => ⟨S_, .bf16⟩
  | .hbm, ⟨32, _⟩ => ⟨S8192x128, .bf16⟩
  | .hbm, ⟨33, _⟩ => ⟨S_, .bf16⟩
  | .hbm, ⟨34, _⟩ => ⟨S8192x128, .bf16⟩
  | .hbm, ⟨35, _⟩ => ⟨S8192x3584, .bf16⟩
  | .hbm, ⟨36, _⟩ => ⟨S8192x1024, .f32⟩
  | .hbm, ⟨37, _⟩ => ⟨S1024x3584, .f32⟩
  | .hbm, ⟨38, _⟩ => ⟨S1024x512, .f32⟩
  | .hbm, ⟨39, _⟩ => ⟨S1024x384, .f32⟩
  | .hbm, ⟨40, _⟩ => ⟨S1024x256, .f32⟩
  | .hbm, ⟨41, _⟩ => ⟨S1024x32, .f32⟩
  | .hbm, ⟨42, _⟩ => ⟨S1024x2048, .f32⟩
  | .hbm, ⟨43, _⟩ => ⟨S1024x3232, .f32⟩
  | .hbm, ⟨44, _⟩ => ⟨S8192x512, .f32⟩
  | .hbm, ⟨45, _⟩ => ⟨S8192x384, .f32⟩
  | .hbm, ⟨46, _⟩ => ⟨S8192x256, .f32⟩
  | .hbm, ⟨47, _⟩ => ⟨S8192x32, .f32⟩
  | .hbm, ⟨48, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1792, .f32⟩
  | .local _ .vmem, ⟨5, _⟩ => ⟨S1024x1792, .f32⟩
  | .local _ .vmem, ⟨6, _⟩ => ⟨S512x3584, .bf16⟩
  | .local _ .vmem, ⟨7, _⟩ => ⟨S512x3584, .bf16⟩
  | .local _ .vmem, ⟨8, _⟩ => ⟨S1024x3584, .bf16⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1792, .bf16⟩
  | .local _ .vmem, ⟨14, _⟩ => ⟨S1024x1792, .bf16⟩
  | .local _ .vmem, ⟨15, _⟩ => ⟨S1024x1792, .f32⟩
  | .local _ .vmem, ⟨16, _⟩ => ⟨S1024x1792, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x3584 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x3584 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨3, ![1, 2, 8], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1792 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1792 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference4Ideal.lean ====
abbrev S8192x1024 : Shape := ⟨2, ![8192, 1024]⟩
abbrev S1024x3232 : Shape := ⟨2, ![1024, 3232]⟩
abbrev S8192x512 : Shape := ⟨2, ![8192, 512]⟩
abbrev S8192x384 : Shape := ⟨2, ![8192, 384]⟩
abbrev S8192x256 : Shape := ⟨2, ![8192, 256]⟩
abbrev S8192x32 : Shape := ⟨2, ![8192, 32]⟩
abbrev S8192x2048 : Shape := ⟨2, ![8192, 2048]⟩
abbrev S8192x3232 : Shape := ⟨2, ![8192, 3232]⟩
abbrev S3232x1024 : Shape := ⟨2, ![3232, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3232, .f32⟩
  | .hbm, ⟨2, _⟩ => ⟨S8192x512, .f32⟩
  | .hbm, ⟨3, _⟩ => ⟨S8192x384, .f32⟩
  | .hbm, ⟨4, _⟩ => ⟨S8192x256, .f32⟩
  | .hbm, ⟨5, _⟩ => ⟨S8192x32, .f32⟩
  | .hbm, ⟨6, _⟩ => ⟨S8192x2048, .f32⟩
  | .hbm, ⟨7, _⟩ => ⟨S8192x3232, .f32⟩
  | .hbm, ⟨8, _⟩ => ⟨S8192x512, .f32⟩
  | .hbm, ⟨9, _⟩ => ⟨S8192x384, .f32⟩
  | .hbm, ⟨10, _⟩ => ⟨S8192x256, .f32⟩
  | .hbm, ⟨11, _⟩ => ⟨S8192x32, .f32⟩
  | .hbm, ⟨12, _⟩ => ⟨S8192x2048, .f32⟩
  | .hbm, ⟨13, _⟩ => ⟨S8192x3232, .f32⟩
  | .hbm, ⟨14, _⟩ => ⟨S3232x1024, .f32⟩
  | .hbm, ⟨15, _⟩ => ⟨S1024x3232, .f32⟩
  | .hbm, ⟨16, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel5.lean ====
abbrev S8192x512 : Shape := ⟨2, ![8192, 512]⟩
abbrev S512 : Shape := ⟨1, ![512]⟩
abbrev S512x512 : Shape := ⟨2, ![512, 512]⟩
abbrev S1x512 : Shape := ⟨2, ![1, 512]⟩
abbrev S1024x512 : Shape := ⟨2, ![1024, 512]⟩

abbrev nBuf : Space → Nat
  | .hbm => 22
  | .vmem => 45
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S8192x512, .f32⟩
  | .hbm, ⟨7, _⟩ => ⟨S512x512, .bf16⟩
  | .hbm, ⟨8, _⟩ => ⟨S1x512, .f32⟩
  | .hbm, ⟨9, _⟩ => ⟨S1x512, .f32⟩
  | .hbm, ⟨10, _⟩ => ⟨S8192x512, .f32⟩
  | .hbm, ⟨11, _⟩ => ⟨S8192x512, .bf16⟩
  | .hbm, ⟨12, _⟩ => ⟨S8192x512, .f32⟩
  | .hbm, ⟨13, _⟩ => ⟨S8192x512, .bf16⟩
  | .hbm, ⟨14, _⟩ => ⟨S8192x512, .bf16⟩
  | .hbm, ⟨15, _⟩ => ⟨S8192x512, .f32⟩
  | .hbm, ⟨16, _⟩ => ⟨S1x512, .f32⟩
  | .hbm, ⟨17, _⟩ => ⟨S8192x512, .f32⟩
  | .hbm, ⟨18, _⟩ => ⟨S512x512, .f32⟩
  | .hbm, ⟨19, _⟩ => ⟨S8192x512, .f32⟩
  | .hbm, ⟨20, _⟩ => ⟨S8192x512, .f32⟩
  | .hbm, ⟨21, _⟩ => ⟨S512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S512x512, .bf16⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1x512, .f32⟩
  | .local _ .vmem, ⟨21, _⟩ => ⟨S1024x512, .bf16⟩
  | .local _ .vmem, ⟨22, _⟩ => ⟨S1024x512, .bf16⟩
  | .local _ .vmem, ⟨23, _⟩ => ⟨S1024x512, .f32⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | .local _ .vmem, ⟨28, _⟩ => ⟨S1024x512, .f32⟩
  | .local _ .vmem, ⟨29, _⟩ => ⟨S1x512, .f32⟩
  | .local _ .vmem, ⟨30, _⟩ => ⟨S1024x512, .bf16⟩
  | .local _ .vmem, ⟨31, _⟩ => ⟨S1024x512, .bf16⟩
  | .local _ .vmem, ⟨32, _⟩ => ⟨S1024x512, .f32⟩
  | .local _ .vmem, ⟨33, _⟩ => ⟨S1024x512, .f32⟩
  | .local _ .vmem, ⟨34, _⟩ => ⟨S1x512, .f32⟩
  | .local _ .vmem, ⟨35, _⟩ => ⟨S1024x512, .bf16⟩
  | .local _ .vmem, ⟨36, _⟩ => ⟨S1024x512, .bf16⟩
  | .local _ .vmem, ⟨37, _⟩ => ⟨S512x512, .bf16⟩
  | .local _ .vmem, ⟨38, _⟩ => ⟨S1024x512, .f32⟩
  | .local _ .vmem, ⟨39, _⟩ => ⟨S1024x512, .f32⟩
  | .local _ .vmem, ⟨40, _⟩ => ⟨S1024x512, .bf16⟩
  | .local _ .vmem, ⟨41, _⟩ => ⟨S1024x512, .bf16⟩
  | .local _ .vmem, ⟨42, _⟩ => ⟨S1024x512, .bf16⟩
  | .local _ .vmem, ⟨43, _⟩ => ⟨S1024x512, .bf16⟩
  | .local _ .vmem, ⟨44, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg2_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem5_1 : DmaSem sig := 33
abbrev cc3_sem6_0 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem2_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1024x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1024x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨2, ![1, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S1024x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S512x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨3, ![1, 1, 8], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 1 → Memref sig .tc .vmem S512x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]
-- ==== Reference5Ideal.lean ====
abbrev S8192x512 : Shape := ⟨2, ![8192, 512]⟩
abbrev S512 : Shape := ⟨1, ![512]⟩
abbrev S512x512 : Shape := ⟨2, ![512, 512]⟩
abbrev S1x512 : Shape := ⟨2, ![1, 512]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S8192x512, .f32⟩
  | .hbm, ⟨7, _⟩ => ⟨S8192x512, .f32⟩
  | .hbm, ⟨8, _⟩ => ⟨S1x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S1x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S512, .f32⟩
  | .hbm, ⟨51, _⟩ => ⟨S1x512, .f32⟩
  | .hbm, ⟨52, _⟩ => ⟨S_, .f32⟩
  | .hbm, ⟨53, _⟩ => ⟨S512, .f32⟩
  | .hbm, ⟨54, _⟩ => ⟨S512x512, .f32⟩
  | .hbm, ⟨55, _⟩ => ⟨S512x512, .f32⟩
  | .hbm, ⟨56, _⟩ => ⟨S8192x512, .f32⟩
  | .hbm, ⟨57, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel6.lean ====
abbrev S8192x384 : Shape := ⟨2, ![8192, 384]⟩
abbrev S8192x256 : Shape := ⟨2, ![8192, 256]⟩
abbrev S384x768 : Shape := ⟨2, ![384, 768]⟩
abbrev S256x1024 : Shape := ⟨2, ![256, 1024]⟩
abbrev S8192x8x96 : Shape := ⟨3, ![8192, 8, 96]⟩
abbrev S8192x8x64 : Shape := ⟨3, ![8192, 8, 64]⟩
abbrev S384x8x96 : Shape := ⟨3, ![384, 8, 96]⟩
abbrev S_ : Shape := ⟨0, ![]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x2048 : Shape := ⟨2, ![256, 2048]⟩
abbrev S8192x8x128 : Shape := ⟨3, ![8192, 8, 128]⟩
abbrev S8192x1024 : Shape := ⟨2, ![8192, 1024]⟩
abbrev S8192x2048 : Shape := ⟨2, ![8192, 2048]⟩
abbrev S1024x384 : Shape := ⟨2, ![1024, 384]⟩
abbrev S1024x1024 : Shape := ⟨2, ![1024, 1024]⟩
abbrev S1024x256 : Shape := ⟨2, ![1024, 256]⟩
abbrev S1024x2048 : Shape := ⟨2, ![1024, 2048]⟩
abbrev S512x2048 : Shape := ⟨2, ![512, 2048]⟩
abbrev S512x256 : Shape := ⟨2, ![512, 256]⟩

abbrev nBuf : Space → Nat
  | .hbm => 65
  | .vmem => 30
  | .smem => 0
  | _ => 0

abbrev bufTy : (tb : Table) → Fin (tcTables nBuf tb) → BufTy
  | .hbm, ⟨0, _⟩ => ⟨S8192x384, .f32⟩
  | .hbm, ⟨1, _⟩ => ⟨S8192x256, .f32⟩
  | .hbm, ⟨2, _⟩ => ⟨S384x768, .f32⟩
  | .hbm, ⟨3, _⟩ => ⟨S256x1024, .f32⟩
  | .hbm, ⟨4, _⟩ => ⟨S8192x8x96, .f32⟩
  | .hbm, ⟨5, _⟩ => ⟨S8192x8x64, .f32⟩
  | .hbm, ⟨6, _⟩ => ⟨S8192x8x64, .f32⟩
  | .hbm, ⟨7, _⟩ => ⟨S8192x384, .bf16⟩
  | .hbm, ⟨8, _⟩ => ⟨S8192x256, .bf16⟩
  | .hbm, ⟨9, _⟩ => ⟨S384x768, .bf16⟩
  | .hbm, ⟨10, _⟩ => ⟨S384x8x96, .bf16⟩
  | .hbm, ⟨11, _⟩ => ⟨S_, .i32⟩
  | .hbm, ⟨12, _⟩ => ⟨S_, .bf16⟩
  | .hbm, ⟨13, _⟩ => ⟨S384x8x128, .bf16⟩
  | .hbm, ⟨14, _⟩ => ⟨S384x1024, .bf16⟩
  | .hbm, ⟨15, _⟩ => ⟨S256x1024, .bf16⟩
  | .hbm, ⟨16, _⟩ => ⟨S256x8x128, .bf16⟩
  | .hbm, ⟨17, _⟩ => ⟨S256x8x64, .bf16⟩
  | .hbm, ⟨18, _⟩ => ⟨S_, .i32⟩
  | .hbm, ⟨19, _⟩ => ⟨S_, .bf16⟩
  | .hbm, ⟨20, _⟩ => ⟨S256x8x128, .bf16⟩
  | .hbm, ⟨21, _⟩ => ⟨S256x8x64, .bf16⟩
  | .hbm, ⟨22, _⟩ => ⟨S_, .i32⟩
  | .hbm, ⟨23, _⟩ => ⟨S_, .bf16⟩
  | .hbm, ⟨24, _⟩ => ⟨S256x8x128, .bf16⟩
  | .hbm, ⟨25, _⟩ => ⟨S256x1024, .bf16⟩
  | .hbm, ⟨26, _⟩ => ⟨S256x1024, .bf16⟩
  | .hbm, ⟨27, _⟩ => ⟨S256x2048, .bf16⟩
  | .hbm, ⟨28, _⟩ => ⟨S_, .f32⟩
  | .hbm, ⟨29, _⟩ => ⟨S8192x8x128, .f32⟩
  | .hbm, ⟨30, _⟩ => ⟨S8192x1024, .f32⟩
  | .hbm, ⟨31, _⟩ => ⟨S8192x1024, .bf16⟩
  | .hbm, ⟨32, _⟩ => ⟨S_, .f32⟩
  | .hbm, ⟨33, _⟩ => ⟨S8192x8x128, .f32⟩
  | .hbm, ⟨34, _⟩ => ⟨S8192x1024, .f32⟩
  | .hbm, ⟨35, _⟩ => ⟨S_, .f32⟩
  | .hbm, ⟨36, _⟩ => ⟨S8192x8x128, .f32⟩
  | .hbm, ⟨37, _⟩ => ⟨S8192x1024, .f32⟩
  | .hbm, ⟨38, _⟩ => ⟨S8192x2048, .f32⟩
  | .hbm, ⟨39, _⟩ => ⟨S8192x2048, .bf16⟩
  | .hbm, ⟨40, _⟩ => ⟨S8192x1024, .f32⟩
  | .hbm, ⟨41, _⟩ => ⟨S8192x2048, .f32⟩
  | .hbm, ⟨42, _⟩ => ⟨S8192x384, .f32⟩
  | .hbm, ⟨43, _⟩ => ⟨S384x1024, .f32⟩
  | .hbm, ⟨44, _⟩ => ⟨S384x8x128, .f32⟩
  | .hbm, ⟨45, _⟩ => ⟨S384x8x96, .f32⟩
  | .hbm, ⟨46, _⟩ => ⟨S384x768, .f32⟩
  | .hbm, ⟨47, _⟩ => ⟨S8192x256, .f32⟩
  | .hbm, ⟨48, _⟩ => ⟨S256x2048, .f32⟩
  | .hbm, ⟨49, _⟩ => ⟨S256x1024, .f32⟩
  | .hbm, ⟨50, _⟩ => ⟨S256x8x128, .f32⟩
  | .hbm, ⟨51, _⟩ => ⟨S256x8x64, .f32⟩
  | .hbm, ⟨52, _⟩ => ⟨S256x1024, .f32⟩
  | .hbm, ⟨53, _⟩ => ⟨S256x8x128, .f32⟩
  | .hbm, ⟨54, _⟩ => ⟨S256x8x64, .f32⟩
  | .hbm, ⟨55, _⟩ => ⟨S256x8x128, .f32⟩
  | .hbm, ⟨56, _⟩ => ⟨S256x1024, .f32⟩
  | .hbm, ⟨57, _⟩ => ⟨S8192x8x128, .f32⟩
  | .hbm, ⟨58, _⟩ => ⟨S8192x8x96, .f32⟩
  | .hbm, ⟨59, _⟩ => ⟨S8192x1024, .f32⟩
  | .hbm, ⟨60, _⟩ => ⟨S8192x8x128, .f32⟩
  | .hbm, ⟨61, _⟩ => ⟨S8192x8x64, .f32⟩
  | .hbm, ⟨62, _⟩ => ⟨S8192x1024, .f32⟩
  | .hbm, ⟨63, _⟩ => ⟨S8192x8x128, .f32⟩
  | .hbm, ⟨64, _⟩ => ⟨S8192x8x64, .f32⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x256, .bf16⟩
  | .local _ .vmem, ⟨6, _⟩ => ⟨S1024x256, .bf16⟩
  | .local _ .vmem, ⟨7, _⟩ => ⟨S256x2048, .bf16⟩
  | .local _ .vmem, ⟨8, _⟩ => ⟨S1024x2048, .f32⟩
  | .local _ .vmem, ⟨9, _⟩ => ⟨S1024x2048, .f32⟩
  | .local _ .vmem, ⟨10, _⟩ => ⟨S1024x1024, .bf16⟩
  | .local _ .vmem, ⟨11, _⟩ => ⟨S1024x1024, .bf16⟩
  | .local _ .vmem, ⟨12, _⟩ => ⟨S384x1024, .bf16⟩
  | .local _ .vmem, ⟨13, _⟩ => ⟨S1024x384, .f32⟩
  | .local _ .vmem, ⟨14, _⟩ => ⟨S1024x384, .f32⟩
  | .local _ .vmem, ⟨15, _⟩ => ⟨S1024x384, .bf16⟩
  | .local _ .vmem, ⟨16, _⟩ => ⟨S1024x384, .bf16⟩
  | .local _ .vmem, ⟨17, _⟩ => ⟨S1024x1024, .bf16⟩
  | .local _ .vmem, ⟨18, _⟩ => ⟨S1024x1024, .bf16⟩
  | .local _ .vmem, ⟨19, _⟩ => ⟨S384x1024, .f32⟩
  | .local _ .vmem, ⟨20, _⟩ => ⟨S512x2048, .bf16⟩
  | .local _ .vmem, ⟨21, _⟩ => ⟨S512x2048, .bf16⟩
  | .local _ .vmem, ⟨22, _⟩ => ⟨S256x2048, .bf16⟩
  | .local _ .vmem, ⟨23, _⟩ => ⟨S512x256, .f32⟩
  | .local _ .vmem, ⟨24, _⟩ => ⟨S512x256, .f32⟩
  | .local _ .vmem, ⟨25, _⟩ => ⟨S1024x256, .bf16⟩
  | .local _ .vmem, ⟨26, _⟩ => ⟨S1024x256, .bf16⟩
  | .local _ .vmem, ⟨27, _⟩ => ⟨S1024x2048, .bf16⟩
  | .local _ .vmem, ⟨28, _⟩ => ⟨S1024x2048, .bf16⟩
  | .local _ .vmem, ⟨29, _⟩ => ⟨S256x2048, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_call2_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S256x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S384x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S1024x384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨3, ![1, 1, 8], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x384 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S384x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev grid4 : Pipeline.Grid := ⟨2, ![1, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S256x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S512x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨3, ![1, 1, 8], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 1 → Memref sig .tc .vmem S256x2048 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]
-- ==== Reference6Ideal.lean ====
abbrev S8192x384 : Shape := ⟨2, ![8192, 384]⟩
abbrev S8192x256 : Shape := ⟨2, ![8192, 256]⟩
abbrev S384x768 : Shape := ⟨2, ![384, 768]⟩
abbrev S256x1024 : Shape := ⟨2, ![256, 1024]⟩
abbrev S8192x8x96 : Shape := ⟨3, ![8192, 8, 96]⟩
abbrev S8192x8x64 : Shape := ⟨3, ![8192, 8, 64]⟩
abbrev S8192x768 : Shape := ⟨2, ![8192, 768]⟩
abbrev S8192x1024 : Shape := ⟨2, ![8192, 1024]⟩
abbrev S8192x8x128 : Shape := ⟨3, ![8192, 8, 128]⟩
abbrev S_ : Shape := ⟨0, ![]⟩
abbrev S1024x256 : Shape := ⟨2, ![1024, 256]⟩
abbrev S768x384 : Shape := ⟨2, ![768, 384]⟩

abbrev nBuf : Space → Nat
  | .hbm => 26
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x256, .f32⟩
  | .hbm, ⟨2, _⟩ => ⟨S384x768, .f32⟩
  | .hbm, ⟨3, _⟩ => ⟨S256x1024, .f32⟩
  | .hbm, ⟨4, _⟩ => ⟨S8192x8x96, .f32⟩
  | .hbm, ⟨5, _⟩ => ⟨S8192x8x64, .f32⟩
  | .hbm, ⟨6, _⟩ => ⟨S8192x8x64, .f32⟩
  | .hbm, ⟨7, _⟩ => ⟨S8192x768, .f32⟩
  | .hbm, ⟨8, _⟩ => ⟨S8192x8x96, .f32⟩
  | .hbm, ⟨9, _⟩ => ⟨S8192x1024, .f32⟩
  | .hbm, ⟨10, _⟩ => ⟨S8192x8x128, .f32⟩
  | .hbm, ⟨11, _⟩ => ⟨S8192x8x64, .f32⟩
  | .hbm, ⟨12, _⟩ => ⟨S8192x8x64, .f32⟩
  | .hbm, ⟨13, _⟩ => ⟨S_, .f32⟩
  | .hbm, ⟨14, _⟩ => ⟨S8192x8x128, .f32⟩
  | .hbm, ⟨15, _⟩ => ⟨S_, .f32⟩
  | .hbm, ⟨16, _⟩ => ⟨S8192x8x128, .f32⟩
  | .hbm, ⟨17, _⟩ => ⟨S8192x8x128, .f32⟩
  | .hbm, ⟨18, _⟩ => ⟨S8192x1024, .f32⟩
  | .hbm, ⟨19, _⟩ => ⟨S1024x256, .f32⟩
  | .hbm, ⟨20, _⟩ => ⟨S256x1024, .f32⟩
  | .hbm, ⟨21, _⟩ => ⟨S8192x256, .f32⟩
  | .hbm, ⟨22, _⟩ => ⟨S8192x768, .f32⟩
  | .hbm, ⟨23, _⟩ => ⟨S768x384, .f32⟩
  | .hbm, ⟨24, _⟩ => ⟨S384x768, .f32⟩
  | .hbm, ⟨25, _⟩ => ⟨S8192x384, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Proof.Run.lean ====
/-
  The run of the program with everything it leaves: from any memory with zero counters every weakly fair execution
  terminates, each buffer of the TensorCore ends at the contents that the last segment leaves, and every counter at zero.
-/
module

public import proofs.«01_k».proof.Proof.Gen.KernelIdeal.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the two calls and the host code around them ends with each unscoped buffer at the contents `W5`. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.KernelIdeal.Attn
-- ==== Proof.Spec.lean ====
/-
  Softmax attention over the reals, and its gradient: the numbers that both programs compute, head by head, with
  what is needed to read them out of the extended reals.

  A row, a column and a lane are natural numbers; an array holds zeros past its end, so that a head padded with
  zero lanes is the head itself.
-/
module

public import Idealize.ShloMosaic.PureOps.Ideal.Laws
public import Mathlib.Analysis.SpecialFunctions.Log.Basic
public import Mathlib.Data.EReal.Operations
public import Mathlib.Data.EReal.Inv

@[expose] public section

noncomputable section

open Idealize.ShloMosaic Finset

namespace Cert.Attn

/-- The score of query row `i` against key row `j`. -/
def score (q k : ℕ → ℕ → ℝ) (i j : ℕ) : ℝ := ∑ d ∈ range 128, q i d * k j d

/-- The sum of the exponentials of the scores of row `i`. -/
def total (q k : ℕ → ℕ → ℝ) (i : ℕ) : ℝ := ∑ j ∈ range 8192, Real.exp (score q k i j)

/-- The softmax of row `i` at column `j`. -/
def prob (q k : ℕ → ℕ → ℝ) (i j : ℕ) : ℝ := Real.exp (score q k i j) / total q k i

/-- The attention's output. -/
def out (q k v : ℕ → ℕ → ℝ) (i d : ℕ) : ℝ := ∑ j ∈ range 8192, prob q k i j * v j d

/-- The gradient of the probabilities. -/
def dprob (v g : ℕ → ℕ → ℝ) (i j : ℕ) : ℝ := ∑ d ∈ range 128, v j d * g i d

/-- A row's inner product of the output with its gradient. -/
def delta (q k v g : ℕ → ℕ → ℝ) (i : ℕ) : ℝ := ∑ d ∈ range 128, g i d * out q k v i d

/-- The gradient of the scores. -/
def dscore (q k v g : ℕ → ℕ → ℝ) (i j : ℕ) : ℝ := prob q k i j * (dprob v g i j - delta q k v g i)

/-- The share of the first `n` query rows in the gradient of the values. -/
def dvTo (q k g : ℕ → ℕ → ℝ) (n j d : ℕ) : ℝ := ∑ i ∈ range n, prob q k i j * g i d

/-- The share of the first `n` query rows in the gradient of the keys. -/
def dkTo (q k v g : ℕ → ℕ → ℝ) (n j d : ℕ) : ℝ := ∑ i ∈ range n, dscore q k v g i j * q i d

/-- The share of the first `n` key rows in the gradient of the queries. -/
def dqTo (q k v g : ℕ → ℕ → ℝ) (n i d : ℕ) : ℝ := ∑ j ∈ range n, dscore q k v g i j * k j d

theorem total_pos (q k : ℕ → ℕ → ℝ) (i : ℕ) : 0 < total q k i :=
  sum_pos (fun _ _ => Real.exp_pos _) ⟨0, by simp⟩

/-! ## Real numbers among the extended reals -/

/-- A sum of reals, taken in the extended reals. -/
theorem sum_coe (n : ℕ) (f : ℕ → ℝ) : ∑ x : Fin n, (f x.val : EReal) = ((∑ x ∈ range n, f x : ℝ) : EReal) := by
  rw [← Fin.sum_univ_eq_sum_range]
  generalize (univ : Finset (Fin n)) = s
  induction s using Finset.induction_on with
  | empty => simp
  | insert a s ha ih => rw [sum_insert ha, sum_insert ha, ih, EReal.coe_add]

/-- A sum of products of reals, taken in the extended reals. -/
theorem sum_mul_coe (n : ℕ) (f g : ℕ → ℝ) :
    ∑ x : Fin n, (f x.val : EReal) * (g x.val : EReal) = ((∑ x ∈ range n, f x * g x : ℝ) : EReal) := by
  rw [← sum_coe]; simp only [EReal.coe_mul]

theorem exp_coe (x : ℝ) : Ideal.exp (x : EReal) = ((Real.exp x : ℝ) : EReal) := rfl

theorem log_coe {x : ℝ} (h : 0 < x) : Ideal.log (x : EReal) = ((Real.log x : ℝ) : EReal) := by
  show (if x ≤ 0 then (⊥ : EReal) else (Real.log x : EReal)) = _
  rw [if_neg (not_le.mpr h)]

theorem div_coe_coe (x : ℝ) {y : ℝ} (h : y ≠ 0) : Ideal.div (x : EReal) (y : EReal) = ((x / y : ℝ) : EReal) := by
  rw [Ideal.div_coe h, ← EReal.coe_mul, mul_one_div]

/-- The largest of finitely many reals, at least one of them, is a real. -/
theorem fold_max_coe {α : Type*} (s : Finset α) (hs : s.Nonempty) (f : α → ℝ) :
    ∃ μ : ℝ, s.fold max (⊥ : EReal) (fun a => (f a : EReal)) = (μ : EReal) := by
  induction hs using Finset.Nonempty.cons_induction with
  | singleton a => exact ⟨f a, by simp⟩
  | cons a s ha _ ih =>
    obtain ⟨μ, h⟩ := ih
    exact ⟨max (f a) μ, by rw [fold_cons, h, EReal.coe_strictMono.monotone.map_max]⟩

/-! ## The softmax in steps -/

/-- What a row has gathered after `n` columns: the sum of `exp (score - μ)` times the values. -/
def gather (q k v : ℕ → ℕ → ℝ) (μ : ℝ) (n i d : ℕ) : ℝ := ∑ j ∈ range n, Real.exp (score q k i j - μ) * v j d

theorem gather_zero (q k v : ℕ → ℕ → ℝ) (μ : ℝ) (i d : ℕ) : gather q k v μ 0 i d = 0 := rfl

/-- A new shift, and `m` more columns. -/
theorem gather_step (q k v : ℕ → ℕ → ℝ) (μ μ' : ℝ) (n m i d : ℕ) :
    gather q k v μ' (n + m) i d = Real.exp (μ - μ') * gather q k v μ n i d
      + ∑ x ∈ range m, Real.exp (score q k i (n + x) - μ') * v (n + x) d := by
  unfold gather
  rw [sum_range_add, mul_sum]
  congr 1
  refine sum_congr rfl fun j _ => ?_
  rw [← mul_assoc, ← Real.exp_add]; congr 2; ring

/-- Over all the columns, the values' lane of ones gathers the shifted total. -/
theorem gather_one (q k v : ℕ → ℕ → ℝ) (μ : ℝ) (i d : ℕ) (hv : ∀ j < 8192, v j d = 1) :
    gather q k v μ 8192 i d = Real.exp (-μ) * total q k i := by
  unfold gather total
  rw [mul_sum]
  refine sum_congr rfl fun j hj => ?_
  rw [hv j (mem_range.mp hj), mul_one, ← Real.exp_add]; congr 1; ring

theorem gather_all (q k v : ℕ → ℕ → ℝ) (μ : ℝ) (i d : ℕ) :
    gather q k v μ 8192 i d = Real.exp (-μ) * total q k i * out q k v i d := by
  unfold gather out prob
  rw [mul_sum]
  refine sum_congr rfl fun j _ => ?_
  have h := (total_pos q k i).ne'
  rw [show score q k i j - μ = -μ + score q k i j by ring, Real.exp_add]
  field_simp

/-- The quotient of what was gathered is the attention's output. -/
theorem gather_div (q k v : ℕ → ℕ → ℝ) (μ : ℝ) (i d e : ℕ) (hv : ∀ j < 8192, v j e = 1) :
    gather q k v μ 8192 i d / gather q k v μ 8192 i e = out q k v i d := by
  rw [gather_one q k v μ i e hv, gather_all]
  have h := (total_pos q k i).ne'
  have h' := (Real.exp_pos (-μ)).ne'
  field_simp

/-- The shift and the logarithm of the shifted total are the logarithm of the total. -/
theorem gather_log (q k v : ℕ → ℕ → ℝ) (μ : ℝ) (i e : ℕ) (hv : ∀ j < 8192, v j e = 1) :
    μ + Real.log (gather q k v μ 8192 i e) = Real.log (total q k i) := by
  rw [gather_one q k v μ i e hv, Real.log_mul (Real.exp_pos _).ne' (total_pos q k i).ne', Real.log_exp]; ring

theorem gather_one_pos (q k v : ℕ → ℕ → ℝ) (μ : ℝ) (i e : ℕ) (hv : ∀ j < 8192, v j e = 1) :
    0 < gather q k v μ 8192 i e := by
  rw [gather_one q k v μ i e hv]; exact mul_pos (Real.exp_pos _) (total_pos q k i)

/-- The exponential of a score less the logarithm of the total is the softmax. -/
theorem exp_sub_log (q k : ℕ → ℕ → ℝ) (i j : ℕ) :
    Real.exp (score q k i j - Real.log (total q k i)) = prob q k i j := by
  rw [Real.exp_sub, Real.exp_log (total_pos q k i)]; rfl

/-- The output in a lane of ones is one. -/
theorem out_one (q k v : ℕ → ℕ → ℝ) (i d : ℕ) (hv : ∀ j < 8192, v j d = 1) : out q k v i d = 1 := by
  have h := (total_pos q k i).ne'
  rw [← gather_div q k v 0 i d d hv, div_self (gather_one_pos q k v 0 i d hv).ne']

theorem out_zero (q k v : ℕ → ℕ → ℝ) (i d : ℕ) (hv : ∀ j < 8192, v j d = 0) : out q k v i d = 0 :=
  sum_eq_zero fun j hj => by rw [hv j (mem_range.mp hj), mul_zero]

/-! ## The softmax and its gradient from shifted scores, as the chain rule writes them -/

/-- The shifted total. -/
theorem shifted_total (q k : ℕ → ℕ → ℝ) (M : ℝ) (i : ℕ) :
    ∑ j ∈ range 8192, Real.exp (score q k i j - M) = Real.exp (-M) * total q k i := by
  unfold total
  rw [mul_sum]
  refine sum_congr rfl fun j _ => ?_
  rw [← Real.exp_add]; congr 1; ring

theorem shifted_prob (q k : ℕ → ℕ → ℝ) (M : ℝ) (i j : ℕ) :
    Real.exp (score q k i j - M) / (Real.exp (-M) * total q k i) = prob q k i j := by
  rw [show score q k i j - M = -M + score q k i j by ring, Real.exp_add]
  unfold prob
  have h := (total_pos q k i).ne'
  have h' := (Real.exp_pos (-M)).ne'
  field_simp

/-- The inner product of the output with its gradient is that of the probabilities with theirs. -/
theorem delta_eq (q k v g : ℕ → ℕ → ℝ) (i : ℕ) :
    delta q k v g i = ∑ j ∈ range 8192, dprob v g i j * prob q k i j := by
  unfold delta out dprob
  simp only [mul_sum, sum_mul]
  rw [sum_comm]
  exact sum_congr rfl fun j _ => sum_congr rfl fun d _ => by ring

/-- The scores' gradient as the chain rule through the quotient writes it, from the shifted exponentials. -/
theorem shifted_dscore (q k v g : ℕ → ℕ → ℝ) (M : ℝ) (i j : ℕ) :
    (dprob v g i j / (Real.exp (-M) * total q k i)
        + -∑ x ∈ range 8192, dprob v g i x * (1 / ((Real.exp (-M) * total q k i) * (Real.exp (-M) * total q k i)))
            * Real.exp (score q k i x - M))
      * Real.exp (score q k i j - M) = dscore q k v g i j := by
  have h : Real.exp (-M) * total q k i ≠ 0 := mul_ne_zero (Real.exp_pos _).ne' (total_pos q k i).ne'
  have hs : ∑ x ∈ range 8192, dprob v g i x * (1 / ((Real.exp (-M) * total q k i) * (Real.exp (-M) * total q k i)))
      * Real.exp (score q k i x - M) = delta q k v g i / (Real.exp (-M) * total q k i) := by
    rw [delta_eq, sum_div]
    refine sum_congr rfl fun x _ => ?_
    rw [← shifted_prob q k M i x]
    field_simp
  rw [hs]
  unfold dscore
  rw [← shifted_prob q k M i j]
  field_simp
  ring

end Cert.Attn
-- ==== Proof.FwdPay.lean ====
/-
  The forward kernel's stores, read at an index.
-/
module

public import proofs.«01_k».proof.Proof.Gen.KernelIdeal.Skeleton
public import proofs.«01_k».proof.Proof.Spec
public import Idealize.ShloMosaic.Lib.Pointwise

@[expose] public section

set_option maxRecDepth 16384

noncomputable section

open Idealize.ShloMosaic Finset

namespace Cert.KernelIdeal.Attn

open Cert.KernelIdeal Cert.KernelIdeal.Gen Cert.Attn

theorem ofBits_neg_inf : Ideal.ofBits .f32 0xFF800000#32 = ⊥ := by simp [Ideal.ofBits, Ideal.ieee]

theorem pay2_apply (r : Fin 2048) : k0_pay2 (F := Ideal) (ix2 r 0) = ⊥ := by
  pointwise [k0_pay2]
  rw [ofBits_neg_inf]

theorem pay3_apply (r : Fin 2048) (d : Fin 128) : k0_pay3 (F := Ideal) (ix2 r d) = 0 := by
  pointwise [k0_pay3]

theorem pay10_apply (v9 : FVec Ideal S2048x128 .bf16) (v43 : Vec Ideal S1024x128 .bf16) (r : Fin 2048) (x : Fin 1024) :
    k0_pay10 (F := Ideal) v9 v43 (ix2 r x) = ∑ d : Fin 128, v9 (ix2 r d) * v43 (ix2 x d) := by
  pointwise [k0_pay10]

theorem lift_row (r : Fin 2048) (x : Fin 1024) :
    (reduces_S2048x1024_S2048 : Shape.Reduces S2048x1024 [1] S2048).lift (ix1 r) x = ix2 r x := by
  funext a
  match a with
  | ⟨0, _⟩ => rfl
  | ⟨1, _⟩ => rfl

theorem rowmax_apply (s : FVec Ideal S2048x1024 .f32) (r : Fin 2048) :
    multiReduction .maximumf [1] S2048 s 0xFF800000#32 reduces_S2048x1024_S2048 (.inl rfl) rfl (ix1 r) =
      (univ : Finset (Fin 1024)).fold max ⊥ fun x => s (ix2 r x) := by
  refine (Ideal.multiReduction_maximumf_single s _ reduces_S2048x1024_S2048 (.inl rfl) rfl (ix1 r)).trans ?_
  rw [Ideal.ofBits_def, show Ideal.ofBits .f32 (FKind.maximumf.neutral .f32 (.inl rfl)) = ⊥ from ofBits_neg_inf]
  exact congrArg (fun f => (univ : Finset (Fin 1024)).fold max ⊥ f) (funext fun x => congrArg s (lift_row r x))

theorem pay11_apply (v9 : FVec Ideal S2048x128 .bf16) (v43 : Vec Ideal S1024x128 .bf16) (v46 : Vec Ideal S2048x1 .f32) (r : Fin 2048) :
    k0_pay11 (F := Ideal) v9 v43 v46 (ix2 r 0) =
      max (v46 (ix2 r 0)) ((univ : Finset (Fin 1024)).fold max ⊥ fun x => k0_pay10 (F := Ideal) v9 v43 (ix2 r x)) := by
  rw [← rowmax_apply]
  unfold k0_pay11
  generalize k0_pay10 (F := Ideal) v9 v43 = s
  generalize multiReduction .maximumf [1] S2048 s 0xFF800000#32 reduces_S2048x1024_S2048 (.inl rfl) rfl = t
  pointwise []

theorem pay13_apply (v9 : FVec Ideal S2048x128 .bf16) (v43 : Vec Ideal S1024x128 .bf16) (v46 : Vec Ideal S2048x1 .f32) (r : Fin 2048) :
    k0_pay13 (F := Ideal) v9 v43 v46 (ix2 r 0) = k0_pay11 (F := Ideal) v9 v43 v46 (ix2 r 0) := by
  pointwise [k0_pay13]

theorem pay12_apply (v9 : FVec Ideal S2048x128 .bf16) (v43 : Vec Ideal S1024x128 .bf16) (v46 : Vec Ideal S2048x1 .f32)
    (v55 : Vec Ideal S2048x128 .f32) (v59 : Vec Ideal S1024x128 .bf16) (r : Fin 2048) (d : Fin 128) :
    k0_pay12 (F := Ideal) v9 v43 v46 v55 v59 (ix2 r d) =
      Ideal.exp (v46 (ix2 r 0) - k0_pay11 (F := Ideal) v9 v43 v46 (ix2 r 0)) * v55 (ix2 r d)
        + ∑ x : Fin 1024, Ideal.exp (k0_pay10 (F := Ideal) v9 v43 (ix2 r x) - k0_pay11 (F := Ideal) v9 v43 v46 (ix2 r 0))
            * v59 (ix2 x d) := by
  pointwise [k0_pay12]

/-- The quotient that the kernel stores. -/
theorem pay42_apply (a : Vec Ideal S2048x128 .f32) (r : Fin 2048) (d : Fin 128) :
    k0_pay42 (F := Ideal) a (ix2 r d) = Ideal.div (a (ix2 r d)) (a (ix2 r 64)) := by
  pointwise [k0_pay42, k0_pay41]

/-- The logarithm that the kernel stores, in each of its eight rows. -/
theorem pay1_apply (a : Vec Ideal S2048x128 .f32) (m : Vec Ideal S2048x1 .f32) (z : Fin 1) (y : Fin 8) (r : Fin 2048) :
    k0_pay1 (F := Ideal) (k0_pay43 (F := Ideal) a m) (ix3 z y r) = m (ix2 r 0) + Ideal.log (a (ix2 r 64)) := by
  pointwise [k0_pay1, k0_pay43, k0_pay41]

end Cert.KernelIdeal.Attn
-- ==== Proof.Step.lean ====
/-
  One step of the forward kernel over 1024 key rows: the running maximum, and the running sums of the exponentials
  times the values, stay the numbers that Spec.lean gathers.
-/
module

public import proofs.«01_k».proof.Proof.FwdPay
public import Idealize.ShloMosaic.Lib.Pointwise

@[expose] public section

set_option maxRecDepth 16384

noncomputable section

open Idealize.ShloMosaic Finset

namespace Cert.KernelIdeal.Attn

open Cert.KernelIdeal Cert.KernelIdeal.Gen Cert.Attn

/-- A block of `a` rows and 128 lanes holds the rows of a real array from row `b` on. -/
def Rows (a : ℕ) (x : (⟨2, ![a, 128]⟩ : Shape).Idx → EReal) (f : ℕ → ℕ → ℝ) (b : ℕ) : Prop :=
  ∀ (r : Fin a) (d : Fin 128), x (ix2 r d) = ((f (b + r.val) d.val : ℝ) : EReal)

/-- What the two scratch blocks hold after `n` key rows, at each of the query rows from row `b` on: nothing yet, or a
    real shift and what the row has gathered at that shift. -/
def Holds (q k v : ℕ → ℕ → ℝ) (b n : ℕ) (m : Vec Ideal S2048x1 .f32) (acc : Vec Ideal S2048x128 .f32) : Prop :=
  ∀ r : Fin 2048, (n = 0 ∧ m (ix2 r 0) = ⊥ ∧ ∀ d : Fin 128, acc (ix2 r d) = 0) ∨
    ∃ μ : ℝ, m (ix2 r 0) = (μ : EReal) ∧ ∀ d : Fin 128, acc (ix2 r d) = ((gather q k v μ n (b + r.val) d.val : ℝ) : EReal)

theorem holds_zero (q k v : ℕ → ℕ → ℝ) (b : ℕ) : Holds q k v b 0 (k0_pay2 (F := Ideal)) (k0_pay3 (F := Ideal)) :=
  fun r => .inl ⟨rfl, pay2_apply r, fun d => pay3_apply r d⟩

theorem score_of_rows {q k : ℕ → ℕ → ℝ} {b n : ℕ} {v9 : FVec Ideal S2048x128 .bf16} {v43 : Vec Ideal S1024x128 .bf16}
    (hq : Rows 2048 v9 q b) (hk : Rows 1024 v43 k n) (r : Fin 2048) (x : Fin 1024) :
    k0_pay10 (F := Ideal) v9 v43 (ix2 r x) = ((score q k (b + r.val) (n + x.val) : ℝ) : EReal) := by
  rw [pay10_apply, score, ← sum_mul_coe]
  exact sum_congr rfl fun d _ => by rw [hq r d, hk x d]

/-- The step. -/
theorem holds_step {q k v : ℕ → ℕ → ℝ} {b n : ℕ} {v9 : FVec Ideal S2048x128 .bf16} {v43 v59 : Vec Ideal S1024x128 .bf16}
    {m : Vec Ideal S2048x1 .f32} {acc : Vec Ideal S2048x128 .f32}
    (hq : Rows 2048 v9 q b) (hk : Rows 1024 v43 k n) (hv : Rows 1024 v59 v n) (h : Holds q k v b n m acc) :
    Holds q k v b (n + 1024) (k0_pay13 (F := Ideal) v9 v43 m) (k0_pay12 (F := Ideal) v9 v43 m acc v59) := by
  intro r
  obtain ⟨β, hβ⟩ := fold_max_coe (univ : Finset (Fin 1024)) ⟨0, mem_univ _⟩ fun x => score q k (b + r.val) (n + x.val)
  have hs : ((univ : Finset (Fin 1024)).fold max ⊥ fun x => k0_pay10 (F := Ideal) v9 v43 (ix2 r x)) = (β : EReal) := by
    rw [← hβ]; exact congrArg (fun f => (univ : Finset (Fin 1024)).fold max ⊥ f) (funext fun x => score_of_rows hq hk r x)
  -- the new maximum is a real, and the old sums are rescaled as `gather_step` says
  have key : ∃ μ' : ℝ, k0_pay11 (F := Ideal) v9 v43 m (ix2 r 0) = (μ' : EReal) ∧
      ∃ μ : ℝ, ∀ d : Fin 128, Ideal.exp (m (ix2 r 0) - (μ' : EReal)) * acc (ix2 r d)
        = ((Real.exp (μ - μ') * gather q k v μ n (b + r.val) d.val : ℝ) : EReal) := by
    rw [pay11_apply, hs]
    rcases h r with ⟨rfl, hm, ha⟩ | ⟨μ, hm, ha⟩
    · refine ⟨β, by rw [hm, max_eq_right bot_le], 0, fun d => ?_⟩
      rw [ha, gather_zero, mul_zero, mul_zero, EReal.coe_zero]
    · refine ⟨max μ β, by rw [hm, EReal.coe_strictMono.monotone.map_max], μ, fun d => ?_⟩
      rw [hm, ha, ← EReal.coe_sub, exp_coe, EReal.coe_mul]
  obtain ⟨μ', hμ', μ, hr⟩ := key
  refine .inr ⟨μ', by rw [pay13_apply, hμ'], fun d => ?_⟩
  rw [pay12_apply, hμ', hr, gather_step q k v μ μ' n 1024, EReal.coe_add]
  congr 1
  rw [← sum_mul_coe 1024 (fun x => Real.exp (score q k (b + r.val) (n + x) - μ')) fun x => v (n + x) d.val]
  exact sum_congr rfl fun x _ => by rw [score_of_rows hq hk, hv, ← EReal.coe_sub, exp_coe]

theorem quotient_of_holds {q k v : ℕ → ℕ → ℝ} {b : ℕ} {m : Vec Ideal S2048x1 .f32} {acc : Vec Ideal S2048x128 .f32}
    (hv : ∀ j < 8192, v j 64 = 1) (h : Holds q k v b 8192 m acc) :
    Rows 2048 (k0_pay42 (F := Ideal) acc) (out q k v) b := by
  intro r d
  rcases h r with ⟨h0, _⟩ | ⟨μ, hm, ha⟩
  · exact absurd h0 (by decide)
  rw [pay42_apply, ha, ha, show ((64 : Fin 128).val) = 64 from rfl,
    div_coe_coe _ (gather_one_pos q k v μ _ 64 hv).ne', gather_div q k v μ _ _ 64 hv]

theorem log_of_holds {q k v : ℕ → ℕ → ℝ} {b : ℕ} {m : Vec Ideal S2048x1 .f32} {acc : Vec Ideal S2048x128 .f32}
    (hv : ∀ j < 8192, v j 64 = 1) (h : Holds q k v b 8192 m acc) (z : Fin 1) (y : Fin 8) (r : Fin 2048) :
    k0_pay1 (F := Ideal) (k0_pay43 (F := Ideal) acc m) (ix3 z y r) = ((Real.log (total q k (b + r.val)) : ℝ) : EReal) := by
  rcases h r with ⟨h0, _⟩ | ⟨μ, hm, ha⟩
  · exact absurd h0 (by decide)
  rw [pay1_apply, hm, ha, show ((64 : Fin 128).val) = 64 from rfl,
    log_coe (gather_one_pos q k v μ _ 64 hv), ← EReal.coe_add, gather_log q k v μ _ 64 hv]

end Cert.KernelIdeal.Attn
-- ==== Proof.FwdBody.lean ====
/-
  What the forward kernel leaves in its two result blocks: the eight steps of its walk over the keys, one after the
  other, each by Step.lean's lemma.
-/
module

public import proofs.«01_k».proof.Proof.Gen.KernelIdeal.Frame
public import proofs.«01_k».proof.Proof.Step
public import Idealize.ShloMosaic.Lib.Pipeline.Value
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem Finset

namespace Cert.KernelIdeal.Attn

open Cert.KernelIdeal Cert.KernelIdeal.Gen Cert.Attn

theorem zeros2 : (![0, 0] : Fin 2 → Nat) = fun _ => 0 := funext fun a => by fin_cases a <;> rfl
theorem zeros3 : (![0, 0, 0] : Fin 3 → Nat) = fun _ => 0 := funext fun a => by fin_cases a <;> rfl

/-- 1024 rows read out of a block of 8192 rows. -/
theorem rows_chunk {k : ℕ → ℕ → ℝ} (a : Memref sig .tc .vmem S8192x128 .bf16) (h : a.IsWhole) (x : Vec Ideal S8192x128 .bf16)
    (hx : Rows 8192 x k 0) (n : ℕ) (inb : ∀ b, (![n, 0] : Fin 2 → Nat) b + S1024x128.size b ≤ S8192x128.size b) :
    Rows 1024 (View.readAt (Elt Ideal) a.view (Rect.unit (s := S8192x128) ![n, 0] S1024x128.size inb).toLoadRect (h.unread x)) k n := by
  intro r d
  have hn : n + 1024 ≤ 8192 := inb 0
  rw [View.readAt_eq_ld, h.read_unread]
  have hd : View.ld x (Rect.unit (s := S8192x128) ![n, 0] S1024x128.size inb) (ix2 r d) = x (ix2 ⟨n + r.val, by omega⟩ d) := by
    refine View.ld_unit_apply_of x ![n, 0] S1024x128.size inb (ix2 r d) _ fun b => ?_
    match b with
    | ⟨0, _⟩ => rfl
    | ⟨1, _⟩ => exact (Nat.zero_add _).symm
  refine hd.trans ?_
  rw [hx]; simp only [zero_add]

section
variable {q k v : ℕ → ℕ → ℝ} {b : ℕ}
  (c : Dev nD) (arg2 : Memref sig .tc .vmem S2048x128 .bf16) (harg2 : arg2.IsWhole) (arg3 : Memref sig .tc .vmem S8192x128 .bf16) (harg3 : arg3.IsWhole)
  (arg4 : Memref sig .tc .vmem S8192x128 .bf16) (harg4 : arg4.IsWhole)
  (arg7 : Memref sig .tc .vmem S2048x1 .f32) (arg8 : Memref sig .tc .vmem S2048x128 .f32)
  (x0 : Vec Ideal S2048x128 .bf16) (x1 : Vec Ideal S8192x128 .bf16) (x2 : Vec Ideal S8192x128 .bf16)
  (hq : Rows 2048 x0 q b) (hk : Rows 8192 x1 k 0) (hv : Rows 8192 x2 v 0)

include hq in
theorem rows_q : Rows 2048 (kernelRun0_A.sl.r c arg2 harg2 x0) q b := by
  unfold kernelRun0_A.sl.r k0_pay4
  rw [View.readAt_eq_ld, harg2.read_unread, View.ld_unit_zero (S := S2048x128) zeros2, shapeCast_self]
  exact hq

theorem holds0 : Holds q k v b 0 (kernelRun0_A.sl.v16 c arg7) (kernelRun0_A.sl.v25 c arg8) := by
  unfold kernelRun0_A.sl.v16 kernelRun0_A.sl.v25 kernelRun0_A.sl.HS0_1 kernelRun0_A.sl.HS1_1
  rw [View.readCov_cons_toLoadRect, View.readCov_cons_toLoadRect]
  exact holds_zero q k v b

include hq hk hv in
theorem holds1 : Holds q k v b 1024 (kernelRun0_A.sl.v46 c arg2 harg2 arg3 harg3 arg7 x0 x1) (kernelRun0_A.sl.v55 c arg2 harg2 arg3 harg3 arg4 harg4 arg7 arg8 x0 x1 x2) := by
  unfold kernelRun0_A.sl.v46 kernelRun0_A.sl.v55 kernelRun0_A.sl.HS0_2 kernelRun0_A.sl.HS1_2
  rw [View.readCov_cons_toLoadRect, View.readCov_cons_toLoadRect]
  exact holds_step (n := 0) (rows_q c arg2 harg2 x0 hq) (rows_chunk arg3 harg3 x1 hk 0 _) (rows_chunk arg4 harg4 x2 hv 0 _)
    (holds0 c arg7 arg8)

include hq hk hv in
theorem holds2 : Holds q k v b 2048 (kernelRun0_A.sl.v76 c arg2 harg2 arg3 harg3 arg7 x0 x1) (kernelRun0_A.sl.v85 c arg2 harg2 arg3 harg3 arg4 harg4 arg7 arg8 x0 x1 x2) := by
  unfold kernelRun0_A.sl.v76 kernelRun0_A.sl.v85 kernelRun0_A.sl.HS0_3 kernelRun0_A.sl.HS1_3
  rw [View.readCov_cons_toLoadRect, View.readCov_cons_toLoadRect]
  exact holds_step (n := 1024) (rows_q c arg2 harg2 x0 hq) (rows_chunk arg3 harg3 x1 hk 1024 _) (rows_chunk arg4 harg4 x2 hv 1024 _)
    (holds1 c arg2 harg2 arg3 harg3 arg4 harg4 arg7 arg8 x0 x1 x2 hq hk hv)

include hq hk hv in
theorem holds3 : Holds q k v b 3072 (kernelRun0_A.sl.v106 c arg2 harg2 arg3 harg3 arg7 x0 x1) (kernelRun0_A.sl.v115 c arg2 harg2 arg3 harg3 arg4 harg4 arg7 arg8 x0 x1 x2) := by
  unfold kernelRun0_A.sl.v106 kernelRun0_A.sl.v115 kernelRun0_A.sl.HS0_4 kernelRun0_A.sl.HS1_4
  rw [View.readCov_cons_toLoadRect, View.readCov_cons_toLoadRect]
  exact holds_step (n := 2048) (rows_q c arg2 harg2 x0 hq) (rows_chunk arg3 harg3 x1 hk 2048 _) (rows_chunk arg4 harg4 x2 hv 2048 _)
    (holds2 c arg2 harg2 arg3 harg3 arg4 harg4 arg7 arg8 x0 x1 x2 hq hk hv)

include hq hk hv in
theorem holds4 : Holds q k v b 4096 (kernelRun0_A.sl.v136 c arg2 harg2 arg3 harg3 arg7 x0 x1) (kernelRun0_A.sl.v145 c arg2 harg2 arg3 harg3 arg4 harg4 arg7 arg8 x0 x1 x2) := by
  unfold kernelRun0_A.sl.v136 kernelRun0_A.sl.v145 kernelRun0_A.sl.HS0_5 kernelRun0_A.sl.HS1_5
  rw [View.readCov_cons_toLoadRect, View.readCov_cons_toLoadRect]
  exact holds_step (n := 3072) (rows_q c arg2 harg2 x0 hq) (rows_chunk arg3 harg3 x1 hk 3072 _) (rows_chunk arg4 harg4 x2 hv 3072 _)
    (holds3 c arg2 harg2 arg3 harg3 arg4 harg4 arg7 arg8 x0 x1 x2 hq hk hv)

include hq hk hv in
theorem holds5 : Holds q k v b 5120 (kernelRun0_A.sl.v166 c arg2 harg2 arg3 harg3 arg7 x0 x1) (kernelRun0_A.sl.v175 c arg2 harg2 arg3 harg3 arg4 harg4 arg7 arg8 x0 x1 x2) := by
  unfold kernelRun0_A.sl.v166 kernelRun0_A.sl.v175 kernelRun0_A.sl.HS0_6 kernelRun0_A.sl.HS1_6
  rw [View.readCov_cons_toLoadRect, View.readCov_cons_toLoadRect]
  exact holds_step (n := 4096) (rows_q c arg2 harg2 x0 hq) (rows_chunk arg3 harg3 x1 hk 4096 _) (rows_chunk arg4 harg4 x2 hv 4096 _)
    (holds4 c arg2 harg2 arg3 harg3 arg4 harg4 arg7 arg8 x0 x1 x2 hq hk hv)

include hq hk hv in
theorem holds6 : Holds q k v b 6144 (kernelRun0_A.sl.v196 c arg2 harg2 arg3 harg3 arg7 x0 x1) (kernelRun0_A.sl.v205 c arg2 harg2 arg3 harg3 arg4 harg4 arg7 arg8 x0 x1 x2) := by
  unfold kernelRun0_A.sl.v196 kernelRun0_A.sl.v205 kernelRun0_A.sl.HS0_7 kernelRun0_A.sl.HS1_7
  rw [View.readCov_cons_toLoadRect, View.readCov_cons_toLoadRect]
  exact holds_step (n := 5120) (rows_q c arg2 harg2 x0 hq) (rows_chunk arg3 harg3 x1 hk 5120 _) (rows_chunk arg4 harg4 x2 hv 5120 _)
    (holds5 c arg2 harg2 arg3 harg3 arg4 harg4 arg7 arg8 x0 x1 x2 hq hk hv)

include hq hk hv in
theorem holds7 : Holds q k v b 7168 (kernelRun0_A.sl.v226 c arg2 harg2 arg3 harg3 arg7 x0 x1) (kernelRun0_A.sl.v235 c arg2 harg2 arg3 harg3 arg4 harg4 arg7 arg8 x0 x1 x2) := by
  unfold kernelRun0_A.sl.v226 kernelRun0_A.sl.v235 kernelRun0_A.sl.HS0_8 kernelRun0_A.sl.HS1_8
  rw [View.readCov_cons_toLoadRect, View.readCov_cons_toLoadRect]
  exact holds_step (n := 6144) (rows_q c arg2 harg2 x0 hq) (rows_chunk arg3 harg3 x1 hk 6144 _) (rows_chunk arg4 harg4 x2 hv 6144 _)
    (holds6 c arg2 harg2 arg3 harg3 arg4 harg4 arg7 arg8 x0 x1 x2 hq hk hv)

include hq hk hv in
theorem holds8 : Holds q k v b 8192 (kernelRun0_A.sl.v255 c arg2 harg2 arg3 harg3 arg7 x0 x1) (kernelRun0_A.sl.v250 c arg2 harg2 arg3 harg3 arg4 harg4 arg7 arg8 x0 x1 x2) := by
  unfold kernelRun0_A.sl.v255 kernelRun0_A.sl.v250 kernelRun0_A.sl.HS0_9 kernelRun0_A.sl.HS1_9
  rw [View.readCov_cons_toLoadRect, View.readCov_cons_toLoadRect]
  unfold kernelRun0_A.sl.r_10 kernelRun0_A.sl.cst_105 k0_pay40 k0_pay39 k0_pay38 k0_pay37 k0_pay36
  exact holds_step (n := 7168) (rows_q c arg2 harg2 x0 hq) (rows_chunk arg3 harg3 x1 hk 7168 _) (rows_chunk arg4 harg4 x2 hv 7168 _)
    (holds7 c arg2 harg2 arg3 harg3 arg4 harg4 arg7 arg8 x0 x1 x2 hq hk hv)

end

section
variable {q k v : ℕ → ℕ → ℝ} {b : ℕ}
  (c : Dev nD) (i : grid0.Coords) (arg2 : Memref sig .tc .vmem S2048x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S2048x128 .f32) (harg5 : arg5.IsWhole)
  (arg6 : Memref sig .tc .vmem S1x8x2048 .f32) (harg6 : arg6.IsWhole)
  (arg7 : Memref sig .tc .vmem S2048x1 .f32) (harg7 : arg7.IsWhole) (arg8 : Memref sig .tc .vmem S2048x128 .f32) (harg8 : arg8.IsWhole)
  (x0 : Vec Ideal S2048x128 .bf16) (x1 : Vec Ideal S8192x128 .bf16) (x2 : Vec Ideal S8192x128 .bf16)
  (hq : Rows 2048 x0 q b) (hk : Rows 8192 x1 k 0) (hv : Rows 8192 x2 v 0) (h1 : ∀ j < 8192, v j 64 = 1)

include hq hk hv h1

/-- The block of the output. -/
theorem fwd_out : Rows 2048 (out0_A_3 c i arg2 harg2 arg3 harg3 arg4 harg4 arg5 harg5 arg6 harg6 arg7 harg7 arg8 harg8 x0 x1 x2) (out q k v) b := by
  unfold out0_A_3
  rw [View.read_writes_eq_canon _ _ _ (cover0_A_3 c i arg2 harg2 arg3 harg3 arg4 harg4 arg5 harg5 arg6 harg6 arg7 harg7 arg8 harg8 x0 x1 x2)]
  unfold kernelRun0_A
  dsimp only
  rw [View.canon_unit_zero zeros2]
  exact quotient_of_holds h1 (holds8 c arg2 harg2 arg3 harg3 arg4 harg4 arg7 arg8 x0 x1 x2 hq hk hv)

/-- The block of the logarithms of the rows' totals. -/
theorem fwd_log (z : Fin 1) (y : Fin 8) (r : Fin 2048) :
    out0_A_4 c i arg2 harg2 arg3 harg3 arg4 harg4 arg5 harg5 arg6 harg6 arg7 harg7 arg8 harg8 x0 x1 x2 (ix3 z y r)
      = ((Real.log (total q k (b + r.val)) : ℝ) : EReal) := by
  unfold out0_A_4
  rw [View.read_writes_eq_canon _ _ _ (cover0_A_4 c i arg2 harg2 arg3 harg3 arg4 harg4 arg5 harg5 arg6 harg6 arg7 harg7 arg8 harg8 x0 x1 x2)]
  unfold kernelRun0_A
  dsimp only
  rw [View.canon_unit_zero zeros3]
  exact log_of_holds h1 (holds8 c arg2 harg2 arg3 harg3 arg4 harg4 arg7 arg8 x0 x1 x2 hq hk hv) z y r

end

end Cert.KernelIdeal.Attn
-- ==== Proof.Region0.lean ====
/-
  The arrays of the forward region: the windows' blocks as rows of the arrays they cut, and the two result arrays after
  the last point.
-/
module

public import proofs.«01_k».proof.Proof.FwdBody

@[expose] public section

set_option maxRecDepth 16384

noncomputable section

open Idealize.ShloMosaic Idealize.ShloMosaic.TcCoe Idealize.SL.Sem Finset

namespace Cert.KernelIdeal.Attn

open Cert.KernelIdeal Cert.KernelIdeal.Gen Cert.Attn

/-- An array of 8192 rows by 8 heads of 128 lanes: head by head the rows `f h`. -/
def heads (f : ℕ → ℕ → ℕ → ℝ) : S8192x1024.Idx → EReal := fun i =>
  ((f ((i 1).val / 128) (i 0).val ((i 1).val % 128) : ℝ) : EReal)

/-- One number per head and row, the same in each of eight sublanes. -/
def perRow (g : ℕ → ℕ → ℝ) : S8x8x8192.Idx → EReal := fun i => ((g (i 0).val (i 2).val : ℝ) : EReal)

theorem heads_at (f : ℕ → ℕ → ℕ → ℝ) (i : S8192x1024.Idx) (h r d : ℕ) (hd : d < 128) (h0 : (i 0).val = r)
    (h1 : (i 1).val = h * 128 + d) : heads f i = ((f h r d : ℝ) : EReal) := by
  unfold heads
  rw [h0, h1, show (h * 128 + d) / 128 = h by omega, show (h * 128 + d) % 128 = d by omega]

theorem perRow_at (g : ℕ → ℕ → ℝ) (i : S8x8x8192.Idx) (h r : ℕ) (h0 : (i 0).val = h) (h2 : (i 2).val = r) :
    perRow g i = ((g h r : ℝ) : EReal) := by
  unfold perRow
  rw [h0, h2]

variable (V : (c : Dev nD) → (b : Ref sig .tc) → Buf (Elt Ideal) ((c : Thread nD τ).loc b)) (c : Dev nD)

theorem index0 : ∀ t : Fin grid0.N,
    (win0_0.index t 0 = t.val % 4 ∧ win0_0.index t 1 = t.val / 4)
    ∧ (win0_1.index t 0 = 0 ∧ win0_1.index t 1 = t.val / 4)
    ∧ (win0_2.index t 0 = 0 ∧ win0_2.index t 1 = t.val / 4)
    ∧ (win0_3.index t 0 = t.val % 4 ∧ win0_3.index t 1 = t.val / 4)
    ∧ (win0_4.index t 0 = t.val / 4 ∧ win0_4.index t 1 = 0 ∧ win0_4.index t 2 = t.val % 4) := by
  decide +kernel

theorem size0 : ∀ t : Fin grid0.N,
    (win0_3.xsize (grid0.coords t) 0 = 2048 ∧ win0_3.xsize (grid0.coords t) 1 = 128)
    ∧ (win0_4.xsize (grid0.coords t) 0 = 1 ∧ win0_4.xsize (grid0.coords t) 1 = 8 ∧ win0_4.xsize (grid0.coords t) 2 = 2048) := by
  decide +kernel

theorem block0_0 {f : ℕ → ℕ → ℕ → ℝ} (hV : V c main_v4 = heads f) (t : Fin cfg0.N) :
    Rows 2048 (iblk0 V c 0 t) (f (t.val / 4)) (2048 * (t.val % 4)) := by
  intro r d
  unfold iblk0
  rw [View.read_apply]
  show V c main_v4 _ = _
  rw [hV]
  refine heads_at f _ _ _ _ d.isLt ?_ ?_
  · show win0_0.index t 0 * 2048 + 1 * r.val = _; rw [(index0 t).1.1]; omega
  · show win0_0.index t 1 * 128 + 1 * d.val = _; rw [(index0 t).1.2]; omega

theorem block0_1 {f : ℕ → ℕ → ℕ → ℝ} (hV : V c main_v7 = heads f) (t : Fin cfg0.N) :
    Rows 8192 (iblk0 V c 1 t) (f (t.val / 4)) 0 := by
  intro r d
  unfold iblk0
  rw [View.read_apply]
  show V c main_v7 _ = _
  rw [hV]
  refine heads_at f _ _ _ _ d.isLt ?_ ?_
  · show win0_1.index t 0 * 8192 + 1 * r.val = _; rw [(index0 t).2.1.1]; omega
  · show win0_1.index t 1 * 128 + 1 * d.val = _; rw [(index0 t).2.1.2]; omega

theorem block0_2 {f : ℕ → ℕ → ℕ → ℝ} (hV : V c main_v10 = heads f) (t : Fin cfg0.N) :
    Rows 8192 (iblk0 V c 2 t) (f (t.val / 4)) 0 := by
  intro r d
  unfold iblk0
  rw [View.read_apply]
  show V c main_v10 _ = _
  rw [hV]
  refine heads_at f _ _ _ _ d.isLt ?_ ?_
  · show win0_2.index t 0 * 8192 + 1 * r.val = _; rw [(index0 t).2.2.1.1]; omega
  · show win0_2.index t 1 * 128 + 1 * d.val = _; rw [(index0 t).2.2.1.2]; omega

theorem read0_3 (t : Fin cfg0.N) (G : S8192x1024.Idx → EReal) (x : S2048x128.Idx) :
    View.read (Elt Ideal) ((View.whole main_v11_0).slice (win0_3.rect t)) G x = G (((View.whole main_v11_0).slice (win0_3.rect t)).emb x) :=
  View.read_apply _ _

theorem read0_4 (t : Fin cfg0.N) (G : S8x8x8192.Idx → EReal) (x : S1x8x2048.Idx) :
    View.read (Elt Ideal) ((View.whole main_v11_1).slice (win0_4.rect t)) G x = G (((View.whole main_v11_1).slice (win0_4.rect t)).emb x) :=
  View.read_apply _ _

theorem mem_block0_3 (t : Fin cfg0.N) (i : S8192x1024.Idx) (h0 : (i 0).val / 2048 = t.val % 4) (h1 : (i 1).val / 128 = t.val / 4) :
    i ∈ ((cfg0.win 3).blk t).view.set := by
  show i ∈ ((View.whole main_v11_0).slice (win0_3.rect t)).set
  rw [View.set_slice_whole, Rect.mem_set_unit]
  obtain ⟨_, _, _, ⟨e0, e1⟩, _⟩ := index0 t
  obtain ⟨⟨s0, s1⟩, _⟩ := size0 t
  intro a
  match a with
  | ⟨0, _⟩ =>
    show win0_3.index t 0 * 2048 ≤ (i 0 : Nat) ∧ (i 0 : Nat) < win0_3.index t 0 * 2048 + win0_3.xsize (grid0.coords t) 0
    rw [e0, s0]; omega
  | ⟨1, _⟩ =>
    show win0_3.index t 1 * 128 ≤ (i 1 : Nat) ∧ (i 1 : Nat) < win0_3.index t 1 * 128 + win0_3.xsize (grid0.coords t) 1
    rw [e1, s1]; omega

theorem mem_block0_4 (t : Fin cfg0.N) (i : S8x8x8192.Idx) (h0 : (i 0).val = t.val / 4) (h2 : (i 2).val / 2048 = t.val % 4) :
    i ∈ ((cfg0.win 4).blk t).view.set := by
  show i ∈ ((View.whole main_v11_1).slice (win0_4.rect t)).set
  rw [View.set_slice_whole, Rect.mem_set_unit]
  obtain ⟨_, _, _, _, e0, e1, e2⟩ := index0 t
  obtain ⟨_, s0, s1, s2⟩ := size0 t
  have hy : (i 1).val < 8 := (i 1).isLt
  intro a
  match a with
  | ⟨0, _⟩ =>
    show win0_4.index t 0 * 1 ≤ (i 0 : Nat) ∧ (i 0 : Nat) < win0_4.index t 0 * 1 + win0_4.xsize (grid0.coords t) 0
    rw [e0, s0]; omega
  | ⟨1, _⟩ =>
    show win0_4.index t 1 * 8 ≤ (i 1 : Nat) ∧ (i 1 : Nat) < win0_4.index t 1 * 8 + win0_4.xsize (grid0.coords t) 1
    rw [e1, s1]; omega
  | ⟨2, _⟩ =>
    show win0_4.index t 2 * 2048 ≤ (i 2 : Nat) ∧ (i 2 : Nat) < win0_4.index t 2 * 2048 + win0_4.xsize (grid0.coords t) 2
    rw [e2, s2]; omega

section
variable {q k v : ℕ → ℕ → ℕ → ℝ} (hq : V c main_v4 = heads q) (hk : V c main_v7 = heads k) (hv : V c main_v10 = heads v)
  (h1 : ∀ h < 8, ∀ j < 8192, v h j 64 = 1)

include hq hk hv h1

/-- The output's array. -/
theorem region0_out : (dat0 V c).arrAt 3 cfg0.N = heads fun h => out (q h) (k h) (v h) := by
  refine (dat0 V c).arrAt_eq_of_cover 3 _ (fun t _ => ?_) fun i => ?_
  · have ht : t.val < 32 := t.isLt
    show (cfg0.win 3).cut (grid0.coords t) ((dat0 V c).after 3 t) = _
    rw [after0_3]
    unfold outsAt0
    dsimp only
    have hb := fwd_out c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) _ _ _ (block0_0 V c hq t) (block0_1 V c hk t) (block0_2 V c hv t)
      (h1 _ (by omega))
    funext x
    obtain ⟨r, d, rfl⟩ : ∃ (r : Fin 2048) (d : Fin 128), x = ix2 r d := ⟨x 0, x 1, eq_ix2 x⟩
    refine (hb r d).trans (Eq.trans ?_ (read0_3 t _ (ix2 r d)).symm)
    refine (heads_at (fun h => out (q h) (k h) (v h)) _ (t.val / 4) (2048 * (t.val % 4) + r.val) d.val d.isLt ?_ ?_).symm
    · show win0_3.index t 0 * 2048 + 1 * r.val = _; rw [(index0 t).2.2.2.1.1]; omega
    · show win0_3.index t 1 * 128 + 1 * d.val = _; rw [(index0 t).2.2.2.1.2]; omega
  · have hi0 : (i 0).val < 8192 := (i 0).isLt
    have hi1 : (i 1).val < 1024 := (i 1).isLt
    refine ⟨⟨(i 1).val / 128 * 4 + (i 0).val / 2048, ?_⟩, flush0_3 _, mem_block0_3 _ i ?_ ?_⟩
    · show _ < 32; omega
    · show (i 0).val / 2048 = ((i 1).val / 128 * 4 + (i 0).val / 2048) % 4; omega
    · show (i 1).val / 128 = ((i 1).val / 128 * 4 + (i 0).val / 2048) / 4; omega

/-- The array of the logarithms of the rows' totals. -/
theorem region0_log : (dat0 V c).arrAt 4 cfg0.N = perRow fun h r => Real.log (total (q h) (k h) r) := by
  refine (dat0 V c).arrAt_eq_of_cover 4 _ (fun t _ => ?_) fun i => ?_
  · have ht : t.val < 32 := t.isLt
    show (cfg0.win 4).cut (grid0.coords t) ((dat0 V c).after 4 t) = _
    rw [after0_4]
    unfold outsAt0
    dsimp only
    have hb := fwd_log c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) _ _ _ (block0_0 V c hq t) (block0_1 V c hk t) (block0_2 V c hv t)
      (h1 _ (by omega))
    funext x
    obtain ⟨z, y, r, rfl⟩ : ∃ (z : Fin 1) (y : Fin 8) (r : Fin 2048), x = ix3 z y r := ⟨x 0, x 1, x 2, eq_ix3 x⟩
    refine (hb z y r).trans (Eq.trans ?_ (read0_4 t _ (ix3 z y r)).symm)
    refine (perRow_at (fun h r => Real.log (total (q h) (k h) r)) _ (t.val / 4) (2048 * (t.val % 4) + r.val) ?_ ?_).symm
    · show win0_4.index t 0 * 1 + 1 * z.val = _; rw [(index0 t).2.2.2.2.1]; omega
    · show win0_4.index t 2 * 2048 + 1 * r.val = _; rw [(index0 t).2.2.2.2.2.2]; omega
  · have hi0 : (i 0).val < 8 := (i 0).isLt
    have hi1 : (i 2).val < 8192 := (i 2).isLt
    refine ⟨⟨(i 0).val * 4 + (i 2).val / 2048, ?_⟩, flush0_4 _, mem_block0_4 _ i ?_ ?_⟩
    · show _ < 32; omega
    · show (i 0).val = ((i 0).val * 4 + (i 2).val / 2048) / 4; omega
    · show (i 2).val / 2048 = ((i 0).val * 4 + (i 2).val / 2048) % 4; omega

end

end Cert.KernelIdeal.Attn
-- ==== Proof.BwdPay.lean ====
/-
  One step of the backward kernel, in real numbers: the probabilities from the saved logarithms, and what the step adds
  to the three gradients.
-/
module

public import proofs.«01_k».proof.Proof.Step

@[expose] public section

set_option maxRecDepth 16384

noncomputable section

open Idealize.ShloMosaic Finset

namespace Cert.KernelIdeal.Attn

open Cert.KernelIdeal Cert.KernelIdeal.Gen Cert.Attn

/-! ## The payloads at an index -/

theorem pay5_apply (r : Fin 8192) (d : Fin 128) : k1_pay5 (F := Ideal) (ix2 r d) = 0 := by
  pointwise [k1_pay5]

theorem pay6_apply (r : Fin 2048) (d : Fin 128) : k1_pay6 (F := Ideal) (ix2 r d) = 0 := by
  pointwise [k1_pay6]

theorem pay7_apply (r : Fin 2048) (d : Fin 128) : k1_pay7 (F := Ideal) (ix2 r d) = 0 := by
  pointwise [k1_pay7]

theorem bpay1_apply (g : FVec Ideal S2048x128 .f32) (p : FVec Ideal S2048x2048 .f32) (a : FVec Ideal S2048x128 .f32) (x : Fin 2048) (d : Fin 128) :
    k1_pay1 (F := Ideal) g p a (ix2 x d) = a (ix2 x d) + ∑ y : Fin 2048, p (ix2 x y) * g (ix2 y d) := by
  pointwise [k1_pay1]

theorem bpay2_apply (v : FVec Ideal S2048x128 .bf16) (g : FVec Ideal S2048x128 .f32) (e : FVec Ideal S1x2048 .f32)
    (p : FVec Ideal S2048x2048 .f32) (x y : Fin 2048) :
    k1_pay2 (F := Ideal) v g e p (ix2 x y) = p (ix2 x y) * ((∑ d : Fin 128, v (ix2 x d) * g (ix2 y d)) - e (ix2 0 y)) := by
  pointwise [k1_pay2]

theorem bpay3_apply (q v : FVec Ideal S2048x128 .bf16) (g : FVec Ideal S2048x128 .f32) (e : FVec Ideal S1x2048 .f32)
    (p : FVec Ideal S2048x2048 .f32) (a : Vec Ideal S2048x128 .f32) (x : Fin 2048) (d : Fin 128) :
    k1_pay3 (F := Ideal) q v g e p a (ix2 x d) = a (ix2 x d) + ∑ y : Fin 2048, k1_pay2 (F := Ideal) v g e p (ix2 x y) * q (ix2 y d) := by
  pointwise [k1_pay3]

theorem bpay4_apply (k v : FVec Ideal S2048x128 .bf16) (g : FVec Ideal S2048x128 .f32) (e : FVec Ideal S1x2048 .f32)
    (p : FVec Ideal S2048x2048 .f32) (a : Vec Ideal S2048x128 .f32) (y : Fin 2048) (d : Fin 128) :
    k1_pay4 (F := Ideal) k v g e p a (ix2 y d) = a (ix2 y d) + ∑ x : Fin 2048, k1_pay2 (F := Ideal) v g e p (ix2 x y) * k (ix2 x d) := by
  pointwise [k1_pay4]

theorem bpay12_apply (g o : Vec Ideal S2048x128 .f32) (y : Fin 2048) :
    k1_pay12 (F := Ideal) g o (ix2 0 y) = ∑ d : Fin 128, g (ix2 y d) * o (ix2 y d) := by
  pointwise [k1_pay12, k1_pay11]

theorem bpay13_apply (q k : Vec Ideal S2048x128 .bf16) (l : Vec Ideal S1x1x2048 .f32) (x y : Fin 2048) :
    k1_pay13 (F := Ideal) q k l (ix2 x y) = Ideal.exp ((∑ d : Fin 128, k (ix2 x d) * q (ix2 y d)) - l (ix3 0 0 y)) := by
  pointwise [k1_pay13, k1_pay8, k1_pay9]

/-! ## The step in real numbers -/

section
variable {q k v g : ℕ → ℕ → ℝ} {bq bk : ℕ} {x0 x1 x2 : Vec Ideal S2048x128 .bf16} {x3 x4 : Vec Ideal S2048x128 .f32} {l : Vec Ideal S1x1x2048 .f32}
  (hq : Rows 2048 x0 q bq) (hk : Rows 2048 x1 k bk) (hv : Rows 2048 x2 v bk) (ho : Rows 2048 x3 (out q k v) bq) (hg : Rows 2048 x4 g bq)
  (hl : ∀ y : Fin 2048, l (ix3 0 0 y) = ((Real.log (total q k (bq + y.val)) : ℝ) : EReal))

include hq hk hl in
theorem prob_of_rows (x y : Fin 2048) :
    k1_pay13 (F := Ideal) x0 x1 l (ix2 x y) = ((prob q k (bq + y.val) (bk + x.val) : ℝ) : EReal) := by
  have hs : ∑ d : Fin 128, x1 (ix2 x d) * x0 (ix2 y d) = ((score q k (bq + y.val) (bk + x.val) : ℝ) : EReal) := by
    rw [score, ← sum_mul_coe]
    exact sum_congr rfl fun d _ => by rw [hq y d, hk x d, mul_comm]
  rw [bpay13_apply, hs, hl, ← EReal.coe_sub, exp_coe, exp_sub_log]

include ho hg in
theorem delta_of_rows (y : Fin 2048) : k1_pay12 (F := Ideal) x4 x3 (ix2 0 y) = ((delta q k v g (bq + y.val) : ℝ) : EReal) := by
  rw [bpay12_apply, delta, ← sum_mul_coe]
  exact sum_congr rfl fun d _ => by rw [hg y d, ho y d]

include hq hk hv ho hg hl in
theorem dscore_of_rows (x y : Fin 2048) :
    k1_pay2 (F := Ideal) x2 x4 (k1_pay12 (F := Ideal) x4 x3) (k1_pay13 (F := Ideal) x0 x1 l) (ix2 x y)
      = ((dscore q k v g (bq + y.val) (bk + x.val) : ℝ) : EReal) := by
  have hs : ∑ d : Fin 128, x2 (ix2 x d) * x4 (ix2 y d) = ((dprob v g (bq + y.val) (bk + x.val) : ℝ) : EReal) := by
    rw [dprob, ← sum_mul_coe]
    exact sum_congr rfl fun d _ => by rw [hg y d, hv x d]
  rw [bpay2_apply, hs, prob_of_rows hq hk hl, delta_of_rows ho hg, ← EReal.coe_sub, ← EReal.coe_mul, dscore]

include hq hk hg hl in
theorem dv_step {a : FVec Ideal S2048x128 .f32} (ha : Rows 2048 a (dvTo q k g bq) bk) :
    Rows 2048 (k1_pay1 (F := Ideal) x4 (k1_pay13 (F := Ideal) x0 x1 l) a) (dvTo q k g (bq + 2048)) bk := by
  intro x d
  rw [bpay1_apply, ha x d, dvTo, dvTo, sum_range_add, EReal.coe_add]
  congr 1
  rw [← sum_mul_coe 2048 (fun y => prob q k (bq + y) (bk + x.val)) fun y => g (bq + y) d.val]
  exact sum_congr rfl fun y _ => by rw [prob_of_rows hq hk hl, hg y d]

include hq hk hv ho hg hl in
theorem dk_step {a : Vec Ideal S2048x128 .f32} (ha : Rows 2048 a (dkTo q k v g bq) bk) :
    Rows 2048 (k1_pay3 (F := Ideal) x0 x2 x4 (k1_pay12 (F := Ideal) x4 x3) (k1_pay13 (F := Ideal) x0 x1 l) a) (dkTo q k v g (bq + 2048)) bk := by
  intro x d
  rw [bpay3_apply, ha x d, dkTo, dkTo, sum_range_add, EReal.coe_add]
  congr 1
  rw [← sum_mul_coe 2048 (fun y => dscore q k v g (bq + y) (bk + x.val)) fun y => q (bq + y) d.val]
  exact sum_congr rfl fun y _ => by rw [dscore_of_rows hq hk hv ho hg hl, hq y d]

include hq hk hv ho hg hl in
theorem dq_step {a : Vec Ideal S2048x128 .f32} (y : Fin 2048) (d : Fin 128)
    (ha : a (ix2 y d) = ((dqTo q k v g bk (bq + y.val) d.val : ℝ) : EReal)) :
    k1_pay4 (F := Ideal) x1 x2 x4 (k1_pay12 (F := Ideal) x4 x3) (k1_pay13 (F := Ideal) x0 x1 l) a (ix2 y d)
      = ((dqTo q k v g (bk + 2048) (bq + y.val) d.val : ℝ) : EReal) := by
  rw [bpay4_apply, ha, dqTo, dqTo, sum_range_add, EReal.coe_add]
  congr 1
  rw [← sum_mul_coe 2048 (fun x => dscore q k v g (bq + y.val) (bk + x)) fun x => k (bk + x) d.val]
  exact sum_congr rfl fun x _ => by rw [dscore_of_rows hq hk hv ho hg hl, hk x d]

end

theorem rows_zero6 (q k v g : ℕ → ℕ → ℝ) (b : ℕ) : Rows 2048 (k1_pay6 (F := Ideal)) (dkTo q k v g 0) b :=
  fun x d => pay6_apply x d

theorem rows_zero7 (q k g : ℕ → ℕ → ℝ) (b : ℕ) : Rows 2048 (k1_pay7 (F := Ideal)) (dvTo q k g 0) b :=
  fun x d => pay7_apply x d

end Cert.KernelIdeal.Attn
-- ==== Proof.BwdBody.lean ====
/-
  What one call of the backward body leaves in its three result blocks, in each of the three cases of its two branches.
-/
module

public import proofs.«01_k».proof.Proof.Gen.KernelIdeal.Frame
public import proofs.«01_k».proof.Proof.BwdPay
public import Idealize.ShloMosaic.Lib.Pipeline.Value
public import Idealize.ShloMosaic.Lib.Pipeline.ValueKit.Tiles
public import Idealize.ShloMosaic.Lib.VecWindow
public import Idealize.ShloMosaic.Lib.WritesUnit

@[expose] public section

set_option maxRecDepth 16384

noncomputable section

open Idealize.ShloMosaic Idealize.ShloMosaic.TcCoe Idealize.SL.Sem Finset

namespace Cert.KernelIdeal.Attn

open Cert.KernelIdeal Cert.KernelIdeal.Gen Cert.Attn

theorem offsets0 : (![0, 0] : Fin 2 → Nat) = fun _ => 0 := funext fun a => by fin_cases a <;> rfl

/-- The row at which the body updates the gradient of the queries. -/
theorem off_eq (i : grid1.Coords) : k1_off1 i = ![2048 * (i 2).val, 0] := by
  have h : ∀ n : Fin 4, (Scalar.indexCast (Scalar.muli (BitVec.ofNat 32 n.val) 2048#32)).toNat = 2048 * n.val := by decide +kernel
  funext a
  match a with
  | ⟨0, _⟩ => exact h (i 2)
  | ⟨1, _⟩ => rfl

/-- A load of a whole block. -/
theorem load_whole {e : EltTy} (a : Memref sig .tc .vmem S2048x128 e) (h : a.IsWhole) (x : Vec Ideal S2048x128 e)
    (inb : ∀ b, (![0, 0] : Fin 2 → Nat) b + S2048x128.size b ≤ S2048x128.size b) :
    View.readAt (Elt Ideal) a.view (Rect.unit (s := S2048x128) ![0, 0] S2048x128.size inb).toLoadRect (h.unread x) = x := by
  rw [View.readAt_eq_ld, h.read_unread, View.ld_unit_zero (S := S2048x128) offsets0]

theorem rows_load {f : ℕ → ℕ → ℝ} {b : ℕ} (a : Memref sig .tc .vmem S2048x128 .f32) (h : a.IsWhole) (x : Vec Ideal S2048x128 .f32)
    (hx : Rows 2048 x f b) (inb : ∀ b, (![0, 0] : Fin 2 → Nat) b + S2048x128.size b ≤ S2048x128.size b) :
    Rows 2048 (View.readAt (Elt Ideal) a.view (Rect.unit (s := S2048x128) ![0, 0] S2048x128.size inb).toLoadRect (h.unread x)) f b :=
  (load_whole a h x inb).symm ▸ hx

theorem rows_load' {f : ℕ → ℕ → ℝ} {b : ℕ} (a : Memref sig .tc .vmem S2048x128 .bf16) (h : a.IsWhole) (x : Vec Ideal S2048x128 .bf16)
    (hx : Rows 2048 x f b) (inb : ∀ b, (![0, 0] : Fin 2 → Nat) b + S2048x128.size b ≤ S2048x128.size b) :
    Rows 2048 (View.readAt (Elt Ideal) a.view (Rect.unit (s := S2048x128) ![0, 0] S2048x128.size inb).toLoadRect (h.unread x)) f b :=
  (load_whole a h x inb).symm ▸ hx

/-- A load of the first of eight sublanes. -/
theorem load_sublane (a : Memref sig .tc .vmem S1x8x2048 .f32) (h : a.IsWhole) (x : Vec Ideal S1x8x2048 .f32)
    (inb : ∀ b, (![0, 0, 0] : Fin 3 → Nat) b + S1x1x2048.size b ≤ S1x8x2048.size b) (y : Fin 2048) :
    View.readAt (Elt Ideal) a.view (Rect.unit (s := S1x8x2048) ![0, 0, 0] S1x1x2048.size inb).toLoadRect (h.unread x) (ix3 0 0 y) = x (ix3 0 0 y) := by
  rw [View.readAt_eq_ld, h.read_unread]
  refine View.ld_unit_apply_of x ![0, 0, 0] S1x1x2048.size inb (ix3 0 0 y) (ix3 0 0 y) fun b => ?_
  match b with
  | ⟨0, _⟩ => rfl
  | ⟨1, _⟩ => rfl
  | ⟨2, _⟩ => exact (Nat.zero_add _).symm

/-- The gradient of the queries is brought forward by 2048 key rows in the `n`-th 2048 of its rows, and left as it is in
    the others. -/
def Forward (q k v g : ℕ → ℕ → ℝ) (bk n : ℕ) (old new : S8192x128.Idx → EReal) : Prop :=
  (∀ (r : Fin 8192) (d : Fin 128), r.val / 2048 = n → old (ix2 r d) = ((dqTo q k v g bk r.val d.val : ℝ) : EReal) →
      new (ix2 r d) = ((dqTo q k v g (bk + 2048) r.val d.val : ℝ) : EReal))
    ∧ ∀ (r : Fin 8192) (d : Fin 128), r.val / 2048 ≠ n → new (ix2 r d) = old (ix2 r d)

section
variable {q k v g : ℕ → ℕ → ℝ} {bk n : ℕ} {x0 x1 x2 : Vec Ideal S2048x128 .bf16} {x3 x4 : Vec Ideal S2048x128 .f32} {x5 : Vec Ideal S1x8x2048 .f32}
  (hq : Rows 2048 x0 q (2048 * n)) (hk : Rows 2048 x1 k bk) (hv : Rows 2048 x2 v bk) (ho : Rows 2048 x3 (out q k v) (2048 * n)) (hg : Rows 2048 x4 g (2048 * n))
  (hl : ∀ y : Fin 2048, x5 (ix3 0 0 y) = ((Real.log (total q k (2048 * n + y.val)) : ℝ) : EReal))

include hq hk hv ho hg in
theorem forward_store {l : Vec Ideal S1x1x2048 .f32} (hl' : ∀ y : Fin 2048, l (ix3 0 0 y) = ((Real.log (total q k (2048 * n + y.val)) : ℝ) : EReal))
    (w : View sig .tc .vmem S8192x128 .f32) (f : w.ty.Contents (Elt Ideal)) (L : List (View.Piece (Elt Ideal) S8192x128 .f32))
    (old : Vec Ideal S8192x128 .f32) (hold : w.read (Elt Ideal) (w.writes (Elt Ideal) f L) = old)
    (off : Fin 2 → Nat) (hoff : off = ![2048 * n, 0]) (inb : ∀ b, off b + S2048x128.size b ≤ S8192x128.size b)
    (a : Vec Ideal S2048x128 .f32) (hold' : a = View.ld old (Rect.unit (s := S8192x128) off S2048x128.size inb)) :
    Forward q k v g bk n old (w.read (Elt Ideal) (w.writes (Elt Ideal) f (⟨Rect.unit (s := S8192x128) off S2048x128.size inb,
      k1_pay4 (F := Ideal) x1 x2 x4 (k1_pay12 (F := Ideal) x4 x3) (k1_pay13 (F := Ideal) x0 x1 l) a⟩ :: L))) := by
  subst hoff hold'
  refine ⟨fun r d hr ha => ?_, fun r d hr => ?_⟩
  · have hlt : r.val - 2048 * n < 2048 := by omega
    have e : 2048 * n + (r.val - 2048 * n) = r.val := by omega
    rw [View.read_writes_cons_rows_of_mem w f inb _ L (ix2 r d) (ix2 ⟨r.val - 2048 * n, hlt⟩ d) rfl e.symm rfl]
    have hs := dq_step hq hk hv ho hg hl' (a := View.ld old (Rect.unit (s := S8192x128) ![2048 * n, 0] S2048x128.size inb)) ⟨r.val - 2048 * n, hlt⟩ d (by
      refine Eq.trans ?_ (ha.trans (by rw [e]))
      refine View.ld_unit_apply_of old ![2048 * n, 0] S2048x128.size inb _ (ix2 r d) fun b => ?_
      match b with
      | ⟨0, _⟩ => exact e.symm
      | ⟨1, _⟩ => exact (Nat.zero_add _).symm)
    refine hs.trans ?_
    rw [e]
  · have h : r.val < 2048 * n ∨ 2048 * n + 2048 ≤ r.val := by omega
    rw [View.read_writes_cons_rows_of_not_mem w f inb _ L (ix2 r d) rfl (W := 2048) rfl h, hold]

variable (c : Dev nD) (i : grid1.Coords) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole)
  (arg7 : Memref sig .tc .vmem S2048x128 .f32) (harg7 : arg7.IsWhole) (arg8 : Memref sig .tc .vmem S1x8x2048 .f32) (harg8 : arg8.IsWhole) (arg9 : Memref sig .tc .vmem S8192x128 .f32) (harg9 : arg9.IsWhole)
  (arg10 : Memref sig .tc .vmem S2048x128 .f32) (harg10 : arg10.IsWhole) (arg11 : Memref sig .tc .vmem S2048x128 .f32) (harg11 : arg11.IsWhole)
  (hn : (i 2).val = n)

include hq hk hg hl in
theorem dv_A (hc0 : cond1_0 i) (hc1 : cond1_1 i) (h0 : n = 0) :
    Rows 2048 (out1_A_8 c i arg3 harg3 arg4 harg4 arg5 harg5 arg6 harg6 arg7 harg7 arg8 harg8 arg9 harg9 arg10 harg10 arg11 harg11 hc0 hc1 x0 x1 x2 x3 x4 x5) (dvTo q k g (2048 * n + 2048)) bk := by
  unfold out1_A_8 kernelRun1_A
  dsimp only
  rw [View.read_writes_full]
  unfold kernelRun1_A.sl.r_3 kernelRun1_A.sl.r_5 kernelRun1_A.sl.r_6 k1_pay11 k1_pay14 kernelRun1_A.sl.v31 kernelRun1_A.sl.H8_1
  rw [shapeCast_self, shapeCast_self, View.readCov_cons_toLoadRect]
  refine dv_step (rows_load' arg3 harg3 x0 hq _) (rows_load' arg4 harg4 x1 hk _) (rows_load arg7 harg7 x4 hg _) (fun y => (load_sublane arg8 harg8 x5 _ y).trans (hl y)) ?_
  subst h0
  exact rows_zero7 q k g bk

include hq hk hv ho hg hl in
theorem dk_A (hc0 : cond1_0 i) (hc1 : cond1_1 i) (h0 : n = 0) :
    Rows 2048 (out1_A_7 c i arg3 harg3 arg4 harg4 arg5 harg5 arg6 harg6 arg7 harg7 arg8 harg8 arg9 harg9 arg10 harg10 arg11 harg11 hc0 hc1 x0 x1 x2 x3 x4 x5) (dkTo q k v g (2048 * n + 2048)) bk := by
  unfold out1_A_7 kernelRun1_A
  dsimp only
  rw [View.read_writes_full]
  unfold kernelRun1_A.sl.r kernelRun1_A.sl.r_2 kernelRun1_A.sl.r_3 kernelRun1_A.sl.r_4 kernelRun1_A.sl.r_5 k1_pay8 k1_pay10 k1_pay11 kernelRun1_A.sl.v43 kernelRun1_A.sl.H7_1
  rw [shapeCast_self, shapeCast_self, shapeCast_self, View.readCov_cons_toLoadRect]
  refine dk_step (rows_load' arg3 harg3 x0 hq _) (rows_load' arg4 harg4 x1 hk _) (rows_load' arg5 harg5 x2 hv _) (rows_load arg6 harg6 x3 ho _) (rows_load arg7 harg7 x4 hg _) (fun y => (load_sublane arg8 harg8 x5 _ y).trans (hl y)) ?_
  subst h0
  exact rows_zero6 q k v g bk

include hq hk hv ho hg hl hn in
theorem dq_A (hc0 : cond1_0 i) (hc1 : cond1_1 i) :
    Forward q k v g bk n (k1_pay5 (F := Ideal)) (out1_A_6 c i arg3 harg3 arg4 harg4 arg5 harg5 arg6 harg6 arg7 harg7 arg8 harg8 arg9 harg9 arg10 harg10 arg11 harg11 hc0 hc1 x0 x1 x2 x3 x4 x5) := by
  unfold out1_A_6 kernelRun1_A
  dsimp only
  unfold kernelRun1_A.sl.r_1 kernelRun1_A.sl.r_2 kernelRun1_A.sl.r_3 kernelRun1_A.sl.r_4 kernelRun1_A.sl.r_5 k1_pay9 k1_pay10 k1_pay11
  rw [shapeCast_self, shapeCast_self, shapeCast_self]
  refine forward_store (rows_load' arg3 harg3 x0 hq _) (rows_load' arg4 harg4 x1 hk _) (rows_load' arg5 harg5 x2 hv _) (rows_load arg6 harg6 x3 ho _) (rows_load arg7 harg7 x4 hg _) (fun y => (load_sublane arg8 harg8 x5 _ y).trans (hl y)) _ _ _ _ (View.read_writes_full _ _ _ _ _)
    _ (by rw [off_eq, hn]) _ _ ?_
  unfold kernelRun1_A.sl.v52 kernelRun1_A.sl.H6_1
  rw [View.readAt_eq_ld]
  exact congrArg (fun z => View.ld z _) (View.read_writes_full _ _ _ _ _)

include hq hk hg hl in
theorem dv_B (hc0 : ¬cond1_0 i) (hc1 : ¬cond1_1 i) (xo6 : Vec Ideal S8192x128 .f32) (xo7 xo8 : Vec Ideal S2048x128 .f32) (ha : Rows 2048 xo8 (dvTo q k g (2048 * n)) bk) :
    Rows 2048 (out1_B_8 c i arg3 harg3 arg4 harg4 arg5 harg5 arg6 harg6 arg7 harg7 arg8 harg8 arg9 harg9 arg10 harg10 arg11 harg11 hc0 hc1 x0 x1 x2 x3 x4 x5 xo6 xo7 xo8) (dvTo q k g (2048 * n + 2048)) bk := by
  unfold out1_B_8 kernelRun1_B
  dsimp only
  rw [View.read_writes_full]
  unfold kernelRun1_B.sl.r_3 kernelRun1_B.sl.r_5 kernelRun1_B.sl.r_6 k1_pay11 k1_pay14
  rw [shapeCast_self, shapeCast_self]
  refine dv_step (rows_load' arg3 harg3 x0 hq _) (rows_load' arg4 harg4 x1 hk _) (rows_load arg7 harg7 x4 hg _) (fun y => (load_sublane arg8 harg8 x5 _ y).trans (hl y)) ?_
  exact rows_load arg11 harg11 xo8 ha _

include hq hk hv ho hg hl in
theorem dk_B (hc0 : ¬cond1_0 i) (hc1 : ¬cond1_1 i) (xo6 : Vec Ideal S8192x128 .f32) (xo7 xo8 : Vec Ideal S2048x128 .f32) (ha : Rows 2048 xo7 (dkTo q k v g (2048 * n)) bk) :
    Rows 2048 (out1_B_7 c i arg3 harg3 arg4 harg4 arg5 harg5 arg6 harg6 arg7 harg7 arg8 harg8 arg9 harg9 arg10 harg10 arg11 harg11 hc0 hc1 x0 x1 x2 x3 x4 x5 xo6 xo7 xo8) (dkTo q k v g (2048 * n + 2048)) bk := by
  unfold out1_B_7 kernelRun1_B
  dsimp only
  rw [View.read_writes_full]
  unfold kernelRun1_B.sl.r kernelRun1_B.sl.r_2 kernelRun1_B.sl.r_3 kernelRun1_B.sl.r_4 kernelRun1_B.sl.r_5 k1_pay8 k1_pay10 k1_pay11
  rw [shapeCast_self, shapeCast_self, shapeCast_self]
  refine dk_step (rows_load' arg3 harg3 x0 hq _) (rows_load' arg4 harg4 x1 hk _) (rows_load' arg5 harg5 x2 hv _) (rows_load arg6 harg6 x3 ho _) (rows_load arg7 harg7 x4 hg _) (fun y => (load_sublane arg8 harg8 x5 _ y).trans (hl y)) ?_
  exact rows_load arg10 harg10 xo7 ha _

include hq hk hv ho hg hl hn in
theorem dq_B (hc0 : ¬cond1_0 i) (hc1 : ¬cond1_1 i) (xo6 : Vec Ideal S8192x128 .f32) (xo7 xo8 : Vec Ideal S2048x128 .f32) :
    Forward q k v g bk n (xo6) (out1_B_6 c i arg3 harg3 arg4 harg4 arg5 harg5 arg6 harg6 arg7 harg7 arg8 harg8 arg9 harg9 arg10 harg10 arg11 harg11 hc0 hc1 x0 x1 x2 x3 x4 x5 xo6 xo7 xo8) := by
  unfold out1_B_6 kernelRun1_B
  dsimp only
  unfold kernelRun1_B.sl.r_1 kernelRun1_B.sl.r_2 kernelRun1_B.sl.r_3 kernelRun1_B.sl.r_4 kernelRun1_B.sl.r_5 k1_pay9 k1_pay10 k1_pay11
  rw [shapeCast_self, shapeCast_self, shapeCast_self]
  refine forward_store (rows_load' arg3 harg3 x0 hq _) (rows_load' arg4 harg4 x1 hk _) (rows_load' arg5 harg5 x2 hv _) (rows_load arg6 harg6 x3 ho _) (rows_load arg7 harg7 x4 hg _) (fun y => (load_sublane arg8 harg8 x5 _ y).trans (hl y)) _ _ [] _
    (by rw [View.writes_nil, harg9.read_unread]) _ (by rw [off_eq, hn]) _ _ ?_
  rw [View.readAt_eq_ld, harg9.read_unread]

include hq hk hg hl in
theorem dv_C (hc0 : ¬cond1_0 i) (hc1 : cond1_1 i) (xo6 : Vec Ideal S8192x128 .f32) (h0 : n = 0) :
    Rows 2048 (out1_C_8 c i arg3 harg3 arg4 harg4 arg5 harg5 arg6 harg6 arg7 harg7 arg8 harg8 arg9 harg9 arg10 harg10 arg11 harg11 hc0 hc1 x0 x1 x2 x3 x4 x5 xo6) (dvTo q k g (2048 * n + 2048)) bk := by
  unfold out1_C_8 kernelRun1_C
  dsimp only
  rw [View.read_writes_full]
  unfold kernelRun1_C.sl.r_3 kernelRun1_C.sl.r_5 kernelRun1_C.sl.r_6 k1_pay11 k1_pay14 kernelRun1_C.sl.v31 kernelRun1_C.sl.H8_1
  rw [shapeCast_self, shapeCast_self, View.readCov_cons_toLoadRect]
  refine dv_step (rows_load' arg3 harg3 x0 hq _) (rows_load' arg4 harg4 x1 hk _) (rows_load arg7 harg7 x4 hg _) (fun y => (load_sublane arg8 harg8 x5 _ y).trans (hl y)) ?_
  subst h0
  exact rows_zero7 q k g bk

include hq hk hv ho hg hl in
theorem dk_C (hc0 : ¬cond1_0 i) (hc1 : cond1_1 i) (xo6 : Vec Ideal S8192x128 .f32) (h0 : n = 0) :
    Rows 2048 (out1_C_7 c i arg3 harg3 arg4 harg4 arg5 harg5 arg6 harg6 arg7 harg7 arg8 harg8 arg9 harg9 arg10 harg10 arg11 harg11 hc0 hc1 x0 x1 x2 x3 x4 x5 xo6) (dkTo q k v g (2048 * n + 2048)) bk := by
  unfold out1_C_7 kernelRun1_C
  dsimp only
  rw [View.read_writes_full]
  unfold kernelRun1_C.sl.r kernelRun1_C.sl.r_2 kernelRun1_C.sl.r_3 kernelRun1_C.sl.r_4 kernelRun1_C.sl.r_5 k1_pay8 k1_pay10 k1_pay11 kernelRun1_C.sl.v43 kernelRun1_C.sl.H7_1
  rw [shapeCast_self, shapeCast_self, shapeCast_self, View.readCov_cons_toLoadRect]
  refine dk_step (rows_load' arg3 harg3 x0 hq _) (rows_load' arg4 harg4 x1 hk _) (rows_load' arg5 harg5 x2 hv _) (rows_load arg6 harg6 x3 ho _) (rows_load arg7 harg7 x4 hg _) (fun y => (load_sublane arg8 harg8 x5 _ y).trans (hl y)) ?_
  subst h0
  exact rows_zero6 q k v g bk

include hq hk hv ho hg hl hn in
theorem dq_C (hc0 : ¬cond1_0 i) (hc1 : cond1_1 i) (xo6 : Vec Ideal S8192x128 .f32) :
    Forward q k v g bk n (xo6) (out1_C_6 c i arg3 harg3 arg4 harg4 arg5 harg5 arg6 harg6 arg7 harg7 arg8 harg8 arg9 harg9 arg10 harg10 arg11 harg11 hc0 hc1 x0 x1 x2 x3 x4 x5 xo6) := by
  unfold out1_C_6 kernelRun1_C
  dsimp only
  unfold kernelRun1_C.sl.r_1 kernelRun1_C.sl.r_2 kernelRun1_C.sl.r_3 kernelRun1_C.sl.r_4 kernelRun1_C.sl.r_5 k1_pay9 k1_pay10 k1_pay11
  rw [shapeCast_self, shapeCast_self, shapeCast_self]
  refine forward_store (rows_load' arg3 harg3 x0 hq _) (rows_load' arg4 harg4 x1 hk _) (rows_load' arg5 harg5 x2 hv _) (rows_load arg6 harg6 x3 ho _) (rows_load arg7 harg7 x4 hg _) (fun y => (load_sublane arg8 harg8 x5 _ y).trans (hl y)) _ _ [] _
    (by rw [View.writes_nil, harg9.read_unread]) _ (by rw [off_eq, hn]) _ _ ?_
  rw [View.readAt_eq_ld, harg9.read_unread]

end

end Cert.KernelIdeal.Attn
-- ==== Proof.Region1.lean ====
/-
  The arrays of the backward region. Point `16 h + 4 j + i` is head `h`, key tile `j`, query tile `i`: the gradients of
  the tile's keys and values have gathered the query tiles up to `i`, and the gradient of the head's queries the key
  tiles up to `j` in the query tiles up to `i`, and those before `j` in the others.
-/
module

public import proofs.«01_k».proof.Proof.Region0
public import proofs.«01_k».proof.Proof.BwdBody

@[expose] public section

set_option maxRecDepth 16384

noncomputable section

open Idealize.ShloMosaic Idealize.ShloMosaic.TcCoe Idealize.SL.Sem Finset

namespace Cert.KernelIdeal.Attn

open Cert.KernelIdeal Cert.KernelIdeal.Gen Cert.Attn

variable (V : (c : Dev nD) → (b : Ref sig .tc) → Buf (Elt Ideal) ((c : Thread nD τ).loc b)) (c : Dev nD)

theorem index1 : ∀ t : Fin grid1.N,
    (win1_0.index t 0 = t.val % 4 ∧ win1_0.index t 1 = t.val / 16)
    ∧ (win1_1.index t 0 = t.val / 4 % 4 ∧ win1_1.index t 1 = t.val / 16)
    ∧ (win1_2.index t 0 = t.val / 4 % 4 ∧ win1_2.index t 1 = t.val / 16)
    ∧ (win1_3.index t 0 = t.val % 4 ∧ win1_3.index t 1 = t.val / 16)
    ∧ (win1_4.index t 0 = t.val % 4 ∧ win1_4.index t 1 = t.val / 16)
    ∧ (win1_5.index t 0 = t.val / 16 ∧ win1_5.index t 1 = 0 ∧ win1_5.index t 2 = t.val % 4) := by
  decide +kernel

theorem index1' : ∀ t : Fin grid1.N,
    (win1_6.index t 0 = 0 ∧ win1_6.index t 1 = t.val / 16)
    ∧ (win1_7.index t 0 = t.val / 4 % 4 ∧ win1_7.index t 1 = t.val / 16)
    ∧ (win1_8.index t 0 = t.val / 4 % 4 ∧ win1_8.index t 1 = t.val / 16)
    ∧ (grid1.coords t 2).val = t.val % 4 := by
  decide +kernel

theorem size1 : ∀ t : Fin grid1.N,
    (win1_6.xsize (grid1.coords t) 0 = 8192 ∧ win1_6.xsize (grid1.coords t) 1 = 128)
    ∧ (win1_7.xsize (grid1.coords t) 0 = 2048 ∧ win1_7.xsize (grid1.coords t) 1 = 128)
    ∧ (win1_8.xsize (grid1.coords t) 0 = 2048 ∧ win1_8.xsize (grid1.coords t) 1 = 128) := by
  decide +kernel

/-! ## The blocks read -/

theorem block1_0 {f : ℕ → ℕ → ℕ → ℝ} (hV : V c main_v4 = heads f) (t : Fin cfg1.N) :
    Rows 2048 (iblk1 V c 0 t) (f (t.val / 16)) (2048 * (t.val % 4)) := by
  intro r d
  unfold iblk1
  rw [View.read_apply]
  show V c main_v4 _ = _
  rw [hV]
  refine heads_at f _ _ _ _ d.isLt ?_ ?_
  · show win1_0.index t 0 * 2048 + 1 * r.val = _; rw [(index1 t).1.1]; omega
  · show win1_0.index t 1 * 128 + 1 * d.val = _; rw [(index1 t).1.2]; omega

theorem block1_1 {f : ℕ → ℕ → ℕ → ℝ} (hV : V c main_v7 = heads f) (t : Fin cfg1.N) :
    Rows 2048 (iblk1 V c 1 t) (f (t.val / 16)) (2048 * (t.val / 4 % 4)) := by
  intro r d
  unfold iblk1
  rw [View.read_apply]
  show V c main_v7 _ = _
  rw [hV]
  refine heads_at f _ _ _ _ d.isLt ?_ ?_
  · show win1_1.index t 0 * 2048 + 1 * r.val = _; rw [(index1 t).2.1.1]; omega
  · show win1_1.index t 1 * 128 + 1 * d.val = _; rw [(index1 t).2.1.2]; omega

theorem block1_2 {f : ℕ → ℕ → ℕ → ℝ} (hV : V c main_v10 = heads f) (t : Fin cfg1.N) :
    Rows 2048 (iblk1 V c 2 t) (f (t.val / 16)) (2048 * (t.val / 4 % 4)) := by
  intro r d
  unfold iblk1
  rw [View.read_apply]
  show V c main_v10 _ = _
  rw [hV]
  refine heads_at f _ _ _ _ d.isLt ?_ ?_
  · show win1_2.index t 0 * 2048 + 1 * r.val = _; rw [(index1 t).2.2.1.1]; omega
  · show win1_2.index t 1 * 128 + 1 * d.val = _; rw [(index1 t).2.2.1.2]; omega

theorem block1_3 {f : ℕ → ℕ → ℕ → ℝ} (hV : V c main_v11_0 = heads f) (t : Fin cfg1.N) :
    Rows 2048 (iblk1 V c 3 t) (f (t.val / 16)) (2048 * (t.val % 4)) := by
  intro r d
  unfold iblk1
  rw [View.read_apply]
  show V c main_v11_0 _ = _
  rw [hV]
  refine heads_at f _ _ _ _ d.isLt ?_ ?_
  · show win1_3.index t 0 * 2048 + 1 * r.val = _; rw [(index1 t).2.2.2.1.1]; omega
  · show win1_3.index t 1 * 128 + 1 * d.val = _; rw [(index1 t).2.2.2.1.2]; omega

theorem block1_4 {f : ℕ → ℕ → ℕ → ℝ} (hV : V c main_v13 = heads f) (t : Fin cfg1.N) :
    Rows 2048 (iblk1 V c 4 t) (f (t.val / 16)) (2048 * (t.val % 4)) := by
  intro r d
  unfold iblk1
  rw [View.read_apply]
  show V c main_v13 _ = _
  rw [hV]
  refine heads_at f _ _ _ _ d.isLt ?_ ?_
  · show win1_4.index t 0 * 2048 + 1 * r.val = _; rw [(index1 t).2.2.2.2.1.1]; omega
  · show win1_4.index t 1 * 128 + 1 * d.val = _; rw [(index1 t).2.2.2.2.1.2]; omega

theorem block1_5 {g : ℕ → ℕ → ℝ} (hV : V c main_v11_1 = perRow g) (t : Fin cfg1.N) (y : Fin 2048) :
    (iblk1 V c 5 t : S1x8x2048.Idx → EReal) (ix3 0 0 y) = ((g (t.val / 16) (2048 * (t.val % 4) + y.val) : ℝ) : EReal) := by
  unfold iblk1
  rw [View.read_apply]
  show V c main_v11_1 _ = _
  rw [hV]
  refine perRow_at g _ _ _ ?_ ?_
  · show win1_5.index t 0 * 1 + 1 * 0 = _; rw [(index1 t).2.2.2.2.2.1]; omega
  · show win1_5.index t 2 * 2048 + 1 * y.val = _; rw [(index1 t).2.2.2.2.2.2.2]; omega

/-! ## The running contents -/

/-- What the three result blocks hold after point `n`. -/
def Gathered (q k v g : ℕ → ℕ → ℕ → ℝ) (n : ℕ) (o : Vec Ideal S8192x128 .f32 × Vec Ideal S2048x128 .f32 × Vec Ideal S2048x128 .f32) : Prop :=
  (∀ (r : Fin 8192) (d : Fin 128), o.1 (ix2 r d)
      = ((dqTo (q (n / 16)) (k (n / 16)) (v (n / 16)) (g (n / 16))
          (if r.val / 2048 ≤ n % 4 then 2048 * (n / 4 % 4) + 2048 else 2048 * (n / 4 % 4)) r.val d.val : ℝ) : EReal))
    ∧ Rows 2048 o.2.1 (dkTo (q (n / 16)) (k (n / 16)) (v (n / 16)) (g (n / 16)) (2048 * (n % 4) + 2048)) (2048 * (n / 4 % 4))
    ∧ Rows 2048 o.2.2 (dvTo (q (n / 16)) (k (n / 16)) (g (n / 16)) (2048 * (n % 4) + 2048)) (2048 * (n / 4 % 4))

/-- One step of the gradient of the queries, its old contents as the step finds them. -/
theorem gathered_of_forward {q k v g : ℕ → ℕ → ℝ} {i j : ℕ} {old new : S8192x128.Idx → EReal}
    (hf : Forward q k v g (2048 * j) i old new)
    (ho : ∀ (r : Fin 8192) (d : Fin 128), old (ix2 r d)
      = ((dqTo q k v g (if r.val / 2048 < i then 2048 * j + 2048 else 2048 * j) r.val d.val : ℝ) : EReal))
    (r : Fin 8192) (d : Fin 128) :
    new (ix2 r d) = ((dqTo q k v g (if r.val / 2048 ≤ i then 2048 * j + 2048 else 2048 * j) r.val d.val : ℝ) : EReal) := by
  by_cases h : r.val / 2048 = i
  · rw [if_pos (by omega)]
    exact hf.1 r d h (by rw [ho, if_neg (by omega)])
  · rw [hf.2 r d h, ho]
    by_cases h' : r.val / 2048 < i
    · rw [if_pos h', if_pos (by omega)]
    · rw [if_neg h', if_neg (by omega)]

/-- The three contents, one by one. -/
theorem Gathered.intro {q k v g : ℕ → ℕ → ℕ → ℝ} {n : ℕ} {a : Vec Ideal S8192x128 .f32} {b e : Vec Ideal S2048x128 .f32} {old : S8192x128.Idx → EReal}
    (h6 : Forward (q (n / 16)) (k (n / 16)) (v (n / 16)) (g (n / 16)) (2048 * (n / 4 % 4)) (n % 4) old a)
    (ho : ∀ (r : Fin 8192) (d : Fin 128), old (ix2 r d)
      = ((dqTo (q (n / 16)) (k (n / 16)) (v (n / 16)) (g (n / 16))
          (if r.val / 2048 < n % 4 then 2048 * (n / 4 % 4) + 2048 else 2048 * (n / 4 % 4)) r.val d.val : ℝ) : EReal))
    (h7 : Rows 2048 b (dkTo (q (n / 16)) (k (n / 16)) (v (n / 16)) (g (n / 16)) (2048 * (n % 4) + 2048)) (2048 * (n / 4 % 4)))
    (h8 : Rows 2048 e (dvTo (q (n / 16)) (k (n / 16)) (g (n / 16)) (2048 * (n % 4) + 2048)) (2048 * (n / 4 % 4))) :
    Gathered q k v g n (a, b, e) :=
  ⟨fun r d => gathered_of_forward h6 ho r d, h7, h8⟩

section
variable {q k v g : ℕ → ℕ → ℕ → ℝ} (hq : V c main_v4 = heads q) (hk : V c main_v7 = heads k) (hv : V c main_v10 = heads v)
  (ho : V c main_v11_0 = heads fun h => out (q h) (k h) (v h)) (hg : V c main_v13 = heads g)
  (hl : V c main_v11_1 = perRow fun h r => Real.log (total (q h) (k h) r))

include hq hk hv ho hg hl

theorem gathered_A (t : Fin cfg1.N) (h0 : t.val % 16 = 0) (h1 : t.val % 4 = 0) :
    Gathered q k v g t.val (outsAt1 V c t.val t.isLt) := by
  have b6 := dq_A (block1_0 V c hq t) (block1_1 V c hk t) (block1_2 V c hv t) (block1_3 V c ho t) (block1_4 V c hg t) (fun y => block1_5 V c hl t y)
    c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (index1' t).2.2.2 ((hcond1_0 t).mpr h0) ((hcond1_1 t).mpr h1)
  have b7 := dk_A (block1_0 V c hq t) (block1_1 V c hk t) (block1_2 V c hv t) (block1_3 V c ho t) (block1_4 V c hg t) (fun y => block1_5 V c hl t y)
    c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) ((hcond1_1 t).mpr h1) h1
  have b8 := dv_A (x2 := iblk1 V c 2 t) (x3 := iblk1 V c 3 t) (block1_0 V c hq t) (block1_1 V c hk t) (block1_4 V c hg t) (fun y => block1_5 V c hl t y)
    c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) ((hcond1_1 t).mpr h1) h1
  rw [outsAt1_A V c t h0 h1]
  refine Gathered.intro b6 (fun r d => ?_) b7 b8
  have ej : t.val / 4 % 4 = 0 := by omega
  rw [if_neg (by omega), ej]
  exact pay5_apply r d

theorem gathered_B (t : Fin cfg1.N) (h0 : ¬t.val % 16 = 0) (h1 : ¬t.val % 4 = 0)
    (ih : Gathered q k v g (t.val - 1) (outsAt1 V c (t.val - 1) (Nat.lt_of_le_of_lt (Nat.sub_le _ _) t.isLt))) :
    Gathered q k v g t.val (outsAt1 V c t.val t.isLt) := by
  obtain ⟨ih6, ih7, ih8⟩ := ih
  have e16 : (t.val - 1) / 16 = t.val / 16 := by omega
  rw [e16] at ih6 ih7 ih8
  have e4 : (t.val - 1) / 4 % 4 = t.val / 4 % 4 := by omega
  have e1 : 2048 * ((t.val - 1) % 4) + 2048 = 2048 * (t.val % 4) := by omega
  rw [e4, e1] at ih7 ih8
  have b6 := dq_B (block1_0 V c hq t) (block1_1 V c hk t) (block1_2 V c hv t) (block1_3 V c ho t) (block1_4 V c hg t) (fun y => block1_5 V c hl t y)
    c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (index1' t).2.2.2 (fun h => h0 ((hcond1_0 t).mp h)) (fun h => h1 ((hcond1_1 t).mp h)) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2
  have b7 := dk_B (block1_0 V c hq t) (block1_1 V c hk t) (block1_2 V c hv t) (block1_3 V c ho t) (block1_4 V c hg t) (fun y => block1_5 V c hl t y)
    c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (fun h => h1 ((hcond1_1 t).mp h)) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2 ih7
  have b8 := dv_B (x2 := iblk1 V c 2 t) (x3 := iblk1 V c 3 t) (block1_0 V c hq t) (block1_1 V c hk t) (block1_4 V c hg t) (fun y => block1_5 V c hl t y)
    c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (fun h => h1 ((hcond1_1 t).mp h)) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2 ih8
  rw [outsAt1_B V c t h0 h1]
  refine Gathered.intro b6 (fun r d => ?_) b7 b8
  refine (ih6 r d).trans ?_
  rw [e4]
  by_cases h : r.val / 2048 < t.val % 4
  · rw [if_pos h, if_pos (by omega)]
  · rw [if_neg h, if_neg (by omega)]

theorem gathered_C (t : Fin cfg1.N) (h0 : ¬t.val % 16 = 0) (h1 : t.val % 4 = 0)
    (ih : Gathered q k v g (t.val - 1) (outsAt1 V c (t.val - 1) (Nat.lt_of_le_of_lt (Nat.sub_le _ _) t.isLt))) :
    Gathered q k v g t.val (outsAt1 V c t.val t.isLt) := by
  obtain ⟨ih6, ih7, ih8⟩ := ih
  have e16 : (t.val - 1) / 16 = t.val / 16 := by omega
  rw [e16] at ih6 ih7 ih8
  have b6 := dq_C (block1_0 V c hq t) (block1_1 V c hk t) (block1_2 V c hv t) (block1_3 V c ho t) (block1_4 V c hg t) (fun y => block1_5 V c hl t y)
    c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (index1' t).2.2.2 (fun h => h0 ((hcond1_0 t).mp h)) ((hcond1_1 t).mpr h1) (outsAt1 V c (t.val - 1) (Nat.lt_of_le_of_lt (Nat.sub_le _ _) t.isLt)).1
  have b7 := dk_C (block1_0 V c hq t) (block1_1 V c hk t) (block1_2 V c hv t) (block1_3 V c ho t) (block1_4 V c hg t) (fun y => block1_5 V c hl t y)
    c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) ((hcond1_1 t).mpr h1) (outsAt1 V c (t.val - 1) (Nat.lt_of_le_of_lt (Nat.sub_le _ _) t.isLt)).1 h1
  have b8 := dv_C (x2 := iblk1 V c 2 t) (x3 := iblk1 V c 3 t) (block1_0 V c hq t) (block1_1 V c hk t) (block1_4 V c hg t) (fun y => block1_5 V c hl t y)
    c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) ((hcond1_1 t).mpr h1) (outsAt1 V c (t.val - 1) (Nat.lt_of_le_of_lt (Nat.sub_le _ _) t.isLt)).1 h1
  rw [outsAt1_C V c t h0 h1]
  refine Gathered.intro b6 (fun r d => ?_) b7 b8
  refine (ih6 r d).trans ?_
  have hr : r.val < 8192 := r.isLt
  rw [if_pos (by omega), if_neg (by omega), show 2048 * ((t.val - 1) / 4 % 4) + 2048 = 2048 * (t.val / 4 % 4) by omega]

theorem gathered : ∀ (n : ℕ) (hn : n < cfg1.N), Gathered q k v g n (outsAt1 V c n hn)
  | 0, hn => gathered_A V c hq hk hv ho hg hl ⟨0, hn⟩ rfl rfl
  | n + 1, hn => by
    have ih := gathered n (Nat.lt_of_succ_lt hn)
    by_cases h1 : (n + 1) % 4 = 0
    · by_cases h0 : (n + 1) % 16 = 0
      · exact gathered_A V c hq hk hv ho hg hl ⟨n + 1, hn⟩ h0 h1
      · exact gathered_C V c hq hk hv ho hg hl ⟨n + 1, hn⟩ h0 h1 ih
    · exact gathered_B V c hq hk hv ho hg hl ⟨n + 1, hn⟩ (by show ¬(n + 1) % 16 = 0; omega) h1 ih

end

theorem read1_6 (t : Fin cfg1.N) (G : S8192x1024.Idx → EReal) (x : S8192x128.Idx) :
    View.read (Elt Ideal) ((View.whole main_v14_0).slice (win1_6.rect t)) G x = G (((View.whole main_v14_0).slice (win1_6.rect t)).emb x) :=
  View.read_apply _ _

theorem mem_block1_6 (t : Fin cfg1.N) (i : S8192x1024.Idx) (h1 : (i 1).val / 128 = t.val / 16) :
    i ∈ ((cfg1.win 6).blk t).view.set := by
  show i ∈ ((View.whole main_v14_0).slice (win1_6.rect t)).set
  rw [View.set_slice_whole, Rect.mem_set_unit]
  obtain ⟨e0, e1⟩ := (index1' t).1
  obtain ⟨s0, s1⟩ := (size1 t).1
  have hi : (i 0).val < 8192 := (i 0).isLt
  intro a
  match a with
  | ⟨0, _⟩ =>
    show win1_6.index t 0 * 8192 ≤ (i 0 : Nat) ∧ (i 0 : Nat) < win1_6.index t 0 * 8192 + win1_6.xsize (grid1.coords t) 0
    rw [e0, s0]; omega
  | ⟨1, _⟩ =>
    show win1_6.index t 1 * 128 ≤ (i 1 : Nat) ∧ (i 1 : Nat) < win1_6.index t 1 * 128 + win1_6.xsize (grid1.coords t) 1
    rw [e1, s1]; omega

theorem read1_7 (t : Fin cfg1.N) (G : S8192x1024.Idx → EReal) (x : S2048x128.Idx) :
    View.read (Elt Ideal) ((View.whole main_v14_1).slice (win1_7.rect t)) G x = G (((View.whole main_v14_1).slice (win1_7.rect t)).emb x) :=
  View.read_apply _ _

theorem mem_block1_7 (t : Fin cfg1.N) (i : S8192x1024.Idx) (h0 : (i 0).val / 2048 = t.val / 4 % 4) (h1 : (i 1).val / 128 = t.val / 16) :
    i ∈ ((cfg1.win 7).blk t).view.set := by
  show i ∈ ((View.whole main_v14_1).slice (win1_7.rect t)).set
  rw [View.set_slice_whole, Rect.mem_set_unit]
  obtain ⟨e0, e1⟩ := (index1' t).2.1
  obtain ⟨s0, s1⟩ := (size1 t).2.1
  have hi : (i 0).val < 8192 := (i 0).isLt
  intro a
  match a with
  | ⟨0, _⟩ =>
    show win1_7.index t 0 * 2048 ≤ (i 0 : Nat) ∧ (i 0 : Nat) < win1_7.index t 0 * 2048 + win1_7.xsize (grid1.coords t) 0
    rw [e0, s0]; omega
  | ⟨1, _⟩ =>
    show win1_7.index t 1 * 128 ≤ (i 1 : Nat) ∧ (i 1 : Nat) < win1_7.index t 1 * 128 + win1_7.xsize (grid1.coords t) 1
    rw [e1, s1]; omega

theorem read1_8 (t : Fin cfg1.N) (G : S8192x1024.Idx → EReal) (x : S2048x128.Idx) :
    View.read (Elt Ideal) ((View.whole main_v14_2).slice (win1_8.rect t)) G x = G (((View.whole main_v14_2).slice (win1_8.rect t)).emb x) :=
  View.read_apply _ _

theorem mem_block1_8 (t : Fin cfg1.N) (i : S8192x1024.Idx) (h0 : (i 0).val / 2048 = t.val / 4 % 4) (h1 : (i 1).val / 128 = t.val / 16) :
    i ∈ ((cfg1.win 8).blk t).view.set := by
  show i ∈ ((View.whole main_v14_2).slice (win1_8.rect t)).set
  rw [View.set_slice_whole, Rect.mem_set_unit]
  obtain ⟨e0, e1⟩ := (index1' t).2.2.1
  obtain ⟨s0, s1⟩ := (size1 t).2.2
  have hi : (i 0).val < 8192 := (i 0).isLt
  intro a
  match a with
  | ⟨0, _⟩ =>
    show win1_8.index t 0 * 2048 ≤ (i 0 : Nat) ∧ (i 0 : Nat) < win1_8.index t 0 * 2048 + win1_8.xsize (grid1.coords t) 0
    rw [e0, s0]; omega
  | ⟨1, _⟩ =>
    show win1_8.index t 1 * 128 ≤ (i 1 : Nat) ∧ (i 1 : Nat) < win1_8.index t 1 * 128 + win1_8.xsize (grid1.coords t) 1
    rw [e1, s1]; omega

section
variable {q k v g : ℕ → ℕ → ℕ → ℝ} (hq : V c main_v4 = heads q) (hk : V c main_v7 = heads k) (hv : V c main_v10 = heads v)
  (ho : V c main_v11_0 = heads fun h => out (q h) (k h) (v h)) (hg : V c main_v13 = heads g)
  (hl : V c main_v11_1 = perRow fun h r => Real.log (total (q h) (k h) r))

include hq hk hv ho hg hl

/-- The gradient of the queries. -/
theorem region1_dq : (dat1 V c).arrAt 6 cfg1.N = heads fun h => dqTo (q h) (k h) (v h) (g h) 8192 := by
  refine (dat1 V c).arrAt_eq_of_cover 6 _ (fun t hf => ?_) fun i => ?_
  · have hm := (flush1_6 t).mp hf
    show (cfg1.win 6).cut (grid1.coords t) ((dat1 V c).after 6 t) = _
    rw [after1_6]
    have hb := (gathered V c hq hk hv ho hg hl t.val t.isLt).1
    funext x
    obtain ⟨r, d, rfl⟩ : ∃ (r : Fin 8192) (d : Fin 128), x = ix2 r d := ⟨x 0, x 1, eq_ix2 x⟩
    have hr := r.isLt
    refine (hb r d).trans (Eq.trans ?_ (read1_6 t _ (ix2 r d)).symm)
    rw [if_pos (by omega), show 2048 * (t.val / 4 % 4) + 2048 = 8192 by omega]
    refine (heads_at (fun h => dqTo (q h) (k h) (v h) (g h) 8192) _ (t.val / 16) r.val d.val d.isLt ?_ ?_).symm
    · show win1_6.index t 0 * 8192 + 1 * r.val = _; rw [(index1' t).1.1]; omega
    · show win1_6.index t 1 * 128 + 1 * d.val = _; rw [(index1' t).1.2]; omega
  · have hi0 : (i 0).val < 8192 := (i 0).isLt
    have hi1 : (i 1).val < 1024 := (i 1).isLt
    have hN : (i 1).val / 128 * 16 + 15 < cfg1.N := by show _ < 128; omega
    refine ⟨⟨(i 1).val / 128 * 16 + 15, hN⟩, (flush1_6 _).mpr ?_, mem_block1_6 _ i ?_⟩
    · show ((i 1).val / 128 * 16 + 15) % 16 = 15; omega
    · show (i 1).val / 128 = ((i 1).val / 128 * 16 + 15) / 16; omega

/-- The gradient of the keys. -/
theorem region1_dk : (dat1 V c).arrAt 7 cfg1.N = heads fun h => dkTo (q h) (k h) (v h) (g h) 8192 := by
  refine (dat1 V c).arrAt_eq_of_cover 7 _ (fun t hf => ?_) fun i => ?_
  · have hm := (flush1_7 t).mp hf
    show (cfg1.win 7).cut (grid1.coords t) ((dat1 V c).after 7 t) = _
    rw [after1_7]
    have hb := (gathered V c hq hk hv ho hg hl t.val t.isLt).2.1
    funext x
    obtain ⟨r, d, rfl⟩ : ∃ (r : Fin 2048) (d : Fin 128), x = ix2 r d := ⟨x 0, x 1, eq_ix2 x⟩
    have hr := r.isLt
    refine (hb r d).trans (Eq.trans ?_ (read1_7 t _ (ix2 r d)).symm)
    rw [show 2048 * (t.val % 4) + 2048 = 8192 by omega]
    refine (heads_at (fun h => dkTo (q h) (k h) (v h) (g h) 8192) _ (t.val / 16) (2048 * (t.val / 4 % 4) + r.val) d.val d.isLt ?_ ?_).symm
    · show win1_7.index t 0 * 2048 + 1 * r.val = _; rw [(index1' t).2.1.1]; omega
    · show win1_7.index t 1 * 128 + 1 * d.val = _; rw [(index1' t).2.1.2]; omega
  · have hi0 : (i 0).val < 8192 := (i 0).isLt
    have hi1 : (i 1).val < 1024 := (i 1).isLt
    have hN : (i 1).val / 128 * 16 + (i 0).val / 2048 * 4 + 3 < cfg1.N := by show _ < 128; omega
    refine ⟨⟨(i 1).val / 128 * 16 + (i 0).val / 2048 * 4 + 3, hN⟩, (flush1_7 _).mpr ?_, mem_block1_7 _ i ?_ ?_⟩
    · show ((i 1).val / 128 * 16 + (i 0).val / 2048 * 4 + 3) % 4 = 3; omega
    · show (i 0).val / 2048 = ((i 1).val / 128 * 16 + (i 0).val / 2048 * 4 + 3) / 4 % 4; omega
    · show (i 1).val / 128 = ((i 1).val / 128 * 16 + (i 0).val / 2048 * 4 + 3) / 16; omega

/-- The gradient of the values. -/
theorem region1_dv : (dat1 V c).arrAt 8 cfg1.N = heads fun h => dvTo (q h) (k h) (g h) 8192 := by
  refine (dat1 V c).arrAt_eq_of_cover 8 _ (fun t hf => ?_) fun i => ?_
  · have hm := (flush1_8 t).mp hf
    show (cfg1.win 8).cut (grid1.coords t) ((dat1 V c).after 8 t) = _
    rw [after1_8]
    have hb := (gathered V c hq hk hv ho hg hl t.val t.isLt).2.2
    funext x
    obtain ⟨r, d, rfl⟩ : ∃ (r : Fin 2048) (d : Fin 128), x = ix2 r d := ⟨x 0, x 1, eq_ix2 x⟩
    have hr := r.isLt
    refine (hb r d).trans (Eq.trans ?_ (read1_8 t _ (ix2 r d)).symm)
    rw [show 2048 * (t.val % 4) + 2048 = 8192 by omega]
    refine (heads_at (fun h => dvTo (q h) (k h) (g h) 8192) _ (t.val / 16) (2048 * (t.val / 4 % 4) + r.val) d.val d.isLt ?_ ?_).symm
    · show win1_8.index t 0 * 2048 + 1 * r.val = _; rw [(index1' t).2.2.1.1]; omega
    · show win1_8.index t 1 * 128 + 1 * d.val = _; rw [(index1' t).2.2.1.2]; omega
  · have hi0 : (i 0).val < 8192 := (i 0).isLt
    have hi1 : (i 1).val < 1024 := (i 1).isLt
    have hN : (i 1).val / 128 * 16 + (i 0).val / 2048 * 4 + 3 < cfg1.N := by show _ < 128; omega
    refine ⟨⟨(i 1).val / 128 * 16 + (i 0).val / 2048 * 4 + 3, hN⟩, (flush1_8 _).mpr ?_, mem_block1_8 _ i ?_ ?_⟩
    · show ((i 1).val / 128 * 16 + (i 0).val / 2048 * 4 + 3) % 4 = 3; omega
    · show (i 0).val / 2048 = ((i 1).val / 128 * 16 + (i 0).val / 2048 * 4 + 3) / 4 % 4; omega
    · show (i 1).val / 128 = ((i 1).val / 128 * 16 + (i 0).val / 2048 * 4 + 3) / 16; omega

end

end Cert.KernelIdeal.Attn
-- ==== Proof.Pad.lean ====
/-
  The host's arrays before and after the attention: heads padded with zero lanes to 128 and laid side by side, a lane of
  ones joined to the values, and the reals that finite extended reals are.
-/
module

public import proofs.«01_k».proof.Proof.Region0
public import Idealize.ShloMosaic.Lib.KernelVsHost
public import Idealize.ShloMosaic.Lib.IdealHost

@[expose] public section

set_option maxRecDepth 16384

noncomputable section

open Idealize.ShloMosaic Finset

namespace Cert.Attn

open Cert.KernelIdeal.Attn (heads heads_at)

/-- An array of 8192 rows of 8 heads holds, head by head, the numbers `f h`. -/
def Holding {n : ℕ} (x : (⟨3, ![8192, 8, n]⟩ : Shape).Idx → EReal) (f : ℕ → ℕ → ℕ → ℝ) : Prop :=
  ∀ i, x i = ((f (i 1).val (i 0).val (i 2).val : ℝ) : EReal)

/-- Heads of `n` lanes padded with zeros to 128 lanes and laid side by side. -/
theorem pad_heads {n : ℕ} {hi : Fin 3 → ℕ} {x : (⟨3, ![8192, 8, n]⟩ : Shape).Idx → EReal} {f : ℕ → ℕ → ℕ → ℝ} (hx : Holding x f)
    (hz : ∀ h < 8, ∀ i < 8192, ∀ d, n ≤ d → f h i d = 0) {u : Shape} (z : u.Idx → EReal) (hu : 0 < u.numel) (h0 : z (Shape.Idx.first hu) = 0)
    (hp : (⟨3, ![8192, 8, n]⟩ : Shape).Pads ![0, 0, 0] hi ![0, 0, 0] (⟨3, ![8192, 8, 128]⟩ : Shape))
    (hc : (⟨3, ![8192, 8, 128]⟩ : Shape).ShapeCasts (⟨2, ![8192, 1024]⟩ : Shape)) :
    shapeCast ⟨2, ![8192, 1024]⟩ (pad ⟨3, ![8192, 8, 128]⟩ ![0, 0, 0] hi ![0, 0, 0] x z hp hu) hc = heads f := by
  funext i
  have b0 : (i 0).val < 8192 := (i 0).isLt
  have b1 : (i 1).val < 1024 := (i 1).isLt
  have hd : (i 1).val % 128 < 128 := Nat.mod_lt _ (by omega)
  have hh : (i 1).val / 128 < 8 := by omega
  rw [shapeCast_apply _ hc i (ValueIdx.ix3 (⟨(i 0).val, b0⟩ : Fin 8192) (⟨(i 1).val / 128, hh⟩ : Fin 8) (⟨(i 1).val % 128, hd⟩ : Fin 128)) (by
    rw [Shape.rowMajor_val_three, Shape.rowMajor_val_two]
    show ((i 0).val * 8 + (i 1).val / 128) * 128 + (i 1).val % 128 = (i 0).val * 1024 + (i 1).val
    omega)]
  by_cases hn : (i 1).val % 128 < n
  · rw [pad_apply_of_inside _ _ _ x z hp hu _ (ValueIdx.ix3 (⟨(i 0).val, b0⟩ : Fin 8192) (⟨(i 1).val / 128, hh⟩ : Fin 8) (⟨(i 1).val % 128, hn⟩ : Fin n)) (by
      intro a
      match a with
      | ⟨0, _⟩ => show (i 0).val = 0 + (i 0).val * (0 + 1); omega
      | ⟨1, _⟩ => show (i 1).val / 128 = 0 + (i 1).val / 128 * (0 + 1); omega
      | ⟨2, _⟩ => show (i 1).val % 128 = 0 + (i 1).val % 128 * (0 + 1); omega)]
    exact hx _
  · rw [pad_apply_of_not_inside _ _ _ x z hp hu _ 2 (by
      intro h
      have h2 : ((i 1).val % 128 - 0) / (0 + 1) < n := h.2.2
      rw [Nat.sub_zero, Nat.zero_add, Nat.div_one] at h2
      exact hn h2), h0]
    unfold heads
    rw [hz _ hh _ b0 _ (by omega)]; rfl

/-- Heads laid side by side, read back and cut to their first `n` lanes. -/
theorem trim_heads {n : ℕ} (hn : n ≤ 128) (f : ℕ → ℕ → ℕ → ℝ) (hc : (⟨2, ![8192, 1024]⟩ : Shape).ShapeCasts (⟨3, ![8192, 8, 128]⟩ : Shape))
    (hs : (⟨3, ![8192, 8, 128]⟩ : Shape).Slices ![0, 0, 0] (⟨3, ![8192, 8, n]⟩ : Shape)) :
    Holding (extractStridedSlice (⟨3, ![8192, 8, n]⟩ : Shape) ![0, 0, 0] (shapeCast (⟨3, ![8192, 8, 128]⟩ : Shape) (heads f) hc) hs) f := by
  intro i
  have b0 : (i 0).val < 8192 := (i 0).isLt
  have b1 : (i 1).val < 8 := (i 1).isLt
  have b2 : (i 2).val < n := (i 2).isLt
  rw [extractStridedSlice_apply _ _ hs i (ValueIdx.ix3 (⟨(i 0).val, b0⟩ : Fin 8192) (⟨(i 1).val, b1⟩ : Fin 8) (⟨(i 2).val, by omega⟩ : Fin 128)) (by
      intro a
      match a with
      | ⟨0, _⟩ => show (i 0).val = 0 + (i 0).val; omega
      | ⟨1, _⟩ => show (i 1).val = 0 + (i 1).val; omega
      | ⟨2, _⟩ => show (i 2).val = 0 + (i 2).val; omega),
    shapeCast_apply _ hc _ (ValueIdx.ix2 (⟨(i 0).val, b0⟩ : Fin 8192) (⟨(i 1).val * 128 + (i 2).val, by omega⟩ : Fin 1024)) (by
      rw [Shape.rowMajor_val_three, Shape.rowMajor_val_two]
      show (i 0).val * 1024 + ((i 1).val * 128 + (i 2).val) = ((i 0).val * 8 + (i 1).val) * 128 + (i 2).val
      omega)]
  exact heads_at f _ _ _ _ (by omega) rfl rfl

/-- The array that holds `f`. -/
def spread (n : ℕ) (f : ℕ → ℕ → ℕ → ℝ) : (⟨3, ![8192, 8, n]⟩ : Shape).Idx → EReal :=
  fun i => ((f (i 1).val (i 0).val (i 2).val : ℝ) : EReal)

theorem eq_spread {n : ℕ} {x : (⟨3, ![8192, 8, n]⟩ : Shape).Idx → EReal} {f : ℕ → ℕ → ℕ → ℝ} (hx : Holding x f) : x = spread n f := funext hx

/-- The values with a lane of ones after their 64. -/
theorem concat_ones {x : (⟨3, ![8192, 8, 64]⟩ : Shape).Idx → EReal} {y : (⟨3, ![8192, 8, 1]⟩ : Shape).Idx → EReal} {f : ℕ → ℕ → ℕ → ℝ}
    (hx : Holding x f) (hy : ∀ i, y i = 1) (h1 : ∀ h < 8, ∀ i < 8192, f h i 64 = 1)
    (hc : Shape.Concatenates [(⟨3, ![8192, 8, 64]⟩ : Shape), (⟨3, ![8192, 8, 1]⟩ : Shape)] (⟨3, ![8192, 8, 65]⟩ : Shape) 2) :
    Holding (concatenate (⟨3, ![8192, 8, 65]⟩ : Shape) 2 [⟨(⟨3, ![8192, 8, 64]⟩ : Shape), x⟩, ⟨(⟨3, ![8192, 8, 1]⟩ : Shape), y⟩] hc) f := by
  intro i
  have b0 : (i 0).val < 8192 := (i 0).isLt
  have b1 : (i 1).val < 8 := (i 1).isLt
  have b2 : (i 2).val < 65 := (i 2).isLt
  by_cases hl : (i 2).val < 64
  · rw [concatenate_pair_apply_left (t := ⟨3, ![8192, 8, 65]⟩) (s₁ := ⟨3, ![8192, 8, 64]⟩) (s₂ := ⟨3, ![8192, 8, 1]⟩) (2 : Fin 3) x y hc i rfl
      (ValueIdx.ix3 (⟨(i 0).val, b0⟩ : Fin 8192) (⟨(i 1).val, b1⟩ : Fin 8) (⟨(i 2).val, hl⟩ : Fin 64)) (by
        intro b
        match b with
        | ⟨0, _⟩ => rfl
        | ⟨1, _⟩ => rfl
        | ⟨2, _⟩ => rfl)]
    exact hx _
  · rw [concatenate_pair_apply_right (t := ⟨3, ![8192, 8, 65]⟩) (s₁ := ⟨3, ![8192, 8, 64]⟩) (s₂ := ⟨3, ![8192, 8, 1]⟩) (2 : Fin 3) x y hc i rfl rfl
      (ValueIdx.ix3 (⟨(i 0).val, b0⟩ : Fin 8192) (⟨(i 1).val, b1⟩ : Fin 8) (0 : Fin 1)) (by
        intro b hb
        match b, hb with
        | ⟨0, _⟩, _ => rfl
        | ⟨1, _⟩, _ => rfl
        | ⟨2, _⟩, hb => exact absurd rfl hb) (by show 0 + 64 = (i 2).val; omega), hy]
    rw [show (i 2).val = 64 by omega, h1 _ b1 _ b0]; rfl

/-- The reals of an array of finite extended reals, zero outside it. -/
def reals {n : ℕ} (x : (⟨3, ![8192, 8, n]⟩ : Shape).Idx → EReal) (h i d : ℕ) : ℝ :=
  if hb : i < 8192 ∧ h < 8 ∧ d < n then
    (x (ValueIdx.ix3 (⟨i, hb.1⟩ : Fin 8192) (⟨h, hb.2.1⟩ : Fin 8) (⟨d, hb.2.2⟩ : Fin n))).toReal
  else 0

theorem reals_zero {n : ℕ} (x : (⟨3, ![8192, 8, n]⟩ : Shape).Idx → EReal) (h i d : ℕ) (hd : n ≤ d) : reals x h i d = 0 :=
  dif_neg fun hb => by omega

theorem holding_reals {n : ℕ} {x : (⟨3, ![8192, 8, n]⟩ : Shape).Idx → EReal} (hx : ∀ i, x i ≠ ⊤ ∧ x i ≠ ⊥) : Holding x (reals x) := by
  intro i
  have hb : (i 0).val < 8192 ∧ (i 1).val < 8 ∧ (i 2).val < n := ⟨(i 0).isLt, (i 1).isLt, (i 2).isLt⟩
  unfold reals
  rw [dif_pos hb, show ValueIdx.ix3 (⟨(i 0).val, hb.1⟩ : Fin 8192) (⟨(i 1).val, hb.2.1⟩ : Fin 8) (⟨(i 2).val, hb.2.2⟩ : Fin n) = i from (ValueIdx.eq_ix3 i).symm,
    EReal.coe_toReal (hx i).1 (hx i).2]

/-- The values' reals with ones in lane 64. -/
def withOne (f : ℕ → ℕ → ℕ → ℝ) (h i d : ℕ) : ℝ := if d = 64 then 1 else f h i d

theorem holding_withOne {x : (⟨3, ![8192, 8, 64]⟩ : Shape).Idx → EReal} {f : ℕ → ℕ → ℕ → ℝ} (hx : Holding x f) : Holding x (withOne f) := by
  intro i
  have b2 : (i 2).val < 64 := (i 2).isLt
  unfold withOne
  rw [if_neg (by omega)]; exact hx i

end Cert.Attn
-- ==== Proof.Results.lean ====
/-
  The kernel's four results: the arrays that its host code lays out, what the forward region makes of them, and what the
  backward region makes of both.
-/
module

public import proofs.«01_k».proof.Proof.Region1
public import proofs.«01_k».proof.Proof.Pad
public import proofs.«01_k».proof.Proof.Run
public import Idealize.ShloMosaic.Lib.StableHlo.Run

@[expose] public section

set_option maxRecDepth 16384

noncomputable section

open Idealize.ShloMosaic Idealize.ShloMosaic.TcCoe Idealize.SL.Sem Idealize.ShloMosaic.StableHlo Finset

namespace Cert.KernelIdeal.Attn

open Cert.KernelIdeal Cert.KernelIdeal.Gen Cert.Attn

variable (m : (ℓ : Loc nD τ sig) → Buf (Elt Ideal) ℓ) (ρ : Dev nD → PrngReg) (c : Dev nD)
  {q k v g : ℕ → ℕ → ℕ → ℝ}
  (hq : Holding (n := 96) (m ((c.tc : Thread nD τ).loc main_arg0)) q) (hk : Holding (n := 96) (m ((c.tc : Thread nD τ).loc main_arg1)) k)
  (hv : Holding (n := 64) (m ((c.tc : Thread nD τ).loc main_arg2)) v) (hg : Holding (n := 64) (m ((c.tc : Thread nD τ).loc main_arg3)) g)
  (zq : ∀ h i d, 96 ≤ d → q h i d = 0) (zk : ∀ h i d, 96 ≤ d → k h i d = 0) (zg : ∀ h i d, 64 ≤ d → g h i d = 0)
  (v1 : ∀ h i, v h i 64 = 1) (zv : ∀ h i d, 65 ≤ d → v h i d = 0)

/-! ## The regions' arguments -/

include hq zq in
theorem queries : V1 m ρ c main_v4 = heads q := by
  have e : V1 m ρ c main_v4 = shapeCast S8192x1024 (pad S8192x8x128 ![0, 0, 0] ![0, 0, 32] ![0, 0, 0] (m ((c.tc : Thread nD τ).loc main_arg0))
      (constant (F := Ideal) S_ .f32 0x00000000#32) pads_S8192x8x96_S8192x8x128_000_000_0320 h_S_) shapeCasts_S8192x8x128_S8192x1024 := by
    show StableHlo.after hostOps0 _ (Proc.devRef .tc main_v4) = _
    after_results_simp <;> rfl
  rw [e]
  exact pad_heads (n := 96) hq (fun h _ i _ d hd => zq h i d hd) _ _ Ideal.ofBits_zero_f32 _ _

include hk zk in
theorem keys : V1 m ρ c main_v7 = heads k := by
  have e : V1 m ρ c main_v7 = shapeCast S8192x1024 (pad S8192x8x128 ![0, 0, 0] ![0, 0, 32] ![0, 0, 0] (m ((c.tc : Thread nD τ).loc main_arg1))
      (constant (F := Ideal) S_ .f32 0x00000000#32) pads_S8192x8x96_S8192x8x128_000_000_0320 h_S_) shapeCasts_S8192x8x128_S8192x1024 := by
    show StableHlo.after hostOps0 _ (Proc.devRef .tc main_v7) = _
    after_results_simp <;> rfl
  rw [e]
  exact pad_heads (n := 96) hk (fun h _ i _ d hd => zk h i d hd) _ _ Ideal.ofBits_zero_f32 _ _

include hv v1 zv in
theorem values : V1 m ρ c main_v10 = heads v := by
  have e : V1 m ρ c main_v10 = shapeCast S8192x1024 (pad S8192x8x128 ![0, 0, 0] ![0, 0, 63] ![0, 0, 0]
      (concatenate S8192x8x65 2 [⟨S8192x8x64, m ((c.tc : Thread nD τ).loc main_arg2)⟩,
        ⟨S8192x8x1, broadcastInDim S8192x8x1 ![] bcast_S_S8192x8x1 (constant (F := Ideal) S_ .f32 0x3F800000#32)⟩] concatenates_S8192x8x64_S8192x8x1_S8192x8x65_d2)
      (constant (F := Ideal) S_ .f32 0x00000000#32) pads_S8192x8x65_S8192x8x128_000_000_0630 h_S_) shapeCasts_S8192x8x128_S8192x1024 := by
    show StableHlo.after hostOps0 _ (Proc.devRef .tc main_v10) = _
    after_results_simp <;> rfl
  rw [e]
  exact pad_heads (n := 65) (concat_ones hv (fun i => Ideal.ofBits_one_f32) (fun h _ i _ => v1 h i) _) (fun h _ i _ d hd => zv h i d hd) _ _ Ideal.ofBits_zero_f32 _ _

include hg zg in
theorem cotangent : V3 m ρ c main_v13 = heads g := by
  have e : V3 m ρ c main_v13 = shapeCast S8192x1024 (pad S8192x8x128 ![0, 0, 0] ![0, 0, 64] ![0, 0, 0] (W2 m ρ c (Proc.devRef .tc main_arg3))
      (constant (F := Ideal) S_ .f32 0x00000000#32) pads_S8192x8x64_S8192x8x128_000_000_0640 h_S_) shapeCasts_S8192x8x128_S8192x1024 := by
    show StableHlo.after hostOps1 _ (Proc.devRef .tc main_v13) = _
    after_results_simp <;> rfl
  rw [e, W2_args m ρ c main_arg3 (by decide)]
  exact pad_heads (n := 64) hg (fun h _ i _ d hd => zg h i d hd) _ _ Ideal.ofBits_zero_f32 _ _

/-! ## What the forward region leaves, at the backward region's entry -/

include hq zq in
theorem queries3 : V3 m ρ c main_v4 = heads q :=
  (W3_of m ρ c main_v4 (by decide)).trans ((W2_of m ρ c main_v4 (by decide)).trans (queries m ρ c hq zq))

include hk zk in
theorem keys3 : V3 m ρ c main_v7 = heads k :=
  (W3_of m ρ c main_v7 (by decide)).trans ((W2_of m ρ c main_v7 (by decide)).trans (keys m ρ c hk zk))

include hv v1 zv in
theorem values3 : V3 m ρ c main_v10 = heads v :=
  (W3_of m ρ c main_v10 (by decide)).trans ((W2_of m ρ c main_v10 (by decide)).trans (values m ρ c hv v1 zv))

include hq hk hv zq zk v1 zv in
theorem outputs3 : V3 m ρ c main_v11_0 = heads fun h => out (q h) (k h) (v h) :=
  (W3_of m ρ c main_v11_0 (by decide)).trans ((W2_arr m ρ c 3).trans
    (region0_out (V1 m ρ) c (queries m ρ c hq zq) (keys m ρ c hk zk) (values m ρ c hv v1 zv) fun h _ j _ => v1 h j))

include hq hk hv zq zk v1 zv in
theorem logs3 : V3 m ρ c main_v11_1 = perRow fun h r => Real.log (total (q h) (k h) r) :=
  (W3_of m ρ c main_v11_1 (by decide)).trans ((W2_arr m ρ c 4).trans
    (region0_log (V1 m ρ) c (queries m ρ c hq zq) (keys m ρ c hk zk) (values m ρ c hv v1 zv) fun h _ j _ => v1 h j))

/-! ## The four results -/

include hq hk hv zq zk v1 zv in
theorem result_out : W4 m ρ c (Proc.devRef .tc main_v11_0) = heads fun h => out (q h) (k h) (v h) :=
  (W4_of m ρ c main_v11_0 (by decide)).trans (outputs3 m ρ c hq hk hv zq zk v1 zv)

include hq hk hv hg zq zk zg v1 zv

theorem result_dq : W4 m ρ c (Proc.devRef .tc main_v14_0) = heads fun h => dqTo (q h) (k h) (v h) (g h) 8192 :=
  (W4_arr m ρ c 6).trans (region1_dq (V3 m ρ) c (queries3 m ρ c hq zq) (keys3 m ρ c hk zk) (values3 m ρ c hv v1 zv)
    (outputs3 m ρ c hq hk hv zq zk v1 zv) (cotangent m ρ c hg zg) (logs3 m ρ c hq hk hv zq zk v1 zv))

theorem result_dk : W4 m ρ c (Proc.devRef .tc main_v14_1) = heads fun h => dkTo (q h) (k h) (v h) (g h) 8192 :=
  (W4_arr m ρ c 7).trans (region1_dk (V3 m ρ) c (queries3 m ρ c hq zq) (keys3 m ρ c hk zk) (values3 m ρ c hv v1 zv)
    (outputs3 m ρ c hq hk hv zq zk v1 zv) (cotangent m ρ c hg zg) (logs3 m ρ c hq hk hv zq zk v1 zv))

theorem result_dv : W4 m ρ c (Proc.devRef .tc main_v14_2) = heads fun h => dvTo (q h) (k h) (g h) 8192 :=
  (W4_arr m ρ c 8).trans (region1_dv (V3 m ρ) c (queries3 m ρ c hq zq) (keys3 m ρ c hk zk) (values3 m ρ c hv v1 zv)
    (outputs3 m ρ c hq hk hv zq zk v1 zv) (cotangent m ρ c hg zg) (logs3 m ρ c hq hk hv zq zk v1 zv))

/-! ## Each result cut to its heads' own lanes -/

theorem trimmed_out : Holding (n := 64) (W5 m ρ c (Proc.devRef .tc main_v16)) fun h => out (q h) (k h) (v h) := by
  have e : W5 m ρ c (Proc.devRef .tc main_v16) = extractStridedSlice S8192x8x64 ![0, 0, 0]
      (shapeCast S8192x8x128 (W4 m ρ c (Proc.devRef .tc main_v11_0)) shapeCasts_S8192x1024_S8192x8x128) slices_S8192x8x128_S8192x8x64_0_0_0 := by
    show StableHlo.after hostOps2 _ (Proc.devRef .tc main_v16) = _
    after_results_simp <;> rfl
  rw [e, result_out m ρ c hq hk hv zq zk v1 zv]
  exact trim_heads (by omega) _ _ _

theorem trimmed_dq : Holding (n := 96) (W5 m ρ c (Proc.devRef .tc main_v18)) fun h => dqTo (q h) (k h) (v h) (g h) 8192 := by
  have e : W5 m ρ c (Proc.devRef .tc main_v18) = extractStridedSlice S8192x8x96 ![0, 0, 0]
      (shapeCast S8192x8x128 (W4 m ρ c (Proc.devRef .tc main_v14_0)) shapeCasts_S8192x1024_S8192x8x128) slices_S8192x8x128_S8192x8x96_0_0_0 := by
    show StableHlo.after hostOps2 _ (Proc.devRef .tc main_v18) = _
    after_results_simp <;> rfl
  rw [e, result_dq m ρ c hq hk hv hg zq zk zg v1 zv]
  exact trim_heads (by omega) _ _ _

theorem trimmed_dk : Holding (n := 96) (W5 m ρ c (Proc.devRef .tc main_v20)) fun h => dkTo (q h) (k h) (v h) (g h) 8192 := by
  have e : W5 m ρ c (Proc.devRef .tc main_v20) = extractStridedSlice S8192x8x96 ![0, 0, 0]
      (shapeCast S8192x8x128 (W4 m ρ c (Proc.devRef .tc main_v14_1)) shapeCasts_S8192x1024_S8192x8x128) slices_S8192x8x128_S8192x8x96_0_0_0 := by
    show StableHlo.after hostOps2 _ (Proc.devRef .tc main_v20) = _
    after_results_simp <;> rfl
  rw [e, result_dk m ρ c hq hk hv hg zq zk zg v1 zv]
  exact trim_heads (by omega) _ _ _

theorem trimmed_dv : Holding (n := 64) (W5 m ρ c (Proc.devRef .tc main_v22)) fun h => dvTo (q h) (k h) (g h) 8192 := by
  have e : W5 m ρ c (Proc.devRef .tc main_v22) = extractStridedSlice S8192x8x64 ![0, 0, 0]
      (shapeCast S8192x8x128 (W4 m ρ c (Proc.devRef .tc main_v14_2)) shapeCasts_S8192x1024_S8192x8x128) slices_S8192x8x128_S8192x8x64_0_0_0 := by
    show StableHlo.after hostOps2 _ (Proc.devRef .tc main_v22) = _
    after_results_simp <;> rfl
  rw [e, result_dv m ρ c hq hk hv hg zq zk zg v1 zv]
  exact trim_heads (by omega) _ _ _

end Cert.KernelIdeal.Attn
-- ==== Proof.RefScores.lean ====
/-
  The reference's scores, softmax and the gradient of its scores, element by element.
-/
module

public import proofs.«01_k».proof.Proof.Pad
public import proofs.«01_k».proof.Proof.Gen.ReferenceIdeal.Read

@[expose] public section

set_option maxRecDepth 16384

noncomputable section

open Idealize.ShloMosaic Finset

namespace Cert.ReferenceIdeal.Attn

open Cert.ReferenceIdeal Cert.ReferenceIdeal.Gen Cert.ReferenceIdeal.Read Cert.Attn

/-- A sum over the lanes that are there is the sum over 128 lanes, the rest being zero. -/
theorem sum_lanes {n : ℕ} (hn : n ≤ 128) (f : ℕ → ℝ) (hz : ∀ d, n ≤ d → f d = 0) : ∑ d ∈ range n, f d = ∑ d ∈ range 128, f d :=
  sum_subset (range_subset_range.mpr hn) fun d _ hd => hz d (by simpa using hd)

variable {x0 x1 : (⟨S8192x8x96, .f32⟩ : BufTy).Contents (Elt Ideal)} {x2 x3 : (⟨S8192x8x64, .f32⟩ : BufTy).Contents (Elt Ideal)}
  {q k v g : ℕ → ℕ → ℕ → ℝ} (hq : Holding (n := 96) x0 q) (hk : Holding (n := 96) x1 k) (hv : Holding (n := 64) x2 v) (hg : Holding (n := 64) x3 g)
  (zq : ∀ h i d, 96 ≤ d → q h i d = 0) (zg : ∀ h i d, 64 ≤ d → g h i d = 0)

/-- The largest score of a row. -/
def rowMax (q k : ℕ → ℕ → ℕ → ℝ) (h i : ℕ) : ℝ :=
  ((univ : Finset (Fin 8192)).fold max (⊥ : EReal) fun j => ((score (q h) (k h) i j.val : ℝ) : EReal)).toReal

/-- The shifted total of a row. -/
def mass (q k : ℕ → ℕ → ℕ → ℝ) (h i : ℕ) : ℝ := Real.exp (-rowMax q k h i) * total (q h) (k h) i

theorem mass_ne (q k : ℕ → ℕ → ℕ → ℝ) (h i : ℕ) : mass q k h i ≠ 0 :=
  mul_ne_zero (Real.exp_pos _).ne' (total_pos _ _ _).ne'

include hq hk zq

theorem v0_at (i : S8x8192x8192.Idx) :
    val_main_v0 (F := Ideal) x0 x1 i = ((score (q (i 0).val) (k (i 0).val) (i 1).val (i 2).val : ℝ) : EReal) := by
  rw [val_main_v0_apply]
  refine (Finset.sum_congr rfl fun d _ => ?_).trans
    ((sum_mul_coe 96 (fun d => q (i 0).val (i 1).val d) (fun d => k (i 0).val (i 2).val d)).trans (congrArg _ ?_))
  · rw [hq, hk]
  · exact sum_lanes (by omega) _ fun d hd => by rw [zq _ _ _ hd, zero_mul]

theorem v1_at (i : S8x8192.Idx) : val_main_v1 (F := Ideal) x0 x1 i = ((rowMax q k (i 0).val (i 1).val : ℝ) : EReal) := by
  have hr : S8x8192x8192.Reduces [2] S8x8192 := by decide
  have e : val_main_v1 (F := Ideal) x0 x1 i
      = (univ : Finset (Fin 8192)).fold max (⊥ : EReal) fun j => ((score (q (i 0).val) (k (i 0).val) (i 1).val j.val : ℝ) : EReal) := by
    unfold val_main_v1
    refine (Host.reduce_eq_fold_single (α := EReal) max (val_main_v0 (F := Ideal) x0 x1) (val_main_cst (F := Ideal))
      reducesTo_S8x8192x8192_S8x8192_d2 hr h_S_ i).trans ?_
    rw [val_main_cst_apply]
    refine (congrArg (fun b => Finset.fold max b _ _) Cert.KernelIdeal.Attn.ofBits_neg_inf).trans ?_
    refine congrArg (fun f => Finset.fold max (⊥ : EReal) f (univ : Finset (Fin 8192))) (funext fun j => ?_)
    exact v0_at hq hk zq (hr.lift i j)
  obtain ⟨μ, hμ⟩ := fold_max_coe (univ : Finset (Fin 8192)) univ_nonempty fun j => score (q (i 0).val) (k (i 0).val) (i 1).val j.val
  rw [e]
  unfold rowMax
  rw [hμ, EReal.toReal_coe]

theorem v8_at (i : S8x8192.Idx) : val_main_v8 (F := Ideal) x0 x1 i = ((rowMax q k (i 0).val (i 1).val : ℝ) : EReal) := by
  rw [val_main_v8_apply, v1_at hq hk zq, val_main_v7_apply, val_main_cst_1_apply]
  show max (Ideal.ofBits .f32 0xFF800000#32) _ = _
  rw [Cert.KernelIdeal.Attn.ofBits_neg_inf]; exact max_bot_left _

theorem v21_at (i : S8x8192x8192.Idx) : val_main_v21 (F := Ideal) x0 x1 i
    = ((Real.exp (score (q (i 0).val) (k (i 0).val) (i 1).val (i 2).val - rowMax q k (i 0).val (i 1).val) : ℝ) : EReal) := by
  rw [val_main_v21_apply, val_main_v20_apply, v0_at hq hk zq, val_main_v19_apply, val_main_v18_apply, v8_at hq hk zq]
  exact (congrArg Ideal.exp (EReal.coe_sub _ _).symm).trans (exp_coe _)

theorem v22_at (i : S8x8192.Idx) : val_main_v22 (F := Ideal) x0 x1 i = ((mass q k (i 0).val (i 1).val : ℝ) : EReal) := by
  rw [val_main_v22_apply, val_main_cst_7_apply]
  refine (congrArg (· + _) Ideal.ofBits_zero_f32).trans ((zero_add _).trans ?_)
  unfold mass
  rw [← shifted_total, ← sum_coe]
  exact Finset.sum_congr rfl fun j _ => v21_at hq hk zq _

theorem v23_at (i : S8x8192x1.Idx) : val_main_v23 (F := Ideal) x0 x1 i = ((mass q k (i 0).val (i 1).val : ℝ) : EReal) := by
  rw [val_main_v23_apply, v22_at hq hk zq]

theorem v25_at (i : S8x8192x8192.Idx) :
    val_main_v25 (F := Ideal) x0 x1 i = ((prob (q (i 0).val) (k (i 0).val) (i 1).val (i 2).val : ℝ) : EReal) := by
  rw [val_main_v25_apply, v21_at hq hk zq, val_main_v24_apply, v23_at hq hk zq]
  refine (div_coe_coe _ (mass_ne q k _ _)).trans ?_
  unfold mass
  rw [shifted_prob]

theorem v28_at (i : S8x8192x1.Idx) : val_main_v28 (F := Ideal) x0 x1 i
    = ((1 / (mass q k (i 0).val (i 1).val * mass q k (i 0).val (i 1).val) : ℝ) : EReal) := by
  rw [val_main_v28_apply, val_main_v27_apply, val_main_cst_8_apply, val_main_v26_apply, v23_at hq hk zq]
  show Ideal.div (Ideal.ofBits .f32 0x3F800000#32) (_ * _) = _
  rw [Ideal.ofBits_one_f32, ← EReal.coe_mul, ← EReal.coe_one, div_coe_coe _ (mul_ne_zero (mass_ne q k _ _) (mass_ne q k _ _))]

omit hq hk zq
include hv hg zg

theorem v32_at (i : S8x8192x8192.Idx) :
    val_main_v32 (F := Ideal) x2 x3 i = ((dprob (v (i 0).val) (g (i 0).val) (i 1).val (i 2).val : ℝ) : EReal) := by
  rw [val_main_v32_apply]
  refine (Finset.sum_congr rfl fun d _ => ?_).trans
    ((sum_mul_coe 64 (fun d => g (i 0).val (i 1).val d) (fun d => v (i 0).val (i 2).val d)).trans (congrArg _ ?_))
  · rw [val_main_v31_apply, hg, hv]
  · unfold dprob
    rw [sum_lanes (by omega) _ fun d hd => by rw [zg _ _ _ hd, zero_mul]]
    exact Finset.sum_congr rfl fun d _ => mul_comm _ _

include hq hk zq

theorem v37_at (i : S8x8192x8192.Idx) : val_main_v37 (F := Ideal) x0 x1 x2 x3 i
    = ((dprob (v (i 0).val) (g (i 0).val) (i 1).val (i 2).val * (1 / (mass q k (i 0).val (i 1).val * mass q k (i 0).val (i 1).val))
        * Real.exp (score (q (i 0).val) (k (i 0).val) (i 1).val (i 2).val - rowMax q k (i 0).val (i 1).val) : ℝ) : EReal) := by
  rw [val_main_v37_apply, val_main_v36_apply, v32_at hv hg zg, val_main_v35_apply, v28_at hq hk zq, v21_at hq hk zq]
  show (_ * _) * _ = _
  rw [← EReal.coe_mul, ← EReal.coe_mul]

theorem v43_at (i : S8x8192.Idx) : val_main_v43 (F := Ideal) x0 x1 x2 x3 i
    = ((-∑ j ∈ range 8192, dprob (v (i 0).val) (g (i 0).val) (i 1).val j * (1 / (mass q k (i 0).val (i 1).val * mass q k (i 0).val (i 1).val))
        * Real.exp (score (q (i 0).val) (k (i 0).val) (i 1).val j - rowMax q k (i 0).val (i 1).val) : ℝ) : EReal) := by
  have i0 : (i 0).val < 8 := (i 0).isLt
  have i1 : (i 1).val < 8192 := (i 1).isLt
  rw [val_main_v43_apply, val_main_cst_10_apply]
  refine (congrArg (· + _) Ideal.ofBits_zero_f32).trans ((zero_add _).trans ?_)
  rw [Fin.sum_univ_one, val_main_v40_apply, val_main_v39_apply, val_main_v38_apply, val_main_cst_9_apply]
  refine (congrArg (fun z : EReal => -z) ((congrArg (· + _) Ideal.ofBits_zero_f32).trans (zero_add _))).trans ?_
  rw [EReal.coe_neg, ← sum_coe]
  refine congrArg _ (Finset.sum_congr rfl fun j _ => (v37_at hq hk hv hg zq zg _).trans ?_)
  have e0 : (((i 0).val * 8192 + (i 1).val) * 1 + 0) / 8192 = (i 0).val := by omega
  have e1 : (((i 0).val * 8192 + (i 1).val) * 1 + 0) % 8192 = (i 1).val := by omega
  show ((dprob (v ((((i 0).val * 8192 + (i 1).val) * 1 + 0) / 8192)) (g ((((i 0).val * 8192 + (i 1).val) * 1 + 0) / 8192)) ((((i 0).val * 8192 + (i 1).val) * 1 + 0) % 8192) j.val
      * (1 / (mass q k ((((i 0).val * 8192 + (i 1).val) * 1 + 0) / 8192) ((((i 0).val * 8192 + (i 1).val) * 1 + 0) % 8192) * mass q k ((((i 0).val * 8192 + (i 1).val) * 1 + 0) / 8192) ((((i 0).val * 8192 + (i 1).val) * 1 + 0) % 8192)))
      * Real.exp (score (q ((((i 0).val * 8192 + (i 1).val) * 1 + 0) / 8192)) (k ((((i 0).val * 8192 + (i 1).val) * 1 + 0) / 8192)) ((((i 0).val * 8192 + (i 1).val) * 1 + 0) % 8192) j.val - rowMax q k ((((i 0).val * 8192 + (i 1).val) * 1 + 0) / 8192) ((((i 0).val * 8192 + (i 1).val) * 1 + 0) % 8192)) : ℝ) : EReal) = _
  rw [e0, e1]

theorem v46_at (i : S8x8192x8192.Idx) : val_main_v46 (F := Ideal) x0 x1 x2 x3 i
    = ((dscore (q (i 0).val) (k (i 0).val) (v (i 0).val) (g (i 0).val) (i 1).val (i 2).val : ℝ) : EReal) := by
  rw [val_main_v46_apply, val_main_v45_apply, val_main_v42_apply, v32_at hv hg zg, val_main_v41_apply, v23_at hq hk zq,
    val_main_v44_apply, v43_at hq hk hv hg zq zg, v21_at hq hk zq]
  show (Ideal.div _ _ + _) * _ = _
  rw [div_coe_coe _ (mass_ne q k _ _), ← EReal.coe_add, ← EReal.coe_mul]
  exact congrArg _ (shifted_dscore (q (i 0).val) (k (i 0).val) (v (i 0).val) (g (i 0).val) (rowMax q k (i 0).val (i 1).val) (i 1).val (i 2).val)

end Cert.ReferenceIdeal.Attn
-- ==== Proof.RefResults.lean ====
/-
  The reference's four results: the attention's output and the gradients of its queries, keys and values.
-/
module

public import proofs.«01_k».proof.Proof.RefScores

@[expose] public section

set_option maxRecDepth 16384

noncomputable section

open Idealize.ShloMosaic Finset

namespace Cert.ReferenceIdeal.Attn

open Cert.ReferenceIdeal Cert.ReferenceIdeal.Gen Cert.ReferenceIdeal.Read Cert.Attn
open Cert.KernelIdeal.Attn (heads)

variable {x0 x1 : (⟨S8192x8x96, .f32⟩ : BufTy).Contents (Elt Ideal)} {x2 x3 : (⟨S8192x8x64, .f32⟩ : BufTy).Contents (Elt Ideal)}
  {q k v g : ℕ → ℕ → ℕ → ℝ} (hq : Holding (n := 96) x0 q) (hk : Holding (n := 96) x1 k) (hv : Holding (n := 64) x2 v) (hg : Holding (n := 64) x3 g)
  (zq : ∀ h i d, 96 ≤ d → q h i d = 0) (zk : ∀ h i d, 96 ≤ d → k h i d = 0) (zg : ∀ h i d, 64 ≤ d → g h i d = 0)
  (v1 : ∀ h i, v h i 64 = 1) (zv : ∀ h i d, 65 ≤ d → v h i d = 0)

include hq hk zq

theorem out_holds (hv : Holding (n := 64) x2 v) : Holding (n := 64) (val_main_v30 (F := Ideal) x0 x1 x2) fun h => out (q h) (k h) (v h) := by
  intro i
  rw [val_main_v30_apply, val_main_v29_apply]
  refine (Finset.sum_congr rfl fun j _ => ?_).trans
    ((sum_mul_coe 8192 (fun j => v (i 1).val j (i 2).val) (fun j => prob (q (i 1).val) (k (i 1).val) (i 0).val j)).trans (congrArg _ ?_))
  · rw [v25_at hq hk zq, hv]
  · exact Finset.sum_congr rfl fun j _ => mul_comm _ _

theorem dv_holds (hg : Holding (n := 64) x3 g) (zg : ∀ h i d, 64 ≤ d → g h i d = 0) : Holding (n := 64) (val_main_v34 (F := Ideal) x0 x1 x3) fun h => dvTo (q h) (k h) (g h) 8192 := by
  intro i
  rw [val_main_v34_apply, val_main_v33_apply]
  refine (Finset.sum_congr rfl fun j _ => ?_).trans
    ((sum_mul_coe 8192 (fun j => g (i 1).val j (i 2).val) (fun j => prob (q (i 1).val) (k (i 1).val) j (i 0).val)).trans (congrArg _ ?_))
  · rw [v25_at hq hk zq, val_main_v31_apply, hg]
  · exact Finset.sum_congr rfl fun j _ => mul_comm _ _

include hv hg zg

theorem dk_holds : Holding (n := 96) (val_main_v48 (F := Ideal) x0 x1 x2 x3) fun h => dkTo (q h) (k h) (v h) (g h) 8192 := by
  intro i
  rw [val_main_v48_apply, val_main_v47_apply]
  refine (Finset.sum_congr rfl fun j _ => ?_).trans
    (sum_mul_coe 8192 (fun j => dscore (q (i 1).val) (k (i 1).val) (v (i 1).val) (g (i 1).val) j (i 0).val) (fun j => q (i 1).val j (i 2).val))
  rw [v46_at hq hk hv hg zq zg, hq]

include zk

theorem dq_holds : Holding (n := 96) (val_main_v50 (F := Ideal) x0 x1 x2 x3) fun h => dqTo (q h) (k h) (v h) (g h) 8192 := by
  intro i
  rw [val_main_v50_apply, val_main_v49_apply]
  refine (Finset.sum_congr rfl fun j _ => ?_).trans
    (sum_mul_coe 8192 (fun j => dscore (q (i 1).val) (k (i 1).val) (v (i 1).val) (g (i 1).val) (i 0).val j) (fun j => k (i 1).val j (i 2).val))
  rw [v46_at hq hk hv hg zq zg, hk]

end Cert.ReferenceIdeal.Attn
-- ==== Proof.Finite.lean ====
/-
  The precondition read back: where it holds, every element of the four arguments is a real number.
-/
module

public import proofs.«01_k».proof.Defs
public import proofs.«01_k».proof.Proof.Gen.Pre_finite
public import Idealize.ShloMosaic.Lib.ReduceAll
public import Idealize.ShloMosaic.Lib.KernelVsHost
public import Idealize.ShloMosaic.Lib.Affine

@[expose] public section

set_option maxRecDepth 16384

noncomputable section

open Idealize.ShloMosaic Idealize.SL.Sem

namespace Cert.Pre_finite.Attn

/-- `|x| < +∞` on one value. -/
theorem real_of_lt {x : EReal} (h : FloatOps.cmpf (F := Ideal) (φ := .f32) .olt (FloatOps.hostAbsf (F := Ideal) (φ := .f32) x)
    (FloatOps.ofBits (F := Ideal) .f32 0x7F800000#32) = 1#1) : x ≠ ⊤ ∧ x ≠ ⊥ := by
  rw [← Ideal.xori_weird_eq_hostAbsf_olt_inf x] at h
  have h' : IntOp.xori (BitVec.ofBool (decide (x = ⊤ ∨ x = ⊥))) 1#1 = 1#1 := h
  by_cases hx : x = ⊤ ∨ x = ⊥
  · rw [decide_eq_true hx] at h'
    exact absurd h' (by decide)
  · exact ⟨fun e => hx (.inl e), fun e => hx (.inr e)⟩

theorem andi_split {a b : IVec ⟨0, ![]⟩ 1} {j : (⟨0, ![]⟩ : Shape).Idx} (h : andi a b j = 1#1) : a j = 1#1 ∧ b j = 1#1 :=
  IntOp.andi_eq_one.mp h

instance : Subsingleton (⟨0, ![]⟩ : Shape).Idx := ⟨fun _ _ => funext fun i => i.elim0⟩

/-- Where the predicate holds, each argument's elements are real numbers. -/
theorem reals_of {x0 x1 : FVec Ideal ⟨3, ![8192, 8, 96]⟩ .f32} {x2 x3 : FVec Ideal ⟨3, ![8192, 8, 64]⟩ .f32}
    (h : Cert.Pre_finite.fn (F := Ideal) x0 x1 x2 x3 = fun _ => 1#1) :
    ((∀ i, x0 i ≠ ⊤ ∧ x0 i ≠ ⊥) ∧ (∀ i, x1 i ≠ ⊤ ∧ x1 i ≠ ⊥)) ∧ (∀ i, x2 i ≠ ⊤ ∧ x2 i ≠ ⊥) ∧ (∀ i, x3 i ≠ ⊤ ∧ x3 i ≠ ⊥) := by
  have h0 := congrFun h fun a => a.elim0
  unfold Cert.Pre_finite.fn Cert.Pre_finite.fn_part1 at h0
  obtain ⟨h012, h3⟩ := andi_split h0
  obtain ⟨h01, h2⟩ := andi_split h012
  obtain ⟨h0, h1⟩ := andi_split h01
  exact ⟨⟨fun i => real_of_lt (Host.reduce_andi_all _ _ _ _ _ h0 i), fun i => real_of_lt (Host.reduce_andi_all _ _ _ _ _ h1 i)⟩,
    fun i => real_of_lt (Host.reduce_andi_all _ _ _ _ _ h2 i), fun i => real_of_lt (Host.reduce_andi_all _ _ _ _ _ h3 i)⟩

end Cert.Pre_finite.Attn
-- ==== Proof.MlpSpec.lean ====
/-
  The perceptron's arrays: an array as the numbers of its rows and columns, a block as a part of one, and the three
  matrix products as sums over a range.
-/
module

public import Idealize.ShloMosaic.PureOps.Ideal.Laws
public import Mathlib.Data.EReal.Operations
public import Idealize.ShloMosaic.Lib.Pointwise

@[expose] public section

noncomputable section

open Idealize.ShloMosaic Finset

namespace Cert.Mlp

/-- The array with `f r c` in row `r` and column `c`. -/
def plane {m n : ℕ} (f : ℕ → ℕ → EReal) : (⟨2, ![m, n]⟩ : Shape).Idx → EReal := fun i => f (i 0).val (i 1).val

/-- The entry of an array in row `r` and column `c`, zero past its end. -/
def entries {m n : ℕ} (x : (⟨2, ![m, n]⟩ : Shape).Idx → EReal) (r c : ℕ) : EReal :=
  if h : r < m ∧ c < n then x (ix2 ⟨r, h.1⟩ ⟨c, h.2⟩) else 0

theorem entries_at {m n : ℕ} (x : (⟨2, ![m, n]⟩ : Shape).Idx → EReal) (i : (⟨2, ![m, n]⟩ : Shape).Idx) (r c : ℕ)
    (h0 : (i 0).val = r) (h1 : (i 1).val = c) : x i = entries x r c := by
  subst h0 h1
  unfold entries
  rw [dif_pos ⟨(i 0).isLt, (i 1).isLt⟩]
  exact congrArg x (eq_ix2 i)

theorem eq_plane {m n : ℕ} (x : (⟨2, ![m, n]⟩ : Shape).Idx → EReal) : x = plane (entries x) :=
  funext fun i => entries_at x i _ _ rfl rfl

theorem plane_at {m n : ℕ} (f : ℕ → ℕ → EReal) (i : (⟨2, ![m, n]⟩ : Shape).Idx) (r c : ℕ)
    (h0 : (i 0).val = r) (h1 : (i 1).val = c) : plane f i = f r c := by
  subst h0 h1
  rfl

/-- The block `x` holds the numbers `f` from row `r0` and column `c0` on. -/
def Part {m n : ℕ} (x : (⟨2, ![m, n]⟩ : Shape).Idx → EReal) (f : ℕ → ℕ → EReal) (r0 c0 : ℕ) : Prop :=
  ∀ (r : Fin m) (c : Fin n), x (ix2 r c) = f (r0 + r.val) (c0 + c.val)

/-- The product of `f` and `g` over `K` terms. -/
def nn (K : ℕ) (f g : ℕ → ℕ → EReal) (r c : ℕ) : EReal := ∑ k ∈ range K, f r k * g k c

/-- The product of `f` and the transpose of `g`. -/
def nt (K : ℕ) (f g : ℕ → ℕ → EReal) (r c : ℕ) : EReal := ∑ k ∈ range K, f r k * g c k

/-- The product of the transpose of `f` and `g`. -/
def tn (K : ℕ) (f g : ℕ → ℕ → EReal) (r c : ℕ) : EReal := ∑ k ∈ range K, f k r * g k c

theorem nn_at {M K N : ℕ} {x : (⟨2, ![M, K]⟩ : Shape).Idx → EReal} {y : (⟨2, ![K, N]⟩ : Shape).Idx → EReal}
    {f g : ℕ → ℕ → EReal} {r0 c0 : ℕ} (hx : Part x f r0 0) (hy : Part y g 0 c0) (r : Fin M) (c : Fin N) :
    ∑ k : Fin K, x (ix2 r k) * y (ix2 k c) = nn K f g (r0 + r.val) (c0 + c.val) := by
  unfold nn
  rw [← Fin.sum_univ_eq_sum_range (fun k => f (r0 + r.val) k * g k (c0 + c.val))]
  exact sum_congr rfl fun k _ => by rw [hx r k, hy k c, Nat.zero_add]

theorem nt_at {M K N : ℕ} {x : (⟨2, ![M, K]⟩ : Shape).Idx → EReal} {y : (⟨2, ![N, K]⟩ : Shape).Idx → EReal}
    {f g : ℕ → ℕ → EReal} {r0 c0 : ℕ} (hx : Part x f r0 0) (hy : Part y g c0 0) (r : Fin M) (c : Fin N) :
    ∑ k : Fin K, x (ix2 r k) * y (ix2 c k) = nt K f g (r0 + r.val) (c0 + c.val) := by
  unfold nt
  rw [← Fin.sum_univ_eq_sum_range (fun k => f (r0 + r.val) k * g (c0 + c.val) k)]
  exact sum_congr rfl fun k _ => by rw [hx r k, hy c k, Nat.zero_add]

theorem tn_at {M K N : ℕ} {x : (⟨2, ![K, M]⟩ : Shape).Idx → EReal} {y : (⟨2, ![K, N]⟩ : Shape).Idx → EReal}
    {f g : ℕ → ℕ → EReal} {b r0 c0 : ℕ} (hx : Part x f b r0) (hy : Part y g b c0) (r : Fin M) (c : Fin N) :
    tn b f g (r0 + r.val) (c0 + c.val) + ∑ k : Fin K, x (ix2 k r) * y (ix2 k c)
      = tn (b + K) f g (r0 + r.val) (c0 + c.val) := by
  unfold tn
  rw [sum_range_add, ← Fin.sum_univ_eq_sum_range (fun k => f (b + k) (r0 + r.val) * g (b + k) (c0 + c.val))]
  exact congrArg _ (sum_congr rfl fun k _ => by rw [hx k r, hy k c])

theorem tn_zero (f g : ℕ → ℕ → EReal) (r c : ℕ) : tn 0 f g r c = 0 := sum_range_zero _

/-- The number two, as the programs spell it. -/
theorem ofBits_two : Ideal.ofBits .f32 0x40000000#32 = 2 := by
  simp [Ideal.ofBits, Ideal.ieee]
  rw [← EReal.coe_mul, show (8388608 : ℝ) * (2 ^ 22)⁻¹ = 2 by norm_num]
  rfl

/-- The squared ReLU. -/
def act (a : ℕ → ℕ → EReal) (r c : ℕ) : EReal := max (a r c) 0 * max (a r c) 0

/-- The gradient of the squared ReLU's argument, from the gradient `g` of its value. -/
def dact (g a : ℕ → ℕ → EReal) (r c : ℕ) : EReal := g r c * (2 * max (a r c) 0)

end Cert.Mlp

end
-- ==== Proof.MlpPay.lean ====
/-
  The stores of the perceptron's six calls, read at an index.
-/
module

public import proofs.«01_k».proof.Proof.Gen.Kernel2Ideal.Skeleton
public import proofs.«01_k».proof.Proof.MlpSpec
public import Idealize.ShloMosaic.Lib.Pointwise

@[expose] public section

set_option maxRecDepth 16384

noncomputable section

open Idealize.ShloMosaic Finset

namespace Cert.Kernel2Ideal.Mlp

open Cert.Kernel2Ideal Cert.Kernel2Ideal.Gen Cert.Mlp

theorem pay0_1_apply (x0 : Vec Ideal S1024x1024 .bf16) (x1 : Vec Ideal S1024x2048 .bf16) (r : Fin 1024) (c : Fin 2048) :
    k0_pay1 (F := Ideal) x0 x1 (ix2 r c) = ∑ k : Fin 1024, x0 (ix2 r k) * x1 (ix2 k c) := by
  pointwise [k0_pay1]

theorem pay0_2_apply (x0 : Vec Ideal S1024x1024 .bf16) (x1 : Vec Ideal S1024x2048 .bf16) (r : Fin 1024) (c : Fin 2048) :
    k0_pay2 (F := Ideal) x0 x1 (ix2 r c)
      = max (∑ k : Fin 1024, x0 (ix2 r k) * x1 (ix2 k c)) 0 * max (∑ k : Fin 1024, x0 (ix2 r k) * x1 (ix2 k c)) 0 := by
  pointwise [k0_pay2, k0_pay1]

theorem pay1_1_apply (x0 : Vec Ideal S512x4096 .bf16) (x1 : Vec Ideal S4096x1024 .bf16) (x2 : Vec Ideal S512x1024 .f32)
    (r : Fin 512) (c : Fin 1024) :
    k1_pay1 (F := Ideal) x0 x1 x2 (ix2 r c) = (∑ k : Fin 4096, x0 (ix2 r k) * x1 (ix2 k c)) + x2 (ix2 r c) := by
  pointwise [k1_pay1]

theorem pay2_1_apply (x0 : Vec Ideal S1024x1024 .bf16) (x1 : Vec Ideal S2048x1024 .bf16) (x2 : Vec Ideal S1024x2048 .f32)
    (r : Fin 1024) (c : Fin 2048) :
    k2_pay1 (F := Ideal) x0 x1 x2 (ix2 r c)
      = (∑ k : Fin 1024, x0 (ix2 r k) * x1 (ix2 c k)) * (2 * max (x2 (ix2 r c)) 0) := by
  pointwise [k2_pay1]
  rw [ofBits_two]

theorem pay3_1_apply (r : Fin 1024) (c : Fin 1024) : k3_pay1 (F := Ideal) (ix2 r c) = 0 := by
  pointwise [k3_pay1]

theorem pay3_2_apply (acc : Vec Ideal S1024x1024 .f32) (x0 : Vec Ideal S1024x1024 .bf16) (x1 : Vec Ideal S1024x1024 .bf16)
    (r : Fin 1024) (c : Fin 1024) :
    k3_pay2 (F := Ideal) acc x0 x1 (ix2 r c) = acc (ix2 r c) + ∑ k : Fin 1024, x0 (ix2 k r) * x1 (ix2 k c) := by
  pointwise [k3_pay2]

theorem pay4_1_apply (x0 : Vec Ideal S512x4096 .bf16) (x1 : Vec Ideal S1024x4096 .bf16) (r : Fin 512) (c : Fin 1024) :
    k4_pay1 (F := Ideal) x0 x1 (ix2 r c) = ∑ k : Fin 4096, x0 (ix2 r k) * x1 (ix2 c k) := by
  pointwise [k4_pay1]

theorem pay5_1_apply (r : Fin 1024) (c : Fin 2048) : k5_pay1 (F := Ideal) (ix2 r c) = 0 := by
  pointwise [k5_pay1]

theorem pay5_2_apply (acc : Vec Ideal S1024x2048 .f32) (x0 : Vec Ideal S1024x1024 .bf16) (x1 : Vec Ideal S1024x2048 .bf16)
    (r : Fin 1024) (c : Fin 2048) :
    k5_pay2 (F := Ideal) acc x0 x1 (ix2 r c) = acc (ix2 r c) + ∑ k : Fin 1024, x0 (ix2 k r) * x1 (ix2 k c) := by
  pointwise [k5_pay2]

end Cert.Kernel2Ideal.Mlp

end
-- ==== Proof.MlpForward.lean ====
/-
  The first matrix product of the perceptron with its squared ReLU, and the second with the residual.
-/
module

public import proofs.«01_k».proof.Proof.Gen.Kernel2Ideal.Frame
public import proofs.«01_k».proof.Proof.MlpPay
public import Idealize.ShloMosaic.Lib.Pipeline.ValueKit.Acc

@[expose] public section

set_option maxRecDepth 16384

noncomputable section

open Idealize.ShloMosaic Idealize.ShloMosaic.TcCoe Idealize.SL.Sem Finset

namespace Cert.Kernel2Ideal.Mlp

open Cert.Kernel2Ideal Cert.Kernel2Ideal.Gen Cert.Mlp

variable (V : (c : Dev nD) → (b : Ref sig .tc) → Buf (Elt Ideal) ((c : Thread nD τ).loc b)) (c : Dev nD)

/-! ## Call 0 -/

theorem index0 : ∀ t : Fin grid0.N,
    (win0_0.index t 0 = t.val % 8 ∧ win0_0.index t 1 = 0)
    ∧ (win0_1.index t 0 = 0 ∧ win0_1.index t 1 = t.val / 8)
    ∧ (win0_2.index t 0 = t.val % 8 ∧ win0_2.index t 1 = t.val / 8)
    ∧ (win0_3.index t 0 = t.val % 8 ∧ win0_3.index t 1 = t.val / 8) := by
  decide +kernel

theorem size0 : ∀ t : Fin grid0.N,
    (win0_2.xsize (grid0.coords t) 0 = 1024 ∧ win0_2.xsize (grid0.coords t) 1 = 2048)
    ∧ (win0_3.xsize (grid0.coords t) 0 = 1024 ∧ win0_3.xsize (grid0.coords t) 1 = 2048) := by
  decide +kernel

theorem block0_0 {f : ℕ → ℕ → EReal} (hV : V c main_v0 = plane (m := 8192) (n := 1024) f) (t : Fin cfg0.N) :
    Part (m := 1024) (n := 1024) (iblk0 V c 0 t) f (1024 * (t.val % 8)) 0 := by
  intro r d
  unfold iblk0
  rw [View.read_apply]
  show V c main_v0 _ = _
  rw [hV]
  refine plane_at f _ _ _ ?_ ?_
  · show win0_0.index t 0 * 1024 + 1 * r.val = _; rw [(index0 t).1.1]; omega
  · show win0_0.index t 1 * 1024 + 1 * d.val = _; rw [(index0 t).1.2]; omega

theorem block0_1 {f : ℕ → ℕ → EReal} (hV : V c main_v1 = plane (m := 1024) (n := 4096) f) (t : Fin cfg0.N) :
    Part (m := 1024) (n := 2048) (iblk0 V c 1 t) f 0 (2048 * (t.val / 8)) := by
  intro r d
  unfold iblk0
  rw [View.read_apply]
  show V c main_v1 _ = _
  rw [hV]
  refine plane_at f _ _ _ ?_ ?_
  · show win0_1.index t 0 * 1024 + 1 * r.val = _; rw [(index0 t).2.1.1]; omega
  · show win0_1.index t 1 * 2048 + 1 * d.val = _; rw [(index0 t).2.1.2]; omega

theorem read0_2 (t : Fin cfg0.N) (G : S8192x4096.Idx → EReal) (x : S1024x2048.Idx) :
    View.read (Elt Ideal) ((View.whole main_v4_0).slice (win0_2.rect t)) G x = G (((View.whole main_v4_0).slice (win0_2.rect t)).emb x) :=
  View.read_apply _ _

theorem mem_block0_2 (t : Fin cfg0.N) (i : S8192x4096.Idx) (h0 : (i 0).val / 1024 = t.val % 8) (h1 : (i 1).val / 2048 = t.val / 8):
    i ∈ ((cfg0.win 2).blk t).view.set := by
  show i ∈ ((View.whole main_v4_0).slice (win0_2.rect t)).set
  rw [View.set_slice_whole, Rect.mem_set_unit]
  have e := (index0 t).2.2.1
  have s := (size0 t).1
  have hi0 : (i 0).val < 8192 := (i 0).isLt
  have hi1 : (i 1).val < 4096 := (i 1).isLt
  intro a
  match a with
  | ⟨0, _⟩ =>
    show win0_2.index t 0 * 1024 ≤ (i 0 : Nat) ∧ (i 0 : Nat) < win0_2.index t 0 * 1024 + win0_2.xsize (grid0.coords t) 0
    rw [e.1, s.1]; omega
  | ⟨1, _⟩ =>
    show win0_2.index t 1 * 2048 ≤ (i 1 : Nat) ∧ (i 1 : Nat) < win0_2.index t 1 * 2048 + win0_2.xsize (grid0.coords t) 1
    rw [e.2, s.2]; omega

theorem read0_3 (t : Fin cfg0.N) (G : S8192x4096.Idx → EReal) (x : S1024x2048.Idx) :
    View.read (Elt Ideal) ((View.whole main_v4_1).slice (win0_3.rect t)) G x = G (((View.whole main_v4_1).slice (win0_3.rect t)).emb x) :=
  View.read_apply _ _

theorem mem_block0_3 (t : Fin cfg0.N) (i : S8192x4096.Idx) (h0 : (i 0).val / 1024 = t.val % 8) (h1 : (i 1).val / 2048 = t.val / 8):
    i ∈ ((cfg0.win 3).blk t).view.set := by
  show i ∈ ((View.whole main_v4_1).slice (win0_3.rect t)).set
  rw [View.set_slice_whole, Rect.mem_set_unit]
  have e := (index0 t).2.2.2
  have s := (size0 t).2
  have hi0 : (i 0).val < 8192 := (i 0).isLt
  have hi1 : (i 1).val < 4096 := (i 1).isLt
  intro a
  match a with
  | ⟨0, _⟩ =>
    show win0_3.index t 0 * 1024 ≤ (i 0 : Nat) ∧ (i 0 : Nat) < win0_3.index t 0 * 1024 + win0_3.xsize (grid0.coords t) 0
    rw [e.1, s.1]; omega
  | ⟨1, _⟩ =>
    show win0_3.index t 1 * 2048 ≤ (i 1 : Nat) ∧ (i 1 : Nat) < win0_3.index t 1 * 2048 + win0_3.xsize (grid0.coords t) 1
    rw [e.2, s.2]; omega

/-- The first product. -/
theorem region0_pre {f g : ℕ → ℕ → EReal} (h0 : V c main_v0 = plane (m := 8192) (n := 1024) f) (h1 : V c main_v1 = plane (m := 1024) (n := 4096) g) :
    (dat0 V c).arrAt 2 cfg0.N = plane (m := 8192) (n := 4096) (nn 1024 f g) := by
  refine (dat0 V c).arrAt_eq_of_cover 2 _ (fun t hf => ?_) fun i => ?_
  · have ht : t.val < 16 := t.isLt
    show (cfg0.win 2).cut (grid0.coords t) ((dat0 V c).after 2 t) = _
    rw [after0_2]
    have hb : Part (m := 1024) (n := 2048) (out0_2 (iblk0 V c 0 t) (iblk0 V c 1 t)) (nn 1024 f g) (1024 * (t.val % 8)) (2048 * (t.val / 8)) := by
      intro r d
      frame_out
      exact (pay0_1_apply _ _ r d).trans (nn_at (block0_0 V c h0 t) (block0_1 V c h1 t) r d)
    funext x
    obtain ⟨r, d, rfl⟩ : ∃ (r : Fin 1024) (d : Fin 2048), x = ix2 r d := ⟨x 0, x 1, eq_ix2 x⟩
    refine (hb r d).trans (Eq.trans ?_ (read0_2 t _ (ix2 r d)).symm)
    refine (plane_at (nn 1024 f g) _ _ _ ?_ ?_).symm
    · show win0_2.index t 0 * 1024 + 1 * r.val = _; rw [(index0 t).2.2.1.1]; omega
    · show win0_2.index t 1 * 2048 + 1 * d.val = _; rw [(index0 t).2.2.1.2]; omega
  · have hi0 : (i 0).val < 8192 := (i 0).isLt
    have hi1 : (i 1).val < 4096 := (i 1).isLt
    refine ⟨⟨(i 1).val / 2048 * 8 + (i 0).val / 1024, ?_⟩, flush0_2 _, mem_block0_2 _ i ?_ ?_⟩
    · show _ < 16; omega
    · show (i 0).val / 1024 = ((i 1).val / 2048 * 8 + (i 0).val / 1024) % 8; omega
    · show (i 1).val / 2048 = ((i 1).val / 2048 * 8 + (i 0).val / 1024) / 8; omega

/-- Its squared ReLU. -/
theorem region0_act {f g : ℕ → ℕ → EReal} (h0 : V c main_v0 = plane (m := 8192) (n := 1024) f) (h1 : V c main_v1 = plane (m := 1024) (n := 4096) g) :
    (dat0 V c).arrAt 3 cfg0.N = plane (m := 8192) (n := 4096) (act (nn 1024 f g)) := by
  refine (dat0 V c).arrAt_eq_of_cover 3 _ (fun t hf => ?_) fun i => ?_
  · have ht : t.val < 16 := t.isLt
    show (cfg0.win 3).cut (grid0.coords t) ((dat0 V c).after 3 t) = _
    rw [after0_3]
    have hb : Part (m := 1024) (n := 2048) (out0_3 (iblk0 V c 0 t) (iblk0 V c 1 t)) (act (nn 1024 f g)) (1024 * (t.val % 8)) (2048 * (t.val / 8)) := by
      intro r d
      frame_out
      refine (pay0_2_apply _ _ r d).trans ?_
      rw [nn_at (block0_0 V c h0 t) (block0_1 V c h1 t) r d, act]
    funext x
    obtain ⟨r, d, rfl⟩ : ∃ (r : Fin 1024) (d : Fin 2048), x = ix2 r d := ⟨x 0, x 1, eq_ix2 x⟩
    refine (hb r d).trans (Eq.trans ?_ (read0_3 t _ (ix2 r d)).symm)
    refine (plane_at (act (nn 1024 f g)) _ _ _ ?_ ?_).symm
    · show win0_3.index t 0 * 1024 + 1 * r.val = _; rw [(index0 t).2.2.2.1]; omega
    · show win0_3.index t 1 * 2048 + 1 * d.val = _; rw [(index0 t).2.2.2.2]; omega
  · have hi0 : (i 0).val < 8192 := (i 0).isLt
    have hi1 : (i 1).val < 4096 := (i 1).isLt
    refine ⟨⟨(i 1).val / 2048 * 8 + (i 0).val / 1024, ?_⟩, flush0_3 _, mem_block0_3 _ i ?_ ?_⟩
    · show _ < 16; omega
    · show (i 0).val / 1024 = ((i 1).val / 2048 * 8 + (i 0).val / 1024) % 8; omega
    · show (i 1).val / 2048 = ((i 1).val / 2048 * 8 + (i 0).val / 1024) / 8; omega

/-! ## Call 1 -/

theorem index1 : ∀ t : Fin grid1.N,
    (win1_0.index t 0 = t.val ∧ win1_0.index t 1 = 0)
    ∧ (win1_1.index t 0 = 0 ∧ win1_1.index t 1 = 0)
    ∧ (win1_2.index t 0 = t.val ∧ win1_2.index t 1 = 0)
    ∧ (win1_3.index t 0 = t.val ∧ win1_3.index t 1 = 0) := by
  decide +kernel

theorem size1 : ∀ t : Fin grid1.N,
    (win1_3.xsize (grid1.coords t) 0 = 512 ∧ win1_3.xsize (grid1.coords t) 1 = 1024) := by
  decide +kernel

theorem block1_0 {f : ℕ → ℕ → EReal} (hV : V c main_v4_1 = plane (m := 8192) (n := 4096) f) (t : Fin cfg1.N) :
    Part (m := 512) (n := 4096) (iblk1 V c 0 t) f (512 * (t.val)) 0 := by
  intro r d
  unfold iblk1
  rw [View.read_apply]
  show V c main_v4_1 _ = _
  rw [hV]
  refine plane_at f _ _ _ ?_ ?_
  · show win1_0.index t 0 * 512 + 1 * r.val = _; rw [(index1 t).1.1]; omega
  · show win1_0.index t 1 * 4096 + 1 * d.val = _; rw [(index1 t).1.2]; omega

theorem block1_1 {f : ℕ → ℕ → EReal} (hV : V c main_v2 = plane (m := 4096) (n := 1024) f) (t : Fin cfg1.N) :
    Part (m := 4096) (n := 1024) (iblk1 V c 1 t) f 0 0 := by
  intro r d
  unfold iblk1
  rw [View.read_apply]
  show V c main_v2 _ = _
  rw [hV]
  refine plane_at f _ _ _ ?_ ?_
  · show win1_1.index t 0 * 4096 + 1 * r.val = _; rw [(index1 t).2.1.1]; omega
  · show win1_1.index t 1 * 1024 + 1 * d.val = _; rw [(index1 t).2.1.2]; omega

theorem block1_2 {f : ℕ → ℕ → EReal} (hV : V c main_arg1 = plane (m := 8192) (n := 1024) f) (t : Fin cfg1.N) :
    Part (m := 512) (n := 1024) (iblk1 V c 2 t) f (512 * (t.val)) 0 := by
  intro r d
  unfold iblk1
  rw [View.read_apply]
  show V c main_arg1 _ = _
  rw [hV]
  refine plane_at f _ _ _ ?_ ?_
  · show win1_2.index t 0 * 512 + 1 * r.val = _; rw [(index1 t).2.2.1.1]; omega
  · show win1_2.index t 1 * 1024 + 1 * d.val = _; rw [(index1 t).2.2.1.2]; omega

theorem read1_3 (t : Fin cfg1.N) (G : S8192x1024.Idx → EReal) (x : S512x1024.Idx) :
    View.read (Elt Ideal) ((View.whole main_v5).slice (win1_3.rect t)) G x = G (((View.whole main_v5).slice (win1_3.rect t)).emb x) :=
  View.read_apply _ _

theorem mem_block1_3 (t : Fin cfg1.N) (i : S8192x1024.Idx) (h0 : (i 0).val / 512 = t.val) :
    i ∈ ((cfg1.win 3).blk t).view.set := by
  show i ∈ ((View.whole main_v5).slice (win1_3.rect t)).set
  rw [View.set_slice_whole, Rect.mem_set_unit]
  have e := (index1 t).2.2.2
  have s := (size1 t)
  have hi0 : (i 0).val < 8192 := (i 0).isLt
  have hi1 : (i 1).val < 1024 := (i 1).isLt
  intro a
  match a with
  | ⟨0, _⟩ =>
    show win1_3.index t 0 * 512 ≤ (i 0 : Nat) ∧ (i 0 : Nat) < win1_3.index t 0 * 512 + win1_3.xsize (grid1.coords t) 0
    rw [e.1, s.1]; omega
  | ⟨1, _⟩ =>
    show win1_3.index t 1 * 1024 ≤ (i 1 : Nat) ∧ (i 1 : Nat) < win1_3.index t 1 * 1024 + win1_3.xsize (grid1.coords t) 1
    rw [e.2, s.2]; omega

/-- The second product and the residual. -/
theorem region1_out {f g x : ℕ → ℕ → EReal} (h0 : V c main_v4_1 = plane (m := 8192) (n := 4096) f) (h1 : V c main_v2 = plane (m := 4096) (n := 1024) g) (h2 : V c main_arg1 = plane (m := 8192) (n := 1024) x) :
    (dat1 V c).arrAt 3 cfg1.N = plane (m := 8192) (n := 1024) (fun r c => nn 4096 f g r c + x r c) := by
  refine (dat1 V c).arrAt_eq_of_cover 3 _ (fun t hf => ?_) fun i => ?_
  · have ht : t.val < 16 := t.isLt
    show (cfg1.win 3).cut (grid1.coords t) ((dat1 V c).after 3 t) = _
    rw [after1_3]
    have hb : Part (m := 512) (n := 1024) (out1_3 (iblk1 V c 0 t) (iblk1 V c 1 t) (iblk1 V c 2 t)) (fun r c => nn 4096 f g r c + x r c) (512 * (t.val)) 0 := by
      intro r d
      frame_out
      refine (pay1_1_apply _ _ _ r d).trans ?_
      rw [nn_at (block1_0 V c h0 t) (block1_1 V c h1 t) r d]
      exact congrArg _ (block1_2 V c h2 t r d)
    funext y
    obtain ⟨r, d, rfl⟩ : ∃ (r : Fin 512) (d : Fin 1024), y = ix2 r d := ⟨y 0, y 1, eq_ix2 y⟩
    refine (hb r d).trans (Eq.trans ?_ (read1_3 t _ (ix2 r d)).symm)
    refine (plane_at (fun r c => nn 4096 f g r c + x r c) _ _ _ ?_ ?_).symm
    · show win1_3.index t 0 * 512 + 1 * r.val = _; rw [(index1 t).2.2.2.1]; omega
    · show win1_3.index t 1 * 1024 + 1 * d.val = _; rw [(index1 t).2.2.2.2]; omega
  · have hi0 : (i 0).val < 8192 := (i 0).isLt
    have hi1 : (i 1).val < 1024 := (i 1).isLt
    refine ⟨⟨(i 0).val / 512, ?_⟩, flush1_3 _, mem_block1_3 _ i ?_⟩
    · show _ < 16; omega
    · show (i 0).val / 512 = ((i 0).val / 512); omega

end Cert.Kernel2Ideal.Mlp

end
-- ==== Proof.MlpBackward.lean ====
/-
  The gradients of the perceptron's activation and of its input: two products by a transposed weight.
-/
module

public import proofs.«01_k».proof.Proof.Gen.Kernel2Ideal.Frame
public import proofs.«01_k».proof.Proof.MlpPay
public import Idealize.ShloMosaic.Lib.Pipeline.ValueKit.Acc

@[expose] public section

set_option maxRecDepth 16384

noncomputable section

open Idealize.ShloMosaic Idealize.ShloMosaic.TcCoe Idealize.SL.Sem Finset

namespace Cert.Kernel2Ideal.Mlp

open Cert.Kernel2Ideal Cert.Kernel2Ideal.Gen Cert.Mlp

variable (V : (c : Dev nD) → (b : Ref sig .tc) → Buf (Elt Ideal) ((c : Thread nD τ).loc b)) (c : Dev nD)

/-! ## Call 2 -/

theorem index2 : ∀ t : Fin grid2.N,
    (win2_0.index t 0 = t.val % 8 ∧ win2_0.index t 1 = 0)
    ∧ (win2_1.index t 0 = t.val / 8 ∧ win2_1.index t 1 = 0)
    ∧ (win2_2.index t 0 = t.val % 8 ∧ win2_2.index t 1 = t.val / 8)
    ∧ (win2_3.index t 0 = t.val % 8 ∧ win2_3.index t 1 = t.val / 8) := by
  decide +kernel

theorem size2 : ∀ t : Fin grid2.N,
    (win2_3.xsize (grid2.coords t) 0 = 1024 ∧ win2_3.xsize (grid2.coords t) 1 = 2048) := by
  decide +kernel

theorem block2_0 {f : ℕ → ℕ → EReal} (hV : V c main_v3 = plane (m := 8192) (n := 1024) f) (t : Fin cfg2.N) :
    Part (m := 1024) (n := 1024) (iblk2 V c 0 t) f (1024 * (t.val % 8)) 0 := by
  intro r d
  unfold iblk2
  rw [View.read_apply]
  show V c main_v3 _ = _
  rw [hV]
  refine plane_at f _ _ _ ?_ ?_
  · show win2_0.index t 0 * 1024 + 1 * r.val = _; rw [(index2 t).1.1]; omega
  · show win2_0.index t 1 * 1024 + 1 * d.val = _; rw [(index2 t).1.2]; omega

theorem block2_1 {f : ℕ → ℕ → EReal} (hV : V c main_v2 = plane (m := 4096) (n := 1024) f) (t : Fin cfg2.N) :
    Part (m := 2048) (n := 1024) (iblk2 V c 1 t) f (2048 * (t.val / 8)) 0 := by
  intro r d
  unfold iblk2
  rw [View.read_apply]
  show V c main_v2 _ = _
  rw [hV]
  refine plane_at f _ _ _ ?_ ?_
  · show win2_1.index t 0 * 2048 + 1 * r.val = _; rw [(index2 t).2.1.1]; omega
  · show win2_1.index t 1 * 1024 + 1 * d.val = _; rw [(index2 t).2.1.2]; omega

theorem block2_2 {f : ℕ → ℕ → EReal} (hV : V c main_v4_0 = plane (m := 8192) (n := 4096) f) (t : Fin cfg2.N) :
    Part (m := 1024) (n := 2048) (iblk2 V c 2 t) f (1024 * (t.val % 8)) (2048 * (t.val / 8)) := by
  intro r d
  unfold iblk2
  rw [View.read_apply]
  show V c main_v4_0 _ = _
  rw [hV]
  refine plane_at f _ _ _ ?_ ?_
  · show win2_2.index t 0 * 1024 + 1 * r.val = _; rw [(index2 t).2.2.1.1]; omega
  · show win2_2.index t 1 * 2048 + 1 * d.val = _; rw [(index2 t).2.2.1.2]; omega

theorem read2_3 (t : Fin cfg2.N) (G : S8192x4096.Idx → EReal) (x : S1024x2048.Idx) :
    View.read (Elt Ideal) ((View.whole main_v6).slice (win2_3.rect t)) G x = G (((View.whole main_v6).slice (win2_3.rect t)).emb x) :=
  View.read_apply _ _

theorem mem_block2_3 (t : Fin cfg2.N) (i : S8192x4096.Idx) (h0 : (i 0).val / 1024 = t.val % 8) (h1 : (i 1).val / 2048 = t.val / 8):
    i ∈ ((cfg2.win 3).blk t).view.set := by
  show i ∈ ((View.whole main_v6).slice (win2_3.rect t)).set
  rw [View.set_slice_whole, Rect.mem_set_unit]
  have e := (index2 t).2.2.2
  have s := (size2 t)
  have hi0 : (i 0).val < 8192 := (i 0).isLt
  have hi1 : (i 1).val < 4096 := (i 1).isLt
  intro a
  match a with
  | ⟨0, _⟩ =>
    show win2_3.index t 0 * 1024 ≤ (i 0 : Nat) ∧ (i 0 : Nat) < win2_3.index t 0 * 1024 + win2_3.xsize (grid2.coords t) 0
    rw [e.1, s.1]; omega
  | ⟨1, _⟩ =>
    show win2_3.index t 1 * 2048 ≤ (i 1 : Nat) ∧ (i 1 : Nat) < win2_3.index t 1 * 2048 + win2_3.xsize (grid2.coords t) 1
    rw [e.2, s.2]; omega

/-- The gradient of the first product, from the cotangent `f`, the second weight `g` and the first product `a`. -/
theorem region2_out {f g a : ℕ → ℕ → EReal} (h0 : V c main_v3 = plane (m := 8192) (n := 1024) f) (h1 : V c main_v2 = plane (m := 4096) (n := 1024) g) (h2 : V c main_v4_0 = plane (m := 8192) (n := 4096) a) :
    (dat2 V c).arrAt 3 cfg2.N = plane (m := 8192) (n := 4096) (dact (nt 1024 f g) a) := by
  refine (dat2 V c).arrAt_eq_of_cover 3 _ (fun t hf => ?_) fun i => ?_
  · have ht : t.val < 16 := t.isLt
    show (cfg2.win 3).cut (grid2.coords t) ((dat2 V c).after 3 t) = _
    rw [after2_3]
    have hb : Part (m := 1024) (n := 2048) (out2_3 (iblk2 V c 0 t) (iblk2 V c 1 t) (iblk2 V c 2 t)) (dact (nt 1024 f g) a) (1024 * (t.val % 8)) (2048 * (t.val / 8)) := by
      intro r d
      frame_out
      refine (pay2_1_apply _ _ _ r d).trans ?_
      rw [nt_at (block2_0 V c h0 t) (block2_1 V c h1 t) r d, dact]
      exact congrArg (fun z => _ * (2 * max z 0)) (block2_2 V c h2 t r d)
    funext x
    obtain ⟨r, d, rfl⟩ : ∃ (r : Fin 1024) (d : Fin 2048), x = ix2 r d := ⟨x 0, x 1, eq_ix2 x⟩
    refine (hb r d).trans (Eq.trans ?_ (read2_3 t _ (ix2 r d)).symm)
    refine (plane_at (dact (nt 1024 f g) a) _ _ _ ?_ ?_).symm
    · show win2_3.index t 0 * 1024 + 1 * r.val = _; rw [(index2 t).2.2.2.1]; omega
    · show win2_3.index t 1 * 2048 + 1 * d.val = _; rw [(index2 t).2.2.2.2]; omega
  · have hi0 : (i 0).val < 8192 := (i 0).isLt
    have hi1 : (i 1).val < 4096 := (i 1).isLt
    refine ⟨⟨(i 1).val / 2048 * 8 + (i 0).val / 1024, ?_⟩, flush2_3 _, mem_block2_3 _ i ?_ ?_⟩
    · show _ < 16; omega
    · show (i 0).val / 1024 = ((i 1).val / 2048 * 8 + (i 0).val / 1024) % 8; omega
    · show (i 1).val / 2048 = ((i 1).val / 2048 * 8 + (i 0).val / 1024) / 8; omega

/-! ## Call 4 -/

theorem index4 : ∀ t : Fin grid4.N,
    (win4_0.index t 0 = t.val ∧ win4_0.index t 1 = 0)
    ∧ (win4_1.index t 0 = 0 ∧ win4_1.index t 1 = 0)
    ∧ (win4_2.index t 0 = t.val ∧ win4_2.index t 1 = 0) := by
  decide +kernel

theorem size4 : ∀ t : Fin grid4.N,
    (win4_2.xsize (grid4.coords t) 0 = 512 ∧ win4_2.xsize (grid4.coords t) 1 = 1024) := by
  decide +kernel

theorem block4_0 {f : ℕ → ℕ → EReal} (hV : V c main_v6 = plane (m := 8192) (n := 4096) f) (t : Fin cfg4.N) :
    Part (m := 512) (n := 4096) (iblk4 V c 0 t) f (512 * (t.val)) 0 := by
  intro r d
  unfold iblk4
  rw [View.read_apply]
  show V c main_v6 _ = _
  rw [hV]
  refine plane_at f _ _ _ ?_ ?_
  · show win4_0.index t 0 * 512 + 1 * r.val = _; rw [(index4 t).1.1]; omega
  · show win4_0.index t 1 * 4096 + 1 * d.val = _; rw [(index4 t).1.2]; omega

theorem block4_1 {f : ℕ → ℕ → EReal} (hV : V c main_v1 = plane (m := 1024) (n := 4096) f) (t : Fin cfg4.N) :
    Part (m := 1024) (n := 4096) (iblk4 V c 1 t) f 0 0 := by
  intro r d
  unfold iblk4
  rw [View.read_apply]
  show V c main_v1 _ = _
  rw [hV]
  refine plane_at f _ _ _ ?_ ?_
  · show win4_1.index t 0 * 1024 + 1 * r.val = _; rw [(index4 t).2.1.1]; omega
  · show win4_1.index t 1 * 4096 + 1 * d.val = _; rw [(index4 t).2.1.2]; omega

theorem read4_2 (t : Fin cfg4.N) (G : S8192x1024.Idx → EReal) (x : S512x1024.Idx) :
    View.read (Elt Ideal) ((View.whole main_v8).slice (win4_2.rect t)) G x = G (((View.whole main_v8).slice (win4_2.rect t)).emb x) :=
  View.read_apply _ _

theorem mem_block4_2 (t : Fin cfg4.N) (i : S8192x1024.Idx) (h0 : (i 0).val / 512 = t.val) :
    i ∈ ((cfg4.win 2).blk t).view.set := by
  show i ∈ ((View.whole main_v8).slice (win4_2.rect t)).set
  rw [View.set_slice_whole, Rect.mem_set_unit]
  have e := (index4 t).2.2
  have s := (size4 t)
  have hi0 : (i 0).val < 8192 := (i 0).isLt
  have hi1 : (i 1).val < 1024 := (i 1).isLt
  intro a
  match a with
  | ⟨0, _⟩ =>
    show win4_2.index t 0 * 512 ≤ (i 0 : Nat) ∧ (i 0 : Nat) < win4_2.index t 0 * 512 + win4_2.xsize (grid4.coords t) 0
    rw [e.1, s.1]; omega
  | ⟨1, _⟩ =>
    show win4_2.index t 1 * 1024 ≤ (i 1 : Nat) ∧ (i 1 : Nat) < win4_2.index t 1 * 1024 + win4_2.xsize (grid4.coords t) 1
    rw [e.2, s.2]; omega

/-- The gradient of the input. -/
theorem region4_out {f g : ℕ → ℕ → EReal} (h0 : V c main_v6 = plane (m := 8192) (n := 4096) f) (h1 : V c main_v1 = plane (m := 1024) (n := 4096) g) :
    (dat4 V c).arrAt 2 cfg4.N = plane (m := 8192) (n := 1024) (nt 4096 f g) := by
  refine (dat4 V c).arrAt_eq_of_cover 2 _ (fun t hf => ?_) fun i => ?_
  · have ht : t.val < 16 := t.isLt
    show (cfg4.win 2).cut (grid4.coords t) ((dat4 V c).after 2 t) = _
    rw [after4_2]
    have hb : Part (m := 512) (n := 1024) (out4_2 (iblk4 V c 0 t) (iblk4 V c 1 t)) (nt 4096 f g) (512 * (t.val)) 0 := by
      intro r d
      frame_out
      exact (pay4_1_apply _ _ r d).trans (nt_at (block4_0 V c h0 t) (block4_1 V c h1 t) r d)
    funext x
    obtain ⟨r, d, rfl⟩ : ∃ (r : Fin 512) (d : Fin 1024), x = ix2 r d := ⟨x 0, x 1, eq_ix2 x⟩
    refine (hb r d).trans (Eq.trans ?_ (read4_2 t _ (ix2 r d)).symm)
    refine (plane_at (nt 4096 f g) _ _ _ ?_ ?_).symm
    · show win4_2.index t 0 * 512 + 1 * r.val = _; rw [(index4 t).2.2.1]; omega
    · show win4_2.index t 1 * 1024 + 1 * d.val = _; rw [(index4 t).2.2.2]; omega
  · have hi0 : (i 0).val < 8192 := (i 0).isLt
    have hi1 : (i 1).val < 1024 := (i 1).isLt
    refine ⟨⟨(i 0).val / 512, ?_⟩, flush4_2 _, mem_block4_2 _ i ?_⟩
    · show _ < 16; omega
    · show (i 0).val / 512 = ((i 0).val / 512); omega

end Cert.Kernel2Ideal.Mlp

end
-- ==== Proof.MlpWeights.lean ====
/-
  The gradients of the two weights: a product over all rows, accumulated over eight blocks of them.
-/
module

public import proofs.«01_k».proof.Proof.Gen.Kernel2Ideal.Frame
public import proofs.«01_k».proof.Proof.MlpPay
public import Idealize.ShloMosaic.Lib.Pipeline.ValueKit.Acc

@[expose] public section

set_option maxRecDepth 16384

noncomputable section

open Idealize.ShloMosaic Idealize.ShloMosaic.TcCoe Idealize.SL.Sem Finset

namespace Cert.Kernel2Ideal.Mlp

open Cert.Kernel2Ideal Cert.Kernel2Ideal.Gen Cert.Mlp

variable (V : (c : Dev nD) → (b : Ref sig .tc) → Buf (Elt Ideal) ((c : Thread nD τ).loc b)) (c : Dev nD)

/-! ## Call 3 -/

theorem index3 : ∀ t : Fin grid3.N,
    (win3_0.index t 0 = t.val % 8 ∧ win3_0.index t 1 = t.val / 8)
    ∧ (win3_1.index t 0 = t.val % 8 ∧ win3_1.index t 1 = 0)
    ∧ (win3_2.index t 0 = t.val / 8 ∧ win3_2.index t 1 = 0) := by
  decide +kernel

theorem size3 : ∀ t : Fin grid3.N,
    (win3_2.xsize (grid3.coords t) 0 = 1024 ∧ win3_2.xsize (grid3.coords t) 1 = 1024) := by
  decide +kernel

theorem block3_0 {f : ℕ → ℕ → EReal} (hV : V c main_v4_1 = plane (m := 8192) (n := 4096) f) (t : Fin cfg3.N) :
    Part (m := 1024) (n := 1024) (iblk3 V c 0 t) f (1024 * (t.val % 8)) (1024 * (t.val / 8)) := by
  intro r d
  unfold iblk3
  rw [View.read_apply]
  show V c main_v4_1 _ = _
  rw [hV]
  refine plane_at f _ _ _ ?_ ?_
  · show win3_0.index t 0 * 1024 + 1 * r.val = _; rw [(index3 t).1.1]; omega
  · show win3_0.index t 1 * 1024 + 1 * d.val = _; rw [(index3 t).1.2]; omega

theorem block3_1 {f : ℕ → ℕ → EReal} (hV : V c main_v3 = plane (m := 8192) (n := 1024) f) (t : Fin cfg3.N) :
    Part (m := 1024) (n := 1024) (iblk3 V c 1 t) f (1024 * (t.val % 8)) 0 := by
  intro r d
  unfold iblk3
  rw [View.read_apply]
  show V c main_v3 _ = _
  rw [hV]
  refine plane_at f _ _ _ ?_ ?_
  · show win3_1.index t 0 * 1024 + 1 * r.val = _; rw [(index3 t).2.1.1]; omega
  · show win3_1.index t 1 * 1024 + 1 * d.val = _; rw [(index3 t).2.1.2]; omega

theorem read3_2 (t : Fin cfg3.N) (G : S4096x1024.Idx → EReal) (x : S1024x1024.Idx) :
    View.read (Elt Ideal) ((View.whole main_v7).slice (win3_2.rect t)) G x = G (((View.whole main_v7).slice (win3_2.rect t)).emb x) :=
  View.read_apply _ _

theorem mem_block3_2 (t : Fin cfg3.N) (i : S4096x1024.Idx) (h0 : (i 0).val / 1024 = t.val / 8) :
    i ∈ ((cfg3.win 2).blk t).view.set := by
  show i ∈ ((View.whole main_v7).slice (win3_2.rect t)).set
  rw [View.set_slice_whole, Rect.mem_set_unit]
  have e := (index3 t).2.2
  have s := (size3 t)
  have hi0 : (i 0).val < 4096 := (i 0).isLt
  have hi1 : (i 1).val < 1024 := (i 1).isLt
  intro a
  match a with
  | ⟨0, _⟩ =>
    show win3_2.index t 0 * 1024 ≤ (i 0 : Nat) ∧ (i 0 : Nat) < win3_2.index t 0 * 1024 + win3_2.xsize (grid3.coords t) 0
    rw [e.1, s.1]; omega
  | ⟨1, _⟩ =>
    show win3_2.index t 1 * 1024 ≤ (i 1 : Nat) ∧ (i 1 : Nat) < win3_2.index t 1 * 1024 + win3_2.xsize (grid3.coords t) 1
    rw [e.2, s.2]; omega

theorem left3 {f g : ℕ → ℕ → EReal} (h0 : V c main_v4_1 = plane (m := 8192) (n := 4096) f) (h1 : V c main_v3 = plane (m := 8192) (n := 1024) g) :
    ∀ (n : ℕ) (hn : n < cfg3.N), Part (m := 1024) (n := 1024) (outsAt3 V c n hn) (tn (1024 * (n % 8) + 1024) f g) (1024 * (n / 8)) (0) := by
  intro n
  induction n with
  | zero =>
    intro hn r d
    rw [outsAt3_A V c ⟨0, hn⟩ rfl]
    frame_out
    refine (pay3_2_apply _ _ _ r d).trans ?_
    rw [pay3_1_apply, ← tn_zero f g ((1024 * (0 / 8)) + r.val) ((0) + d.val)]
    exact tn_at (block3_0 V c h0 ⟨0, hn⟩) (block3_1 V c h1 ⟨0, hn⟩) r d
  | succ n ih =>
    intro hn r d
    have hp : n < cfg3.N := by omega
    by_cases hz : (n + 1) % 8 = 0
    · rw [outsAt3_A V c ⟨n + 1, hn⟩ hz]
      frame_out
      refine (pay3_2_apply _ _ _ r d).trans ?_
      have b0 := block3_0 V c h0 ⟨n + 1, hn⟩
      have b1 := block3_1 V c h1 ⟨n + 1, hn⟩
      dsimp only at b0 b1
      rw [hz, Nat.mul_zero] at b0 b1 ⊢
      rw [pay3_1_apply, ← tn_zero f g ((1024 * ((n + 1) / 8)) + r.val) ((0) + d.val)]
      exact tn_at b0 b1 r d
    · rw [outsAt3_B V c ⟨n + 1, hn⟩ hz]
      frame_out
      refine (pay3_2_apply _ _ _ r d).trans ?_
      have e := ih hp r d
      rw [show 1024 * (n % 8) + 1024 = 1024 * ((n + 1) % 8) by omega, show n / 8 = (n + 1) / 8 by omega] at e
      refine (congrArg (· + _) e).trans ?_
      exact tn_at (block3_0 V c h0 ⟨n + 1, hn⟩) (block3_1 V c h1 ⟨n + 1, hn⟩) r d

/-- The weight's gradient. -/
theorem region3_out {f g : ℕ → ℕ → EReal} (h0 : V c main_v4_1 = plane (m := 8192) (n := 4096) f) (h1 : V c main_v3 = plane (m := 8192) (n := 1024) g) :
    (dat3 V c).arrAt 2 cfg3.N = plane (m := 4096) (n := 1024) (tn 8192 f g) := by
  refine (dat3 V c).arrAt_eq_of_cover 2 _ (fun t hf => ?_) fun i => ?_
  · have ht : t.val < 32 := t.isLt
    show (cfg3.win 2).cut (grid3.coords t) ((dat3 V c).after 2 t) = _
    rw [after3_2]
    have hb := left3 V c h0 h1 t.val t.isLt
    rw [(flush3_2 t).mp hf, show 1024 * 7 + 1024 = 8192 from rfl] at hb
    funext x
    obtain ⟨r, d, rfl⟩ : ∃ (r : Fin 1024) (d : Fin 1024), x = ix2 r d := ⟨x 0, x 1, eq_ix2 x⟩
    refine (hb r d).trans (Eq.trans ?_ (read3_2 t _ (ix2 r d)).symm)
    refine (plane_at (tn 8192 f g) _ _ _ ?_ ?_).symm
    · show win3_2.index t 0 * 1024 + 1 * r.val = _; rw [(index3 t).2.2.1]; omega
    · show win3_2.index t 1 * 1024 + 1 * d.val = _; rw [(index3 t).2.2.2]; omega
  · have hi0 : (i 0).val < 4096 := (i 0).isLt
    have hi1 : (i 1).val < 1024 := (i 1).isLt
    refine ⟨⟨(i 0).val / 1024 * 8 + 7, ?_⟩, (flush3_2 _).mpr ?_, mem_block3_2 _ i ?_⟩
    · show _ < 32; omega
    · show ((i 0).val / 1024 * 8 + 7) % 8 = 7; omega
    · show (i 0).val / 1024 = ((i 0).val / 1024 * 8 + 7) / 8; omega

/-! ## Call 5 -/

theorem index5 : ∀ t : Fin grid5.N,
    (win5_0.index t 0 = t.val % 8 ∧ win5_0.index t 1 = 0)
    ∧ (win5_1.index t 0 = t.val % 8 ∧ win5_1.index t 1 = t.val / 8)
    ∧ (win5_2.index t 0 = 0 ∧ win5_2.index t 1 = t.val / 8) := by
  decide +kernel

theorem size5 : ∀ t : Fin grid5.N,
    (win5_2.xsize (grid5.coords t) 0 = 1024 ∧ win5_2.xsize (grid5.coords t) 1 = 2048) := by
  decide +kernel

theorem block5_0 {f : ℕ → ℕ → EReal} (hV : V c main_v0 = plane (m := 8192) (n := 1024) f) (t : Fin cfg5.N) :
    Part (m := 1024) (n := 1024) (iblk5 V c 0 t) f (1024 * (t.val % 8)) 0 := by
  intro r d
  unfold iblk5
  rw [View.read_apply]
  show V c main_v0 _ = _
  rw [hV]
  refine plane_at f _ _ _ ?_ ?_
  · show win5_0.index t 0 * 1024 + 1 * r.val = _; rw [(index5 t).1.1]; omega
  · show win5_0.index t 1 * 1024 + 1 * d.val = _; rw [(index5 t).1.2]; omega

theorem block5_1 {f : ℕ → ℕ → EReal} (hV : V c main_v6 = plane (m := 8192) (n := 4096) f) (t : Fin cfg5.N) :
    Part (m := 1024) (n := 2048) (iblk5 V c 1 t) f (1024 * (t.val % 8)) (2048 * (t.val / 8)) := by
  intro r d
  unfold iblk5
  rw [View.read_apply]
  show V c main_v6 _ = _
  rw [hV]
  refine plane_at f _ _ _ ?_ ?_
  · show win5_1.index t 0 * 1024 + 1 * r.val = _; rw [(index5 t).2.1.1]; omega
  · show win5_1.index t 1 * 2048 + 1 * d.val = _; rw [(index5 t).2.1.2]; omega

theorem read5_2 (t : Fin cfg5.N) (G : S1024x4096.Idx → EReal) (x : S1024x2048.Idx) :
    View.read (Elt Ideal) ((View.whole main_v9).slice (win5_2.rect t)) G x = G (((View.whole main_v9).slice (win5_2.rect t)).emb x) :=
  View.read_apply _ _

theorem mem_block5_2 (t : Fin cfg5.N) (i : S1024x4096.Idx) (h1 : (i 1).val / 2048 = t.val / 8):
    i ∈ ((cfg5.win 2).blk t).view.set := by
  show i ∈ ((View.whole main_v9).slice (win5_2.rect t)).set
  rw [View.set_slice_whole, Rect.mem_set_unit]
  have e := (index5 t).2.2
  have s := (size5 t)
  have hi0 : (i 0).val < 1024 := (i 0).isLt
  have hi1 : (i 1).val < 4096 := (i 1).isLt
  intro a
  match a with
  | ⟨0, _⟩ =>
    show win5_2.index t 0 * 1024 ≤ (i 0 : Nat) ∧ (i 0 : Nat) < win5_2.index t 0 * 1024 + win5_2.xsize (grid5.coords t) 0
    rw [e.1, s.1]; omega
  | ⟨1, _⟩ =>
    show win5_2.index t 1 * 2048 ≤ (i 1 : Nat) ∧ (i 1 : Nat) < win5_2.index t 1 * 2048 + win5_2.xsize (grid5.coords t) 1
    rw [e.2, s.2]; omega

theorem left5 {f g : ℕ → ℕ → EReal} (h0 : V c main_v0 = plane (m := 8192) (n := 1024) f) (h1 : V c main_v6 = plane (m := 8192) (n := 4096) g) :
    ∀ (n : ℕ) (hn : n < cfg5.N), Part (m := 1024) (n := 2048) (outsAt5 V c n hn) (tn (1024 * (n % 8) + 1024) f g) (0) (2048 * (n / 8)) := by
  intro n
  induction n with
  | zero =>
    intro hn r d
    rw [outsAt5_A V c ⟨0, hn⟩ rfl]
    frame_out
    refine (pay5_2_apply _ _ _ r d).trans ?_
    rw [pay5_1_apply, ← tn_zero f g ((0) + r.val) ((2048 * (0 / 8)) + d.val)]
    exact tn_at (block5_0 V c h0 ⟨0, hn⟩) (block5_1 V c h1 ⟨0, hn⟩) r d
  | succ n ih =>
    intro hn r d
    have hp : n < cfg5.N := by omega
    by_cases hz : (n + 1) % 8 = 0
    · rw [outsAt5_A V c ⟨n + 1, hn⟩ hz]
      frame_out
      refine (pay5_2_apply _ _ _ r d).trans ?_
      have b0 := block5_0 V c h0 ⟨n + 1, hn⟩
      have b1 := block5_1 V c h1 ⟨n + 1, hn⟩
      dsimp only at b0 b1
      rw [hz, Nat.mul_zero] at b0 b1 ⊢
      rw [pay5_1_apply, ← tn_zero f g ((0) + r.val) ((2048 * ((n + 1) / 8)) + d.val)]
      exact tn_at b0 b1 r d
    · rw [outsAt5_B V c ⟨n + 1, hn⟩ hz]
      frame_out
      refine (pay5_2_apply _ _ _ r d).trans ?_
      have e := ih hp r d
      rw [show 1024 * (n % 8) + 1024 = 1024 * ((n + 1) % 8) by omega, show n / 8 = (n + 1) / 8 by omega] at e
      refine (congrArg (· + _) e).trans ?_
      exact tn_at (block5_0 V c h0 ⟨n + 1, hn⟩) (block5_1 V c h1 ⟨n + 1, hn⟩) r d

/-- The weight's gradient. -/
theorem region5_out {f g : ℕ → ℕ → EReal} (h0 : V c main_v0 = plane (m := 8192) (n := 1024) f) (h1 : V c main_v6 = plane (m := 8192) (n := 4096) g) :
    (dat5 V c).arrAt 2 cfg5.N = plane (m := 1024) (n := 4096) (tn 8192 f g) := by
  refine (dat5 V c).arrAt_eq_of_cover 2 _ (fun t hf => ?_) fun i => ?_
  · have ht : t.val < 16 := t.isLt
    show (cfg5.win 2).cut (grid5.coords t) ((dat5 V c).after 2 t) = _
    rw [after5_2]
    have hb := left5 V c h0 h1 t.val t.isLt
    rw [(flush5_2 t).mp hf, show 1024 * 7 + 1024 = 8192 from rfl] at hb
    funext x
    obtain ⟨r, d, rfl⟩ : ∃ (r : Fin 1024) (d : Fin 2048), x = ix2 r d := ⟨x 0, x 1, eq_ix2 x⟩
    refine (hb r d).trans (Eq.trans ?_ (read5_2 t _ (ix2 r d)).symm)
    refine (plane_at (tn 8192 f g) _ _ _ ?_ ?_).symm
    · show win5_2.index t 0 * 1024 + 1 * r.val = _; rw [(index5 t).2.2.1]; omega
    · show win5_2.index t 1 * 2048 + 1 * d.val = _; rw [(index5 t).2.2.2]; omega
  · have hi0 : (i 0).val < 1024 := (i 0).isLt
    have hi1 : (i 1).val < 4096 := (i 1).isLt
    refine ⟨⟨(i 1).val / 2048 * 8 + 7, ?_⟩, (flush5_2 _).mpr ?_, mem_block5_2 _ i ?_⟩
    · show _ < 16; omega
    · show ((i 1).val / 2048 * 8 + 7) % 8 = 7; omega
    · show (i 1).val / 2048 = ((i 1).val / 2048 * 8 + 7) / 8; omega

end Cert.Kernel2Ideal.Mlp

end
-- ==== Proof.MlpRun.lean ====
/-
  The run of the second program with everything it leaves: from any memory with zero counters every weakly fair execution
  terminates, each buffer of the TensorCore ends at the contents that the last segment leaves, and every counter at zero.
-/
module

public import proofs.«01_k».proof.Proof.Gen.Kernel2Ideal.Frame

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the six calls and the host code before them ends with each unscoped buffer at the contents `W7`. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

end Cert.Kernel2Ideal.Mlp
-- ==== Proof.MlpResults.lean ====
/-
  The second program's four results: what its host code hands to the six calls, what each call leaves, and where the next
  one finds it.
-/
module

public import proofs.«01_k».proof.Proof.MlpForward
public import proofs.«01_k».proof.Proof.MlpBackward
public import proofs.«01_k».proof.Proof.MlpWeights
public import proofs.«01_k».proof.Proof.MlpRun
public import Idealize.ShloMosaic.Lib.StableHlo.Run

@[expose] public section

set_option maxRecDepth 16384

noncomputable section

open Idealize.ShloMosaic Idealize.ShloMosaic.TcCoe Idealize.SL.Sem Idealize.ShloMosaic.StableHlo Finset

namespace Cert.Kernel2Ideal.Mlp

open Cert.Kernel2Ideal Cert.Kernel2Ideal.Gen Cert.Mlp

variable (m : (ℓ : Loc nD τ sig) → Buf (Elt Ideal) ℓ) (ρ : Dev nD → PrngReg) (c : Dev nD)

/-! ## The arguments' numbers -/

/-- The input. -/
abbrev h : ℕ → ℕ → EReal := entries (m := 8192) (n := 1024) (m ((c.tc : Thread nD τ).loc main_arg0))

/-- The residual. -/
abbrev res : ℕ → ℕ → EReal := entries (m := 8192) (n := 1024) (m ((c.tc : Thread nD τ).loc main_arg1))

/-- The first weight. -/
abbrev w1 : ℕ → ℕ → EReal := entries (m := 1024) (n := 4096) (m ((c.tc : Thread nD τ).loc main_arg2))

/-- The second weight. -/
abbrev w2 : ℕ → ℕ → EReal := entries (m := 4096) (n := 1024) (m ((c.tc : Thread nD τ).loc main_arg3))

/-- The cotangent. -/
abbrev ct : ℕ → ℕ → EReal := entries (m := 8192) (n := 1024) (m ((c.tc : Thread nD τ).loc main_arg4))

/-- The first product. -/
abbrev pre : ℕ → ℕ → EReal := nn 1024 (h m c) (w1 m c)

/-- Its gradient. -/
abbrev dpre : ℕ → ℕ → EReal := dact (nt 1024 (ct m c) (w2 m c)) (pre m c)

/-! ## What the calls are handed -/

theorem entry_v0 : V1 m ρ c main_v0 = plane (m := 8192) (n := 1024) (h m c) := by
  have e : V1 m ρ c main_v0 = m ((c.tc : Thread nD τ).loc main_arg0) := by
    show StableHlo.after hostOps0 _ (Proc.devRef .tc main_v0) = _
    after_results_simp <;> rfl
  rw [e]
  exact eq_plane (m := 8192) (n := 1024) _

theorem entry_v1 : V1 m ρ c main_v1 = plane (m := 1024) (n := 4096) (w1 m c) := by
  have e : V1 m ρ c main_v1 = m ((c.tc : Thread nD τ).loc main_arg2) := by
    show StableHlo.after hostOps0 _ (Proc.devRef .tc main_v1) = _
    after_results_simp <;> rfl
  rw [e]
  exact eq_plane (m := 1024) (n := 4096) _

theorem entry_v2 : V1 m ρ c main_v2 = plane (m := 4096) (n := 1024) (w2 m c) := by
  have e : V1 m ρ c main_v2 = m ((c.tc : Thread nD τ).loc main_arg3) := by
    show StableHlo.after hostOps0 _ (Proc.devRef .tc main_v2) = _
    after_results_simp <;> rfl
  rw [e]
  exact eq_plane (m := 4096) (n := 1024) _

theorem entry_v3 : V1 m ρ c main_v3 = plane (m := 8192) (n := 1024) (ct m c) := by
  have e : V1 m ρ c main_v3 = m ((c.tc : Thread nD τ).loc main_arg4) := by
    show StableHlo.after hostOps0 _ (Proc.devRef .tc main_v3) = _
    after_results_simp <;> rfl
  rw [e]
  exact eq_plane (m := 8192) (n := 1024) _

theorem entry_arg1 : V1 m ρ c main_arg1 = plane (m := 8192) (n := 1024) (res m c) :=
  (W1_args m ρ c main_arg1 (by decide)).trans (eq_plane (m := 8192) (n := 1024) _)

/-! ## From call to call -/

theorem at2_v0 : V2 m ρ c main_v0 = plane (m := 8192) (n := 1024) (h m c) :=
  (W2_of m ρ c main_v0 (by decide)).trans (entry_v0 m ρ c)

theorem at3_v0 : V3 m ρ c main_v0 = plane (m := 8192) (n := 1024) (h m c) :=
  (W3_of m ρ c main_v0 (by decide)).trans (at2_v0 m ρ c)

theorem at4_v0 : V4 m ρ c main_v0 = plane (m := 8192) (n := 1024) (h m c) :=
  (W4_of m ρ c main_v0 (by decide)).trans (at3_v0 m ρ c)

theorem at5_v0 : V5 m ρ c main_v0 = plane (m := 8192) (n := 1024) (h m c) :=
  (W5_of m ρ c main_v0 (by decide)).trans (at4_v0 m ρ c)

theorem at6_v0 : V6 m ρ c main_v0 = plane (m := 8192) (n := 1024) (h m c) :=
  (W6_of m ρ c main_v0 (by decide)).trans (at5_v0 m ρ c)

theorem at2_v1 : V2 m ρ c main_v1 = plane (m := 1024) (n := 4096) (w1 m c) :=
  (W2_of m ρ c main_v1 (by decide)).trans (entry_v1 m ρ c)

theorem at3_v1 : V3 m ρ c main_v1 = plane (m := 1024) (n := 4096) (w1 m c) :=
  (W3_of m ρ c main_v1 (by decide)).trans (at2_v1 m ρ c)

theorem at4_v1 : V4 m ρ c main_v1 = plane (m := 1024) (n := 4096) (w1 m c) :=
  (W4_of m ρ c main_v1 (by decide)).trans (at3_v1 m ρ c)

theorem at5_v1 : V5 m ρ c main_v1 = plane (m := 1024) (n := 4096) (w1 m c) :=
  (W5_of m ρ c main_v1 (by decide)).trans (at4_v1 m ρ c)

theorem at2_v2 : V2 m ρ c main_v2 = plane (m := 4096) (n := 1024) (w2 m c) :=
  (W2_of m ρ c main_v2 (by decide)).trans (entry_v2 m ρ c)

theorem at3_v2 : V3 m ρ c main_v2 = plane (m := 4096) (n := 1024) (w2 m c) :=
  (W3_of m ρ c main_v2 (by decide)).trans (at2_v2 m ρ c)

theorem at2_v3 : V2 m ρ c main_v3 = plane (m := 8192) (n := 1024) (ct m c) :=
  (W2_of m ρ c main_v3 (by decide)).trans (entry_v3 m ρ c)

theorem at3_v3 : V3 m ρ c main_v3 = plane (m := 8192) (n := 1024) (ct m c) :=
  (W3_of m ρ c main_v3 (by decide)).trans (at2_v3 m ρ c)

theorem at4_v3 : V4 m ρ c main_v3 = plane (m := 8192) (n := 1024) (ct m c) :=
  (W4_of m ρ c main_v3 (by decide)).trans (at3_v3 m ρ c)

theorem at2_arg1 : V2 m ρ c main_arg1 = plane (m := 8192) (n := 1024) (res m c) :=
  (W2_of m ρ c main_arg1 (by decide)).trans (entry_arg1 m ρ c)

theorem at2_v4_0 : V2 m ρ c main_v4_0 = plane (m := 8192) (n := 4096) (pre m c) :=
  (W2_arr m ρ c 2).trans (region0_pre (V1 m ρ) c (entry_v0 m ρ c) (entry_v1 m ρ c))

theorem at2_v4_1 : V2 m ρ c main_v4_1 = plane (m := 8192) (n := 4096) (act (pre m c)) :=
  (W2_arr m ρ c 3).trans (region0_act (V1 m ρ) c (entry_v0 m ρ c) (entry_v1 m ρ c))

theorem at3_v4_0 : V3 m ρ c main_v4_0 = plane (m := 8192) (n := 4096) (pre m c) :=
  (W3_of m ρ c main_v4_0 (by decide)).trans (at2_v4_0 m ρ c)

theorem at3_v4_1 : V3 m ρ c main_v4_1 = plane (m := 8192) (n := 4096) (act (pre m c)) :=
  (W3_of m ρ c main_v4_1 (by decide)).trans (at2_v4_1 m ρ c)

theorem at4_v4_1 : V4 m ρ c main_v4_1 = plane (m := 8192) (n := 4096) (act (pre m c)) :=
  (W4_of m ρ c main_v4_1 (by decide)).trans (at3_v4_1 m ρ c)

theorem at3_v5 : V3 m ρ c main_v5 = plane (m := 8192) (n := 1024) (fun i j => nn 4096 (act (pre m c)) (w2 m c) i j + res m c i j) :=
  (W3_arr m ρ c 3).trans (region1_out (V2 m ρ) c (at2_v4_1 m ρ c) (at2_v2 m ρ c) (at2_arg1 m ρ c))

theorem at4_v5 : V4 m ρ c main_v5 = plane (m := 8192) (n := 1024) (fun i j => nn 4096 (act (pre m c)) (w2 m c) i j + res m c i j) :=
  (W4_of m ρ c main_v5 (by decide)).trans (at3_v5 m ρ c)

theorem at5_v5 : V5 m ρ c main_v5 = plane (m := 8192) (n := 1024) (fun i j => nn 4096 (act (pre m c)) (w2 m c) i j + res m c i j) :=
  (W5_of m ρ c main_v5 (by decide)).trans (at4_v5 m ρ c)

theorem at6_v5 : V6 m ρ c main_v5 = plane (m := 8192) (n := 1024) (fun i j => nn 4096 (act (pre m c)) (w2 m c) i j + res m c i j) :=
  (W6_of m ρ c main_v5 (by decide)).trans (at5_v5 m ρ c)

theorem at7_v5 : V7 m ρ c main_v5 = plane (m := 8192) (n := 1024) (fun i j => nn 4096 (act (pre m c)) (w2 m c) i j + res m c i j) :=
  (W7_of m ρ c main_v5 (by decide)).trans (at6_v5 m ρ c)

theorem at4_v6 : V4 m ρ c main_v6 = plane (m := 8192) (n := 4096) (dpre m c) :=
  (W4_arr m ρ c 3).trans (region2_out (V3 m ρ) c (at3_v3 m ρ c) (at3_v2 m ρ c) (at3_v4_0 m ρ c))

theorem at5_v6 : V5 m ρ c main_v6 = plane (m := 8192) (n := 4096) (dpre m c) :=
  (W5_of m ρ c main_v6 (by decide)).trans (at4_v6 m ρ c)

theorem at6_v6 : V6 m ρ c main_v6 = plane (m := 8192) (n := 4096) (dpre m c) :=
  (W6_of m ρ c main_v6 (by decide)).trans (at5_v6 m ρ c)

theorem at5_v7 : V5 m ρ c main_v7 = plane (m := 4096) (n := 1024) (tn 8192 (act (pre m c)) (ct m c)) :=
  (W5_arr m ρ c 2).trans (region3_out (V4 m ρ) c (at4_v4_1 m ρ c) (at4_v3 m ρ c))

theorem at6_v7 : V6 m ρ c main_v7 = plane (m := 4096) (n := 1024) (tn 8192 (act (pre m c)) (ct m c)) :=
  (W6_of m ρ c main_v7 (by decide)).trans (at5_v7 m ρ c)

theorem at7_v7 : V7 m ρ c main_v7 = plane (m := 4096) (n := 1024) (tn 8192 (act (pre m c)) (ct m c)) :=
  (W7_of m ρ c main_v7 (by decide)).trans (at6_v7 m ρ c)

theorem at6_v8 : V6 m ρ c main_v8 = plane (m := 8192) (n := 1024) (nt 4096 (dpre m c) (w1 m c)) :=
  (W6_arr m ρ c 2).trans (region4_out (V5 m ρ) c (at5_v6 m ρ c) (at5_v1 m ρ c))

theorem at7_v8 : V7 m ρ c main_v8 = plane (m := 8192) (n := 1024) (nt 4096 (dpre m c) (w1 m c)) :=
  (W7_of m ρ c main_v8 (by decide)).trans (at6_v8 m ρ c)

theorem at7_v9 : V7 m ρ c main_v9 = plane (m := 1024) (n := 4096) (tn 8192 (h m c) (dpre m c)) :=
  (W7_arr m ρ c 2).trans (region5_out (V6 m ρ) c (at6_v0 m ρ c) (at6_v6 m ρ c))

end Cert.Kernel2Ideal.Mlp

end
-- ==== Proof.MlpRef.lean ====
/-
  The second reference's four results: the perceptron with its residual, and the gradients of its input and of its two
  weights.
-/
module

public import proofs.«01_k».proof.Proof.Gen.Reference2Ideal.Read
public import proofs.«01_k».proof.Proof.MlpSpec

@[expose] public section

set_option maxRecDepth 16384

noncomputable section

open Idealize.ShloMosaic Finset

namespace Cert.Reference2Ideal.Mlp

open Cert.Reference2Ideal Cert.Reference2Ideal.Gen Cert.Reference2Ideal.Read Cert.Mlp

/-- The comparison with zero chooses nothing that the factor has not made zero already. -/
theorem select_pos (a p : EReal) : Scalar.select (FloatOps.cmpf (F := Ideal) (φ := .f32) .ogt a 0) (p * (2 * max a 0)) 0 = p * (2 * max a 0) := by
  show (if Ideal.cmp .ogt a 0 = 1 then p * (2 * max a 0) else 0) = _
  by_cases h : 0 < a
  · rw [if_pos]
    simp [Ideal.cmp, h]
  · rw [if_neg, max_eq_right (not_lt.mp h), mul_zero, mul_zero]
    simp [Ideal.cmp, h]

variable (x0 x1 x4 : (⟨S8192x1024, .f32⟩ : BufTy).Contents (Elt Ideal)) (x2 : (⟨S1024x4096, .f32⟩ : BufTy).Contents (Elt Ideal))
  (x3 : (⟨S4096x1024, .f32⟩ : BufTy).Contents (Elt Ideal))

/-- The first product, from the input and the first weight. -/
abbrev pre : ℕ → ℕ → EReal := nn 1024 (entries (m := 8192) (n := 1024) x0) (entries (m := 1024) (n := 4096) x2)

/-- The gradient of the first product. -/
abbrev dpre : ℕ → ℕ → EReal :=
  dact (nt 1024 (entries (m := 8192) (n := 1024) x4) (entries (m := 4096) (n := 1024) x3)) (pre x0 x2)

theorem pre_at (i : S8192x4096.Idx) : val_main_v0 (F := Ideal) x0 x2 i = pre x0 x2 (i 0).val (i 1).val := by
  rw [val_main_v0_apply]
  unfold pre nn
  rw [← Fin.sum_univ_eq_sum_range (fun k => entries (m := 8192) (n := 1024) x0 (i 0).val k * entries (m := 1024) (n := 4096) x2 k (i 1).val)]
  exact sum_congr rfl fun k _ => congrArg₂ (· * ·) (entries_at x0 _ _ _ rfl rfl) (entries_at x2 _ _ _ rfl rfl)

theorem relu_at (i : S8192x4096.Idx) : val_main_v1 (F := Ideal) x0 x2 i = max (pre x0 x2 (i 0).val (i 1).val) 0 := by
  rw [val_main_v1_apply, val_main_call0_v0_apply, val_main_call0_cst_apply, pre_at]
  exact congrArg (max _) Ideal.ofBits_zero_f32

theorem act_at (i : S8192x4096.Idx) : val_main_v5 (F := Ideal) x0 x2 i = act (pre x0 x2) (i 0).val (i 1).val := by
  rw [val_main_v5_apply, relu_at]
  rfl

theorem cotangent_at (i : S8192x1024.Idx) (r c : ℕ) (h0 : (i 0).val = r) (h1 : (i 1).val = c) :
    val_main_v10 (F := Ideal) x4 i = entries (m := 8192) (n := 1024) x4 r c := by
  have hi : (i 1).val < 1024 := (i 1).isLt
  rw [val_main_v10_apply]
  refine entries_at x4 _ _ _ ?_ ?_
  · show ((i 0).val * 1024 + (i 1).val) / 1024 = r; omega
  · show ((i 0).val * 1024 + (i 1).val) % 1024 = c; omega

theorem dact_at (i : S8192x4096.Idx) : val_main_v16 (F := Ideal) x0 x2 x3 x4 i = dpre x0 x4 x2 x3 (i 0).val (i 1).val := by
  have e : val_main_v13 (F := Ideal) x3 x4 i
      = nt 1024 (entries (m := 8192) (n := 1024) x4) (entries (m := 4096) (n := 1024) x3) (i 0).val (i 1).val := by
    rw [val_main_v13_apply]
    unfold nt
    rw [← Fin.sum_univ_eq_sum_range (fun k => entries (m := 8192) (n := 1024) x4 (i 0).val k * entries (m := 4096) (n := 1024) x3 (i 1).val k)]
    exact sum_congr rfl fun k _ => congrArg₂ (· * ·) (cotangent_at x4 _ _ _ rfl rfl) (entries_at x3 _ _ _ rfl rfl)
  rw [val_main_v16_apply, val_main_v3_apply, val_main_v14_apply, val_main_v7_apply, val_main_v15_apply, val_main_v2_apply,
    val_main_v6_apply, val_main_cst_apply, val_main_cst_1_apply, val_main_cst_2_apply, relu_at, pre_at, e,
    show FloatOps.ofBits (F := Ideal) .f32 0x00000000#32 = (0 : EReal) from Ideal.ofBits_zero_f32,
    show FloatOps.ofBits (F := Ideal) .f32 0x40000000#32 = (2 : EReal) from ofBits_two]
  exact select_pos _ _

/-- The perceptron and the residual. -/
theorem out_plane : val_main_v9 (F := Ideal) x0 x1 x2 x3 = plane (m := 8192) (n := 1024) fun r c =>
    nn 4096 (act (pre x0 x2)) (entries (m := 4096) (n := 1024) x3) r c + entries (m := 8192) (n := 1024) x1 r c := by
  funext i
  rw [val_main_v9_apply, val_main_v8_apply]
  refine (add_comm (x1 i : EReal) _).trans (congrArg₂ (fun a b : EReal => a + b) ?_ (entries_at x1 i _ _ rfl rfl))
  unfold nn
  rw [← Fin.sum_univ_eq_sum_range (fun k => act (pre x0 x2) (i 0).val k * entries (m := 4096) (n := 1024) x3 k (i 1).val)]
  exact sum_congr rfl fun k _ => congrArg₂ (· * ·) (act_at x0 x2 _) (entries_at x3 _ _ _ rfl rfl)

/-- The input's gradient. -/
theorem dh_plane : val_main_v19 (F := Ideal) x0 x2 x3 x4
    = plane (m := 8192) (n := 1024) (nt 4096 (dpre x0 x4 x2 x3) (entries (m := 1024) (n := 4096) x2)) := by
  funext i
  rw [val_main_v19_apply]
  unfold plane nt
  rw [← Fin.sum_univ_eq_sum_range (fun k => dpre x0 x4 x2 x3 (i 0).val k * entries (m := 1024) (n := 4096) x2 (i 1).val k)]
  exact sum_congr rfl fun k _ => congrArg₂ (· * ·) (dact_at x0 x4 x2 x3 _) (entries_at x2 _ _ _ rfl rfl)

/-- The first weight's gradient. -/
theorem dw1_plane : val_main_v18 (F := Ideal) x0 x2 x3 x4
    = plane (m := 1024) (n := 4096) (tn 8192 (entries (m := 8192) (n := 1024) x0) (dpre x0 x4 x2 x3)) := by
  funext i
  rw [val_main_v18_apply, val_main_v17_apply]
  unfold plane tn
  rw [← Fin.sum_univ_eq_sum_range (fun k => entries (m := 8192) (n := 1024) x0 k (i 0).val * dpre x0 x4 x2 x3 k (i 1).val)]
  exact sum_congr rfl fun k _ => (mul_comm _ _).trans
    (congrArg₂ (· * ·) (entries_at x0 _ _ _ rfl rfl) (dact_at x0 x4 x2 x3 _))

/-- The second weight's gradient. -/
theorem dw2_plane : val_main_v12 (F := Ideal) x0 x2 x4
    = plane (m := 4096) (n := 1024) (tn 8192 (act (pre x0 x2)) (entries (m := 8192) (n := 1024) x4)) := by
  funext i
  rw [val_main_v12_apply, val_main_v11_apply]
  unfold plane tn
  rw [← Fin.sum_univ_eq_sum_range (fun k => act (pre x0 x2) k (i 0).val * entries (m := 8192) (n := 1024) x4 k (i 1).val)]
  exact sum_congr rfl fun k _ => (mul_comm _ _).trans
    (congrArg₂ (· * ·) (act_at x0 x2 _) (cotangent_at x4 _ _ _ rfl rfl))

end Cert.Reference2Ideal.Mlp

end
-- ==== Proof.InSpec.lean ====
/-
  Arrays as columns laid side by side: a slice of columns, blocks joined, zeros between them, and the in-projection's two
  layouts of its columns with the sums over both.
-/
module

public import proofs.«01_k».proof.Proof.MlpSpec
public import Idealize.ShloMosaic.Lib.KernelVsHost
public import Idealize.ShloMosaic.Lib.IdealHost

@[expose] public section

noncomputable section

open Idealize.ShloMosaic Finset

namespace Cert.Mlp

theorem plane_congr {m n : ℕ} {f g : ℕ → ℕ → EReal} (h : ∀ r < m, ∀ c < n, f r c = g r c) :
    plane (m := m) (n := n) f = plane g :=
  funext fun i => h _ (i 0).isLt _ (i 1).isLt

/-- The columns from `o` on. -/
theorem slice_plane {m n k o : ℕ} (f : ℕ → ℕ → EReal) (h : (⟨2, ![m, n]⟩ : Shape).Slices ![0, o] (⟨2, ![m, k]⟩ : Shape)) :
    extractStridedSlice (⟨2, ![m, k]⟩ : Shape) ![0, o] (plane (m := m) (n := n) f) h = plane fun r c => f r (o + c) := by
  have h1 : o + k ≤ n := h.2 1
  funext i
  have b0 : (i 0).val < m := (i 0).isLt
  have b1 : (i 1).val < k := (i 1).isLt
  rw [extractStridedSlice_apply _ _ h i (ix2 (⟨(i 0).val, b0⟩ : Fin m) (⟨o + (i 1).val, by omega⟩ : Fin n)) (by
    intro a
    match a with
    | ⟨0, _⟩ => show (i 0).val = 0 + (i 0).val; omega
    | ⟨1, _⟩ => rfl)]
  rfl

/-- Blocks of columns laid side by side, each with its width: column `c` of row `r`, zero past the last. -/
def beside : List (ℕ × (ℕ → ℕ → EReal)) → ℕ → ℕ → EReal
  | [], _, _ => 0
  | p :: ps, r, c => if c < p.1 then p.2 r c else beside ps r (c - p.1)

/-- The arrays `xs` of `m` rows hold the blocks of columns `ps`. -/
inductive Cols (m : ℕ) : List ((s : Shape) × (s.Idx → EReal)) → List (ℕ × (ℕ → ℕ → EReal)) → Prop
  | nil : Cols m [] []
  | cons {n : ℕ} {x : (⟨2, ![m, n]⟩ : Shape).Idx → EReal} {f : ℕ → ℕ → EReal} {xs : List ((s : Shape) × (s.Idx → EReal))}
      {ps : List (ℕ × (ℕ → ℕ → EReal))} (hx : x = plane f) (h : Cols m xs ps) : Cols m (⟨(⟨2, ![m, n]⟩ : Shape), x⟩ :: xs) ((n, f) :: ps)

theorem concatenateAt_cols {m N : ℕ} (j : (⟨2, ![m, N]⟩ : Shape).Idx) {xs : List ((s : Shape) × (s.Idx → EReal))}
    {ps : List (ℕ × (ℕ → ℕ → EReal))} (h : Cols m xs ps) : ∀ (hs : ∀ s ∈ xs.map (·.1), s.FitsOff (⟨2, ![m, N]⟩ : Shape) 1) (c : ℕ)
      (hc : c < (axisSizes (⟨2, ![m, N]⟩ : Shape) 1 xs).sum),
      concatenateAt (⟨2, ![m, N]⟩ : Shape) 1 j xs hs c hc = beside ps (j 0).val c := by
  induction h with
  | nil => intro hs c hc; exact absurd hc (Nat.not_lt_zero _)
  | @cons n x f xs ps hx h ih =>
    intro hs c hc
    subst hx
    cases h with
    | nil =>
      have hn : c < n := by
        rw [axisSizes_cons _ _ _ [] (hs _ List.mem_cons_self)] at hc
        simpa using hc
      unfold concatenateAt beside
      rw [if_pos hn]
      exact plane_at f _ _ _ rfl rfl
    | cons hy h =>
      unfold concatenateAt beside
      by_cases hn : c < n
      · rw [if_pos hn]
        refine (dif_pos (show c < _ from hn)).trans ?_
        exact plane_at f _ _ _ rfl rfl
      · rw [if_neg hn]
        refine (dif_neg (show ¬ c < _ from hn)).trans ?_
        exact ih _ _ _

/-- Arrays joined along their columns. -/
theorem concatenate_cols {m N : ℕ} {xs : List ((s : Shape) × (s.Idx → EReal))} {ps : List (ℕ × (ℕ → ℕ → EReal))}
    (h : Cols m xs ps) (hc : Shape.Concatenates (xs.map (·.1)) (⟨2, ![m, N]⟩ : Shape) 1) :
    concatenate (⟨2, ![m, N]⟩ : Shape) 1 xs hc = plane (beside ps) := by
  funext j
  rw [concatenate_apply]
  exact concatenateAt_cols j h _ _ _

/-- Columns between `lo` columns and `hi` columns of zeros. -/
theorem pad_cols {m n lo hi N : ℕ} (f : ℕ → ℕ → EReal) {u : Shape} (z : u.Idx → EReal) (hu : 0 < u.numel) (h0 : z (Shape.Idx.first hu) = 0)
    (hp : (⟨2, ![m, n]⟩ : Shape).Pads ![0, lo] ![0, hi] ![0, 0] (⟨2, ![m, N]⟩ : Shape)) :
    pad (⟨2, ![m, N]⟩ : Shape) ![0, lo] ![0, hi] ![0, 0] (plane (m := m) (n := n) f) z hp hu
      = plane (beside [(lo, fun _ _ => 0), (n, f)]) := by
  funext i
  have b0 : (i 0).val < m := (i 0).isLt
  have b1 : (i 1).val < N := (i 1).isLt
  unfold plane beside
  by_cases hl : (i 1).val < lo
  · rw [if_pos hl, pad_apply_of_not_inside _ _ _ _ z hp hu _ 1 (by
      intro h
      have h2 : lo ≤ (i 1).val := h.1
      omega), h0]
  · rw [if_neg hl]
    unfold beside
    dsimp only
    by_cases hn : (i 1).val - lo < n
    · rw [if_pos hn, pad_apply_of_inside _ _ _ _ z hp hu _ (ix2 (⟨(i 0).val, b0⟩ : Fin m) (⟨(i 1).val - lo, hn⟩ : Fin n)) (by
        intro a
        match a with
        | ⟨0, _⟩ => show (i 0).val = 0 + (i 0).val * (0 + 1); omega
        | ⟨1, _⟩ => show (i 1).val = lo + ((i 1).val - lo) * (0 + 1); omega)]
      rfl
    · rw [if_neg hn, pad_apply_of_not_inside _ _ _ _ z hp hu _ 1 (by
        intro h
        have h2 : ((i 1).val - lo) / (0 + 1) < n := h.2.2
        rw [Nat.zero_add, Nat.div_one] at h2
        exact hn h2), h0]
      rfl

/-! ## The two layouts of the in-projection's columns -/

/-- No columns but zeros. -/
abbrev zeros : ℕ → ℕ → EReal := fun _ _ => 0

/-- The parts in the order of the weight's columns: 512, 384, 256, 32 and 2048 of them. -/
abbrev packed (u q k p g : ℕ → ℕ → EReal) : ℕ → ℕ → EReal := beside [(512, u), (384, q), (256, k), (32, p), (2048, g)]

/-- The parts as the calls take them, each from a multiple of 128 on, zeros between them. -/
abbrev spaced (u q k p g : ℕ → ℕ → EReal) : ℕ → ℕ → EReal :=
  beside [(2048, g), (512, u), (256, k), (64, zeros), (32, p), (32, zeros), (128, zeros), (384, q), (128, zeros)]

/-- Where a column of the weight stands among the spaced ones. -/
def place (c : ℕ) : ℕ :=
  if c < 512 then 2048 + c else if c < 896 then 2560 + c else if c < 1152 then 1664 + c else if c < 1184 then 1728 + c else c - 1184

theorem place_lt {c : ℕ} (h : c < 3232) : place c < 3584 := by unfold place; split_ifs <;> omega

theorem place_inj : Set.InjOn place (range 3232 : Set ℕ) := by
  intro a ha b hb h
  have ha' : a < 3232 := mem_range.mp ha
  have hb' : b < 3232 := mem_range.mp hb
  unfold place at h
  split_ifs at h <;> omega

variable (u q k p g : ℕ → ℕ → EReal) (r : ℕ)

theorem beside_lt {n c : ℕ} {f : ℕ → ℕ → EReal} {ps : List (ℕ × (ℕ → ℕ → EReal))} (h : c < n) : beside ((n, f) :: ps) r c = f r c :=
  if_pos h

theorem beside_ge {n c : ℕ} {f : ℕ → ℕ → EReal} {ps : List (ℕ × (ℕ → ℕ → EReal))} (h : n ≤ c) :
    beside ((n, f) :: ps) r c = beside ps r (c - n) :=
  if_neg (not_lt.mpr h)

theorem packed_u {c : ℕ} (h : c < 512) : packed u q k p g r c = u r c := beside_lt r h

theorem packed_q {c : ℕ} (h : c < 384) : packed u q k p g r (512 + c) = q r c := by
  rw [packed, beside_ge r (by omega), beside_lt r (by omega)]
  exact congrArg _ (by omega)

theorem packed_k {c : ℕ} (h : c < 256) : packed u q k p g r (896 + c) = k r c := by
  rw [packed, beside_ge r (by omega), beside_ge r (by omega), beside_lt r (by omega)]
  exact congrArg _ (by omega)

theorem packed_p {c : ℕ} (h : c < 32) : packed u q k p g r (1152 + c) = p r c := by
  rw [packed, beside_ge r (by omega), beside_ge r (by omega), beside_ge r (by omega), beside_lt r (by omega)]
  exact congrArg _ (by omega)

theorem packed_g {c : ℕ} (h : c < 2048) : packed u q k p g r (1184 + c) = g r c := by
  rw [packed, beside_ge r (by omega), beside_ge r (by omega), beside_ge r (by omega), beside_ge r (by omega), beside_lt r (by omega)]
  exact congrArg _ (by omega)

theorem spaced_g {c : ℕ} (h : c < 2048) : spaced u q k p g r c = g r c := beside_lt r h

theorem spaced_u {c : ℕ} (h : c < 512) : spaced u q k p g r (2048 + c) = u r c := by
  rw [spaced, beside_ge r (by omega), beside_lt r (by omega)]
  exact congrArg _ (by omega)

theorem spaced_k {c : ℕ} (h : c < 256) : spaced u q k p g r (2560 + c) = k r c := by
  rw [spaced, beside_ge r (by omega), beside_ge r (by omega), beside_lt r (by omega)]
  exact congrArg _ (by omega)

theorem spaced_before {c : ℕ} (h : c < 64) : spaced u q k p g r (2816 + c) = 0 := by
  rw [spaced, beside_ge r (by omega), beside_ge r (by omega), beside_ge r (by omega), beside_lt r (by omega)]

theorem spaced_p {c : ℕ} (h : c < 32) : spaced u q k p g r (2880 + c) = p r c := by
  rw [spaced, beside_ge r (by omega), beside_ge r (by omega), beside_ge r (by omega), beside_ge r (by omega), beside_lt r (by omega)]
  exact congrArg _ (by omega)

theorem spaced_between {c : ℕ} (h : c < 160) : spaced u q k p g r (2912 + c) = 0 := by
  rw [spaced, beside_ge r (by omega), beside_ge r (by omega), beside_ge r (by omega), beside_ge r (by omega), beside_ge r (by omega)]
  by_cases hc : c < 32
  · rw [beside_lt r (by omega)]
  · rw [beside_ge r (by omega), beside_lt r (by omega)]

theorem spaced_q {c : ℕ} (h : c < 384) : spaced u q k p g r (3072 + c) = q r c := by
  rw [spaced, beside_ge r (by omega), beside_ge r (by omega), beside_ge r (by omega), beside_ge r (by omega), beside_ge r (by omega),
    beside_ge r (by omega), beside_ge r (by omega), beside_lt r (by omega)]
  exact congrArg _ (by omega)

theorem spaced_after {c : ℕ} (h : c < 128) : spaced u q k p g r (3456 + c) = 0 := by
  rw [spaced, beside_ge r (by omega), beside_ge r (by omega), beside_ge r (by omega), beside_ge r (by omega), beside_ge r (by omega),
    beside_ge r (by omega), beside_ge r (by omega), beside_ge r (by omega), beside_lt r (by omega)]

theorem place_u {c : ℕ} (h : c < 512) : place c = 2048 + c := if_pos h

theorem place_q {c : ℕ} (h : c < 384) : place (512 + c) = 3072 + c := by unfold place; split_ifs <;> omega

theorem place_k {c : ℕ} (h : c < 256) : place (896 + c) = 2560 + c := by unfold place; split_ifs <;> omega

theorem place_p {c : ℕ} (h : c < 32) : place (1152 + c) = 2880 + c := by unfold place; split_ifs <;> omega

theorem place_g (c : ℕ) : place (1184 + c) = c := by unfold place; split_ifs <;> omega

variable {u q k p g r} in
/-- What agrees with the five parts at their columns is the packed columns. -/
theorem eq_packed {F : ℕ → EReal} (hu : ∀ c < 512, F c = u r c) (hq : ∀ c < 384, F (512 + c) = q r c) (hk : ∀ c < 256, F (896 + c) = k r c)
    (hp : ∀ c < 32, F (1152 + c) = p r c) (hg : ∀ c < 2048, F (1184 + c) = g r c) {c : ℕ} (h : c < 3232) : F c = packed u q k p g r c := by
  rcases lt_or_ge c 512 with h0 | h0
  · rw [hu c h0, packed_u _ _ _ _ _ _ h0]
  obtain ⟨c, rfl⟩ := Nat.exists_eq_add_of_le h0
  rcases lt_or_ge c 384 with h1 | h1
  · rw [hq c h1, packed_q _ _ _ _ _ _ h1]
  obtain ⟨c, rfl⟩ := Nat.exists_eq_add_of_le h1
  rw [show 512 + (384 + c) = 896 + c by omega] at h ⊢
  rcases lt_or_ge c 256 with h2 | h2
  · rw [hk c h2, packed_k _ _ _ _ _ _ h2]
  obtain ⟨c, rfl⟩ := Nat.exists_eq_add_of_le h2
  rw [show 896 + (256 + c) = 1152 + c by omega] at h ⊢
  rcases lt_or_ge c 32 with h3 | h3
  · rw [hp c h3, packed_p _ _ _ _ _ _ h3]
  obtain ⟨c, rfl⟩ := Nat.exists_eq_add_of_le h3
  rw [show 1152 + (32 + c) = 1184 + c by omega] at h ⊢
  rw [hg c (by omega), packed_g _ _ _ _ _ _ (by omega)]

/-- The spaced columns hold every packed one at its place. -/
theorem spaced_place {c : ℕ} (h : c < 3232) : spaced u q k p g r (place c) = packed u q k p g r c :=
  eq_packed (F := fun c => spaced u q k p g r (place c))
    (fun c h => (congrArg _ (place_u h)).trans (spaced_u u q k p g r h)) (fun c h => (congrArg _ (place_q h)).trans (spaced_q u q k p g r h))
    (fun c h => (congrArg _ (place_k h)).trans (spaced_k u q k p g r h)) (fun c h => (congrArg _ (place_p h)).trans (spaced_p u q k p g r h))
    (fun c h => (congrArg _ (place_g c)).trans (spaced_g u q k p g r h)) h

/-- The parts of an array's columns, packed again. -/
theorem packed_parts (w : ℕ → ℕ → EReal) {c : ℕ} (h : c < 3232) :
    packed (fun r c => w r (0 + c)) (fun r c => w r (512 + c)) (fun r c => w r (896 + c)) (fun r c => w r (1152 + c)) (fun r c => w r (1184 + c)) r c
      = w r c := by
  refine (eq_packed (F := w r) ?_ ?_ ?_ ?_ ?_ h).symm
  · exact fun c _ => congrArg (w r) (Nat.zero_add c).symm
  all_goals exact fun _ _ => rfl

/-- The parts taken from their places, packed. -/
theorem packed_places (w : ℕ → ℕ → EReal) {c : ℕ} (h : c < 3232) :
    packed (fun r c => w r (2048 + c)) (fun r c => w r (3072 + c)) (fun r c => w r (2560 + c)) (fun r c => w r (2880 + c)) (fun r c => w r (0 + c)) r c
      = w r (place c) := by
  refine (eq_packed (F := fun c => w r (place c)) ?_ ?_ ?_ ?_ ?_ h).symm
  · exact fun c h => congrArg (w r) (place_u h)
  · exact fun c h => congrArg (w r) (place_q h)
  · exact fun c h => congrArg (w r) (place_k h)
  · exact fun c h => congrArg (w r) (place_p h)
  · exact fun c h => congrArg (w r) ((place_g c).trans (Nat.zero_add c).symm)

/-- The spaced columns with the part of 32 in the middle of a block of its own. -/
theorem spaced_padded :
    beside [(2048, g), (512, u), (256, k), (128, beside [(64, zeros), (32, p)]), (128, zeros), (384, q), (128, zeros)] = spaced u q k p g := by
  funext r c
  rw [spaced]
  rcases lt_or_ge c 2048 with h | h
  · rw [beside_lt r h, beside_lt r h]
  rw [beside_ge r h, beside_ge r h]
  generalize c - 2048 = c
  rcases lt_or_ge c 512 with h | h
  · rw [beside_lt r h, beside_lt r h]
  rw [beside_ge r h, beside_ge r h]
  generalize c - 512 = c
  rcases lt_or_ge c 256 with h | h
  · rw [beside_lt r h, beside_lt r h]
  rw [beside_ge r h, beside_ge r h]
  generalize c - 256 = c
  rcases lt_or_ge c 64 with h | h
  · rw [beside_lt r (show c < 128 by omega), beside_lt r h, beside_lt r h]
  rcases lt_or_ge (c - 64) 32 with h1 | h1
  · rw [beside_lt r (show c < 128 by omega), beside_ge r h, beside_lt r h1, beside_ge r h, beside_lt r h1]
  rcases lt_or_ge (c - 64 - 32) 32 with h2 | h2
  · rw [beside_lt r (show c < 128 by omega), beside_ge r h, beside_ge r h1, beside_ge r h, beside_ge r h1, beside_lt r h2]
    rfl
  · rw [beside_ge r (show 128 ≤ c by omega), beside_ge r h, beside_ge r h1, beside_ge r h2]
    rw [show c - 64 - 32 - 32 = c - 128 by omega]

/-- A spaced column that is no packed one's place holds zeros. -/
theorem spaced_gap {d : ℕ} (hd : d < 3584) (h : ∀ c < 3232, place c ≠ d) : spaced u q k p g r d = 0 := by
  rcases lt_or_ge d 2048 with h0 | h0
  · exact absurd (place_g d) (h _ (by omega))
  obtain ⟨c, rfl⟩ := Nat.exists_eq_add_of_le h0
  rcases lt_or_ge c 512 with h1 | h1
  · exact absurd (place_u h1) (h _ (by omega))
  obtain ⟨c, rfl⟩ := Nat.exists_eq_add_of_le h1
  rw [show 2048 + (512 + c) = 2560 + c by omega] at h ⊢
  rcases lt_or_ge c 256 with h2 | h2
  · exact absurd (place_k h2) (h _ (by omega))
  obtain ⟨c, rfl⟩ := Nat.exists_eq_add_of_le h2
  rw [show 2560 + (256 + c) = 2816 + c by omega] at h ⊢
  rcases lt_or_ge c 64 with h3 | h3
  · exact spaced_before _ _ _ _ _ _ h3
  obtain ⟨c, rfl⟩ := Nat.exists_eq_add_of_le h3
  rw [show 2816 + (64 + c) = 2880 + c by omega] at h ⊢
  rcases lt_or_ge c 32 with h4 | h4
  · exact absurd (place_p h4) (h _ (by omega))
  obtain ⟨c, rfl⟩ := Nat.exists_eq_add_of_le h4
  rw [show 2880 + (32 + c) = 2912 + c by omega] at h ⊢
  rcases lt_or_ge c 160 with h5 | h5
  · exact spaced_between _ _ _ _ _ _ h5
  obtain ⟨c, rfl⟩ := Nat.exists_eq_add_of_le h5
  rw [show 2912 + (160 + c) = 3072 + c by omega] at h ⊢
  rcases lt_or_ge c 384 with h6 | h6
  · exact absurd (place_q h6) (h _ (by omega))
  obtain ⟨c, rfl⟩ := Nat.exists_eq_add_of_le h6
  rw [show 3072 + (384 + c) = 3456 + c by omega]
  exact spaced_after _ _ _ _ _ _ (by omega)

/-- A sum over the spaced columns is the sum over the packed ones. -/
theorem nt_place {f g f' g' : ℕ → ℕ → EReal} {r c : ℕ} (hf : ∀ k < 3232, f r (place k) = f' r k) (hg : ∀ k < 3232, g c (place k) = g' c k)
    (h0 : ∀ d < 3584, (∀ k < 3232, place k ≠ d) → f r d = 0) : nt 3584 f g r c = nt 3232 f' g' r c := by
  unfold nt
  symm
  refine sum_of_injOn place place_inj (fun k hk => ?_) (fun d hd hn => ?_) fun k hk => ?_
  · exact mem_coe.mpr (mem_range.mpr (place_lt (mem_range.mp hk)))
  · rw [h0 d (mem_range.mp hd) fun k hk e => hn ⟨k, mem_coe.mpr (mem_range.mpr hk), e⟩, zero_mul]
  · rw [hf k (mem_range.mp hk), hg k (mem_range.mp hk)]

end Cert.Mlp

end
-- ==== Proof.GateSpec.lean ====
/-
  The gates that merge the two branches, as arrays of extended reals: the logistic gates, the merged rows, their gradients,
  and the layout in which the attention's eight heads of 64 lanes stand 128 lanes apart.
-/
module

public import proofs.«01_k».proof.Proof.InSpec

@[expose] public section

set_option maxRecDepth 16384

noncomputable section

open Idealize.ShloMosaic Finset

namespace Cert.Mlp

/-! ## The gates -/

/-- The logistic function. -/
def sigmoid (x : EReal) : EReal := Ideal.div 1 (1 + Ideal.exp (-x))

/-- Gate `k` of the two, whose arguments are columns `1024 * k` on of `g`, with row `k` of `b` added. -/
def gateAt (g b : ℕ → ℕ → EReal) (k r c : ℕ) : EReal := sigmoid (g r (1024 * k + c) + b k c)

/-- The two branches merged. -/
def merge (g b s t : ℕ → ℕ → EReal) (r c : ℕ) : EReal := gateAt g b 0 r c * s r c + gateAt g b 1 r c * t r c

/-- The gradient of branch `k` from the gradient `d` of the merged rows. -/
def dbranch (d g b : ℕ → ℕ → EReal) (k r c : ℕ) : EReal := d r c * gateAt g b k r c

/-- The gradient of gate `k`'s argument, where `t` is the branch that the gate scales. -/
def dgate (d t g b : ℕ → ℕ → EReal) (k r c : ℕ) : EReal := d r c * t r c * gateAt g b k r c * (1 - gateAt g b k r c)

/-- The sum of the first `n` rows of each column. -/
def colsum (n : ℕ) (f : ℕ → ℕ → EReal) (_ c : ℕ) : EReal := ∑ r ∈ range n, f r c

/-- The first of two for 0, the second otherwise. -/
def pick (f g : ℕ → ℕ → EReal) (k : ℕ) : ℕ → ℕ → EReal := if k = 0 then f else g

theorem gate_at {M : ℕ} {x : (⟨2, ![M, 1024]⟩ : Shape).Idx → EReal} {y : (⟨2, ![2, 1024]⟩ : Shape).Idx → EReal} {g b : ℕ → ℕ → EReal}
    {r0 : ℕ} (k : Fin 2) (hx : Part x g r0 (1024 * k.val)) (hy : Part y b 0 0) (r : Fin M) (c : Fin 1024) :
    sigmoid (x (ix2 r c) + y (ix2 k c)) = gateAt g b k.val (r0 + r.val) (0 + c.val) := by
  unfold gateAt
  rw [hx r c, hy k c, Nat.zero_add, Nat.zero_add]

theorem colsum_at {K N : ℕ} {x : (⟨2, ![K, N]⟩ : Shape).Idx → EReal} {f : ℕ → ℕ → EReal} {b z : ℕ} (hx : Part x f b 0) (c : Fin N) :
    colsum b f z (0 + c.val) + ∑ k : Fin K, x (ix2 k c) = colsum (b + K) f z (0 + c.val) := by
  unfold colsum
  rw [sum_range_add, ← Fin.sum_univ_eq_sum_range (fun k => f (b + k) (0 + c.val))]
  exact congrArg _ (sum_congr rfl fun k _ => hx k c)

theorem colsum_zero (f : ℕ → ℕ → EReal) (z c : ℕ) : colsum 0 f z c = 0 := sum_range_zero _

/-- Two blocks laid side by side hold the two blocks of columns. -/
theorem beside_at {M : ℕ} {x y : (⟨2, ![M, 1024]⟩ : Shape).Idx → EReal} {f g : ℕ → ℕ → EReal} {r0 : ℕ} (hx : Part x f r0 0) (hy : Part y g r0 0)
    (r : Fin M) (c : Fin 2048) :
    beside [(1024, entries x), (1024, entries y)] r.val c.val = beside [(1024, f), (1024, g)] (r0 + r.val) (0 + c.val) := by
  have hc := c.isLt
  rw [Nat.zero_add]
  unfold beside
  dsimp only
  by_cases h : c.val < 1024
  · rw [if_pos h, if_pos h]
    refine ((entries_at x (ix2 r (⟨c.val, h⟩ : Fin 1024)) _ _ rfl rfl).symm.trans (hx r ⟨c.val, h⟩)).trans ?_
    show f _ (0 + c.val) = _
    rw [Nat.zero_add]
  · rw [if_neg h, if_neg h]
    have h' : c.val - 1024 < 1024 := by omega
    unfold beside
    dsimp only
    rw [if_pos h', if_pos h']
    refine ((entries_at y (ix2 r (⟨c.val - 1024, h'⟩ : Fin 1024)) _ _ rfl rfl).symm.trans (hy r ⟨c.val - 1024, h'⟩)).trans ?_
    show g _ (0 + (c.val - 1024)) = _
    rw [Nat.zero_add]

/-! ## The heads' layout -/

/-- The numbers of an array of 8192 rows of 8 heads of 64 lanes, the heads of a row one after another, zero outside it. -/
def lanes (x : (⟨3, ![8192, 8, 64]⟩ : Shape).Idx → EReal) (r c : ℕ) : EReal :=
  if h : r < 8192 ∧ c < 512 then
    x (ValueIdx.ix3 (⟨r, h.1⟩ : Fin 8192) (⟨c / 64, by omega⟩ : Fin 8) (⟨c % 64, by omega⟩ : Fin 64))
  else 0

theorem lanes_at (x : (⟨3, ![8192, 8, 64]⟩ : Shape).Idx → EReal) (i : (⟨3, ![8192, 8, 64]⟩ : Shape).Idx) (r c : ℕ) (h0 : (i 0).val = r)
    (h1 : (i 1).val * 64 + (i 2).val = c) : x i = lanes x r c := by
  subst h0 h1
  have b0 : (i 0).val < 8192 := (i 0).isLt
  have b1 : (i 1).val < 8 := (i 1).isLt
  have b2 : (i 2).val < 64 := (i 2).isLt
  unfold lanes
  rw [dif_pos ⟨b0, by omega⟩]
  refine congrArg x (funext fun a => Fin.ext ?_)
  match a with
  | ⟨0, _⟩ => rfl
  | ⟨1, _⟩ => show (i 1).val = ((i 1).val * 64 + (i 2).val) / 64; omega
  | ⟨2, _⟩ => show (i 2).val = ((i 1).val * 64 + (i 2).val) % 64; omega

/-- The array of 8 heads of 64 lanes that holds `f`. -/
def headed (f : ℕ → ℕ → EReal) : (⟨3, ![8192, 8, 64]⟩ : Shape).Idx → EReal := fun i => f (i 0).val ((i 1).val * 64 + (i 2).val)

/-- Where lane `c` of the 512 stands among the 1024. -/
def lane (c : ℕ) : ℕ := c / 64 * 128 + c % 64

/-- The heads 128 lanes apart, a one after each, then zeros. -/
def laned (y : ℕ → ℕ → EReal) (r c : ℕ) : EReal :=
  if c % 128 < 64 then y r (c / 128 * 64 + c % 128) else if c % 128 < 65 then 1 else 0

/-- The weight's rows as the heads' lanes, rows of zeros between. -/
def padded (w : ℕ → ℕ → EReal) (k c : ℕ) : EReal := if k % 128 < 64 then w (k / 128 * 64 + k % 128) c else 0

theorem laned_lane (y : ℕ → ℕ → EReal) (r c : ℕ) : laned y r (lane c) = y r c := by
  unfold laned lane
  rw [if_pos (by omega), show (c / 64 * 128 + c % 64) / 128 * 64 + (c / 64 * 128 + c % 64) % 128 = c by omega]

theorem padded_lane (w : ℕ → ℕ → EReal) (k c : ℕ) : padded w (lane k) c = w k c := by
  unfold padded lane
  rw [if_pos (by omega), show (k / 64 * 128 + k % 64) / 128 * 64 + (k / 64 * 128 + k % 64) % 128 = k by omega]

/-- The product over the 1024 lanes is the product over the 512: what stands between the heads meets rows of zeros. -/
theorem nn_lanes (y w : ℕ → ℕ → EReal) (r c : ℕ) : nn 1024 (laned y) (padded w) r c = nn 512 y w r c := by
  unfold nn
  symm
  refine sum_of_injOn lane (fun a ha b hb h => ?_) (fun k hk => ?_) (fun d hd hn => ?_) fun k hk => ?_
  · have h' : a / 64 * 128 + a % 64 = b / 64 * 128 + b % 64 := h
    omega
  · have hk' : k < 512 := mem_range.mp hk
    refine mem_coe.mpr (mem_range.mpr ?_)
    unfold lane
    omega
  · have hd' : d < 1024 := mem_range.mp hd
    have h : ¬ d % 128 < 64 := fun h => hn ⟨d / 128 * 64 + d % 128, mem_coe.mpr (mem_range.mpr (by omega)), by unfold lane; omega⟩
    unfold padded
    rw [if_neg h, mul_zero]
  · rw [laned_lane, padded_lane]

/-- The heads with a lane of ones after each, padded with zeros to 128 lanes, side by side. -/
theorem laned_layout {x : (⟨3, ![8192, 8, 64]⟩ : Shape).Idx → EReal} {y : (⟨3, ![8192, 8, 1]⟩ : Shape).Idx → EReal} (hy : ∀ i, y i = 1)
    {u : Shape} (z : u.Idx → EReal) (hu : 0 < u.numel) (h0 : z (Shape.Idx.first hu) = 0)
    (hc : Shape.Concatenates [(⟨3, ![8192, 8, 64]⟩ : Shape), (⟨3, ![8192, 8, 1]⟩ : Shape)] (⟨3, ![8192, 8, 65]⟩ : Shape) 2)
    (hp : (⟨3, ![8192, 8, 65]⟩ : Shape).Pads ![0, 0, 0] ![0, 0, 63] ![0, 0, 0] (⟨3, ![8192, 8, 128]⟩ : Shape))
    (hs : (⟨3, ![8192, 8, 128]⟩ : Shape).ShapeCasts (⟨2, ![8192, 1024]⟩ : Shape)) :
    shapeCast ⟨2, ![8192, 1024]⟩ (pad ⟨3, ![8192, 8, 128]⟩ ![0, 0, 0] ![0, 0, 63] ![0, 0, 0]
      (concatenate (⟨3, ![8192, 8, 65]⟩ : Shape) 2 [⟨(⟨3, ![8192, 8, 64]⟩ : Shape), x⟩, ⟨(⟨3, ![8192, 8, 1]⟩ : Shape), y⟩] hc) z hp hu) hs
      = plane (laned (lanes x)) := by
  funext i
  have b0 : (i 0).val < 8192 := (i 0).isLt
  have b1 : (i 1).val < 1024 := (i 1).isLt
  have hd : (i 1).val % 128 < 128 := Nat.mod_lt _ (by omega)
  have hh : (i 1).val / 128 < 8 := by omega
  rw [shapeCast_apply _ hs i (ValueIdx.ix3 (⟨(i 0).val, b0⟩ : Fin 8192) (⟨(i 1).val / 128, hh⟩ : Fin 8) (⟨(i 1).val % 128, hd⟩ : Fin 128)) (by
    rw [Shape.rowMajor_val_three, Shape.rowMajor_val_two]
    show ((i 0).val * 8 + (i 1).val / 128) * 128 + (i 1).val % 128 = (i 0).val * 1024 + (i 1).val
    omega)]
  unfold plane laned
  by_cases hn : (i 1).val % 128 < 65
  · rw [pad_apply_of_inside _ _ _ _ z hp hu _ (ValueIdx.ix3 (⟨(i 0).val, b0⟩ : Fin 8192) (⟨(i 1).val / 128, hh⟩ : Fin 8) (⟨(i 1).val % 128, hn⟩ : Fin 65)) (by
      intro a
      match a with
      | ⟨0, _⟩ => show (i 0).val = 0 + (i 0).val * (0 + 1); omega
      | ⟨1, _⟩ => show (i 1).val / 128 = 0 + (i 1).val / 128 * (0 + 1); omega
      | ⟨2, _⟩ => show (i 1).val % 128 = 0 + (i 1).val % 128 * (0 + 1); omega)]
    by_cases hl : (i 1).val % 128 < 64
    · rw [if_pos hl, concatenate_pair_apply_left (t := ⟨3, ![8192, 8, 65]⟩) (s₁ := ⟨3, ![8192, 8, 64]⟩) (s₂ := ⟨3, ![8192, 8, 1]⟩) (2 : Fin 3) x y hc _ rfl
        (ValueIdx.ix3 (⟨(i 0).val, b0⟩ : Fin 8192) (⟨(i 1).val / 128, hh⟩ : Fin 8) (⟨(i 1).val % 128, hl⟩ : Fin 64)) (by
          intro b
          match b with
          | ⟨0, _⟩ => rfl
          | ⟨1, _⟩ => rfl
          | ⟨2, _⟩ => rfl)]
      exact lanes_at x _ _ _ rfl rfl
    · rw [if_neg hl, if_pos hn, concatenate_pair_apply_right (t := ⟨3, ![8192, 8, 65]⟩) (s₁ := ⟨3, ![8192, 8, 64]⟩) (s₂ := ⟨3, ![8192, 8, 1]⟩) (2 : Fin 3) x y hc _ rfl rfl
        (ValueIdx.ix3 (⟨(i 0).val, b0⟩ : Fin 8192) (⟨(i 1).val / 128, hh⟩ : Fin 8) (0 : Fin 1)) (by
          intro b hb
          match b, hb with
          | ⟨0, _⟩, _ => rfl
          | ⟨1, _⟩, _ => rfl
          | ⟨2, _⟩, hb => exact absurd rfl hb) (by show 0 + 64 = (i 1).val % 128; omega)]
      exact hy _
  · rw [if_neg (by omega), if_neg hn, pad_apply_of_not_inside _ _ _ _ z hp hu _ 2 (by
      intro h
      have h2 : ((i 1).val % 128 - 0) / (0 + 1) < 65 := h.2.2
      rw [Nat.sub_zero, Nat.zero_add, Nat.div_one] at h2
      exact hn h2), h0]

/-- The weight's rows, 64 to a head, padded with rows of zeros to 128. -/
theorem padded_layout (f : ℕ → ℕ → EReal) {u : Shape} (z : u.Idx → EReal) (hu : 0 < u.numel) (h0 : z (Shape.Idx.first hu) = 0)
    (h1 : (⟨2, ![512, 1024]⟩ : Shape).ShapeCasts (⟨3, ![8, 64, 1024]⟩ : Shape))
    (hp : (⟨3, ![8, 64, 1024]⟩ : Shape).Pads ![0, 0, 0] ![0, 64, 0] ![0, 0, 0] (⟨3, ![8, 128, 1024]⟩ : Shape))
    (h2 : (⟨3, ![8, 128, 1024]⟩ : Shape).ShapeCasts (⟨2, ![1024, 1024]⟩ : Shape)) :
    shapeCast ⟨2, ![1024, 1024]⟩ (pad ⟨3, ![8, 128, 1024]⟩ ![0, 0, 0] ![0, 64, 0] ![0, 0, 0]
      (shapeCast ⟨3, ![8, 64, 1024]⟩ (plane (m := 512) (n := 1024) f) h1) z hp hu) h2 = plane (padded f) := by
  funext i
  have b0 : (i 0).val < 1024 := (i 0).isLt
  have b1 : (i 1).val < 1024 := (i 1).isLt
  have hd : (i 0).val % 128 < 128 := Nat.mod_lt _ (by omega)
  have hh : (i 0).val / 128 < 8 := by omega
  rw [shapeCast_apply _ h2 i (ValueIdx.ix3 (⟨(i 0).val / 128, hh⟩ : Fin 8) (⟨(i 0).val % 128, hd⟩ : Fin 128) (⟨(i 1).val, b1⟩ : Fin 1024)) (by
    rw [Shape.rowMajor_val_three, Shape.rowMajor_val_two]
    show ((i 0).val / 128 * 128 + (i 0).val % 128) * 1024 + (i 1).val = (i 0).val * 1024 + (i 1).val
    omega)]
  unfold plane padded
  by_cases hn : (i 0).val % 128 < 64
  · rw [if_pos hn, pad_apply_of_inside _ _ _ _ z hp hu _ (ValueIdx.ix3 (⟨(i 0).val / 128, hh⟩ : Fin 8) (⟨(i 0).val % 128, hn⟩ : Fin 64) (⟨(i 1).val, b1⟩ : Fin 1024)) (by
      intro a
      match a with
      | ⟨0, _⟩ => show (i 0).val / 128 = 0 + (i 0).val / 128 * (0 + 1); omega
      | ⟨1, _⟩ => show (i 0).val % 128 = 0 + (i 0).val % 128 * (0 + 1); omega
      | ⟨2, _⟩ => show (i 1).val = 0 + (i 1).val * (0 + 1); omega),
      shapeCast_apply _ h1 _ (ix2 (⟨(i 0).val / 128 * 64 + (i 0).val % 128, by omega⟩ : Fin 512) (⟨(i 1).val, b1⟩ : Fin 1024)) (by
        rw [Shape.rowMajor_val_three, Shape.rowMajor_val_two]
        rfl)]
    rfl
  · rw [if_neg hn, pad_apply_of_not_inside _ _ _ _ z hp hu _ 1 (by
      intro h
      have h2 : ((i 0).val % 128 - 0) / (0 + 1) < 64 := h.2.2
      rw [Nat.sub_zero, Nat.zero_add, Nat.div_one] at h2
      exact hn h2), h0]

/-- The rows of the heads' lanes alone. -/
theorem unpadded (f : ℕ → ℕ → EReal) (h1 : (⟨2, ![1024, 1024]⟩ : Shape).ShapeCasts (⟨3, ![8, 128, 1024]⟩ : Shape))
    (hs : (⟨3, ![8, 128, 1024]⟩ : Shape).Slices ![0, 0, 0] (⟨3, ![8, 64, 1024]⟩ : Shape))
    (h2 : (⟨3, ![8, 64, 1024]⟩ : Shape).ShapeCasts (⟨2, ![512, 1024]⟩ : Shape)) :
    shapeCast ⟨2, ![512, 1024]⟩ (extractStridedSlice (⟨3, ![8, 64, 1024]⟩ : Shape) ![0, 0, 0]
      (shapeCast ⟨3, ![8, 128, 1024]⟩ (plane (m := 1024) (n := 1024) f) h1) hs) h2 = plane fun r c => f (lane r) c := by
  funext i
  have b0 : (i 0).val < 512 := (i 0).isLt
  have b1 : (i 1).val < 1024 := (i 1).isLt
  rw [shapeCast_apply _ h2 i (ValueIdx.ix3 (⟨(i 0).val / 64, by omega⟩ : Fin 8) (⟨(i 0).val % 64, by omega⟩ : Fin 64) (⟨(i 1).val, b1⟩ : Fin 1024)) (by
      rw [Shape.rowMajor_val_three, Shape.rowMajor_val_two]
      show ((i 0).val / 64 * 64 + (i 0).val % 64) * 1024 + (i 1).val = (i 0).val * 1024 + (i 1).val
      omega),
    extractStridedSlice_apply _ _ hs _ (ValueIdx.ix3 (⟨(i 0).val / 64, by omega⟩ : Fin 8) (⟨(i 0).val % 64, by omega⟩ : Fin 128) (⟨(i 1).val, b1⟩ : Fin 1024)) (by
      intro a
      match a with
      | ⟨0, _⟩ => show (i 0).val / 64 = 0 + (i 0).val / 64; omega
      | ⟨1, _⟩ => show (i 0).val % 64 = 0 + (i 0).val % 64; omega
      | ⟨2, _⟩ => show (i 1).val = 0 + (i 1).val; omega),
    shapeCast_apply _ h1 _ (ix2 (⟨lane (i 0).val, by unfold lane; omega⟩ : Fin 1024) (⟨(i 1).val, b1⟩ : Fin 1024)) (by
      rw [Shape.rowMajor_val_three, Shape.rowMajor_val_two]
      rfl)]
  rfl

/-- The heads' 64 lanes alone. -/
theorem trimmed (f : ℕ → ℕ → EReal) (h1 : (⟨2, ![8192, 1024]⟩ : Shape).ShapeCasts (⟨3, ![8192, 8, 128]⟩ : Shape))
    (hs : (⟨3, ![8192, 8, 128]⟩ : Shape).Slices ![0, 0, 0] (⟨3, ![8192, 8, 64]⟩ : Shape)) :
    extractStridedSlice (⟨3, ![8192, 8, 64]⟩ : Shape) ![0, 0, 0] (shapeCast ⟨3, ![8192, 8, 128]⟩ (plane (m := 8192) (n := 1024) f) h1) hs
      = headed fun r c => f r (lane c) := by
  funext i
  have b0 : (i 0).val < 8192 := (i 0).isLt
  have b1 : (i 1).val < 8 := (i 1).isLt
  have b2 : (i 2).val < 64 := (i 2).isLt
  rw [extractStridedSlice_apply _ _ hs i (ValueIdx.ix3 (⟨(i 0).val, b0⟩ : Fin 8192) (⟨(i 1).val, b1⟩ : Fin 8) (⟨(i 2).val, by omega⟩ : Fin 128)) (by
      intro a
      match a with
      | ⟨0, _⟩ => show (i 0).val = 0 + (i 0).val; omega
      | ⟨1, _⟩ => show (i 1).val = 0 + (i 1).val; omega
      | ⟨2, _⟩ => show (i 2).val = 0 + (i 2).val; omega),
    shapeCast_apply _ h1 _ (ix2 (⟨(i 0).val, b0⟩ : Fin 8192) (⟨lane ((i 1).val * 64 + (i 2).val), by unfold lane; omega⟩ : Fin 1024)) (by
      rw [Shape.rowMajor_val_three, Shape.rowMajor_val_two]
      show (i 0).val * 1024 + (((i 1).val * 64 + (i 2).val) / 64 * 128 + ((i 1).val * 64 + (i 2).val) % 64) = ((i 0).val * 8 + (i 1).val) * 128 + (i 2).val
      omega)]
  rfl

/-- Two rows, one on the other. -/
theorem stacked (f g : ℕ → ℕ → EReal) (hc : Shape.Concatenates [(⟨2, ![1, 1024]⟩ : Shape), (⟨2, ![1, 1024]⟩ : Shape)] (⟨2, ![2, 1024]⟩ : Shape) 0) :
    concatenate (⟨2, ![2, 1024]⟩ : Shape) 0 [⟨(⟨2, ![1, 1024]⟩ : Shape), plane f⟩, ⟨(⟨2, ![1, 1024]⟩ : Shape), plane g⟩] hc
      = plane fun k c => pick f g k 0 c := by
  funext i
  have b0 : (i 0).val < 2 := (i 0).isLt
  have b1 : (i 1).val < 1024 := (i 1).isLt
  unfold plane pick
  show _ = (if (i 0).val = 0 then f else g) 0 (i 1).val
  by_cases hl : (i 0).val = 0
  · rw [if_pos hl, concatenate_pair_apply_left (t := ⟨2, ![2, 1024]⟩) (s₁ := ⟨2, ![1, 1024]⟩) (s₂ := ⟨2, ![1, 1024]⟩) (0 : Fin 2) _ _ hc i rfl
      (ix2 (0 : Fin 1) (⟨(i 1).val, b1⟩ : Fin 1024)) (by
        intro b
        match b with
        | ⟨0, _⟩ => exact hl.symm
        | ⟨1, _⟩ => rfl)]
    rfl
  · rw [if_neg hl, concatenate_pair_apply_right (t := ⟨2, ![2, 1024]⟩) (s₁ := ⟨2, ![1, 1024]⟩) (s₂ := ⟨2, ![1, 1024]⟩) (0 : Fin 2) _ _ hc i rfl rfl
      (ix2 (0 : Fin 1) (⟨(i 1).val, b1⟩ : Fin 1024)) (by
        intro b hb
        match b, hb with
        | ⟨0, _⟩, hb => exact absurd rfl hb
        | ⟨1, _⟩, _ => rfl) (by show 0 + 1 = (i 0).val; omega)]
    rfl

end Cert.Mlp

end
-- ==== Proof.GatePay.lean ====
/-
  The stores of the gates' eleven calls, read at an index.
-/
module

public import proofs.«01_k».proof.Proof.Gen.Kernel3Ideal.Skeleton
public import proofs.«01_k».proof.Proof.GateSpec
public import Idealize.ShloMosaic.Lib.Pointwise

@[expose] public section

set_option maxRecDepth 16384

noncomputable section

open Idealize.ShloMosaic Finset

namespace Cert.Kernel3Ideal.Gate

open Cert.Kernel3Ideal Cert.Kernel3Ideal.Gen Cert.Mlp

theorem pay0_1_apply (x0 : Vec Ideal S1024x512 .bf16) (x1 : Vec Ideal S512x1024 .bf16) (r : Fin 1024) (c : Fin 1024) :
    k0_pay1 (F := Ideal) x0 x1 (ix2 r c) = ∑ k : Fin 512, x0 (ix2 r k) * x1 (ix2 k c) := by
  pointwise [k0_pay1]

theorem pay1_1_apply (x0 : Vec Ideal S1024x1024 .f32) (x1 : Vec Ideal S1024x1024 .bf16) (r : Fin 1024) (c : Fin 1024) :
    k1_pay1 (F := Ideal) x0 x1 (ix2 r c) = ∑ k : Fin 1024, x0 (ix2 r k) * x1 (ix2 k c) := by
  pointwise [k1_pay1]

theorem pay2_1_apply (v0 v1 v2 v4 : Vec Ideal S1024x1024 .f32) (v6 : Vec Ideal S2x1024 .f32) (r : Fin 1024) (c : Fin 1024) :
    k2_pay1 (F := Ideal) v0 v1 v2 v4 v6 (ix2 r c) = sigmoid (v0 (ix2 r c) + v6 (ix2 0 c)) * v2 (ix2 r c)
      + sigmoid (v1 (ix2 r c) + v6 (ix2 1 c)) * v4 (ix2 r c) := by
  unfold sigmoid
  pointwise [k2_pay1]
  simp only [zero_sub]

theorem pay3_1_apply (x0 x1 : Vec Ideal S1024x1024 .bf16) (x2 : Vec Ideal S1024x1024 .f32) (r : Fin 1024) (c : Fin 1024) :
    k3_pay1 (F := Ideal) x0 x1 x2 (ix2 r c) = (∑ k : Fin 1024, x0 (ix2 r k) * x1 (ix2 k c)) + x2 (ix2 r c) := by
  pointwise [k3_pay1]

theorem pay4_1_apply (x0 : Vec Ideal S1024x1024 .bf16) (x1 : Vec Ideal S1024x1024 .bf16) (r : Fin 1024) (c : Fin 1024) :
    k4_pay1 (F := Ideal) x0 x1 (ix2 r c) = ∑ k : Fin 1024, x0 (ix2 r k) * x1 (ix2 c k) := by
  pointwise [k4_pay1]

theorem pay5_1_apply (r : Fin 1024) (c : Fin 1024) : k5_pay1 (F := Ideal) (ix2 r c) = 0 := by
  pointwise [k5_pay1]

theorem pay5_2_apply (acc : Vec Ideal S1024x1024 .f32) (x0 : Vec Ideal S1024x1024 .bf16) (x1 : Vec Ideal S1024x1024 .bf16)
    (r : Fin 1024) (c : Fin 1024) :
    k5_pay2 (F := Ideal) acc x0 x1 (ix2 r c) = acc (ix2 r c) + ∑ k : Fin 1024, x0 (ix2 k r) * x1 (ix2 k c) := by
  pointwise [k5_pay2]

theorem pay6_9_apply (v2 : Vec Ideal S256x1024 .f32) (v8 : Vec Ideal S2x1024 .f32) (r : Fin 256) (c : Fin 1024) :
    k6_pay9 (F := Ideal) v2 v8 (ix2 r c) = sigmoid (v2 (ix2 r c) + v8 (ix2 0 c)) := by
  unfold sigmoid
  pointwise [k6_pay9]
  simp only [zero_sub]

theorem pay6_10_apply (v3 : Vec Ideal S256x1024 .f32) (v8 : Vec Ideal S2x1024 .f32) (r : Fin 256) (c : Fin 1024) :
    k6_pay10 (F := Ideal) v3 v8 (ix2 r c) = sigmoid (v3 (ix2 r c) + v8 (ix2 1 c)) := by
  unfold sigmoid
  pointwise [k6_pay10]
  simp only [zero_sub]

theorem pay6_8_apply (v0 : Vec Ideal S256x1024 .f32) (r : Fin 256) (c : Fin 1024) : k6_pay8 (F := Ideal) v0 (ix2 r c) = v0 (ix2 r c) := by
  pointwise [k6_pay8]

theorem pay6_1_apply (v0 v2 : Vec Ideal S256x1024 .f32) (v8 : Vec Ideal S2x1024 .f32) (r : Fin 256) (c : Fin 1024) :
    k6_pay1 (F := Ideal) (k6_pay8 v0) (k6_pay9 v2 v8) (ix2 r c) = v0 (ix2 r c) * sigmoid (v2 (ix2 r c) + v8 (ix2 0 c)) := by
  rw [← pay6_9_apply, ← pay6_8_apply v0]; rfl

theorem pay6_2_apply (v0 v3 : Vec Ideal S256x1024 .f32) (v8 : Vec Ideal S2x1024 .f32) (r : Fin 256) (c : Fin 1024) :
    k6_pay2 (F := Ideal) (k6_pay8 v0) (k6_pay10 v3 v8) (ix2 r c) = v0 (ix2 r c) * sigmoid (v3 (ix2 r c) + v8 (ix2 1 c)) := by
  rw [← pay6_10_apply, ← pay6_8_apply v0]; rfl

theorem pay6_11_apply (v0 v2 v4 : Vec Ideal S256x1024 .f32) (v8 : Vec Ideal S2x1024 .f32) (r : Fin 256) (c : Fin 1024) :
    k6_pay11 (F := Ideal) v0 v2 v4 v8 (ix2 r c) = v0 (ix2 r c) * v4 (ix2 r c) * sigmoid (v2 (ix2 r c) + v8 (ix2 0 c))
      * (1 - sigmoid (v2 (ix2 r c) + v8 (ix2 0 c))) := by
  rw [← pay6_9_apply]
  pointwise [k6_pay11, k6_pay8]

theorem pay6_12_apply (v0 v3 v6 : Vec Ideal S256x1024 .f32) (v8 : Vec Ideal S2x1024 .f32) (r : Fin 256) (c : Fin 1024) :
    k6_pay12 (F := Ideal) v0 v3 v6 v8 (ix2 r c) = v0 (ix2 r c) * v6 (ix2 r c) * sigmoid (v3 (ix2 r c) + v8 (ix2 1 c))
      * (1 - sigmoid (v3 (ix2 r c) + v8 (ix2 1 c))) := by
  rw [← pay6_10_apply]
  pointwise [k6_pay12, k6_pay8]

theorem pay6_3_eq (x y : Vec Ideal S256x1024 .f32) :
    k6_pay3 (F := Ideal) x y = plane (m := 256) (n := 2048) (beside [(1024, entries (m := 256) (n := 1024) x), (1024, entries (m := 256) (n := 1024) y)]) :=
  concatenate_cols (.cons (eq_plane (m := 256) (n := 1024) x) (.cons (eq_plane (m := 256) (n := 1024) y) .nil))
    concatenates_S256x1024_S256x1024_S256x2048_d1

theorem pay6_4_apply (r : Fin 1) (c : Fin 1024) : k6_pay4 (F := Ideal) (ix2 r c) = 0 := by
  pointwise [k6_pay4]

theorem pay6_5_apply (r : Fin 1) (c : Fin 1024) : k6_pay5 (F := Ideal) (ix2 r c) = 0 := by
  pointwise [k6_pay5]

theorem pay6_6_apply (x : Vec Ideal S256x1024 .f32) (acc : Vec Ideal S1x1024 .f32) (r : Fin 1) (c : Fin 1024) :
    k6_pay6 (F := Ideal) x acc (ix2 r c) = acc (ix2 r c) + ∑ k : Fin 256, x (ix2 k c) := by
  pointwise [k6_pay6]

theorem pay6_7_apply (x : Vec Ideal S256x1024 .f32) (acc : Vec Ideal S1x1024 .f32) (r : Fin 1) (c : Fin 1024) :
    k6_pay7 (F := Ideal) x acc (ix2 r c) = acc (ix2 r c) + ∑ k : Fin 256, x (ix2 k c) := by
  pointwise [k6_pay7]

theorem pay7_1_apply (x0 : Vec Ideal S1024x1024 .bf16) (x1 : Vec Ideal S512x1024 .bf16) (r : Fin 1024) (c : Fin 512) :
    k7_pay1 (F := Ideal) x0 x1 (ix2 r c) = ∑ k : Fin 1024, x0 (ix2 r k) * x1 (ix2 c k) := by
  pointwise [k7_pay1]

theorem pay8_1_apply (r : Fin 512) (c : Fin 1024) : k8_pay1 (F := Ideal) (ix2 r c) = 0 := by
  pointwise [k8_pay1]

theorem pay8_2_apply (acc : Vec Ideal S512x1024 .f32) (x0 : Vec Ideal S1024x512 .bf16) (x1 : Vec Ideal S1024x1024 .bf16)
    (r : Fin 512) (c : Fin 1024) :
    k8_pay2 (F := Ideal) acc x0 x1 (ix2 r c) = acc (ix2 r c) + ∑ k : Fin 1024, x0 (ix2 k r) * x1 (ix2 k c) := by
  pointwise [k8_pay2]

theorem pay9_1_apply (x0 : Vec Ideal S1024x1024 .bf16) (x1 : Vec Ideal S1024x1024 .bf16) (r : Fin 1024) (c : Fin 1024) :
    k9_pay1 (F := Ideal) x0 x1 (ix2 r c) = ∑ k : Fin 1024, x0 (ix2 r k) * x1 (ix2 c k) := by
  pointwise [k9_pay1]

theorem pay10_1_apply (r : Fin 1024) (c : Fin 1024) : k10_pay1 (F := Ideal) (ix2 r c) = 0 := by
  pointwise [k10_pay1]

theorem pay10_2_apply (acc : Vec Ideal S1024x1024 .f32) (x0 : Vec Ideal S1024x1024 .f32) (x1 : Vec Ideal S1024x1024 .bf16)
    (r : Fin 1024) (c : Fin 1024) :
    k10_pay2 (F := Ideal) acc x0 x1 (ix2 r c) = acc (ix2 r c) + ∑ k : Fin 1024, x0 (ix2 k r) * x1 (ix2 k c) := by
  pointwise [k10_pay2]

end Cert.Kernel3Ideal.Gate

end
-- ==== Proof.GateCalls.lean ====
/-
  The calls around the gates: the two branches' projections, the output projection, and the gradients of their inputs and
  weights.
-/
module

public import proofs.«01_k».proof.Proof.Gen.Kernel3Ideal.Frame
public import proofs.«01_k».proof.Proof.GatePay
public import Idealize.ShloMosaic.Lib.Pipeline.ValueKit.Acc

@[expose] public section

set_option maxRecDepth 16384

noncomputable section

open Idealize.ShloMosaic Idealize.ShloMosaic.TcCoe Idealize.SL.Sem Finset

namespace Cert.Kernel3Ideal.Gate

open Cert.Kernel3Ideal Cert.Kernel3Ideal.Gen Cert.Mlp

variable (V : (c : Dev nD) → (b : Ref sig .tc) → Buf (Elt Ideal) ((c : Thread nD τ).loc b)) (c : Dev nD)

/-! ## Call 0 -/

theorem index0 : ∀ t : Fin grid0.N,
    (win0_0.index t 0 = t.val ∧ win0_0.index t 1 = 0)
    ∧ (win0_1.index t 0 = 0 ∧ win0_1.index t 1 = 0)
    ∧ (win0_2.index t 0 = t.val ∧ win0_2.index t 1 = 0) := by
  decide +kernel

theorem size0 : ∀ t : Fin grid0.N,
    (win0_2.xsize (grid0.coords t) 0 = 1024 ∧ win0_2.xsize (grid0.coords t) 1 = 1024) := by
  decide +kernel

theorem block0_0 {f : ℕ → ℕ → EReal} (hV : V c main_v0 = plane (m := 8192) (n := 512) f) (t : Fin cfg0.N) :
    Part (m := 1024) (n := 512) (iblk0 V c 0 t) f (1024 * (t.val)) 0 := by
  intro r d
  unfold iblk0
  rw [View.read_apply]
  show V c main_v0 _ = _
  rw [hV]
  refine plane_at f _ _ _ ?_ ?_
  · show win0_0.index t 0 * 1024 + 1 * r.val = _; rw [(index0 t).1.1]; omega
  · show win0_0.index t 1 * 512 + 1 * d.val = _; rw [(index0 t).1.2]; omega

theorem block0_1 {f : ℕ → ℕ → EReal} (hV : V c main_v1 = plane (m := 512) (n := 1024) f) (t : Fin cfg0.N) :
    Part (m := 512) (n := 1024) (iblk0 V c 1 t) f 0 0 := by
  intro r d
  unfold iblk0
  rw [View.read_apply]
  show V c main_v1 _ = _
  rw [hV]
  refine plane_at f _ _ _ ?_ ?_
  · show win0_1.index t 0 * 512 + 1 * r.val = _; rw [(index0 t).2.1.1]; omega
  · show win0_1.index t 1 * 1024 + 1 * d.val = _; rw [(index0 t).2.1.2]; omega

theorem read0_2 (t : Fin cfg0.N) (G : S8192x1024.Idx → EReal) (x : S1024x1024.Idx) :
    View.read (Elt Ideal) ((View.whole main_v12).slice (win0_2.rect t)) G x = G (((View.whole main_v12).slice (win0_2.rect t)).emb x) :=
  View.read_apply _ _

theorem mem_block0_2 (t : Fin cfg0.N) (i : S8192x1024.Idx) (h0 : (i 0).val / 1024 = t.val) :
    i ∈ ((cfg0.win 2).blk t).view.set := by
  show i ∈ ((View.whole main_v12).slice (win0_2.rect t)).set
  rw [View.set_slice_whole, Rect.mem_set_unit]
  have e := (index0 t).2.2
  have s := (size0 t)
  have hi0 : (i 0).val < 8192 := (i 0).isLt
  have hi1 : (i 1).val < 1024 := (i 1).isLt
  intro a
  match a with
  | ⟨0, _⟩ =>
    show win0_2.index t 0 * 1024 ≤ (i 0 : Nat) ∧ (i 0 : Nat) < win0_2.index t 0 * 1024 + win0_2.xsize (grid0.coords t) 0
    rw [e.1, s.1]; omega
  | ⟨1, _⟩ =>
    show win0_2.index t 1 * 1024 ≤ (i 1 : Nat) ∧ (i 1 : Nat) < win0_2.index t 1 * 1024 + win0_2.xsize (grid0.coords t) 1
    rw [e.2, s.2]; omega

/-- The first branch projected. -/
theorem region0_out {f g : ℕ → ℕ → EReal} (h0 : V c main_v0 = plane (m := 8192) (n := 512) f) (h1 : V c main_v1 = plane (m := 512) (n := 1024) g) :
    (dat0 V c).arrAt 2 cfg0.N = plane (m := 8192) (n := 1024) (nn 512 f g) := by
  refine (dat0 V c).arrAt_eq_of_cover 2 _ (fun t hf => ?_) fun i => ?_
  · have ht : t.val < 8 := t.isLt
    show (cfg0.win 2).cut (grid0.coords t) ((dat0 V c).after 2 t) = _
    rw [after0_2]
    have hb : Part (m := 1024) (n := 1024) (out0_2 (iblk0 V c 0 t) (iblk0 V c 1 t)) (nn 512 f g) (1024 * (t.val)) 0 := by
      intro r d
      frame_out
      exact (pay0_1_apply _ _ r d).trans (nn_at (block0_0 V c h0 t) (block0_1 V c h1 t) r d)
    funext x
    obtain ⟨r, d, rfl⟩ : ∃ (r : Fin 1024) (d : Fin 1024), x = ix2 r d := ⟨x 0, x 1, eq_ix2 x⟩
    refine (hb r d).trans (Eq.trans ?_ (read0_2 t _ (ix2 r d)).symm)
    refine (plane_at (nn 512 f g) _ _ _ ?_ ?_).symm
    · show win0_2.index t 0 * 1024 + 1 * r.val = _; rw [(index0 t).2.2.1]; omega
    · show win0_2.index t 1 * 1024 + 1 * d.val = _; rw [(index0 t).2.2.2]; omega
  · have hi0 : (i 0).val < 8192 := (i 0).isLt
    have hi1 : (i 1).val < 1024 := (i 1).isLt
    refine ⟨⟨(i 0).val / 1024, ?_⟩, flush0_2 _, mem_block0_2 _ i ?_⟩
    · show _ < 8; omega
    · show (i 0).val / 1024 = ((i 0).val / 1024); omega

/-! ## Call 1 -/

theorem index1 : ∀ t : Fin grid1.N,
    (win1_0.index t 0 = t.val ∧ win1_0.index t 1 = 0)
    ∧ (win1_1.index t 0 = 0 ∧ win1_1.index t 1 = 0)
    ∧ (win1_2.index t 0 = t.val ∧ win1_2.index t 1 = 0) := by
  decide +kernel

theorem size1 : ∀ t : Fin grid1.N,
    (win1_2.xsize (grid1.coords t) 0 = 1024 ∧ win1_2.xsize (grid1.coords t) 1 = 1024) := by
  decide +kernel

theorem block1_0 {f : ℕ → ℕ → EReal} (hV : V c main_v8 = plane (m := 8192) (n := 1024) f) (t : Fin cfg1.N) :
    Part (m := 1024) (n := 1024) (iblk1 V c 0 t) f (1024 * (t.val)) 0 := by
  intro r d
  unfold iblk1
  rw [View.read_apply]
  show V c main_v8 _ = _
  rw [hV]
  refine plane_at f _ _ _ ?_ ?_
  · show win1_0.index t 0 * 1024 + 1 * r.val = _; rw [(index1 t).1.1]; omega
  · show win1_0.index t 1 * 1024 + 1 * d.val = _; rw [(index1 t).1.2]; omega

theorem block1_1 {f : ℕ → ℕ → EReal} (hV : V c main_v11 = plane (m := 1024) (n := 1024) f) (t : Fin cfg1.N) :
    Part (m := 1024) (n := 1024) (iblk1 V c 1 t) f 0 0 := by
  intro r d
  unfold iblk1
  rw [View.read_apply]
  show V c main_v11 _ = _
  rw [hV]
  refine plane_at f _ _ _ ?_ ?_
  · show win1_1.index t 0 * 1024 + 1 * r.val = _; rw [(index1 t).2.1.1]; omega
  · show win1_1.index t 1 * 1024 + 1 * d.val = _; rw [(index1 t).2.1.2]; omega

theorem read1_2 (t : Fin cfg1.N) (G : S8192x1024.Idx → EReal) (x : S1024x1024.Idx) :
    View.read (Elt Ideal) ((View.whole main_v13).slice (win1_2.rect t)) G x = G (((View.whole main_v13).slice (win1_2.rect t)).emb x) :=
  View.read_apply _ _

theorem mem_block1_2 (t : Fin cfg1.N) (i : S8192x1024.Idx) (h0 : (i 0).val / 1024 = t.val) :
    i ∈ ((cfg1.win 2).blk t).view.set := by
  show i ∈ ((View.whole main_v13).slice (win1_2.rect t)).set
  rw [View.set_slice_whole, Rect.mem_set_unit]
  have e := (index1 t).2.2
  have s := (size1 t)
  have hi0 : (i 0).val < 8192 := (i 0).isLt
  have hi1 : (i 1).val < 1024 := (i 1).isLt
  intro a
  match a with
  | ⟨0, _⟩ =>
    show win1_2.index t 0 * 1024 ≤ (i 0 : Nat) ∧ (i 0 : Nat) < win1_2.index t 0 * 1024 + win1_2.xsize (grid1.coords t) 0
    rw [e.1, s.1]; omega
  | ⟨1, _⟩ =>
    show win1_2.index t 1 * 1024 ≤ (i 1 : Nat) ∧ (i 1 : Nat) < win1_2.index t 1 * 1024 + win1_2.xsize (grid1.coords t) 1
    rw [e.2, s.2]; omega

/-- The second branch projected. -/
theorem region1_out {f g : ℕ → ℕ → EReal} (h0 : V c main_v8 = plane (m := 8192) (n := 1024) f) (h1 : V c main_v11 = plane (m := 1024) (n := 1024) g) :
    (dat1 V c).arrAt 2 cfg1.N = plane (m := 8192) (n := 1024) (nn 1024 f g) := by
  refine (dat1 V c).arrAt_eq_of_cover 2 _ (fun t hf => ?_) fun i => ?_
  · have ht : t.val < 8 := t.isLt
    show (cfg1.win 2).cut (grid1.coords t) ((dat1 V c).after 2 t) = _
    rw [after1_2]
    have hb : Part (m := 1024) (n := 1024) (out1_2 (iblk1 V c 0 t) (iblk1 V c 1 t)) (nn 1024 f g) (1024 * (t.val)) 0 := by
      intro r d
      frame_out
      exact (pay1_1_apply _ _ r d).trans (nn_at (block1_0 V c h0 t) (block1_1 V c h1 t) r d)
    funext x
    obtain ⟨r, d, rfl⟩ : ∃ (r : Fin 1024) (d : Fin 1024), x = ix2 r d := ⟨x 0, x 1, eq_ix2 x⟩
    refine (hb r d).trans (Eq.trans ?_ (read1_2 t _ (ix2 r d)).symm)
    refine (plane_at (nn 1024 f g) _ _ _ ?_ ?_).symm
    · show win1_2.index t 0 * 1024 + 1 * r.val = _; rw [(index1 t).2.2.1]; omega
    · show win1_2.index t 1 * 1024 + 1 * d.val = _; rw [(index1 t).2.2.2]; omega
  · have hi0 : (i 0).val < 8192 := (i 0).isLt
    have hi1 : (i 1).val < 1024 := (i 1).isLt
    refine ⟨⟨(i 0).val / 1024, ?_⟩, flush1_2 _, mem_block1_2 _ i ?_⟩
    · show _ < 8; omega
    · show (i 0).val / 1024 = ((i 0).val / 1024); omega

/-! ## Call 3 -/

theorem index3 : ∀ t : Fin grid3.N,
    (win3_0.index t 0 = t.val ∧ win3_0.index t 1 = 0)
    ∧ (win3_1.index t 0 = 0 ∧ win3_1.index t 1 = 0)
    ∧ (win3_2.index t 0 = t.val ∧ win3_2.index t 1 = 0)
    ∧ (win3_3.index t 0 = t.val ∧ win3_3.index t 1 = 0) := by
  decide +kernel

theorem size3 : ∀ t : Fin grid3.N,
    (win3_3.xsize (grid3.coords t) 0 = 1024 ∧ win3_3.xsize (grid3.coords t) 1 = 1024) := by
  decide +kernel

theorem block3_0 {f : ℕ → ℕ → EReal} (hV : V c main_v14 = plane (m := 8192) (n := 1024) f) (t : Fin cfg3.N) :
    Part (m := 1024) (n := 1024) (iblk3 V c 0 t) f (1024 * (t.val)) 0 := by
  intro r d
  unfold iblk3
  rw [View.read_apply]
  show V c main_v14 _ = _
  rw [hV]
  refine plane_at f _ _ _ ?_ ?_
  · show win3_0.index t 0 * 1024 + 1 * r.val = _; rw [(index3 t).1.1]; omega
  · show win3_0.index t 1 * 1024 + 1 * d.val = _; rw [(index3 t).1.2]; omega

theorem block3_1 {f : ℕ → ℕ → EReal} (hV : V c main_v3 = plane (m := 1024) (n := 1024) f) (t : Fin cfg3.N) :
    Part (m := 1024) (n := 1024) (iblk3 V c 1 t) f 0 0 := by
  intro r d
  unfold iblk3
  rw [View.read_apply]
  show V c main_v3 _ = _
  rw [hV]
  refine plane_at f _ _ _ ?_ ?_
  · show win3_1.index t 0 * 1024 + 1 * r.val = _; rw [(index3 t).2.1.1]; omega
  · show win3_1.index t 1 * 1024 + 1 * d.val = _; rw [(index3 t).2.1.2]; omega

theorem block3_2 {f : ℕ → ℕ → EReal} (hV : V c main_arg7 = plane (m := 8192) (n := 1024) f) (t : Fin cfg3.N) :
    Part (m := 1024) (n := 1024) (iblk3 V c 2 t) f (1024 * (t.val)) 0 := by
  intro r d
  unfold iblk3
  rw [View.read_apply]
  show V c main_arg7 _ = _
  rw [hV]
  refine plane_at f _ _ _ ?_ ?_
  · show win3_2.index t 0 * 1024 + 1 * r.val = _; rw [(index3 t).2.2.1.1]; omega
  · show win3_2.index t 1 * 1024 + 1 * d.val = _; rw [(index3 t).2.2.1.2]; omega

theorem read3_3 (t : Fin cfg3.N) (G : S8192x1024.Idx → EReal) (x : S1024x1024.Idx) :
    View.read (Elt Ideal) ((View.whole main_v15).slice (win3_3.rect t)) G x = G (((View.whole main_v15).slice (win3_3.rect t)).emb x) :=
  View.read_apply _ _

theorem mem_block3_3 (t : Fin cfg3.N) (i : S8192x1024.Idx) (h0 : (i 0).val / 1024 = t.val) :
    i ∈ ((cfg3.win 3).blk t).view.set := by
  show i ∈ ((View.whole main_v15).slice (win3_3.rect t)).set
  rw [View.set_slice_whole, Rect.mem_set_unit]
  have e := (index3 t).2.2.2
  have s := (size3 t)
  have hi0 : (i 0).val < 8192 := (i 0).isLt
  have hi1 : (i 1).val < 1024 := (i 1).isLt
  intro a
  match a with
  | ⟨0, _⟩ =>
    show win3_3.index t 0 * 1024 ≤ (i 0 : Nat) ∧ (i 0 : Nat) < win3_3.index t 0 * 1024 + win3_3.xsize (grid3.coords t) 0
    rw [e.1, s.1]; omega
  | ⟨1, _⟩ =>
    show win3_3.index t 1 * 1024 ≤ (i 1 : Nat) ∧ (i 1 : Nat) < win3_3.index t 1 * 1024 + win3_3.xsize (grid3.coords t) 1
    rw [e.2, s.2]; omega

/-- The merged rows projected, added to the input. -/
theorem region3_out {f g x : ℕ → ℕ → EReal} (h0 : V c main_v14 = plane (m := 8192) (n := 1024) f) (h1 : V c main_v3 = plane (m := 1024) (n := 1024) g) (h2 : V c main_arg7 = plane (m := 8192) (n := 1024) x) :
    (dat3 V c).arrAt 3 cfg3.N = plane (m := 8192) (n := 1024) (fun i j => nn 1024 f g i j + x i j) := by
  refine (dat3 V c).arrAt_eq_of_cover 3 _ (fun t hf => ?_) fun i => ?_
  · have ht : t.val < 8 := t.isLt
    show (cfg3.win 3).cut (grid3.coords t) ((dat3 V c).after 3 t) = _
    rw [after3_3]
    have hb : Part (m := 1024) (n := 1024) (out3_3 (iblk3 V c 0 t) (iblk3 V c 1 t) (iblk3 V c 2 t)) (fun i j => nn 1024 f g i j + x i j) (1024 * (t.val)) 0 := by
      intro r d
      frame_out
      exact (pay3_1_apply _ _ _ r d).trans (congrArg₂ (· + ·) (nn_at (block3_0 V c h0 t) (block3_1 V c h1 t) r d) (block3_2 V c h2 t r d))
    funext x
    obtain ⟨r, d, rfl⟩ : ∃ (r : Fin 1024) (d : Fin 1024), x = ix2 r d := ⟨x 0, x 1, eq_ix2 x⟩
    refine (hb r d).trans (Eq.trans ?_ (read3_3 t _ (ix2 r d)).symm)
    refine (plane_at (fun i j => nn 1024 f g i j + x i j) _ _ _ ?_ ?_).symm
    · show win3_3.index t 0 * 1024 + 1 * r.val = _; rw [(index3 t).2.2.2.1]; omega
    · show win3_3.index t 1 * 1024 + 1 * d.val = _; rw [(index3 t).2.2.2.2]; omega
  · have hi0 : (i 0).val < 8192 := (i 0).isLt
    have hi1 : (i 1).val < 1024 := (i 1).isLt
    refine ⟨⟨(i 0).val / 1024, ?_⟩, flush3_3 _, mem_block3_3 _ i ?_⟩
    · show _ < 8; omega
    · show (i 0).val / 1024 = ((i 0).val / 1024); omega

/-! ## Call 4 -/

theorem index4 : ∀ t : Fin grid4.N,
    (win4_0.index t 0 = t.val ∧ win4_0.index t 1 = 0)
    ∧ (win4_1.index t 0 = 0 ∧ win4_1.index t 1 = 0)
    ∧ (win4_2.index t 0 = t.val ∧ win4_2.index t 1 = 0) := by
  decide +kernel

theorem size4 : ∀ t : Fin grid4.N,
    (win4_2.xsize (grid4.coords t) 0 = 1024 ∧ win4_2.xsize (grid4.coords t) 1 = 1024) := by
  decide +kernel

theorem block4_0 {f : ℕ → ℕ → EReal} (hV : V c main_v4 = plane (m := 8192) (n := 1024) f) (t : Fin cfg4.N) :
    Part (m := 1024) (n := 1024) (iblk4 V c 0 t) f (1024 * (t.val)) 0 := by
  intro r d
  unfold iblk4
  rw [View.read_apply]
  show V c main_v4 _ = _
  rw [hV]
  refine plane_at f _ _ _ ?_ ?_
  · show win4_0.index t 0 * 1024 + 1 * r.val = _; rw [(index4 t).1.1]; omega
  · show win4_0.index t 1 * 1024 + 1 * d.val = _; rw [(index4 t).1.2]; omega

theorem block4_1 {f : ℕ → ℕ → EReal} (hV : V c main_v3 = plane (m := 1024) (n := 1024) f) (t : Fin cfg4.N) :
    Part (m := 1024) (n := 1024) (iblk4 V c 1 t) f 0 0 := by
  intro r d
  unfold iblk4
  rw [View.read_apply]
  show V c main_v3 _ = _
  rw [hV]
  refine plane_at f _ _ _ ?_ ?_
  · show win4_1.index t 0 * 1024 + 1 * r.val = _; rw [(index4 t).2.1.1]; omega
  · show win4_1.index t 1 * 1024 + 1 * d.val = _; rw [(index4 t).2.1.2]; omega

theorem read4_2 (t : Fin cfg4.N) (G : S8192x1024.Idx → EReal) (x : S1024x1024.Idx) :
    View.read (Elt Ideal) ((View.whole main_v16).slice (win4_2.rect t)) G x = G (((View.whole main_v16).slice (win4_2.rect t)).emb x) :=
  View.read_apply _ _

theorem mem_block4_2 (t : Fin cfg4.N) (i : S8192x1024.Idx) (h0 : (i 0).val / 1024 = t.val) :
    i ∈ ((cfg4.win 2).blk t).view.set := by
  show i ∈ ((View.whole main_v16).slice (win4_2.rect t)).set
  rw [View.set_slice_whole, Rect.mem_set_unit]
  have e := (index4 t).2.2
  have s := (size4 t)
  have hi0 : (i 0).val < 8192 := (i 0).isLt
  have hi1 : (i 1).val < 1024 := (i 1).isLt
  intro a
  match a with
  | ⟨0, _⟩ =>
    show win4_2.index t 0 * 1024 ≤ (i 0 : Nat) ∧ (i 0 : Nat) < win4_2.index t 0 * 1024 + win4_2.xsize (grid4.coords t) 0
    rw [e.1, s.1]; omega
  | ⟨1, _⟩ =>
    show win4_2.index t 1 * 1024 ≤ (i 1 : Nat) ∧ (i 1 : Nat) < win4_2.index t 1 * 1024 + win4_2.xsize (grid4.coords t) 1
    rw [e.2, s.2]; omega

/-- The gradient of the merged rows. -/
theorem region4_out {f g : ℕ → ℕ → EReal} (h0 : V c main_v4 = plane (m := 8192) (n := 1024) f) (h1 : V c main_v3 = plane (m := 1024) (n := 1024) g) :
    (dat4 V c).arrAt 2 cfg4.N = plane (m := 8192) (n := 1024) (nt 1024 f g) := by
  refine (dat4 V c).arrAt_eq_of_cover 2 _ (fun t hf => ?_) fun i => ?_
  · have ht : t.val < 8 := t.isLt
    show (cfg4.win 2).cut (grid4.coords t) ((dat4 V c).after 2 t) = _
    rw [after4_2]
    have hb : Part (m := 1024) (n := 1024) (out4_2 (iblk4 V c 0 t) (iblk4 V c 1 t)) (nt 1024 f g) (1024 * (t.val)) 0 := by
      intro r d
      frame_out
      exact (pay4_1_apply _ _ r d).trans (nt_at (block4_0 V c h0 t) (block4_1 V c h1 t) r d)
    funext x
    obtain ⟨r, d, rfl⟩ : ∃ (r : Fin 1024) (d : Fin 1024), x = ix2 r d := ⟨x 0, x 1, eq_ix2 x⟩
    refine (hb r d).trans (Eq.trans ?_ (read4_2 t _ (ix2 r d)).symm)
    refine (plane_at (nt 1024 f g) _ _ _ ?_ ?_).symm
    · show win4_2.index t 0 * 1024 + 1 * r.val = _; rw [(index4 t).2.2.1]; omega
    · show win4_2.index t 1 * 1024 + 1 * d.val = _; rw [(index4 t).2.2.2]; omega
  · have hi0 : (i 0).val < 8192 := (i 0).isLt
    have hi1 : (i 1).val < 1024 := (i 1).isLt
    refine ⟨⟨(i 0).val / 1024, ?_⟩, flush4_2 _, mem_block4_2 _ i ?_⟩
    · show _ < 8; omega
    · show (i 0).val / 1024 = ((i 0).val / 1024); omega

/-! ## Call 5 -/

theorem index5 : ∀ t : Fin grid5.N,
    (win5_0.index t 0 = t.val % 8 ∧ win5_0.index t 1 = 0)
    ∧ (win5_1.index t 0 = t.val % 8 ∧ win5_1.index t 1 = 0)
    ∧ (win5_2.index t 0 = 0 ∧ win5_2.index t 1 = 0) := by
  decide +kernel

theorem size5 : ∀ t : Fin grid5.N,
    (win5_2.xsize (grid5.coords t) 0 = 1024 ∧ win5_2.xsize (grid5.coords t) 1 = 1024) := by
  decide +kernel

theorem block5_0 {f : ℕ → ℕ → EReal} (hV : V c main_v14 = plane (m := 8192) (n := 1024) f) (t : Fin cfg5.N) :
    Part (m := 1024) (n := 1024) (iblk5 V c 0 t) f (1024 * (t.val % 8)) 0 := by
  intro r d
  unfold iblk5
  rw [View.read_apply]
  show V c main_v14 _ = _
  rw [hV]
  refine plane_at f _ _ _ ?_ ?_
  · show win5_0.index t 0 * 1024 + 1 * r.val = _; rw [(index5 t).1.1]; omega
  · show win5_0.index t 1 * 1024 + 1 * d.val = _; rw [(index5 t).1.2]; omega

theorem block5_1 {f : ℕ → ℕ → EReal} (hV : V c main_v4 = plane (m := 8192) (n := 1024) f) (t : Fin cfg5.N) :
    Part (m := 1024) (n := 1024) (iblk5 V c 1 t) f (1024 * (t.val % 8)) 0 := by
  intro r d
  unfold iblk5
  rw [View.read_apply]
  show V c main_v4 _ = _
  rw [hV]
  refine plane_at f _ _ _ ?_ ?_
  · show win5_1.index t 0 * 1024 + 1 * r.val = _; rw [(index5 t).2.1.1]; omega
  · show win5_1.index t 1 * 1024 + 1 * d.val = _; rw [(index5 t).2.1.2]; omega

theorem read5_2 (t : Fin cfg5.N) (G : S1024x1024.Idx → EReal) (x : S1024x1024.Idx) :
    View.read (Elt Ideal) ((View.whole main_v17).slice (win5_2.rect t)) G x = G (((View.whole main_v17).slice (win5_2.rect t)).emb x) :=
  View.read_apply _ _

theorem mem_block5_2 (t : Fin cfg5.N) (i : S1024x1024.Idx) :
    i ∈ ((cfg5.win 2).blk t).view.set := by
  show i ∈ ((View.whole main_v17).slice (win5_2.rect t)).set
  rw [View.set_slice_whole, Rect.mem_set_unit]
  have e := (index5 t).2.2
  have s := (size5 t)
  have hi0 : (i 0).val < 1024 := (i 0).isLt
  have hi1 : (i 1).val < 1024 := (i 1).isLt
  intro a
  match a with
  | ⟨0, _⟩ =>
    show win5_2.index t 0 * 1024 ≤ (i 0 : Nat) ∧ (i 0 : Nat) < win5_2.index t 0 * 1024 + win5_2.xsize (grid5.coords t) 0
    rw [e.1, s.1]; omega
  | ⟨1, _⟩ =>
    show win5_2.index t 1 * 1024 ≤ (i 1 : Nat) ∧ (i 1 : Nat) < win5_2.index t 1 * 1024 + win5_2.xsize (grid5.coords t) 1
    rw [e.2, s.2]; omega

theorem left5 {f g : ℕ → ℕ → EReal} (h0 : V c main_v14 = plane (m := 8192) (n := 1024) f) (h1 : V c main_v4 = plane (m := 8192) (n := 1024) g) :
    ∀ (n : ℕ) (hn : n < cfg5.N), Part (m := 1024) (n := 1024) (outsAt5 V c n hn) (tn (1024 * (n % 8) + 1024) f g) (0) (0) := by
  intro n
  induction n with
  | zero =>
    intro hn r d
    rw [outsAt5_A V c ⟨0, hn⟩ rfl]
    frame_out
    refine (pay5_2_apply _ _ _ r d).trans ?_
    rw [pay5_1_apply, ← tn_zero f g ((0) + r.val) ((0) + d.val)]
    exact tn_at (block5_0 V c h0 ⟨0, hn⟩) (block5_1 V c h1 ⟨0, hn⟩) r d
  | succ n ih =>
    intro hn r d
    have hp : n < cfg5.N := by omega
    by_cases hz : (n + 1) % 8 = 0
    · rw [outsAt5_A V c ⟨n + 1, hn⟩ hz]
      frame_out
      refine (pay5_2_apply _ _ _ r d).trans ?_
      have b0 := block5_0 V c h0 ⟨n + 1, hn⟩
      have b1 := block5_1 V c h1 ⟨n + 1, hn⟩
      dsimp only at b0 b1
      rw [hz, Nat.mul_zero] at b0 b1 ⊢
      rw [pay5_1_apply, ← tn_zero f g ((0) + r.val) ((0) + d.val)]
      exact tn_at b0 b1 r d
    · rw [outsAt5_B V c ⟨n + 1, hn⟩ hz]
      frame_out
      refine (pay5_2_apply _ _ _ r d).trans ?_
      have e := ih hp r d
      rw [show 1024 * (n % 8) + 1024 = 1024 * ((n + 1) % 8) by omega] at e
      refine (congrArg (· + _) e).trans ?_
      exact tn_at (block5_0 V c h0 ⟨n + 1, hn⟩) (block5_1 V c h1 ⟨n + 1, hn⟩) r d

/-- The output projection's gradient. -/
theorem region5_out {f g : ℕ → ℕ → EReal} (h0 : V c main_v14 = plane (m := 8192) (n := 1024) f) (h1 : V c main_v4 = plane (m := 8192) (n := 1024) g) :
    (dat5 V c).arrAt 2 cfg5.N = plane (m := 1024) (n := 1024) (tn 8192 f g) := by
  refine (dat5 V c).arrAt_eq_of_cover 2 _ (fun t hf => ?_) fun i => ?_
  · have ht : t.val < 8 := t.isLt
    show (cfg5.win 2).cut (grid5.coords t) ((dat5 V c).after 2 t) = _
    rw [after5_2]
    have hb := left5 V c h0 h1 t.val t.isLt
    rw [(flush5_2 t).mp hf, show 1024 * 7 + 1024 = 8192 from rfl] at hb
    funext x
    obtain ⟨r, d, rfl⟩ : ∃ (r : Fin 1024) (d : Fin 1024), x = ix2 r d := ⟨x 0, x 1, eq_ix2 x⟩
    refine (hb r d).trans (Eq.trans ?_ (read5_2 t _ (ix2 r d)).symm)
    refine (plane_at (tn 8192 f g) _ _ _ ?_ ?_).symm
    · show win5_2.index t 0 * 1024 + 1 * r.val = _; rw [(index5 t).2.2.1]; omega
    · show win5_2.index t 1 * 1024 + 1 * d.val = _; rw [(index5 t).2.2.2]; omega
  · have hi0 : (i 0).val < 1024 := (i 0).isLt
    have hi1 : (i 1).val < 1024 := (i 1).isLt
    refine ⟨⟨7, ?_⟩, (flush5_2 _).mpr ?_, mem_block5_2 _ i ⟩
    · show _ < 8; omega
    · show (7) % 8 = 7; omega

/-! ## Call 7 -/

theorem index7 : ∀ t : Fin grid7.N,
    (win7_0.index t 0 = t.val ∧ win7_0.index t 1 = 0)
    ∧ (win7_1.index t 0 = 0 ∧ win7_1.index t 1 = 0)
    ∧ (win7_2.index t 0 = t.val ∧ win7_2.index t 1 = 0) := by
  decide +kernel

theorem size7 : ∀ t : Fin grid7.N,
    (win7_2.xsize (grid7.coords t) 0 = 1024 ∧ win7_2.xsize (grid7.coords t) 1 = 512) := by
  decide +kernel

theorem block7_0 {f : ℕ → ℕ → EReal} (hV : V c main_v18_0 = plane (m := 8192) (n := 1024) f) (t : Fin cfg7.N) :
    Part (m := 1024) (n := 1024) (iblk7 V c 0 t) f (1024 * (t.val)) 0 := by
  intro r d
  unfold iblk7
  rw [View.read_apply]
  show V c main_v18_0 _ = _
  rw [hV]
  refine plane_at f _ _ _ ?_ ?_
  · show win7_0.index t 0 * 1024 + 1 * r.val = _; rw [(index7 t).1.1]; omega
  · show win7_0.index t 1 * 1024 + 1 * d.val = _; rw [(index7 t).1.2]; omega

theorem block7_1 {f : ℕ → ℕ → EReal} (hV : V c main_v1 = plane (m := 512) (n := 1024) f) (t : Fin cfg7.N) :
    Part (m := 512) (n := 1024) (iblk7 V c 1 t) f 0 0 := by
  intro r d
  unfold iblk7
  rw [View.read_apply]
  show V c main_v1 _ = _
  rw [hV]
  refine plane_at f _ _ _ ?_ ?_
  · show win7_1.index t 0 * 512 + 1 * r.val = _; rw [(index7 t).2.1.1]; omega
  · show win7_1.index t 1 * 1024 + 1 * d.val = _; rw [(index7 t).2.1.2]; omega

theorem read7_2 (t : Fin cfg7.N) (G : S8192x512.Idx → EReal) (x : S1024x512.Idx) :
    View.read (Elt Ideal) ((View.whole main_v20).slice (win7_2.rect t)) G x = G (((View.whole main_v20).slice (win7_2.rect t)).emb x) :=
  View.read_apply _ _

theorem mem_block7_2 (t : Fin cfg7.N) (i : S8192x512.Idx) (h0 : (i 0).val / 1024 = t.val) :
    i ∈ ((cfg7.win 2).blk t).view.set := by
  show i ∈ ((View.whole main_v20).slice (win7_2.rect t)).set
  rw [View.set_slice_whole, Rect.mem_set_unit]
  have e := (index7 t).2.2
  have s := (size7 t)
  have hi0 : (i 0).val < 8192 := (i 0).isLt
  have hi1 : (i 1).val < 512 := (i 1).isLt
  intro a
  match a with
  | ⟨0, _⟩ =>
    show win7_2.index t 0 * 1024 ≤ (i 0 : Nat) ∧ (i 0 : Nat) < win7_2.index t 0 * 1024 + win7_2.xsize (grid7.coords t) 0
    rw [e.1, s.1]; omega
  | ⟨1, _⟩ =>
    show win7_2.index t 1 * 512 ≤ (i 1 : Nat) ∧ (i 1 : Nat) < win7_2.index t 1 * 512 + win7_2.xsize (grid7.coords t) 1
    rw [e.2, s.2]; omega

/-- The gradient of the first branch. -/
theorem region7_out {f g : ℕ → ℕ → EReal} (h0 : V c main_v18_0 = plane (m := 8192) (n := 1024) f) (h1 : V c main_v1 = plane (m := 512) (n := 1024) g) :
    (dat7 V c).arrAt 2 cfg7.N = plane (m := 8192) (n := 512) (nt 1024 f g) := by
  refine (dat7 V c).arrAt_eq_of_cover 2 _ (fun t hf => ?_) fun i => ?_
  · have ht : t.val < 8 := t.isLt
    show (cfg7.win 2).cut (grid7.coords t) ((dat7 V c).after 2 t) = _
    rw [after7_2]
    have hb : Part (m := 1024) (n := 512) (out7_2 (iblk7 V c 0 t) (iblk7 V c 1 t)) (nt 1024 f g) (1024 * (t.val)) 0 := by
      intro r d
      frame_out
      exact (pay7_1_apply _ _ r d).trans (nt_at (block7_0 V c h0 t) (block7_1 V c h1 t) r d)
    funext x
    obtain ⟨r, d, rfl⟩ : ∃ (r : Fin 1024) (d : Fin 512), x = ix2 r d := ⟨x 0, x 1, eq_ix2 x⟩
    refine (hb r d).trans (Eq.trans ?_ (read7_2 t _ (ix2 r d)).symm)
    refine (plane_at (nt 1024 f g) _ _ _ ?_ ?_).symm
    · show win7_2.index t 0 * 1024 + 1 * r.val = _; rw [(index7 t).2.2.1]; omega
    · show win7_2.index t 1 * 512 + 1 * d.val = _; rw [(index7 t).2.2.2]; omega
  · have hi0 : (i 0).val < 8192 := (i 0).isLt
    have hi1 : (i 1).val < 512 := (i 1).isLt
    refine ⟨⟨(i 0).val / 1024, ?_⟩, flush7_2 _, mem_block7_2 _ i ?_⟩
    · show _ < 8; omega
    · show (i 0).val / 1024 = ((i 0).val / 1024); omega

/-! ## Call 8 -/

theorem index8 : ∀ t : Fin grid8.N,
    (win8_0.index t 0 = t.val % 8 ∧ win8_0.index t 1 = 0)
    ∧ (win8_1.index t 0 = t.val % 8 ∧ win8_1.index t 1 = 0)
    ∧ (win8_2.index t 0 = 0 ∧ win8_2.index t 1 = 0) := by
  decide +kernel

theorem size8 : ∀ t : Fin grid8.N,
    (win8_2.xsize (grid8.coords t) 0 = 512 ∧ win8_2.xsize (grid8.coords t) 1 = 1024) := by
  decide +kernel

theorem block8_0 {f : ℕ → ℕ → EReal} (hV : V c main_v0 = plane (m := 8192) (n := 512) f) (t : Fin cfg8.N) :
    Part (m := 1024) (n := 512) (iblk8 V c 0 t) f (1024 * (t.val % 8)) 0 := by
  intro r d
  unfold iblk8
  rw [View.read_apply]
  show V c main_v0 _ = _
  rw [hV]
  refine plane_at f _ _ _ ?_ ?_
  · show win8_0.index t 0 * 1024 + 1 * r.val = _; rw [(index8 t).1.1]; omega
  · show win8_0.index t 1 * 512 + 1 * d.val = _; rw [(index8 t).1.2]; omega

theorem block8_1 {f : ℕ → ℕ → EReal} (hV : V c main_v18_0 = plane (m := 8192) (n := 1024) f) (t : Fin cfg8.N) :
    Part (m := 1024) (n := 1024) (iblk8 V c 1 t) f (1024 * (t.val % 8)) 0 := by
  intro r d
  unfold iblk8
  rw [View.read_apply]
  show V c main_v18_0 _ = _
  rw [hV]
  refine plane_at f _ _ _ ?_ ?_
  · show win8_1.index t 0 * 1024 + 1 * r.val = _; rw [(index8 t).2.1.1]; omega
  · show win8_1.index t 1 * 1024 + 1 * d.val = _; rw [(index8 t).2.1.2]; omega

theorem read8_2 (t : Fin cfg8.N) (G : S512x1024.Idx → EReal) (x : S512x1024.Idx) :
    View.read (Elt Ideal) ((View.whole main_v21).slice (win8_2.rect t)) G x = G (((View.whole main_v21).slice (win8_2.rect t)).emb x) :=
  View.read_apply _ _

theorem mem_block8_2 (t : Fin cfg8.N) (i : S512x1024.Idx) :
    i ∈ ((cfg8.win 2).blk t).view.set := by
  show i ∈ ((View.whole main_v21).slice (win8_2.rect t)).set
  rw [View.set_slice_whole, Rect.mem_set_unit]
  have e := (index8 t).2.2
  have s := (size8 t)
  have hi0 : (i 0).val < 512 := (i 0).isLt
  have hi1 : (i 1).val < 1024 := (i 1).isLt
  intro a
  match a with
  | ⟨0, _⟩ =>
    show win8_2.index t 0 * 512 ≤ (i 0 : Nat) ∧ (i 0 : Nat) < win8_2.index t 0 * 512 + win8_2.xsize (grid8.coords t) 0
    rw [e.1, s.1]; omega
  | ⟨1, _⟩ =>
    show win8_2.index t 1 * 1024 ≤ (i 1 : Nat) ∧ (i 1 : Nat) < win8_2.index t 1 * 1024 + win8_2.xsize (grid8.coords t) 1
    rw [e.2, s.2]; omega

theorem left8 {f g : ℕ → ℕ → EReal} (h0 : V c main_v0 = plane (m := 8192) (n := 512) f) (h1 : V c main_v18_0 = plane (m := 8192) (n := 1024) g) :
    ∀ (n : ℕ) (hn : n < cfg8.N), Part (m := 512) (n := 1024) (outsAt8 V c n hn) (tn (1024 * (n % 8) + 1024) f g) (0) (0) := by
  intro n
  induction n with
  | zero =>
    intro hn r d
    rw [outsAt8_A V c ⟨0, hn⟩ rfl]
    frame_out
    refine (pay8_2_apply _ _ _ r d).trans ?_
    rw [pay8_1_apply, ← tn_zero f g ((0) + r.val) ((0) + d.val)]
    exact tn_at (block8_0 V c h0 ⟨0, hn⟩) (block8_1 V c h1 ⟨0, hn⟩) r d
  | succ n ih =>
    intro hn r d
    have hp : n < cfg8.N := by omega
    by_cases hz : (n + 1) % 8 = 0
    · rw [outsAt8_A V c ⟨n + 1, hn⟩ hz]
      frame_out
      refine (pay8_2_apply _ _ _ r d).trans ?_
      have b0 := block8_0 V c h0 ⟨n + 1, hn⟩
      have b1 := block8_1 V c h1 ⟨n + 1, hn⟩
      dsimp only at b0 b1
      rw [hz, Nat.mul_zero] at b0 b1 ⊢
      rw [pay8_1_apply, ← tn_zero f g ((0) + r.val) ((0) + d.val)]
      exact tn_at b0 b1 r d
    · rw [outsAt8_B V c ⟨n + 1, hn⟩ hz]
      frame_out
      refine (pay8_2_apply _ _ _ r d).trans ?_
      have e := ih hp r d
      rw [show 1024 * (n % 8) + 1024 = 1024 * ((n + 1) % 8) by omega] at e
      refine (congrArg (· + _) e).trans ?_
      exact tn_at (block8_0 V c h0 ⟨n + 1, hn⟩) (block8_1 V c h1 ⟨n + 1, hn⟩) r d

/-- The gradient of the first branch's weight. -/
theorem region8_out {f g : ℕ → ℕ → EReal} (h0 : V c main_v0 = plane (m := 8192) (n := 512) f) (h1 : V c main_v18_0 = plane (m := 8192) (n := 1024) g) :
    (dat8 V c).arrAt 2 cfg8.N = plane (m := 512) (n := 1024) (tn 8192 f g) := by
  refine (dat8 V c).arrAt_eq_of_cover 2 _ (fun t hf => ?_) fun i => ?_
  · have ht : t.val < 8 := t.isLt
    show (cfg8.win 2).cut (grid8.coords t) ((dat8 V c).after 2 t) = _
    rw [after8_2]
    have hb := left8 V c h0 h1 t.val t.isLt
    rw [(flush8_2 t).mp hf, show 1024 * 7 + 1024 = 8192 from rfl] at hb
    funext x
    obtain ⟨r, d, rfl⟩ : ∃ (r : Fin 512) (d : Fin 1024), x = ix2 r d := ⟨x 0, x 1, eq_ix2 x⟩
    refine (hb r d).trans (Eq.trans ?_ (read8_2 t _ (ix2 r d)).symm)
    refine (plane_at (tn 8192 f g) _ _ _ ?_ ?_).symm
    · show win8_2.index t 0 * 512 + 1 * r.val = _; rw [(index8 t).2.2.1]; omega
    · show win8_2.index t 1 * 1024 + 1 * d.val = _; rw [(index8 t).2.2.2]; omega
  · have hi0 : (i 0).val < 512 := (i 0).isLt
    have hi1 : (i 1).val < 1024 := (i 1).isLt
    refine ⟨⟨7, ?_⟩, (flush8_2 _).mpr ?_, mem_block8_2 _ i ⟩
    · show _ < 8; omega
    · show (7) % 8 = 7; omega

/-! ## Call 9 -/

theorem index9 : ∀ t : Fin grid9.N,
    (win9_0.index t 0 = t.val ∧ win9_0.index t 1 = 0)
    ∧ (win9_1.index t 0 = 0 ∧ win9_1.index t 1 = 0)
    ∧ (win9_2.index t 0 = t.val ∧ win9_2.index t 1 = 0) := by
  decide +kernel

theorem size9 : ∀ t : Fin grid9.N,
    (win9_2.xsize (grid9.coords t) 0 = 1024 ∧ win9_2.xsize (grid9.coords t) 1 = 1024) := by
  decide +kernel

theorem block9_0 {f : ℕ → ℕ → EReal} (hV : V c main_v18_1 = plane (m := 8192) (n := 1024) f) (t : Fin cfg9.N) :
    Part (m := 1024) (n := 1024) (iblk9 V c 0 t) f (1024 * (t.val)) 0 := by
  intro r d
  unfold iblk9
  rw [View.read_apply]
  show V c main_v18_1 _ = _
  rw [hV]
  refine plane_at f _ _ _ ?_ ?_
  · show win9_0.index t 0 * 1024 + 1 * r.val = _; rw [(index9 t).1.1]; omega
  · show win9_0.index t 1 * 1024 + 1 * d.val = _; rw [(index9 t).1.2]; omega

theorem block9_1 {f : ℕ → ℕ → EReal} (hV : V c main_v11 = plane (m := 1024) (n := 1024) f) (t : Fin cfg9.N) :
    Part (m := 1024) (n := 1024) (iblk9 V c 1 t) f 0 0 := by
  intro r d
  unfold iblk9
  rw [View.read_apply]
  show V c main_v11 _ = _
  rw [hV]
  refine plane_at f _ _ _ ?_ ?_
  · show win9_1.index t 0 * 1024 + 1 * r.val = _; rw [(index9 t).2.1.1]; omega
  · show win9_1.index t 1 * 1024 + 1 * d.val = _; rw [(index9 t).2.1.2]; omega

theorem read9_2 (t : Fin cfg9.N) (G : S8192x1024.Idx → EReal) (x : S1024x1024.Idx) :
    View.read (Elt Ideal) ((View.whole main_v22).slice (win9_2.rect t)) G x = G (((View.whole main_v22).slice (win9_2.rect t)).emb x) :=
  View.read_apply _ _

theorem mem_block9_2 (t : Fin cfg9.N) (i : S8192x1024.Idx) (h0 : (i 0).val / 1024 = t.val) :
    i ∈ ((cfg9.win 2).blk t).view.set := by
  show i ∈ ((View.whole main_v22).slice (win9_2.rect t)).set
  rw [View.set_slice_whole, Rect.mem_set_unit]
  have e := (index9 t).2.2
  have s := (size9 t)
  have hi0 : (i 0).val < 8192 := (i 0).isLt
  have hi1 : (i 1).val < 1024 := (i 1).isLt
  intro a
  match a with
  | ⟨0, _⟩ =>
    show win9_2.index t 0 * 1024 ≤ (i 0 : Nat) ∧ (i 0 : Nat) < win9_2.index t 0 * 1024 + win9_2.xsize (grid9.coords t) 0
    rw [e.1, s.1]; omega
  | ⟨1, _⟩ =>
    show win9_2.index t 1 * 1024 ≤ (i 1 : Nat) ∧ (i 1 : Nat) < win9_2.index t 1 * 1024 + win9_2.xsize (grid9.coords t) 1
    rw [e.2, s.2]; omega

/-- The gradient of the second branch. -/
theorem region9_out {f g : ℕ → ℕ → EReal} (h0 : V c main_v18_1 = plane (m := 8192) (n := 1024) f) (h1 : V c main_v11 = plane (m := 1024) (n := 1024) g) :
    (dat9 V c).arrAt 2 cfg9.N = plane (m := 8192) (n := 1024) (nt 1024 f g) := by
  refine (dat9 V c).arrAt_eq_of_cover 2 _ (fun t hf => ?_) fun i => ?_
  · have ht : t.val < 8 := t.isLt
    show (cfg9.win 2).cut (grid9.coords t) ((dat9 V c).after 2 t) = _
    rw [after9_2]
    have hb : Part (m := 1024) (n := 1024) (out9_2 (iblk9 V c 0 t) (iblk9 V c 1 t)) (nt 1024 f g) (1024 * (t.val)) 0 := by
      intro r d
      frame_out
      exact (pay9_1_apply _ _ r d).trans (nt_at (block9_0 V c h0 t) (block9_1 V c h1 t) r d)
    funext x
    obtain ⟨r, d, rfl⟩ : ∃ (r : Fin 1024) (d : Fin 1024), x = ix2 r d := ⟨x 0, x 1, eq_ix2 x⟩
    refine (hb r d).trans (Eq.trans ?_ (read9_2 t _ (ix2 r d)).symm)
    refine (plane_at (nt 1024 f g) _ _ _ ?_ ?_).symm
    · show win9_2.index t 0 * 1024 + 1 * r.val = _; rw [(index9 t).2.2.1]; omega
    · show win9_2.index t 1 * 1024 + 1 * d.val = _; rw [(index9 t).2.2.2]; omega
  · have hi0 : (i 0).val < 8192 := (i 0).isLt
    have hi1 : (i 1).val < 1024 := (i 1).isLt
    refine ⟨⟨(i 0).val / 1024, ?_⟩, flush9_2 _, mem_block9_2 _ i ?_⟩
    · show _ < 8; omega
    · show (i 0).val / 1024 = ((i 0).val / 1024); omega

/-! ## Call 10 -/

theorem index10 : ∀ t : Fin grid10.N,
    (win10_0.index t 0 = t.val % 8 ∧ win10_0.index t 1 = 0)
    ∧ (win10_1.index t 0 = t.val % 8 ∧ win10_1.index t 1 = 0)
    ∧ (win10_2.index t 0 = 0 ∧ win10_2.index t 1 = 0) := by
  decide +kernel

theorem size10 : ∀ t : Fin grid10.N,
    (win10_2.xsize (grid10.coords t) 0 = 1024 ∧ win10_2.xsize (grid10.coords t) 1 = 1024) := by
  decide +kernel

theorem block10_0 {f : ℕ → ℕ → EReal} (hV : V c main_v8 = plane (m := 8192) (n := 1024) f) (t : Fin cfg10.N) :
    Part (m := 1024) (n := 1024) (iblk10 V c 0 t) f (1024 * (t.val % 8)) 0 := by
  intro r d
  unfold iblk10
  rw [View.read_apply]
  show V c main_v8 _ = _
  rw [hV]
  refine plane_at f _ _ _ ?_ ?_
  · show win10_0.index t 0 * 1024 + 1 * r.val = _; rw [(index10 t).1.1]; omega
  · show win10_0.index t 1 * 1024 + 1 * d.val = _; rw [(index10 t).1.2]; omega

theorem block10_1 {f : ℕ → ℕ → EReal} (hV : V c main_v18_1 = plane (m := 8192) (n := 1024) f) (t : Fin cfg10.N) :
    Part (m := 1024) (n := 1024) (iblk10 V c 1 t) f (1024 * (t.val % 8)) 0 := by
  intro r d
  unfold iblk10
  rw [View.read_apply]
  show V c main_v18_1 _ = _
  rw [hV]
  refine plane_at f _ _ _ ?_ ?_
  · show win10_1.index t 0 * 1024 + 1 * r.val = _; rw [(index10 t).2.1.1]; omega
  · show win10_1.index t 1 * 1024 + 1 * d.val = _; rw [(index10 t).2.1.2]; omega

theorem read10_2 (t : Fin cfg10.N) (G : S1024x1024.Idx → EReal) (x : S1024x1024.Idx) :
    View.read (Elt Ideal) ((View.whole main_v23).slice (win10_2.rect t)) G x = G (((View.whole main_v23).slice (win10_2.rect t)).emb x) :=
  View.read_apply _ _

theorem mem_block10_2 (t : Fin cfg10.N) (i : S1024x1024.Idx) :
    i ∈ ((cfg10.win 2).blk t).view.set := by
  show i ∈ ((View.whole main_v23).slice (win10_2.rect t)).set
  rw [View.set_slice_whole, Rect.mem_set_unit]
  have e := (index10 t).2.2
  have s := (size10 t)
  have hi0 : (i 0).val < 1024 := (i 0).isLt
  have hi1 : (i 1).val < 1024 := (i 1).isLt
  intro a
  match a with
  | ⟨0, _⟩ =>
    show win10_2.index t 0 * 1024 ≤ (i 0 : Nat) ∧ (i 0 : Nat) < win10_2.index t 0 * 1024 + win10_2.xsize (grid10.coords t) 0
    rw [e.1, s.1]; omega
  | ⟨1, _⟩ =>
    show win10_2.index t 1 * 1024 ≤ (i 1 : Nat) ∧ (i 1 : Nat) < win10_2.index t 1 * 1024 + win10_2.xsize (grid10.coords t) 1
    rw [e.2, s.2]; omega

theorem left10 {f g : ℕ → ℕ → EReal} (h0 : V c main_v8 = plane (m := 8192) (n := 1024) f) (h1 : V c main_v18_1 = plane (m := 8192) (n := 1024) g) :
    ∀ (n : ℕ) (hn : n < cfg10.N), Part (m := 1024) (n := 1024) (outsAt10 V c n hn) (tn (1024 * (n % 8) + 1024) f g) (0) (0) := by
  intro n
  induction n with
  | zero =>
    intro hn r d
    rw [outsAt10_A V c ⟨0, hn⟩ rfl]
    frame_out
    refine (pay10_2_apply _ _ _ r d).trans ?_
    rw [pay10_1_apply, ← tn_zero f g ((0) + r.val) ((0) + d.val)]
    exact tn_at (block10_0 V c h0 ⟨0, hn⟩) (block10_1 V c h1 ⟨0, hn⟩) r d
  | succ n ih =>
    intro hn r d
    have hp : n < cfg10.N := by omega
    by_cases hz : (n + 1) % 8 = 0
    · rw [outsAt10_A V c ⟨n + 1, hn⟩ hz]
      frame_out
      refine (pay10_2_apply _ _ _ r d).trans ?_
      have b0 := block10_0 V c h0 ⟨n + 1, hn⟩
      have b1 := block10_1 V c h1 ⟨n + 1, hn⟩
      dsimp only at b0 b1
      rw [hz, Nat.mul_zero] at b0 b1 ⊢
      rw [pay10_1_apply, ← tn_zero f g ((0) + r.val) ((0) + d.val)]
      exact tn_at b0 b1 r d
    · rw [outsAt10_B V c ⟨n + 1, hn⟩ hz]
      frame_out
      refine (pay10_2_apply _ _ _ r d).trans ?_
      have e := ih hp r d
      rw [show 1024 * (n % 8) + 1024 = 1024 * ((n + 1) % 8) by omega] at e
      refine (congrArg (· + _) e).trans ?_
      exact tn_at (block10_0 V c h0 ⟨n + 1, hn⟩) (block10_1 V c h1 ⟨n + 1, hn⟩) r d

/-- The gradient of the second branch's weight. -/
theorem region10_out {f g : ℕ → ℕ → EReal} (h0 : V c main_v8 = plane (m := 8192) (n := 1024) f) (h1 : V c main_v18_1 = plane (m := 8192) (n := 1024) g) :
    (dat10 V c).arrAt 2 cfg10.N = plane (m := 1024) (n := 1024) (tn 8192 f g) := by
  refine (dat10 V c).arrAt_eq_of_cover 2 _ (fun t hf => ?_) fun i => ?_
  · have ht : t.val < 8 := t.isLt
    show (cfg10.win 2).cut (grid10.coords t) ((dat10 V c).after 2 t) = _
    rw [after10_2]
    have hb := left10 V c h0 h1 t.val t.isLt
    rw [(flush10_2 t).mp hf, show 1024 * 7 + 1024 = 8192 from rfl] at hb
    funext x
    obtain ⟨r, d, rfl⟩ : ∃ (r : Fin 1024) (d : Fin 1024), x = ix2 r d := ⟨x 0, x 1, eq_ix2 x⟩
    refine (hb r d).trans (Eq.trans ?_ (read10_2 t _ (ix2 r d)).symm)
    refine (plane_at (tn 8192 f g) _ _ _ ?_ ?_).symm
    · show win10_2.index t 0 * 1024 + 1 * r.val = _; rw [(index10 t).2.2.1]; omega
    · show win10_2.index t 1 * 1024 + 1 * d.val = _; rw [(index10 t).2.2.2]; omega
  · have hi0 : (i 0).val < 1024 := (i 0).isLt
    have hi1 : (i 1).val < 1024 := (i 1).isLt
    refine ⟨⟨7, ?_⟩, (flush10_2 _).mpr ?_, mem_block10_2 _ i ⟩
    · show _ < 8; omega
    · show (7) % 8 = 7; omega

end Cert.Kernel3Ideal.Gate

end
-- ==== Proof.GateMerge.lean ====
/-
  The two calls that compute the gates: the branches merged, and the gradients through the gates, with the column sums of the
  gates' gradients accumulated over 32 blocks of rows.
-/
module

public import proofs.«01_k».proof.Proof.Gen.Kernel3Ideal.Frame
public import proofs.«01_k».proof.Proof.GatePay
public import Idealize.ShloMosaic.Lib.Pipeline.ValueKit.Acc

@[expose] public section

set_option maxRecDepth 16384

noncomputable section

open Idealize.ShloMosaic Idealize.ShloMosaic.TcCoe Idealize.SL.Sem Finset

namespace Cert.Kernel3Ideal.Gate

open Cert.Kernel3Ideal Cert.Kernel3Ideal.Gen Cert.Mlp

variable (V : (c : Dev nD) → (b : Ref sig .tc) → Buf (Elt Ideal) ((c : Thread nD τ).loc b)) (c : Dev nD)

/-! ## Call 2 -/

theorem index2 : ∀ t : Fin grid2.N,
    (win2_0.index t 0 = t.val ∧ win2_0.index t 1 = 0)
    ∧ (win2_1.index t 0 = t.val ∧ win2_1.index t 1 = 1)
    ∧ (win2_2.index t 0 = t.val ∧ win2_2.index t 1 = 0)
    ∧ (win2_3.index t 0 = t.val ∧ win2_3.index t 1 = 0)
    ∧ (win2_4.index t 0 = 0 ∧ win2_4.index t 1 = 0)
    ∧ (win2_5.index t 0 = t.val ∧ win2_5.index t 1 = 0) := by
  decide +kernel

theorem size2 : ∀ t : Fin grid2.N,
    (win2_5.xsize (grid2.coords t) 0 = 1024 ∧ win2_5.xsize (grid2.coords t) 1 = 1024) := by
  decide +kernel

theorem block2_0 {f : ℕ → ℕ → EReal} (hV : V c main_arg2 = plane (m := 8192) (n := 2048) f) (t : Fin cfg2.N) :
    Part (m := 1024) (n := 1024) (iblk2 V c 0 t) f (1024 * (t.val)) 0 := by
  intro r d
  unfold iblk2
  rw [View.read_apply]
  show V c main_arg2 _ = _
  rw [hV]
  refine plane_at f _ _ _ ?_ ?_
  · show win2_0.index t 0 * 1024 + 1 * r.val = _; rw [(index2 t).1.1]; omega
  · show win2_0.index t 1 * 1024 + 1 * d.val = _; rw [(index2 t).1.2]; omega

theorem block2_1 {f : ℕ → ℕ → EReal} (hV : V c main_arg2 = plane (m := 8192) (n := 2048) f) (t : Fin cfg2.N) :
    Part (m := 1024) (n := 1024) (iblk2 V c 1 t) f (1024 * (t.val)) (1024 * (1)) := by
  intro r d
  unfold iblk2
  rw [View.read_apply]
  show V c main_arg2 _ = _
  rw [hV]
  refine plane_at f _ _ _ ?_ ?_
  · show win2_1.index t 0 * 1024 + 1 * r.val = _; rw [(index2 t).2.1.1]; omega
  · show win2_1.index t 1 * 1024 + 1 * d.val = _; rw [(index2 t).2.1.2]; omega

theorem block2_2 {f : ℕ → ℕ → EReal} (hV : V c main_v12 = plane (m := 8192) (n := 1024) f) (t : Fin cfg2.N) :
    Part (m := 1024) (n := 1024) (iblk2 V c 2 t) f (1024 * (t.val)) 0 := by
  intro r d
  unfold iblk2
  rw [View.read_apply]
  show V c main_v12 _ = _
  rw [hV]
  refine plane_at f _ _ _ ?_ ?_
  · show win2_2.index t 0 * 1024 + 1 * r.val = _; rw [(index2 t).2.2.1.1]; omega
  · show win2_2.index t 1 * 1024 + 1 * d.val = _; rw [(index2 t).2.2.1.2]; omega

theorem block2_3 {f : ℕ → ℕ → EReal} (hV : V c main_v13 = plane (m := 8192) (n := 1024) f) (t : Fin cfg2.N) :
    Part (m := 1024) (n := 1024) (iblk2 V c 3 t) f (1024 * (t.val)) 0 := by
  intro r d
  unfold iblk2
  rw [View.read_apply]
  show V c main_v13 _ = _
  rw [hV]
  refine plane_at f _ _ _ ?_ ?_
  · show win2_3.index t 0 * 1024 + 1 * r.val = _; rw [(index2 t).2.2.2.1.1]; omega
  · show win2_3.index t 1 * 1024 + 1 * d.val = _; rw [(index2 t).2.2.2.1.2]; omega

theorem block2_4 {f : ℕ → ℕ → EReal} (hV : V c main_arg3 = plane (m := 2) (n := 1024) f) (t : Fin cfg2.N) :
    Part (m := 2) (n := 1024) (iblk2 V c 4 t) f 0 0 := by
  intro r d
  unfold iblk2
  rw [View.read_apply]
  show V c main_arg3 _ = _
  rw [hV]
  refine plane_at f _ _ _ ?_ ?_
  · show win2_4.index t 0 * 2 + 1 * r.val = _; rw [(index2 t).2.2.2.2.1.1]; omega
  · show win2_4.index t 1 * 1024 + 1 * d.val = _; rw [(index2 t).2.2.2.2.1.2]; omega

theorem read2_5 (t : Fin cfg2.N) (G : S8192x1024.Idx → EReal) (x : S1024x1024.Idx) :
    View.read (Elt Ideal) ((View.whole main_v14).slice (win2_5.rect t)) G x = G (((View.whole main_v14).slice (win2_5.rect t)).emb x) :=
  View.read_apply _ _

theorem mem_block2_5 (t : Fin cfg2.N) (i : S8192x1024.Idx) (h0 : (i 0).val / 1024 = t.val) :
    i ∈ ((cfg2.win 5).blk t).view.set := by
  show i ∈ ((View.whole main_v14).slice (win2_5.rect t)).set
  rw [View.set_slice_whole, Rect.mem_set_unit]
  have e := (index2 t).2.2.2.2.2
  have s := (size2 t)
  have hi0 : (i 0).val < 8192 := (i 0).isLt
  have hi1 : (i 1).val < 1024 := (i 1).isLt
  intro a
  match a with
  | ⟨0, _⟩ =>
    show win2_5.index t 0 * 1024 ≤ (i 0 : Nat) ∧ (i 0 : Nat) < win2_5.index t 0 * 1024 + win2_5.xsize (grid2.coords t) 0
    rw [e.1, s.1]; omega
  | ⟨1, _⟩ =>
    show win2_5.index t 1 * 1024 ≤ (i 1 : Nat) ∧ (i 1 : Nat) < win2_5.index t 1 * 1024 + win2_5.xsize (grid2.coords t) 1
    rw [e.2, s.2]; omega

/-- The branches merged. -/
theorem region2_out {g s u b : ℕ → ℕ → EReal} (h0 : V c main_arg2 = plane (m := 8192) (n := 2048) g) (h2 : V c main_v12 = plane (m := 8192) (n := 1024) s) (h3 : V c main_v13 = plane (m := 8192) (n := 1024) u) (h4 : V c main_arg3 = plane (m := 2) (n := 1024) b) :
    (dat2 V c).arrAt 5 cfg2.N = plane (m := 8192) (n := 1024) (merge g b s u) := by
  refine (dat2 V c).arrAt_eq_of_cover 5 _ (fun t hf => ?_) fun i => ?_
  · have ht : t.val < 8 := t.isLt
    show (cfg2.win 5).cut (grid2.coords t) ((dat2 V c).after 5 t) = _
    rw [after2_5]
    have hb : Part (m := 1024) (n := 1024) (out2_5 (iblk2 V c 0 t) (iblk2 V c 1 t) (iblk2 V c 2 t) (iblk2 V c 3 t) (iblk2 V c 4 t)) (merge g b s u) (1024 * (t.val)) 0 := by
      intro r d
      frame_out
      refine (pay2_1_apply _ _ _ _ _ r d).trans ?_
      exact congrArg₂ (· + ·)
        (congrArg₂ (· * ·) (gate_at 0 (block2_0 V c h0 t) (block2_4 V c h4 t) r d) (block2_2 V c h2 t r d))
        (congrArg₂ (· * ·) (gate_at 1 (block2_1 V c h0 t) (block2_4 V c h4 t) r d) (block2_3 V c h3 t r d))
    funext x
    obtain ⟨r, d, rfl⟩ : ∃ (r : Fin 1024) (d : Fin 1024), x = ix2 r d := ⟨x 0, x 1, eq_ix2 x⟩
    refine (hb r d).trans (Eq.trans ?_ (read2_5 t _ (ix2 r d)).symm)
    refine (plane_at (merge g b s u) _ _ _ ?_ ?_).symm
    · show win2_5.index t 0 * 1024 + 1 * r.val = _; rw [(index2 t).2.2.2.2.2.1]; omega
    · show win2_5.index t 1 * 1024 + 1 * d.val = _; rw [(index2 t).2.2.2.2.2.2]; omega
  · have hi0 : (i 0).val < 8192 := (i 0).isLt
    have hi1 : (i 1).val < 1024 := (i 1).isLt
    refine ⟨⟨(i 0).val / 1024, ?_⟩, flush2_5 _, mem_block2_5 _ i ?_⟩
    · show _ < 8; omega
    · show (i 0).val / 1024 = ((i 0).val / 1024); omega

/-! ## Call 6 -/

theorem index6 : ∀ t : Fin grid6.N,
    (win6_0.index t 0 = t.val ∧ win6_0.index t 1 = 0)
    ∧ (win6_1.index t 0 = t.val ∧ win6_1.index t 1 = 0)
    ∧ (win6_2.index t 0 = t.val ∧ win6_2.index t 1 = 1)
    ∧ (win6_3.index t 0 = t.val ∧ win6_3.index t 1 = 0)
    ∧ (win6_4.index t 0 = t.val ∧ win6_4.index t 1 = 0)
    ∧ (win6_5.index t 0 = 0 ∧ win6_5.index t 1 = 0)
    ∧ (win6_6.index t 0 = t.val ∧ win6_6.index t 1 = 0)
    ∧ (win6_7.index t 0 = t.val ∧ win6_7.index t 1 = 0)
    ∧ (win6_8.index t 0 = t.val ∧ win6_8.index t 1 = 0)
    ∧ (win6_9.index t 0 = 0 ∧ win6_9.index t 1 = 0)
    ∧ (win6_10.index t 0 = 0 ∧ win6_10.index t 1 = 0) := by
  decide +kernel

theorem size6 : ∀ t : Fin grid6.N,
    (win6_6.xsize (grid6.coords t) 0 = 256 ∧ win6_6.xsize (grid6.coords t) 1 = 1024)
    ∧ (win6_7.xsize (grid6.coords t) 0 = 256 ∧ win6_7.xsize (grid6.coords t) 1 = 1024)
    ∧ (win6_8.xsize (grid6.coords t) 0 = 256 ∧ win6_8.xsize (grid6.coords t) 1 = 2048)
    ∧ (win6_9.xsize (grid6.coords t) 0 = 1 ∧ win6_9.xsize (grid6.coords t) 1 = 1024)
    ∧ (win6_10.xsize (grid6.coords t) 0 = 1 ∧ win6_10.xsize (grid6.coords t) 1 = 1024) := by
  decide +kernel

theorem block6_0 {f : ℕ → ℕ → EReal} (hV : V c main_v16 = plane (m := 8192) (n := 1024) f) (t : Fin cfg6.N) :
    Part (m := 256) (n := 1024) (iblk6 V c 0 t) f (256 * (t.val)) 0 := by
  intro r d
  unfold iblk6
  rw [View.read_apply]
  show V c main_v16 _ = _
  rw [hV]
  refine plane_at f _ _ _ ?_ ?_
  · show win6_0.index t 0 * 256 + 1 * r.val = _; rw [(index6 t).1.1]; omega
  · show win6_0.index t 1 * 1024 + 1 * d.val = _; rw [(index6 t).1.2]; omega

theorem block6_1 {f : ℕ → ℕ → EReal} (hV : V c main_arg2 = plane (m := 8192) (n := 2048) f) (t : Fin cfg6.N) :
    Part (m := 256) (n := 1024) (iblk6 V c 1 t) f (256 * (t.val)) 0 := by
  intro r d
  unfold iblk6
  rw [View.read_apply]
  show V c main_arg2 _ = _
  rw [hV]
  refine plane_at f _ _ _ ?_ ?_
  · show win6_1.index t 0 * 256 + 1 * r.val = _; rw [(index6 t).2.1.1]; omega
  · show win6_1.index t 1 * 1024 + 1 * d.val = _; rw [(index6 t).2.1.2]; omega

theorem block6_2 {f : ℕ → ℕ → EReal} (hV : V c main_arg2 = plane (m := 8192) (n := 2048) f) (t : Fin cfg6.N) :
    Part (m := 256) (n := 1024) (iblk6 V c 2 t) f (256 * (t.val)) (1024 * (1)) := by
  intro r d
  unfold iblk6
  rw [View.read_apply]
  show V c main_arg2 _ = _
  rw [hV]
  refine plane_at f _ _ _ ?_ ?_
  · show win6_2.index t 0 * 256 + 1 * r.val = _; rw [(index6 t).2.2.1.1]; omega
  · show win6_2.index t 1 * 1024 + 1 * d.val = _; rw [(index6 t).2.2.1.2]; omega

theorem block6_3 {f : ℕ → ℕ → EReal} (hV : V c main_v12 = plane (m := 8192) (n := 1024) f) (t : Fin cfg6.N) :
    Part (m := 256) (n := 1024) (iblk6 V c 3 t) f (256 * (t.val)) 0 := by
  intro r d
  unfold iblk6
  rw [View.read_apply]
  show V c main_v12 _ = _
  rw [hV]
  refine plane_at f _ _ _ ?_ ?_
  · show win6_3.index t 0 * 256 + 1 * r.val = _; rw [(index6 t).2.2.2.1.1]; omega
  · show win6_3.index t 1 * 1024 + 1 * d.val = _; rw [(index6 t).2.2.2.1.2]; omega

theorem block6_4 {f : ℕ → ℕ → EReal} (hV : V c main_v13 = plane (m := 8192) (n := 1024) f) (t : Fin cfg6.N) :
    Part (m := 256) (n := 1024) (iblk6 V c 4 t) f (256 * (t.val)) 0 := by
  intro r d
  unfold iblk6
  rw [View.read_apply]
  show V c main_v13 _ = _
  rw [hV]
  refine plane_at f _ _ _ ?_ ?_
  · show win6_4.index t 0 * 256 + 1 * r.val = _; rw [(index6 t).2.2.2.2.1.1]; omega
  · show win6_4.index t 1 * 1024 + 1 * d.val = _; rw [(index6 t).2.2.2.2.1.2]; omega

theorem block6_5 {f : ℕ → ℕ → EReal} (hV : V c main_arg3 = plane (m := 2) (n := 1024) f) (t : Fin cfg6.N) :
    Part (m := 2) (n := 1024) (iblk6 V c 5 t) f 0 0 := by
  intro r d
  unfold iblk6
  rw [View.read_apply]
  show V c main_arg3 _ = _
  rw [hV]
  refine plane_at f _ _ _ ?_ ?_
  · show win6_5.index t 0 * 2 + 1 * r.val = _; rw [(index6 t).2.2.2.2.2.1.1]; omega
  · show win6_5.index t 1 * 1024 + 1 * d.val = _; rw [(index6 t).2.2.2.2.2.1.2]; omega

theorem read6_6 (t : Fin cfg6.N) (G : S8192x1024.Idx → EReal) (x : S256x1024.Idx) :
    View.read (Elt Ideal) ((View.whole main_v18_0).slice (win6_6.rect t)) G x = G (((View.whole main_v18_0).slice (win6_6.rect t)).emb x) :=
  View.read_apply _ _

theorem mem_block6_6 (t : Fin cfg6.N) (i : S8192x1024.Idx) (h0 : (i 0).val / 256 = t.val) :
    i ∈ ((cfg6.win 6).blk t).view.set := by
  show i ∈ ((View.whole main_v18_0).slice (win6_6.rect t)).set
  rw [View.set_slice_whole, Rect.mem_set_unit]
  have e := (index6 t).2.2.2.2.2.2.1
  have s := (size6 t).1
  have hi0 : (i 0).val < 8192 := (i 0).isLt
  have hi1 : (i 1).val < 1024 := (i 1).isLt
  intro a
  match a with
  | ⟨0, _⟩ =>
    show win6_6.index t 0 * 256 ≤ (i 0 : Nat) ∧ (i 0 : Nat) < win6_6.index t 0 * 256 + win6_6.xsize (grid6.coords t) 0
    rw [e.1, s.1]; omega
  | ⟨1, _⟩ =>
    show win6_6.index t 1 * 1024 ≤ (i 1 : Nat) ∧ (i 1 : Nat) < win6_6.index t 1 * 1024 + win6_6.xsize (grid6.coords t) 1
    rw [e.2, s.2]; omega

theorem read6_7 (t : Fin cfg6.N) (G : S8192x1024.Idx → EReal) (x : S256x1024.Idx) :
    View.read (Elt Ideal) ((View.whole main_v18_1).slice (win6_7.rect t)) G x = G (((View.whole main_v18_1).slice (win6_7.rect t)).emb x) :=
  View.read_apply _ _

theorem mem_block6_7 (t : Fin cfg6.N) (i : S8192x1024.Idx) (h0 : (i 0).val / 256 = t.val) :
    i ∈ ((cfg6.win 7).blk t).view.set := by
  show i ∈ ((View.whole main_v18_1).slice (win6_7.rect t)).set
  rw [View.set_slice_whole, Rect.mem_set_unit]
  have e := (index6 t).2.2.2.2.2.2.2.1
  have s := (size6 t).2.1
  have hi0 : (i 0).val < 8192 := (i 0).isLt
  have hi1 : (i 1).val < 1024 := (i 1).isLt
  intro a
  match a with
  | ⟨0, _⟩ =>
    show win6_7.index t 0 * 256 ≤ (i 0 : Nat) ∧ (i 0 : Nat) < win6_7.index t 0 * 256 + win6_7.xsize (grid6.coords t) 0
    rw [e.1, s.1]; omega
  | ⟨1, _⟩ =>
    show win6_7.index t 1 * 1024 ≤ (i 1 : Nat) ∧ (i 1 : Nat) < win6_7.index t 1 * 1024 + win6_7.xsize (grid6.coords t) 1
    rw [e.2, s.2]; omega

theorem read6_8 (t : Fin cfg6.N) (G : S8192x2048.Idx → EReal) (x : S256x2048.Idx) :
    View.read (Elt Ideal) ((View.whole main_v18_2).slice (win6_8.rect t)) G x = G (((View.whole main_v18_2).slice (win6_8.rect t)).emb x) :=
  View.read_apply _ _

theorem mem_block6_8 (t : Fin cfg6.N) (i : S8192x2048.Idx) (h0 : (i 0).val / 256 = t.val) :
    i ∈ ((cfg6.win 8).blk t).view.set := by
  show i ∈ ((View.whole main_v18_2).slice (win6_8.rect t)).set
  rw [View.set_slice_whole, Rect.mem_set_unit]
  have e := (index6 t).2.2.2.2.2.2.2.2.1
  have s := (size6 t).2.2.1
  have hi0 : (i 0).val < 8192 := (i 0).isLt
  have hi1 : (i 1).val < 2048 := (i 1).isLt
  intro a
  match a with
  | ⟨0, _⟩ =>
    show win6_8.index t 0 * 256 ≤ (i 0 : Nat) ∧ (i 0 : Nat) < win6_8.index t 0 * 256 + win6_8.xsize (grid6.coords t) 0
    rw [e.1, s.1]; omega
  | ⟨1, _⟩ =>
    show win6_8.index t 1 * 2048 ≤ (i 1 : Nat) ∧ (i 1 : Nat) < win6_8.index t 1 * 2048 + win6_8.xsize (grid6.coords t) 1
    rw [e.2, s.2]; omega

theorem read6_9 (t : Fin cfg6.N) (G : S1x1024.Idx → EReal) (x : S1x1024.Idx) :
    View.read (Elt Ideal) ((View.whole main_v18_3).slice (win6_9.rect t)) G x = G (((View.whole main_v18_3).slice (win6_9.rect t)).emb x) :=
  View.read_apply _ _

theorem mem_block6_9 (t : Fin cfg6.N) (i : S1x1024.Idx) :
    i ∈ ((cfg6.win 9).blk t).view.set := by
  show i ∈ ((View.whole main_v18_3).slice (win6_9.rect t)).set
  rw [View.set_slice_whole, Rect.mem_set_unit]
  have e := (index6 t).2.2.2.2.2.2.2.2.2.1
  have s := (size6 t).2.2.2.1
  have hi0 : (i 0).val < 1 := (i 0).isLt
  have hi1 : (i 1).val < 1024 := (i 1).isLt
  intro a
  match a with
  | ⟨0, _⟩ =>
    show win6_9.index t 0 * 1 ≤ (i 0 : Nat) ∧ (i 0 : Nat) < win6_9.index t 0 * 1 + win6_9.xsize (grid6.coords t) 0
    rw [e.1, s.1]; omega
  | ⟨1, _⟩ =>
    show win6_9.index t 1 * 1024 ≤ (i 1 : Nat) ∧ (i 1 : Nat) < win6_9.index t 1 * 1024 + win6_9.xsize (grid6.coords t) 1
    rw [e.2, s.2]; omega

theorem read6_10 (t : Fin cfg6.N) (G : S1x1024.Idx → EReal) (x : S1x1024.Idx) :
    View.read (Elt Ideal) ((View.whole main_v18_4).slice (win6_10.rect t)) G x = G (((View.whole main_v18_4).slice (win6_10.rect t)).emb x) :=
  View.read_apply _ _

theorem mem_block6_10 (t : Fin cfg6.N) (i : S1x1024.Idx) :
    i ∈ ((cfg6.win 10).blk t).view.set := by
  show i ∈ ((View.whole main_v18_4).slice (win6_10.rect t)).set
  rw [View.set_slice_whole, Rect.mem_set_unit]
  have e := (index6 t).2.2.2.2.2.2.2.2.2.2
  have s := (size6 t).2.2.2.2
  have hi0 : (i 0).val < 1 := (i 0).isLt
  have hi1 : (i 1).val < 1024 := (i 1).isLt
  intro a
  match a with
  | ⟨0, _⟩ =>
    show win6_10.index t 0 * 1 ≤ (i 0 : Nat) ∧ (i 0 : Nat) < win6_10.index t 0 * 1 + win6_10.xsize (grid6.coords t) 0
    rw [e.1, s.1]; omega
  | ⟨1, _⟩ =>
    show win6_10.index t 1 * 1024 ≤ (i 1 : Nat) ∧ (i 1 : Nat) < win6_10.index t 1 * 1024 + win6_10.xsize (grid6.coords t) 1
    rw [e.2, s.2]; omega

/-! The three blocks of rows that a point computes. -/

theorem branch6_0 {e g b : ℕ → ℕ → EReal} (h0 : V c main_v16 = plane (m := 8192) (n := 1024) e)
    (h1 : V c main_arg2 = plane (m := 8192) (n := 2048) g) (h5 : V c main_arg3 = plane (m := 2) (n := 1024) b) (t : Fin cfg6.N) :
    Part (m := 256) (n := 1024) (k6_pay1 (k6_pay8 (iblk6 V c 0 t)) (k6_pay9 (iblk6 V c 1 t) (iblk6 V c 5 t))) (dbranch e g b 0) (256 * t.val) 0 :=
  fun r d => (pay6_1_apply _ _ _ r d).trans
    (congrArg₂ (· * ·) (block6_0 V c h0 t r d) (gate_at 0 (block6_1 V c h1 t) (block6_5 V c h5 t) r d))

theorem branch6_1 {e g b : ℕ → ℕ → EReal} (h0 : V c main_v16 = plane (m := 8192) (n := 1024) e)
    (h1 : V c main_arg2 = plane (m := 8192) (n := 2048) g) (h5 : V c main_arg3 = plane (m := 2) (n := 1024) b) (t : Fin cfg6.N) :
    Part (m := 256) (n := 1024) (k6_pay2 (k6_pay8 (iblk6 V c 0 t)) (k6_pay10 (iblk6 V c 2 t) (iblk6 V c 5 t))) (dbranch e g b 1) (256 * t.val) 0 :=
  fun r d => (pay6_2_apply _ _ _ r d).trans
    (congrArg₂ (· * ·) (block6_0 V c h0 t r d) (gate_at 1 (block6_2 V c h1 t) (block6_5 V c h5 t) r d))

theorem gate6_0 {e g s b : ℕ → ℕ → EReal} (h0 : V c main_v16 = plane (m := 8192) (n := 1024) e)
    (h1 : V c main_arg2 = plane (m := 8192) (n := 2048) g) (h3 : V c main_v12 = plane (m := 8192) (n := 1024) s)
    (h5 : V c main_arg3 = plane (m := 2) (n := 1024) b) (t : Fin cfg6.N) :
    Part (m := 256) (n := 1024) (k6_pay11 (iblk6 V c 0 t) (iblk6 V c 1 t) (iblk6 V c 3 t) (iblk6 V c 5 t)) (dgate e s g b 0) (256 * t.val) 0 :=
  fun r d => (pay6_11_apply _ _ _ _ r d).trans (congrArg₂ (fun x y : EReal => x * y * (1 - y))
    (congrArg₂ (· * ·) (block6_0 V c h0 t r d) (block6_3 V c h3 t r d)) (gate_at 0 (block6_1 V c h1 t) (block6_5 V c h5 t) r d))

theorem gate6_1 {e g u b : ℕ → ℕ → EReal} (h0 : V c main_v16 = plane (m := 8192) (n := 1024) e)
    (h1 : V c main_arg2 = plane (m := 8192) (n := 2048) g) (h4 : V c main_v13 = plane (m := 8192) (n := 1024) u)
    (h5 : V c main_arg3 = plane (m := 2) (n := 1024) b) (t : Fin cfg6.N) :
    Part (m := 256) (n := 1024) (k6_pay12 (iblk6 V c 0 t) (iblk6 V c 2 t) (iblk6 V c 4 t) (iblk6 V c 5 t)) (dgate e u g b 1) (256 * t.val) 0 :=
  fun r d => (pay6_12_apply _ _ _ _ r d).trans (congrArg₂ (fun x y : EReal => x * y * (1 - y))
    (congrArg₂ (· * ·) (block6_0 V c h0 t r d) (block6_4 V c h4 t r d)) (gate_at 1 (block6_2 V c h1 t) (block6_5 V c h5 t) r d))

/-- What a point leaves in the three blocks of rows, whichever case it is. -/
theorem rows6 (t : Fin cfg6.N) :
    (outsAt6 V c t.val t.isLt).1 = k6_pay1 (k6_pay8 (iblk6 V c 0 t)) (k6_pay9 (iblk6 V c 1 t) (iblk6 V c 5 t))
    ∧ (outsAt6 V c t.val t.isLt).2.1 = k6_pay2 (k6_pay8 (iblk6 V c 0 t)) (k6_pay10 (iblk6 V c 2 t) (iblk6 V c 5 t))
    ∧ (outsAt6 V c t.val t.isLt).2.2.1 = k6_pay3 (k6_pay11 (iblk6 V c 0 t) (iblk6 V c 1 t) (iblk6 V c 3 t) (iblk6 V c 5 t))
      (k6_pay12 (iblk6 V c 0 t) (iblk6 V c 2 t) (iblk6 V c 4 t) (iblk6 V c 5 t)) := by
  by_cases h : t.val % 32 = 0
  · rw [outsAt6_A V c t h]
    dsimp only
    refine ⟨?_, ?_, ?_⟩ <;> frame_out
  · rw [outsAt6_B V c t h]
    dsimp only
    refine ⟨?_, ?_, ?_⟩ <;> frame_out

/-- The column sums so far, at every point. -/
theorem sums6 {e g s u b : ℕ → ℕ → EReal} (h0 : V c main_v16 = plane (m := 8192) (n := 1024) e) (h1 : V c main_arg2 = plane (m := 8192) (n := 2048) g)
    (h3 : V c main_v12 = plane (m := 8192) (n := 1024) s) (h4 : V c main_v13 = plane (m := 8192) (n := 1024) u)
    (h5 : V c main_arg3 = plane (m := 2) (n := 1024) b) :
    ∀ (n : ℕ) (hn : n < cfg6.N),
      Part (m := 1) (n := 1024) (outsAt6 V c n hn).2.2.2.1 (colsum (256 * n + 256) (dgate e s g b 0)) 0 0
      ∧ Part (m := 1) (n := 1024) (outsAt6 V c n hn).2.2.2.2 (colsum (256 * n + 256) (dgate e u g b 1)) 0 0 := by
  intro n
  induction n with
  | zero =>
    intro hn
    rw [outsAt6_A V c ⟨0, hn⟩ rfl]
    dsimp only
    constructor
    · intro r d
      frame_out
      refine (pay6_6_apply _ _ r d).trans ?_
      rw [pay6_4_apply, ← colsum_zero (dgate e s g b 0) (0 + r.val) (0 + d.val)]
      exact colsum_at (gate6_0 V c h0 h1 h3 h5 ⟨0, hn⟩) d
    · intro r d
      frame_out
      refine (pay6_7_apply _ _ r d).trans ?_
      rw [pay6_5_apply, ← colsum_zero (dgate e u g b 1) (0 + r.val) (0 + d.val)]
      exact colsum_at (gate6_1 V c h0 h1 h4 h5 ⟨0, hn⟩) d
  | succ n ih =>
    intro hn
    have hN : n + 1 < 32 := hn
    have hp : n < cfg6.N := by omega
    rw [outsAt6_B V c ⟨n + 1, hn⟩ (by show ¬(n + 1) % 32 = 0; omega)]
    dsimp only
    constructor
    · intro r d
      frame_out
      refine (pay6_6_apply _ _ r d).trans ((congrArg (· + _) ((ih hp).1 r d)).trans ?_)
      exact colsum_at (b := 256 * (n + 1)) (gate6_0 V c h0 h1 h3 h5 ⟨n + 1, hn⟩) d
    · intro r d
      frame_out
      refine (pay6_7_apply _ _ r d).trans ((congrArg (· + _) ((ih hp).2 r d)).trans ?_)
      exact colsum_at (b := 256 * (n + 1)) (gate6_1 V c h0 h1 h4 h5 ⟨n + 1, hn⟩) d

/-- The gradient of the first branch. -/
theorem region6_branch0 {e g s u b : ℕ → ℕ → EReal} (h0 : V c main_v16 = plane (m := 8192) (n := 1024) e) (h1 : V c main_arg2 = plane (m := 8192) (n := 2048) g) (h3 : V c main_v12 = plane (m := 8192) (n := 1024) s) (h4 : V c main_v13 = plane (m := 8192) (n := 1024) u) (h5 : V c main_arg3 = plane (m := 2) (n := 1024) b) :
    (dat6 V c).arrAt 6 cfg6.N = plane (m := 8192) (n := 1024) (dbranch e g b 0) := by
  refine (dat6 V c).arrAt_eq_of_cover 6 _ (fun t hf => ?_) fun i => ?_
  · have ht : t.val < 32 := t.isLt
    show (cfg6.win 6).cut (grid6.coords t) ((dat6 V c).after 6 t) = _
    rw [after6_6]
    rw [(rows6 V c t).1]
    have hb := branch6_0 V c h0 h1 h5 t
    funext x
    obtain ⟨r, d, rfl⟩ : ∃ (r : Fin 256) (d : Fin 1024), x = ix2 r d := ⟨x 0, x 1, eq_ix2 x⟩
    refine (hb r d).trans (Eq.trans ?_ (read6_6 t _ (ix2 r d)).symm)
    refine (plane_at (dbranch e g b 0) _ _ _ ?_ ?_).symm
    · show win6_6.index t 0 * 256 + 1 * r.val = _; rw [(index6 t).2.2.2.2.2.2.1.1]; omega
    · show win6_6.index t 1 * 1024 + 1 * d.val = _; rw [(index6 t).2.2.2.2.2.2.1.2]; omega
  · have hi0 : (i 0).val < 8192 := (i 0).isLt
    have hi1 : (i 1).val < 1024 := (i 1).isLt
    refine ⟨⟨(i 0).val / 256, ?_⟩, flush6_6 _, mem_block6_6 _ i ?_⟩
    · show _ < 32; omega
    · show (i 0).val / 256 = ((i 0).val / 256); omega

/-- The gradient of the second branch. -/
theorem region6_branch1 {e g s u b : ℕ → ℕ → EReal} (h0 : V c main_v16 = plane (m := 8192) (n := 1024) e) (h1 : V c main_arg2 = plane (m := 8192) (n := 2048) g) (h3 : V c main_v12 = plane (m := 8192) (n := 1024) s) (h4 : V c main_v13 = plane (m := 8192) (n := 1024) u) (h5 : V c main_arg3 = plane (m := 2) (n := 1024) b) :
    (dat6 V c).arrAt 7 cfg6.N = plane (m := 8192) (n := 1024) (dbranch e g b 1) := by
  refine (dat6 V c).arrAt_eq_of_cover 7 _ (fun t hf => ?_) fun i => ?_
  · have ht : t.val < 32 := t.isLt
    show (cfg6.win 7).cut (grid6.coords t) ((dat6 V c).after 7 t) = _
    rw [after6_7]
    rw [(rows6 V c t).2.1]
    have hb := branch6_1 V c h0 h1 h5 t
    funext x
    obtain ⟨r, d, rfl⟩ : ∃ (r : Fin 256) (d : Fin 1024), x = ix2 r d := ⟨x 0, x 1, eq_ix2 x⟩
    refine (hb r d).trans (Eq.trans ?_ (read6_7 t _ (ix2 r d)).symm)
    refine (plane_at (dbranch e g b 1) _ _ _ ?_ ?_).symm
    · show win6_7.index t 0 * 256 + 1 * r.val = _; rw [(index6 t).2.2.2.2.2.2.2.1.1]; omega
    · show win6_7.index t 1 * 1024 + 1 * d.val = _; rw [(index6 t).2.2.2.2.2.2.2.1.2]; omega
  · have hi0 : (i 0).val < 8192 := (i 0).isLt
    have hi1 : (i 1).val < 1024 := (i 1).isLt
    refine ⟨⟨(i 0).val / 256, ?_⟩, flush6_7 _, mem_block6_7 _ i ?_⟩
    · show _ < 32; omega
    · show (i 0).val / 256 = ((i 0).val / 256); omega

/-- The gradient of the gates' arguments. -/
theorem region6_gates {e g s u b : ℕ → ℕ → EReal} (h0 : V c main_v16 = plane (m := 8192) (n := 1024) e) (h1 : V c main_arg2 = plane (m := 8192) (n := 2048) g) (h3 : V c main_v12 = plane (m := 8192) (n := 1024) s) (h4 : V c main_v13 = plane (m := 8192) (n := 1024) u) (h5 : V c main_arg3 = plane (m := 2) (n := 1024) b) :
    (dat6 V c).arrAt 8 cfg6.N = plane (m := 8192) (n := 2048) (beside [(1024, dgate e s g b 0), (1024, dgate e u g b 1)]) := by
  refine (dat6 V c).arrAt_eq_of_cover 8 _ (fun t hf => ?_) fun i => ?_
  · have ht : t.val < 32 := t.isLt
    show (cfg6.win 8).cut (grid6.coords t) ((dat6 V c).after 8 t) = _
    rw [after6_8]
    rw [(rows6 V c t).2.2]
    have hb : Part (m := 256) (n := 2048) (k6_pay3 (k6_pay11 (iblk6 V c 0 t) (iblk6 V c 1 t) (iblk6 V c 3 t) (iblk6 V c 5 t))
        (k6_pay12 (iblk6 V c 0 t) (iblk6 V c 2 t) (iblk6 V c 4 t) (iblk6 V c 5 t)))
        (beside [(1024, dgate e s g b 0), (1024, dgate e u g b 1)]) (256 * t.val) 0 := by
      intro r d
      refine (congrFun (pay6_3_eq _ _) (ix2 r d)).trans ?_
      exact beside_at (gate6_0 V c h0 h1 h3 h5 t) (gate6_1 V c h0 h1 h4 h5 t) r d
    funext x
    obtain ⟨r, d, rfl⟩ : ∃ (r : Fin 256) (d : Fin 2048), x = ix2 r d := ⟨x 0, x 1, eq_ix2 x⟩
    refine (hb r d).trans (Eq.trans ?_ (read6_8 t _ (ix2 r d)).symm)
    refine (plane_at (beside [(1024, dgate e s g b 0), (1024, dgate e u g b 1)]) _ _ _ ?_ ?_).symm
    · show win6_8.index t 0 * 256 + 1 * r.val = _; rw [(index6 t).2.2.2.2.2.2.2.2.1.1]; omega
    · show win6_8.index t 1 * 2048 + 1 * d.val = _; rw [(index6 t).2.2.2.2.2.2.2.2.1.2]; omega
  · have hi0 : (i 0).val < 8192 := (i 0).isLt
    have hi1 : (i 1).val < 2048 := (i 1).isLt
    refine ⟨⟨(i 0).val / 256, ?_⟩, flush6_8 _, mem_block6_8 _ i ?_⟩
    · show _ < 32; omega
    · show (i 0).val / 256 = ((i 0).val / 256); omega

/-- The column sums of the first gate's gradient. -/
theorem region6_sum0 {e g s u b : ℕ → ℕ → EReal} (h0 : V c main_v16 = plane (m := 8192) (n := 1024) e) (h1 : V c main_arg2 = plane (m := 8192) (n := 2048) g) (h3 : V c main_v12 = plane (m := 8192) (n := 1024) s) (h4 : V c main_v13 = plane (m := 8192) (n := 1024) u) (h5 : V c main_arg3 = plane (m := 2) (n := 1024) b) :
    (dat6 V c).arrAt 9 cfg6.N = plane (m := 1) (n := 1024) (colsum 8192 (dgate e s g b 0)) := by
  refine (dat6 V c).arrAt_eq_of_cover 9 _ (fun t hf => ?_) fun i => ?_
  · have ht : t.val < 32 := t.isLt
    show (cfg6.win 9).cut (grid6.coords t) ((dat6 V c).after 9 t) = _
    rw [after6_9]
    have hb := (sums6 V c h0 h1 h3 h4 h5 t.val t.isLt).1
    rw [show 256 * t.val + 256 = 8192 by have := (flush6_9 t).mp hf; omega] at hb
    funext x
    obtain ⟨r, d, rfl⟩ : ∃ (r : Fin 1) (d : Fin 1024), x = ix2 r d := ⟨x 0, x 1, eq_ix2 x⟩
    refine (hb r d).trans (Eq.trans ?_ (read6_9 t _ (ix2 r d)).symm)
    refine (plane_at (colsum 8192 (dgate e s g b 0)) _ _ _ ?_ ?_).symm
    · show win6_9.index t 0 * 1 + 1 * r.val = _; rw [(index6 t).2.2.2.2.2.2.2.2.2.1.1]; omega
    · show win6_9.index t 1 * 1024 + 1 * d.val = _; rw [(index6 t).2.2.2.2.2.2.2.2.2.1.2]; omega
  · have hi0 : (i 0).val < 1 := (i 0).isLt
    have hi1 : (i 1).val < 1024 := (i 1).isLt
    refine ⟨⟨31, ?_⟩, (flush6_9 _).mpr ?_, mem_block6_9 _ i ⟩
    · show _ < 32; omega
    · show (31) % 32 = 31; omega

/-- The column sums of the second gate's gradient. -/
theorem region6_sum1 {e g s u b : ℕ → ℕ → EReal} (h0 : V c main_v16 = plane (m := 8192) (n := 1024) e) (h1 : V c main_arg2 = plane (m := 8192) (n := 2048) g) (h3 : V c main_v12 = plane (m := 8192) (n := 1024) s) (h4 : V c main_v13 = plane (m := 8192) (n := 1024) u) (h5 : V c main_arg3 = plane (m := 2) (n := 1024) b) :
    (dat6 V c).arrAt 10 cfg6.N = plane (m := 1) (n := 1024) (colsum 8192 (dgate e u g b 1)) := by
  refine (dat6 V c).arrAt_eq_of_cover 10 _ (fun t hf => ?_) fun i => ?_
  · have ht : t.val < 32 := t.isLt
    show (cfg6.win 10).cut (grid6.coords t) ((dat6 V c).after 10 t) = _
    rw [after6_10]
    have hb := (sums6 V c h0 h1 h3 h4 h5 t.val t.isLt).2
    rw [show 256 * t.val + 256 = 8192 by have := (flush6_10 t).mp hf; omega] at hb
    funext x
    obtain ⟨r, d, rfl⟩ : ∃ (r : Fin 1) (d : Fin 1024), x = ix2 r d := ⟨x 0, x 1, eq_ix2 x⟩
    refine (hb r d).trans (Eq.trans ?_ (read6_10 t _ (ix2 r d)).symm)
    refine (plane_at (colsum 8192 (dgate e u g b 1)) _ _ _ ?_ ?_).symm
    · show win6_10.index t 0 * 1 + 1 * r.val = _; rw [(index6 t).2.2.2.2.2.2.2.2.2.2.1]; omega
    · show win6_10.index t 1 * 1024 + 1 * d.val = _; rw [(index6 t).2.2.2.2.2.2.2.2.2.2.2]; omega
  · have hi0 : (i 0).val < 1 := (i 0).isLt
    have hi1 : (i 1).val < 1024 := (i 1).isLt
    refine ⟨⟨31, ?_⟩, (flush6_10 _).mpr ?_, mem_block6_10 _ i ⟩
    · show _ < 32; omega
    · show (31) % 32 = 31; omega

end Cert.Kernel3Ideal.Gate

end
-- ==== Proof.GateRun.lean ====
/-
  The run of the gates with everything it leaves: from any memory with zero counters every weakly fair execution
  terminates, each buffer of the TensorCore ends at the contents that the last segment leaves, and every counter at zero.
-/
module

public import proofs.«01_k».proof.Proof.Gen.Kernel3Ideal.Frame

@[expose] public section

set_option maxRecDepth 16384

noncomputable section

namespace Cert.Kernel3Ideal.Gate

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the eleven calls and the host code around them ends with each unscoped buffer at the contents `W16`. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W16 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => h)

end Cert.Kernel3Ideal.Gate
-- ==== Proof.GateResults.lean ====
/-
  The gates' eight results: what the host code hands to the eleven calls, what each call leaves, and what the host code takes
  from them.
-/
module

public import proofs.«01_k».proof.Proof.GateCalls
public import proofs.«01_k».proof.Proof.GateMerge
public import proofs.«01_k».proof.Proof.GateSpec
public import proofs.«01_k».proof.Proof.GateRun
public import Idealize.ShloMosaic.Lib.StableHlo.Run

@[expose] public section

set_option maxRecDepth 16384

noncomputable section

open Idealize.ShloMosaic Idealize.ShloMosaic.TcCoe Idealize.SL.Sem Idealize.ShloMosaic.StableHlo Finset

namespace Cert.Kernel3Ideal.Gate

open Cert.Kernel3Ideal Cert.Kernel3Ideal.Gen Cert.Mlp

variable (m : (ℓ : Loc nD τ sig) → Buf (Elt Ideal) ℓ) (ρ : Dev nD → PrngReg) (c : Dev nD)

/-! ## The arguments' numbers -/

/-- The first branch's rows. -/
abbrev ys : ℕ → ℕ → EReal := entries (m := 8192) (n := 512) (m ((c.tc : Thread nD τ).loc main_arg0))

/-- The gates' arguments. -/
abbrev gp : ℕ → ℕ → EReal := entries (m := 8192) (n := 2048) (m ((c.tc : Thread nD τ).loc main_arg2))

/-- The gates' biases. -/
abbrev gb : ℕ → ℕ → EReal := entries (m := 2) (n := 1024) (m ((c.tc : Thread nD τ).loc main_arg3))

/-- The first branch's weight. -/
abbrev ws : ℕ → ℕ → EReal := entries (m := 512) (n := 1024) (m ((c.tc : Thread nD τ).loc main_arg4))

/-- The second branch's weight. -/
abbrev wm : ℕ → ℕ → EReal := entries (m := 512) (n := 1024) (m ((c.tc : Thread nD τ).loc main_arg5))

/-- The output weight. -/
abbrev wo : ℕ → ℕ → EReal := entries (m := 1024) (n := 1024) (m ((c.tc : Thread nD τ).loc main_arg6))

/-- The layer's input. -/
abbrev xr : ℕ → ℕ → EReal := entries (m := 8192) (n := 1024) (m ((c.tc : Thread nD τ).loc main_arg7))

/-- The cotangent. -/
abbrev ct : ℕ → ℕ → EReal := entries (m := 8192) (n := 1024) (m ((c.tc : Thread nD τ).loc main_arg8))

/-- The second branch's rows, their heads one after another. -/
abbrev ym : ℕ → ℕ → EReal := lanes (m ((c.tc : Thread nD τ).loc main_arg1))

/-- The first branch projected. -/
abbrev ts : ℕ → ℕ → EReal := nn 512 (ys m c) (ws m c)

/-- The second branch projected. -/
abbrev tm : ℕ → ℕ → EReal := nn 512 (ym m c) (wm m c)

/-- The branches merged. -/
abbrev mg : ℕ → ℕ → EReal := merge (gp m c) (gb m c) (ts m c) (tm m c)

/-- Their gradient. -/
abbrev dm : ℕ → ℕ → EReal := nt 1024 (ct m c) (wo m c)

/-- The gradient of branch `k`'s projection. -/
abbrev db (k : ℕ) : ℕ → ℕ → EReal := dbranch (dm m c) (gp m c) (gb m c) k

/-- The gradient of gate `k`'s argument. -/
abbrev dg (k : ℕ) : ℕ → ℕ → EReal := dgate (dm m c) (pick (ts m c) (tm m c) k) (gp m c) (gb m c) k

/-! ## What the calls are handed -/

theorem at3_v0 : V3 m ρ c main_v0 = plane (m := 8192) (n := 512) (ys m c) := by
  refine (W3_of m ρ c main_v0 (by decide)).trans ((W2_of m ρ c main_v0 (by decide)).trans (?_))
  have e : W1 m ρ c (Proc.devRef .tc main_v0) = m ((c.tc : Thread nD τ).loc main_arg0) := by
    show StableHlo.after hostOps0 _ (Proc.devRef .tc main_v0) = _
    after_results_simp <;> rfl
  exact e.trans (eq_plane (m := 8192) (n := 512) _)

theorem at3_v1 : V3 m ρ c main_v1 = plane (m := 512) (n := 1024) (ws m c) := by
  refine (W3_of m ρ c main_v1 (by decide)).trans ((W2_of m ρ c main_v1 (by decide)).trans (?_))
  have e : W1 m ρ c (Proc.devRef .tc main_v1) = m ((c.tc : Thread nD τ).loc main_arg4) := by
    show StableHlo.after hostOps0 _ (Proc.devRef .tc main_v1) = _
    after_results_simp <;> rfl
  exact e.trans (eq_plane (m := 512) (n := 1024) _)

theorem at3_v3 : V3 m ρ c main_v3 = plane (m := 1024) (n := 1024) (wo m c) := by
  refine (W3_of m ρ c main_v3 (by decide)).trans ((W2_of m ρ c main_v3 (by decide)).trans (?_))
  have e : W1 m ρ c (Proc.devRef .tc main_v3) = m ((c.tc : Thread nD τ).loc main_arg6) := by
    show StableHlo.after hostOps0 _ (Proc.devRef .tc main_v3) = _
    after_results_simp <;> rfl
  exact e.trans (eq_plane (m := 1024) (n := 1024) _)

theorem at3_v4 : V3 m ρ c main_v4 = plane (m := 8192) (n := 1024) (ct m c) := by
  refine (W3_of m ρ c main_v4 (by decide)).trans ((W2_of m ρ c main_v4 (by decide)).trans (?_))
  have e : W1 m ρ c (Proc.devRef .tc main_v4) = m ((c.tc : Thread nD τ).loc main_arg8) := by
    show StableHlo.after hostOps0 _ (Proc.devRef .tc main_v4) = _
    after_results_simp <;> rfl
  exact e.trans (eq_plane (m := 8192) (n := 1024) _)

theorem at3_v8 : V3 m ρ c main_v8 = plane (m := 8192) (n := 1024) (laned (ym m c)) := by
  refine (W3_of m ρ c main_v8 (by decide)).trans ((W2_of m ρ c main_v8 (by decide)).trans (?_))
  show StableHlo.after hostOps0 _ (Proc.devRef .tc main_v8) = _
  after_results_simp
  exact laned_layout (fun _ => Ideal.ofBits_one_f32) _ h_S_ Ideal.ofBits_zero_f32 concatenates_S8192x8x64_S8192x8x1_S8192x8x65_d2
    pads_S8192x8x65_S8192x8x128_000_000_0630 shapeCasts_S8192x8x128_S8192x1024

theorem zero_word : FloatOps.sitofp (F := Ideal) .bf16 0#32 = (0 : EReal) := by
  show (((0#32 : BitVec 32).toInt : ℝ) : EReal) = 0
  simp

theorem at3_v11 : V3 m ρ c main_v11 = plane (m := 1024) (n := 1024) (padded (wm m c)) := by
  have e9 : W1 m ρ c (Proc.devRef .tc main_v9) = shapeCast S8x64x1024 (plane (m := 512) (n := 1024) (wm m c)) shapeCasts_S512x1024_S8x64x1024 := by
    rw [← eq_plane (m := 512) (n := 1024)]
    show StableHlo.after hostOps0 _ (Proc.devRef .tc main_v9) = _
    after_results_simp <;> rfl
  have ec : W1 m ρ c (Proc.devRef .tc main_c) = constantI S_ 32 0#32 := by
    show StableHlo.after hostOps0 _ (Proc.devRef .tc main_c) = _
    after_results_simp <;> rfl
  have e10 : W2 m ρ c (Proc.devRef .tc main_v10) = pad S8x128x1024 ![0, 0, 0] ![0, 64, 0] ![0, 0, 0]
      (shapeCast S8x64x1024 (plane (m := 512) (n := 1024) (wm m c)) shapeCasts_S512x1024_S8x64x1024)
      (sitofp (F := Ideal) .bf16 (constantI S_ 32 0#32)) pads_S8x64x1024_S8x128x1024_000_0640_000 h_S_ := by
    rw [← e9, ← ec]
    show StableHlo.after hostOps0_1 _ (Proc.devRef .tc main_v10) = _
    after_results_simp <;> rfl
  refine Eq.trans ?_ (padded_layout (wm m c) (sitofp (F := Ideal) .bf16 (constantI S_ 32 0#32)) h_S_ zero_word
    shapeCasts_S512x1024_S8x64x1024 pads_S8x64x1024_S8x128x1024_000_0640_000 shapeCasts_S8x128x1024_S1024x1024)
  rw [← e10]
  show StableHlo.after hostOps0_2 _ (Proc.devRef .tc main_v11) = _
  after_results_simp <;> rfl

/-! ## From call to call -/

theorem at4_v12 : V4 m ρ c main_v12 = plane (m := 8192) (n := 1024) (ts m c) :=
  (W4_arr m ρ c 2).trans (region0_out (V3 m ρ) c (at3_v0 m ρ c) (at3_v1 m ρ c))

theorem at4_v8 : V4 m ρ c main_v8 = plane (m := 8192) (n := 1024) (laned (ym m c)) :=
  (W4_of m ρ c main_v8 (by decide)).trans (at3_v8 m ρ c)

theorem at4_v11 : V4 m ρ c main_v11 = plane (m := 1024) (n := 1024) (padded (wm m c)) :=
  (W4_of m ρ c main_v11 (by decide)).trans (at3_v11 m ρ c)

theorem at5_v13 : V5 m ρ c main_v13 = plane (m := 8192) (n := 1024) (tm m c) :=
  (W5_arr m ρ c 2).trans ((region1_out (V4 m ρ) c (at4_v8 m ρ c) (at4_v11 m ρ c)).trans
    (plane_congr fun r _ j _ => nn_lanes _ _ r j))

theorem at5_arg2 : V5 m ρ c main_arg2 = plane (m := 8192) (n := 2048) (gp m c) :=
  (W5_args m ρ c main_arg2 (by decide)).trans (eq_plane (m := 8192) (n := 2048) _)

theorem at5_arg3 : V5 m ρ c main_arg3 = plane (m := 2) (n := 1024) (gb m c) :=
  (W5_args m ρ c main_arg3 (by decide)).trans (eq_plane (m := 2) (n := 1024) _)

theorem at5_v12 : V5 m ρ c main_v12 = plane (m := 8192) (n := 1024) (ts m c) :=
  (W5_of m ρ c main_v12 (by decide)).trans (at4_v12 m ρ c)

theorem at6_v14 : V6 m ρ c main_v14 = plane (m := 8192) (n := 1024) (mg m c) :=
  (W6_arr m ρ c 5).trans (region2_out (V5 m ρ) c (at5_arg2 m ρ c) (at5_v12 m ρ c) (at5_v13 m ρ c) (at5_arg3 m ρ c))

theorem at6_v3 : V6 m ρ c main_v3 = plane (m := 1024) (n := 1024) (wo m c) :=
  (W6_of m ρ c main_v3 (by decide)).trans ((W5_of m ρ c main_v3 (by decide)).trans ((W4_of m ρ c main_v3 (by decide)).trans (at3_v3 m ρ c)))

theorem at6_arg7 : V6 m ρ c main_arg7 = plane (m := 8192) (n := 1024) (xr m c) :=
  (W6_args m ρ c main_arg7 (by decide)).trans (eq_plane (m := 8192) (n := 1024) _)

theorem at7_v15 : V7 m ρ c main_v15 = plane (m := 8192) (n := 1024) (fun i j => nn 1024 (mg m c) (wo m c) i j + xr m c i j) :=
  (W7_arr m ρ c 3).trans (region3_out (V6 m ρ) c (at6_v14 m ρ c) (at6_v3 m ρ c) (at6_arg7 m ρ c))

theorem at7_v4 : V7 m ρ c main_v4 = plane (m := 8192) (n := 1024) (ct m c) :=
  (W7_of m ρ c main_v4 (by decide)).trans ((W6_of m ρ c main_v4 (by decide)).trans ((W5_of m ρ c main_v4 (by decide)).trans ((W4_of m ρ c main_v4 (by decide)).trans (at3_v4 m ρ c))))

theorem at7_v3 : V7 m ρ c main_v3 = plane (m := 1024) (n := 1024) (wo m c) :=
  (W7_of m ρ c main_v3 (by decide)).trans (at6_v3 m ρ c)

theorem at8_v16 : V8 m ρ c main_v16 = plane (m := 8192) (n := 1024) (dm m c) :=
  (W8_arr m ρ c 2).trans (region4_out (V7 m ρ) c (at7_v4 m ρ c) (at7_v3 m ρ c))

theorem at8_v14 : V8 m ρ c main_v14 = plane (m := 8192) (n := 1024) (mg m c) :=
  (W8_of m ρ c main_v14 (by decide)).trans ((W7_of m ρ c main_v14 (by decide)).trans (at6_v14 m ρ c))

theorem at8_v4 : V8 m ρ c main_v4 = plane (m := 8192) (n := 1024) (ct m c) :=
  (W8_of m ρ c main_v4 (by decide)).trans (at7_v4 m ρ c)

theorem at9_v17 : V9 m ρ c main_v17 = plane (m := 1024) (n := 1024) (tn 8192 (mg m c) (ct m c)) :=
  (W9_arr m ρ c 2).trans (region5_out (V8 m ρ) c (at8_v14 m ρ c) (at8_v4 m ρ c))

theorem at9_v16 : V9 m ρ c main_v16 = plane (m := 8192) (n := 1024) (dm m c) :=
  (W9_of m ρ c main_v16 (by decide)).trans (at8_v16 m ρ c)

theorem at9_arg2 : V9 m ρ c main_arg2 = plane (m := 8192) (n := 2048) (gp m c) :=
  (W9_args m ρ c main_arg2 (by decide)).trans (eq_plane (m := 8192) (n := 2048) _)

theorem at9_arg3 : V9 m ρ c main_arg3 = plane (m := 2) (n := 1024) (gb m c) :=
  (W9_args m ρ c main_arg3 (by decide)).trans (eq_plane (m := 2) (n := 1024) _)

theorem at9_v12 : V9 m ρ c main_v12 = plane (m := 8192) (n := 1024) (ts m c) :=
  (W9_of m ρ c main_v12 (by decide)).trans ((W8_of m ρ c main_v12 (by decide)).trans ((W7_of m ρ c main_v12 (by decide)).trans ((W6_of m ρ c main_v12 (by decide)).trans (at5_v12 m ρ c))))

theorem at9_v13 : V9 m ρ c main_v13 = plane (m := 8192) (n := 1024) (tm m c) :=
  (W9_of m ρ c main_v13 (by decide)).trans ((W8_of m ρ c main_v13 (by decide)).trans ((W7_of m ρ c main_v13 (by decide)).trans ((W6_of m ρ c main_v13 (by decide)).trans (at5_v13 m ρ c))))

theorem at10_v18_0 : W10 m ρ c (Proc.devRef .tc main_v18_0) = plane (m := 8192) (n := 1024) (db m c 0) :=
  (W10_arr m ρ c 6).trans (region6_branch0 (V9 m ρ) c (at9_v16 m ρ c) (at9_arg2 m ρ c) (at9_v12 m ρ c) (at9_v13 m ρ c) (at9_arg3 m ρ c))

theorem at10_v18_1 : W10 m ρ c (Proc.devRef .tc main_v18_1) = plane (m := 8192) (n := 1024) (db m c 1) :=
  (W10_arr m ρ c 7).trans (region6_branch1 (V9 m ρ) c (at9_v16 m ρ c) (at9_arg2 m ρ c) (at9_v12 m ρ c) (at9_v13 m ρ c) (at9_arg3 m ρ c))

theorem at10_v18_2 : W10 m ρ c (Proc.devRef .tc main_v18_2) = plane (m := 8192) (n := 2048) (beside [(1024, dg m c 0), (1024, dg m c 1)]) :=
  (W10_arr m ρ c 8).trans (region6_gates (V9 m ρ) c (at9_v16 m ρ c) (at9_arg2 m ρ c) (at9_v12 m ρ c) (at9_v13 m ρ c) (at9_arg3 m ρ c))

theorem at10_v18_3 : W10 m ρ c (Proc.devRef .tc main_v18_3) = plane (m := 1) (n := 1024) (colsum 8192 (dg m c 0)) :=
  (W10_arr m ρ c 9).trans (region6_sum0 (V9 m ρ) c (at9_v16 m ρ c) (at9_arg2 m ρ c) (at9_v12 m ρ c) (at9_v13 m ρ c) (at9_arg3 m ρ c))

theorem at10_v18_4 : W10 m ρ c (Proc.devRef .tc main_v18_4) = plane (m := 1) (n := 1024) (colsum 8192 (dg m c 1)) :=
  (W10_arr m ρ c 10).trans (region6_sum1 (V9 m ρ) c (at9_v16 m ρ c) (at9_arg2 m ρ c) (at9_v12 m ρ c) (at9_v13 m ρ c) (at9_arg3 m ρ c))

theorem at11_v19 : V11 m ρ c main_v19 = plane (m := 2) (n := 1024) (fun k j => colsum 8192 (dg m c k) 0 j) := by
  refine Eq.trans ?_ ((stacked (colsum 8192 (dg m c 0)) (colsum 8192 (dg m c 1)) concatenates_S1x1024_S1x1024_S2x1024_d0).trans
    (plane_congr fun k hk j _ => ?_))
  · rw [← at10_v18_3 m ρ c, ← at10_v18_4 m ρ c]
    show StableHlo.after hostOps7 _ (Proc.devRef .tc main_v19) = _
    after_results_simp <;> rfl
  · obtain rfl | rfl : k = 0 ∨ k = 1 := by omega
    · rfl
    · rfl

theorem at11_v18_0 : V11 m ρ c main_v18_0 = plane (m := 8192) (n := 1024) (db m c 0) :=
  (W11_of m ρ c main_v18_0 (by decide)).trans (at10_v18_0 m ρ c)

theorem at11_v1 : V11 m ρ c main_v1 = plane (m := 512) (n := 1024) (ws m c) :=
  (W11_of m ρ c main_v1 (by decide)).trans ((W10_of m ρ c main_v1 (by decide)).trans ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans (at3_v1 m ρ c))))))))

theorem at12_v20 : V12 m ρ c main_v20 = plane (m := 8192) (n := 512) (nt 1024 (db m c 0) (ws m c)) :=
  (W12_arr m ρ c 2).trans (region7_out (V11 m ρ) c (at11_v18_0 m ρ c) (at11_v1 m ρ c))

theorem at12_v0 : V12 m ρ c main_v0 = plane (m := 8192) (n := 512) (ys m c) :=
  (W12_of m ρ c main_v0 (by decide)).trans ((W11_of m ρ c main_v0 (by decide)).trans ((W10_of m ρ c main_v0 (by decide)).trans ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans (at3_v0 m ρ c)))))))))

theorem at12_v18_0 : V12 m ρ c main_v18_0 = plane (m := 8192) (n := 1024) (db m c 0) :=
  (W12_of m ρ c main_v18_0 (by decide)).trans (at11_v18_0 m ρ c)

theorem at13_v21 : V13 m ρ c main_v21 = plane (m := 512) (n := 1024) (tn 8192 (ys m c) (db m c 0)) :=
  (W13_arr m ρ c 2).trans (region8_out (V12 m ρ) c (at12_v0 m ρ c) (at12_v18_0 m ρ c))

theorem at13_v18_1 : V13 m ρ c main_v18_1 = plane (m := 8192) (n := 1024) (db m c 1) :=
  (W13_of m ρ c main_v18_1 (by decide)).trans ((W12_of m ρ c main_v18_1 (by decide)).trans ((W11_of m ρ c main_v18_1 (by decide)).trans (at10_v18_1 m ρ c)))

theorem at13_v11 : V13 m ρ c main_v11 = plane (m := 1024) (n := 1024) (padded (wm m c)) :=
  (W13_of m ρ c main_v11 (by decide)).trans ((W12_of m ρ c main_v11 (by decide)).trans ((W11_of m ρ c main_v11 (by decide)).trans ((W10_of m ρ c main_v11 (by decide)).trans ((W9_of m ρ c main_v11 (by decide)).trans ((W8_of m ρ c main_v11 (by decide)).trans ((W7_of m ρ c main_v11 (by decide)).trans ((W6_of m ρ c main_v11 (by decide)).trans ((W5_of m ρ c main_v11 (by decide)).trans (at4_v11 m ρ c)))))))))

theorem at14_v22 : V14 m ρ c main_v22 = plane (m := 8192) (n := 1024) (nt 1024 (db m c 1) (padded (wm m c))) :=
  (W14_arr m ρ c 2).trans (region9_out (V13 m ρ) c (at13_v18_1 m ρ c) (at13_v11 m ρ c))

theorem at14_v8 : V14 m ρ c main_v8 = plane (m := 8192) (n := 1024) (laned (ym m c)) :=
  (W14_of m ρ c main_v8 (by decide)).trans ((W13_of m ρ c main_v8 (by decide)).trans ((W12_of m ρ c main_v8 (by decide)).trans ((W11_of m ρ c main_v8 (by decide)).trans ((W10_of m ρ c main_v8 (by decide)).trans ((W9_of m ρ c main_v8 (by decide)).trans ((W8_of m ρ c main_v8 (by decide)).trans ((W7_of m ρ c main_v8 (by decide)).trans ((W6_of m ρ c main_v8 (by decide)).trans ((W5_of m ρ c main_v8 (by decide)).trans (at4_v8 m ρ c))))))))))

theorem at14_v18_1 : V14 m ρ c main_v18_1 = plane (m := 8192) (n := 1024) (db m c 1) :=
  (W14_of m ρ c main_v18_1 (by decide)).trans (at13_v18_1 m ρ c)

theorem at15_v23 : W15 m ρ c (Proc.devRef .tc main_v23) = plane (m := 1024) (n := 1024) (tn 8192 (laned (ym m c)) (db m c 1)) :=
  (W15_arr m ρ c 2).trans (region10_out (V14 m ρ) c (at14_v8 m ρ c) (at14_v18_1 m ρ c))

theorem at15_v22 : W15 m ρ c (Proc.devRef .tc main_v22) = plane (m := 8192) (n := 1024) (nt 1024 (db m c 1) (padded (wm m c))) :=
  (W15_of m ρ c main_v22 (by decide)).trans (at14_v22 m ρ c)

theorem at15_v18_2 : W15 m ρ c (Proc.devRef .tc main_v18_2) = plane (m := 8192) (n := 2048) (beside [(1024, dg m c 0), (1024, dg m c 1)]) :=
  (W15_of m ρ c main_v18_2 (by decide)).trans ((W14_of m ρ c main_v18_2 (by decide)).trans ((W13_of m ρ c main_v18_2 (by decide)).trans ((W12_of m ρ c main_v18_2 (by decide)).trans ((W11_of m ρ c main_v18_2 (by decide)).trans (at10_v18_2 m ρ c)))))

/-! ## The results -/

theorem at16_v15 : W16 m ρ c (Proc.devRef .tc main_v15) = plane (m := 8192) (n := 1024) (fun i j => nn 1024 (mg m c) (wo m c) i j + xr m c i j) :=
  (W16_of m ρ c main_v15 (by decide)).trans ((W15_of m ρ c main_v15 (by decide)).trans ((W14_of m ρ c main_v15 (by decide)).trans ((W13_of m ρ c main_v15 (by decide)).trans ((W12_of m ρ c main_v15 (by decide)).trans ((W11_of m ρ c main_v15 (by decide)).trans ((W10_of m ρ c main_v15 (by decide)).trans ((W9_of m ρ c main_v15 (by decide)).trans ((W8_of m ρ c main_v15 (by decide)).trans (at7_v15 m ρ c)))))))))

theorem at16_v20 : W16 m ρ c (Proc.devRef .tc main_v20) = plane (m := 8192) (n := 512) (nt 1024 (db m c 0) (ws m c)) :=
  (W16_of m ρ c main_v20 (by decide)).trans ((W15_of m ρ c main_v20 (by decide)).trans ((W14_of m ρ c main_v20 (by decide)).trans ((W13_of m ρ c main_v20 (by decide)).trans (at12_v20 m ρ c))))

theorem at16_v28 : W16 m ρ c (Proc.devRef .tc main_v28) = headed (nt 1024 (db m c 1) (wm m c)) := by
  refine Eq.trans ?_ ((trimmed (nt 1024 (db m c 1) (padded (wm m c))) shapeCasts_S8192x1024_S8192x8x128 slices_S8192x8x128_S8192x8x64_0_0_0).trans
    (congrArg headed (funext fun r => funext fun j => sum_congr rfl fun k _ => congrArg _ (padded_lane _ _ _))))
  rw [← at15_v22 m ρ c]
  show StableHlo.after hostOps11 _ (Proc.devRef .tc main_v28) = _
  after_results_simp <;> rfl

theorem at16_v29 : W16 m ρ c (Proc.devRef .tc main_v29) = plane (m := 8192) (n := 2048) (beside [(1024, dg m c 0), (1024, dg m c 1)]) := by
  rw [← at15_v18_2 m ρ c]
  show StableHlo.after hostOps11 _ (Proc.devRef .tc main_v29) = _
  after_results_simp <;> rfl

theorem at16_v19 : W16 m ρ c (Proc.devRef .tc main_v19) = plane (m := 2) (n := 1024) (fun k j => colsum 8192 (dg m c k) 0 j) :=
  (W16_of m ρ c main_v19 (by decide)).trans ((W15_of m ρ c main_v19 (by decide)).trans ((W14_of m ρ c main_v19 (by decide)).trans ((W13_of m ρ c main_v19 (by decide)).trans ((W12_of m ρ c main_v19 (by decide)).trans (at11_v19 m ρ c)))))

theorem at16_v21 : W16 m ρ c (Proc.devRef .tc main_v21) = plane (m := 512) (n := 1024) (tn 8192 (ys m c) (db m c 0)) :=
  (W16_of m ρ c main_v21 (by decide)).trans ((W15_of m ρ c main_v21 (by decide)).trans ((W14_of m ρ c main_v21 (by decide)).trans (at13_v21 m ρ c)))

theorem at16_v26 : W16 m ρ c (Proc.devRef .tc main_v26) = plane (m := 512) (n := 1024) (tn 8192 (ym m c) (db m c 1)) := by
  refine Eq.trans ?_ ((unpadded (tn 8192 (laned (ym m c)) (db m c 1)) shapeCasts_S1024x1024_S8x128x1024 slices_S8x128x1024_S8x64x1024_0_0_0
    shapeCasts_S8x64x1024_S512x1024).trans (plane_congr fun r _ j _ => sum_congr rfl fun k _ => congrArg (· * _) (laned_lane _ _ _)))
  rw [← at15_v23 m ρ c]
  show StableHlo.after hostOps11 _ (Proc.devRef .tc main_v26) = _
  after_results_simp <;> rfl

theorem at16_v17 : W16 m ρ c (Proc.devRef .tc main_v17) = plane (m := 1024) (n := 1024) (tn 8192 (mg m c) (ct m c)) :=
  (W16_of m ρ c main_v17 (by decide)).trans ((W15_of m ρ c main_v17 (by decide)).trans ((W14_of m ρ c main_v17 (by decide)).trans ((W13_of m ρ c main_v17 (by decide)).trans ((W12_of m ρ c main_v17 (by decide)).trans ((W11_of m ρ c main_v17 (by decide)).trans ((W10_of m ρ c main_v17 (by decide)).trans (at9_v17 m ρ c)))))))

end Cert.Kernel3Ideal.Gate

end
-- ==== Proof.GateRef.lean ====
/-
  The reference's eight results of the gates: the layer's output, and the gradients of the branches' rows, of the gates'
  arguments and biases, and of the three weights.
-/
module

public import proofs.«01_k».proof.Proof.Gen.Reference3Ideal.Read
public import proofs.«01_k».proof.Proof.GateSpec

@[expose] public section

set_option maxRecDepth 16384

noncomputable section

open Idealize.ShloMosaic Finset

namespace Cert.Reference3Ideal.Gate

open Cert.Reference3Ideal Cert.Reference3Ideal.Gen Cert.Reference3Ideal.Read Cert.Mlp

variable (x0 : (⟨S8192x512, .f32⟩ : BufTy).Contents (Elt Ideal)) (x1 : (⟨S8192x8x64, .f32⟩ : BufTy).Contents (Elt Ideal))
  (x2 : (⟨S8192x2048, .f32⟩ : BufTy).Contents (Elt Ideal)) (x3 : (⟨S2x1024, .f32⟩ : BufTy).Contents (Elt Ideal))
  (x4 : (⟨S512x1024, .f32⟩ : BufTy).Contents (Elt Ideal)) (x5 : (⟨S512x1024, .f32⟩ : BufTy).Contents (Elt Ideal))
  (x6 : (⟨S1024x1024, .f32⟩ : BufTy).Contents (Elt Ideal)) (x7 : (⟨S8192x1024, .f32⟩ : BufTy).Contents (Elt Ideal))
  (x8 : (⟨S8192x1024, .f32⟩ : BufTy).Contents (Elt Ideal))

/-- The first branch's rows. -/
abbrev ys : ℕ → ℕ → EReal := entries (m := 8192) (n := 512) x0

/-- The second branch's rows. -/
abbrev ym : ℕ → ℕ → EReal := lanes x1

/-- The gates' arguments. -/
abbrev gp : ℕ → ℕ → EReal := entries (m := 8192) (n := 2048) x2

/-- The gates' biases. -/
abbrev gb : ℕ → ℕ → EReal := entries (m := 2) (n := 1024) x3

/-- The first branch projected. -/
abbrev ts : ℕ → ℕ → EReal := nn 512 (ys x0) (entries (m := 512) (n := 1024) x4)

/-- The second branch projected. -/
abbrev tm : ℕ → ℕ → EReal := nn 512 (ym x1) (entries (m := 512) (n := 1024) x5)

/-- The branches merged. -/
abbrev mg : ℕ → ℕ → EReal := merge (gp x2) (gb x3) (ts x0 x4) (tm x1 x5)

/-- Their gradient. -/
abbrev dm : ℕ → ℕ → EReal := nt 1024 (entries (m := 8192) (n := 1024) x8) (entries (m := 1024) (n := 1024) x6)

/-- The gradient of branch `k`'s projection. -/
abbrev db (k : ℕ) : ℕ → ℕ → EReal := dbranch (dm x6 x8) (gp x2) (gb x3) k

/-- The gradient of gate `k`'s argument. -/
abbrev dg (k : ℕ) : ℕ → ℕ → EReal := dgate (dm x6 x8) (pick (ts x0 x4) (tm x1 x5) k) (gp x2) (gb x3) k

/-! ## Forward -/

theorem gate_apply (i : S8192x2x1024.Idx) (k r c : ℕ) (h0 : (i 0).val = r) (h1 : (i 1).val = k) (h2 : (i 2).val = c) :
    val_main_v9 (F := Ideal) x2 x3 i = gateAt (gp x2) (gb x3) k r c := by
  subst h0 h1 h2
  have b0 : (i 0).val < 8192 := (i 0).isLt
  have b1 : (i 1).val < 2 := (i 1).isLt
  have b2 : (i 2).val < 1024 := (i 2).isLt
  have e0 : val_main_v0 (F := Ideal) x2 i = gp x2 (i 0).val (1024 * (i 1).val + (i 2).val) := by
    rw [val_main_v0_apply]
    refine entries_at x2 _ _ _ ?_ ?_
    · show (((i 0).val * 2 + (i 1).val) * 1024 + (i 2).val) / 2048 = _
      omega
    · show (((i 0).val * 2 + (i 1).val) * 1024 + (i 2).val) % 2048 = _
      omega
  have e2 : val_main_v2 (F := Ideal) x3 i = gb x3 (i 1).val (i 2).val := by
    rw [val_main_v2_apply, val_main_v1_apply]
    exact entries_at x3 _ _ _ rfl rfl
  rw [val_main_v9_apply, val_main_v8_apply, val_main_v7_apply, val_main_v6_apply, val_main_v5_apply, val_main_v4_apply, val_main_v3_apply,
    val_main_cst_apply, val_main_cst_0_apply, e0, e2]
  show Ideal.div (Ideal.ofBits .f32 0x3F800000#32) (Ideal.ofBits .f32 0x3F800000#32 + Ideal.exp (-(_ + _))) = sigmoid _
  rw [Ideal.ofBits_one_f32]
  rfl

theorem gate0_at (i : S8192x1024.Idx) (r c : ℕ) (h0 : (i 0).val = r) (h1 : (i 1).val = c) :
    val_main_v14 (F := Ideal) x2 x3 i = gateAt (gp x2) (gb x3) 0 r c := by
  subst h0 h1
  have b0 : (i 0).val < 8192 := (i 0).isLt
  have b1 : (i 1).val < 1024 := (i 1).isLt
  rw [val_main_v14_apply, val_main_v13_apply]
  refine gate_apply x2 x3 _ _ _ _ ?_ rfl ?_
  · show ((i 0).val * 1024 + (i 1).val) / 1024 = (i 0).val
    omega
  · show ((i 0).val * 1024 + (i 1).val) % 1024 = (i 1).val
    omega

theorem gate1_at (i : S8192x1024.Idx) (r c : ℕ) (h0 : (i 0).val = r) (h1 : (i 1).val = c) :
    val_main_v18 (F := Ideal) x2 x3 i = gateAt (gp x2) (gb x3) 1 r c := by
  subst h0 h1
  have b0 : (i 0).val < 8192 := (i 0).isLt
  have b1 : (i 1).val < 1024 := (i 1).isLt
  rw [val_main_v18_apply, val_main_v17_apply]
  refine gate_apply x2 x3 _ _ _ _ ?_ rfl ?_
  · show ((i 0).val * 1024 + (i 1).val) / 1024 = (i 0).val
    omega
  · show ((i 0).val * 1024 + (i 1).val) % 1024 = (i 1).val
    omega

theorem ts_at (i : S8192x1024.Idx) (r c : ℕ) (h0 : (i 0).val = r) (h1 : (i 1).val = c) :
    val_main_v15 (F := Ideal) x0 x4 i = ts x0 x4 r c := by
  subst h0 h1
  rw [val_main_v15_apply]
  unfold ts nn
  rw [← Fin.sum_univ_eq_sum_range (fun k => ys x0 (i 0).val k * entries (m := 512) (n := 1024) x4 k (i 1).val)]
  exact sum_congr rfl fun k _ => congrArg₂ (· * ·) (entries_at x0 _ _ _ rfl rfl) (entries_at x4 _ _ _ rfl rfl)

theorem ym_at (i : S8192x512.Idx) (r c : ℕ) (h0 : (i 0).val = r) (h1 : (i 1).val = c) : val_main_v19 (F := Ideal) x1 i = ym x1 r c := by
  subst h0 h1
  have b0 : (i 0).val < 8192 := (i 0).isLt
  have b1 : (i 1).val < 512 := (i 1).isLt
  rw [val_main_v19_apply]
  refine lanes_at x1 _ _ _ ?_ ?_
  · show ((i 0).val * 512 + (i 1).val) / 512 = (i 0).val
    omega
  · show ((i 0).val * 512 + (i 1).val) / 64 % 8 * 64 + ((i 0).val * 512 + (i 1).val) % 64 = (i 1).val
    omega

theorem tm_at (i : S8192x1024.Idx) (r c : ℕ) (h0 : (i 0).val = r) (h1 : (i 1).val = c) :
    val_main_v20 (F := Ideal) x1 x5 i = tm x1 x5 r c := by
  subst h0 h1
  rw [val_main_v20_apply]
  unfold tm nn
  rw [← Fin.sum_univ_eq_sum_range (fun k => ym x1 (i 0).val k * entries (m := 512) (n := 1024) x5 k (i 1).val)]
  exact sum_congr rfl fun k _ => congrArg₂ (· * ·) (ym_at x1 _ _ _ rfl rfl) (entries_at x5 _ _ _ rfl rfl)

theorem mg_at (i : S8192x1024.Idx) (r c : ℕ) (h0 : (i 0).val = r) (h1 : (i 1).val = c) :
    val_main_v22 (F := Ideal) x0 x1 x2 x3 x4 x5 i = mg x0 x1 x2 x3 x4 x5 r c := by
  rw [val_main_v22_apply, val_main_v16_apply, val_main_v21_apply, gate0_at x2 x3 i r c h0 h1, gate1_at x2 x3 i r c h0 h1,
    ts_at x0 x4 i r c h0 h1, tm_at x1 x5 i r c h0 h1]
  rfl

/-- The layer's output. -/
theorem out_plane : val_main_v24 (F := Ideal) x0 x1 x2 x3 x4 x5 x6 x7
    = plane (m := 8192) (n := 1024) fun i j => nn 1024 (mg x0 x1 x2 x3 x4 x5) (entries (m := 1024) (n := 1024) x6) i j
        + entries (m := 8192) (n := 1024) x7 i j := by
  funext i
  rw [val_main_v24_apply, val_main_v23_apply]
  unfold plane nn
  beta_reduce
  rw [← Fin.sum_univ_eq_sum_range (fun k => mg x0 x1 x2 x3 x4 x5 (i 0).val k * entries (m := 1024) (n := 1024) x6 k (i 1).val)]
  refine (add_comm (x7 i) _).trans (congrArg₂ (· + ·) (sum_congr rfl fun k _ => congrArg₂ (· * ·) ?_ ?_) (entries_at x7 _ _ _ rfl rfl))
  · exact mg_at x0 x1 x2 x3 x4 x5 _ _ _ rfl rfl
  · exact entries_at x6 _ _ _ rfl rfl

/-! ## Backward -/

theorem ct_at (i : S8192x1024.Idx) (r c : ℕ) (h0 : (i 0).val = r) (h1 : (i 1).val = c) :
    val_main_v25 (F := Ideal) x8 i = entries (m := 8192) (n := 1024) x8 r c := by
  subst h0 h1
  have b0 : (i 0).val < 8192 := (i 0).isLt
  have b1 : (i 1).val < 1024 := (i 1).isLt
  rw [val_main_v25_apply]
  refine entries_at x8 _ _ _ ?_ ?_
  · show ((i 0).val * 1024 + (i 1).val) / 1024 = (i 0).val
    omega
  · show ((i 0).val * 1024 + (i 1).val) % 1024 = (i 1).val
    omega

/-- The output weight's gradient. -/
theorem dwo_plane : val_main_v27 (F := Ideal) x0 x1 x2 x3 x4 x5 x8
    = plane (m := 1024) (n := 1024) (tn 8192 (mg x0 x1 x2 x3 x4 x5) (entries (m := 8192) (n := 1024) x8)) := by
  funext i
  rw [val_main_v27_apply, val_main_v26_apply]
  unfold plane tn
  rw [← Fin.sum_univ_eq_sum_range (fun k => mg x0 x1 x2 x3 x4 x5 k (i 0).val * entries (m := 8192) (n := 1024) x8 k (i 1).val)]
  exact sum_congr rfl fun k _ => (mul_comm _ _).trans
    (congrArg₂ (· * ·) (mg_at x0 x1 x2 x3 x4 x5 _ _ _ rfl rfl) (ct_at x8 _ _ _ rfl rfl))

theorem dm_at (i : S8192x1024.Idx) (r c : ℕ) (h0 : (i 0).val = r) (h1 : (i 1).val = c) :
    val_main_v28 (F := Ideal) x6 x8 i = dm x6 x8 r c := by
  subst h0 h1
  rw [val_main_v28_apply]
  unfold dm nt
  rw [← Fin.sum_univ_eq_sum_range (fun k => entries (m := 8192) (n := 1024) x8 (i 0).val k * entries (m := 1024) (n := 1024) x6 (i 1).val k)]
  exact sum_congr rfl fun k _ => congrArg₂ (· * ·) (ct_at x8 _ _ _ rfl rfl) (entries_at x6 _ _ _ rfl rfl)

theorem db0_at (i : S8192x1024.Idx) (r c : ℕ) (h0 : (i 0).val = r) (h1 : (i 1).val = c) :
    val_main_v37 (F := Ideal) x2 x3 x6 x8 i = db x2 x3 x6 x8 0 r c := by
  rw [val_main_v37_apply, gate0_at x2 x3 i r c h0 h1, dm_at x6 x8 i r c h0 h1]
  exact mul_comm _ _

theorem db1_at (i : S8192x1024.Idx) (r c : ℕ) (h0 : (i 0).val = r) (h1 : (i 1).val = c) :
    val_main_v29 (F := Ideal) x2 x3 x6 x8 i = db x2 x3 x6 x8 1 r c := by
  rw [val_main_v29_apply, gate1_at x2 x3 i r c h0 h1, dm_at x6 x8 i r c h0 h1]
  exact mul_comm _ _

/-- The gradient of the first branch's rows. -/
theorem dys_plane : val_main_v41 (F := Ideal) x2 x3 x4 x6 x8
    = plane (m := 8192) (n := 512) (nt 1024 (db x2 x3 x6 x8 0) (entries (m := 512) (n := 1024) x4)) := by
  funext i
  rw [val_main_v41_apply]
  unfold plane nt
  rw [← Fin.sum_univ_eq_sum_range (fun k => db x2 x3 x6 x8 0 (i 0).val k * entries (m := 512) (n := 1024) x4 (i 1).val k)]
  exact sum_congr rfl fun k _ => congrArg₂ (· * ·) (db0_at x2 x3 x6 x8 _ _ _ rfl rfl) (entries_at x4 _ _ _ rfl rfl)

/-- The first branch's weight's gradient. -/
theorem dws_plane : val_main_v40 (F := Ideal) x0 x2 x3 x6 x8
    = plane (m := 512) (n := 1024) (tn 8192 (ys x0) (db x2 x3 x6 x8 0)) := by
  funext i
  rw [val_main_v40_apply, val_main_v39_apply]
  unfold plane tn
  rw [← Fin.sum_univ_eq_sum_range (fun k => ys x0 k (i 0).val * db x2 x3 x6 x8 0 k (i 1).val)]
  exact sum_congr rfl fun k _ => (mul_comm _ _).trans
    (congrArg₂ (· * ·) (entries_at x0 _ _ _ rfl rfl) (db0_at x2 x3 x6 x8 _ _ _ rfl rfl))

theorem dym_at (i : S8192x512.Idx) (r c : ℕ) (h0 : (i 0).val = r) (h1 : (i 1).val = c) :
    val_main_v33 (F := Ideal) x2 x3 x5 x6 x8 i = nt 1024 (db x2 x3 x6 x8 1) (entries (m := 512) (n := 1024) x5) r c := by
  subst h0 h1
  rw [val_main_v33_apply]
  unfold nt
  rw [← Fin.sum_univ_eq_sum_range (fun k => db x2 x3 x6 x8 1 (i 0).val k * entries (m := 512) (n := 1024) x5 (i 1).val k)]
  exact sum_congr rfl fun k _ => congrArg₂ (· * ·) (db1_at x2 x3 x6 x8 _ _ _ rfl rfl) (entries_at x5 _ _ _ rfl rfl)

/-- The gradient of the second branch's rows. -/
theorem dym_headed : val_main_v34 (F := Ideal) x2 x3 x5 x6 x8
    = headed (nt 1024 (db x2 x3 x6 x8 1) (entries (m := 512) (n := 1024) x5)) := by
  funext i
  have b0 : (i 0).val < 8192 := (i 0).isLt
  have b1 : (i 1).val < 8 := (i 1).isLt
  have b2 : (i 2).val < 64 := (i 2).isLt
  rw [val_main_v34_apply]
  refine dym_at x2 x3 x5 x6 x8 _ _ _ ?_ ?_
  · show (((i 0).val * 8 + (i 1).val) * 64 + (i 2).val) / 512 = (i 0).val
    omega
  · show (((i 0).val * 8 + (i 1).val) * 64 + (i 2).val) % 512 = (i 1).val * 64 + (i 2).val
    omega

/-- The second branch's weight's gradient. -/
theorem dwm_plane : val_main_v32 (F := Ideal) x1 x2 x3 x6 x8
    = plane (m := 512) (n := 1024) (tn 8192 (ym x1) (db x2 x3 x6 x8 1)) := by
  funext i
  rw [val_main_v32_apply, val_main_v31_apply]
  unfold plane tn
  rw [← Fin.sum_univ_eq_sum_range (fun k => ym x1 k (i 0).val * db x2 x3 x6 x8 1 k (i 1).val)]
  exact sum_congr rfl fun k _ => (mul_comm _ _).trans
    (congrArg₂ (· * ·) (ym_at x1 _ _ _ rfl rfl) (db1_at x2 x3 x6 x8 _ _ _ rfl rfl))

/-! ## The gates' gradients -/

theorem zero_2 (i : S_.Idx) : val_main_cst_2 (F := Ideal) i = 0 := (val_main_cst_2_apply i).trans Ideal.ofBits_zero_f32
theorem zero_3 (i : S_.Idx) : val_main_cst_3 (F := Ideal) i = 0 := (val_main_cst_3_apply i).trans Ideal.ofBits_zero_f32
theorem zero_4 (i : S_.Idx) : val_main_cst_4 (F := Ideal) i = 0 := (val_main_cst_4_apply i).trans Ideal.ofBits_zero_f32
theorem zero_5 (i : S_.Idx) : val_main_cst_5 (F := Ideal) i = 0 := (val_main_cst_5_apply i).trans Ideal.ofBits_zero_f32

/-- The gradient of the first gate is laid over zeros for the second. -/
theorem first_at (i : S8192x2x1024.Idx) (r c : ℕ) (h0 : (i 0).val = r) (h2 : (i 2).val = c) :
    val_main_v43 (F := Ideal) x0 x4 x6 x8 i = if (i 1).val = 0 then dm x6 x8 r c * ts x0 x4 r c else 0 := by
  subst h0 h2
  unfold val_main_v43
  by_cases h : (i 1).val = 0
  · rw [if_pos h, pad_apply_of_inside _ _ _ _ _ _ _ i (ValueIdx.ix3 (⟨(i 0).val, (i 0).isLt⟩ : Fin 8192) (0 : Fin 1) (⟨(i 2).val, (i 2).isLt⟩ : Fin 1024)) (by
      intro a
      match a with
      | ⟨0, _⟩ => show (i 0).val = 0 + (i 0).val * (0 + 1); omega
      | ⟨1, _⟩ => show (i 1).val = 0 + 0 * (0 + 1); omega
      | ⟨2, _⟩ => show (i 2).val = 0 + (i 2).val * (0 + 1); omega), val_main_v42_apply, val_main_v38_apply]
    exact congrArg₂ (· * ·) (dm_at x6 x8 _ _ _ rfl rfl) (ts_at x0 x4 _ _ _ rfl rfl)
  · rw [if_neg h, pad_apply_of_not_inside _ _ _ _ _ _ _ i 1 (by
      intro hi
      have h3 : ((i 1).val - 0) / (0 + 1) < 1 := hi.2.2
      omega), zero_3]

/-- The gradient of the second gate is laid over zeros for the first. -/
theorem second_at (i : S8192x2x1024.Idx) (r c : ℕ) (h0 : (i 0).val = r) (h2 : (i 2).val = c) :
    val_main_v36 (F := Ideal) x1 x5 x6 x8 i = if (i 1).val = 0 then 0 else dm x6 x8 r c * tm x1 x5 r c := by
  subst h0 h2
  have b1 : (i 1).val < 2 := (i 1).isLt
  unfold val_main_v36
  by_cases h : (i 1).val = 0
  · rw [if_pos h, pad_apply_of_not_inside _ _ _ _ _ _ _ i 1 (by
      intro hi
      have h3 : 1 ≤ (i 1).val := hi.1
      omega), zero_2]
  · rw [if_neg h, pad_apply_of_inside _ _ _ _ _ _ _ i (ValueIdx.ix3 (⟨(i 0).val, (i 0).isLt⟩ : Fin 8192) (0 : Fin 1) (⟨(i 2).val, (i 2).isLt⟩ : Fin 1024)) (by
      intro a
      match a with
      | ⟨0, _⟩ => show (i 0).val = 0 + (i 0).val * (0 + 1); omega
      | ⟨1, _⟩ => show (i 1).val = 1 + 0 * (0 + 1); omega
      | ⟨2, _⟩ => show (i 2).val = 0 + (i 2).val * (0 + 1); omega), val_main_v35_apply, val_main_v30_apply]
    exact congrArg₂ (· * ·) (dm_at x6 x8 _ _ _ rfl rfl) (tm_at x1 x5 _ _ _ rfl rfl)

theorem dg_at (i : S8192x2x1024.Idx) (k r c : ℕ) (h0 : (i 0).val = r) (h1 : (i 1).val = k) (h2 : (i 2).val = c) :
    val_main_v45 (F := Ideal) x0 x1 x2 x3 x4 x5 x6 x8 i = dg x0 x1 x2 x3 x4 x5 x6 x8 k r c := by
  have e : val_main_v44 (F := Ideal) x0 x1 x4 x5 x6 x8 i = dm x6 x8 r c * pick (ts x0 x4) (tm x1 x5) k r c := by
    rw [val_main_v44_apply, first_at x0 x4 x6 x8 i r c h0 h2, second_at x1 x5 x6 x8 i r c h0 h2, h1]
    unfold pick
    by_cases h : k = 0
    · rw [if_pos h, if_pos h, if_pos h]
      exact zero_add _
    · rw [if_neg h, if_neg h, if_neg h]
      exact add_zero _
  rw [val_main_v45_apply, val_main_v12_apply, val_main_v11_apply, val_main_v10_apply, val_main_cst_1_apply, e, gate_apply x2 x3 i k r c h0 h1 h2]
  show _ * (_ * (Ideal.ofBits .f32 0x3F800000#32 - _)) = _
  rw [Ideal.ofBits_one_f32]
  exact (mul_assoc _ _ _).symm

/-- The gradient of the gates' biases. -/
theorem dgb_plane : val_main_v48 (F := Ideal) x0 x1 x2 x3 x4 x5 x6 x8
    = plane (m := 2) (n := 1024) fun k c => colsum 8192 (dg x0 x1 x2 x3 x4 x5 x6 x8 k) 0 c := by
  funext i
  have b0 : (i 0).val < 2 := (i 0).isLt
  have b1 : (i 1).val < 1024 := (i 1).isLt
  rw [val_main_v48_apply, zero_5, zero_add, Fin.sum_univ_one, val_main_v47_apply, val_main_v46_apply, zero_4, zero_add]
  unfold plane colsum
  beta_reduce
  rw [← Fin.sum_univ_eq_sum_range (fun k => dg x0 x1 x2 x3 x4 x5 x6 x8 (i 0).val k (i 1).val)]
  refine sum_congr rfl fun k _ => dg_at x0 x1 x2 x3 x4 x5 x6 x8 _ _ _ _ rfl ?_ ?_
  · show ((0 * 2 + (i 0).val) * 1024 + (i 1).val) / 1024 = (i 0).val
    omega
  · show ((0 * 2 + (i 0).val) * 1024 + (i 1).val) % 1024 = (i 1).val
    omega

/-- The gradient of the gates' arguments. -/
theorem dgp_plane : val_main_v49 (F := Ideal) x0 x1 x2 x3 x4 x5 x6 x8
    = plane (m := 8192) (n := 2048) (beside [(1024, dg x0 x1 x2 x3 x4 x5 x6 x8 0), (1024, dg x0 x1 x2 x3 x4 x5 x6 x8 1)]) := by
  funext i
  have b0 : (i 0).val < 8192 := (i 0).isLt
  have b1 : (i 1).val < 2048 := (i 1).isLt
  rw [val_main_v49_apply]
  refine (dg_at x0 x1 x2 x3 x4 x5 x6 x8 _ ((i 1).val / 1024) (i 0).val ((i 1).val % 1024) ?_ ?_ ?_).trans ?_
  · show ((i 0).val * 2048 + (i 1).val) / 2048 = (i 0).val
    omega
  · show ((i 0).val * 2048 + (i 1).val) / 1024 % 2 = (i 1).val / 1024
    omega
  · show ((i 0).val * 2048 + (i 1).val) % 1024 = (i 1).val % 1024
    omega
  · unfold plane
    by_cases h : (i 1).val < 1024
    · rw [beside_lt _ h, show (i 1).val / 1024 = 0 by omega, show (i 1).val % 1024 = (i 1).val by omega]
    · rw [beside_ge _ (by omega), beside_lt _ (by omega), show (i 1).val / 1024 = 1 by omega, show (i 1).val % 1024 = (i 1).val - 1024 by omega]

end Cert.Reference3Ideal.Gate

end
-- ==== Proof.InPay.lean ====
/-
  The stores of the in-projection's three calls, read at an index.
-/
module

public import proofs.«01_k».proof.Proof.Gen.Kernel4Ideal.Skeleton
public import proofs.«01_k».proof.Proof.MlpSpec
public import Idealize.ShloMosaic.Lib.Pointwise

@[expose] public section

set_option maxRecDepth 16384

noncomputable section

open Idealize.ShloMosaic Finset

namespace Cert.Kernel4Ideal.InProj

open Cert.Kernel4Ideal Cert.Kernel4Ideal.Gen Cert.Mlp

theorem pay0_1_apply (x0 : Vec Ideal S1024x1024 .bf16) (x1 : Vec Ideal S1024x1792 .bf16) (r : Fin 1024) (c : Fin 1792) :
    k0_pay1 (F := Ideal) x0 x1 (ix2 r c) = ∑ k : Fin 1024, x0 (ix2 r k) * x1 (ix2 k c) := by
  pointwise [k0_pay1]

theorem pay1_1_apply (x0 : Vec Ideal S512x3584 .bf16) (x1 : Vec Ideal S1024x3584 .bf16) (r : Fin 512) (c : Fin 1024) :
    k1_pay1 (F := Ideal) x0 x1 (ix2 r c) = ∑ k : Fin 3584, x0 (ix2 r k) * x1 (ix2 c k) := by
  pointwise [k1_pay1]

theorem pay2_1_apply (r : Fin 1024) (c : Fin 1792) : k2_pay1 (F := Ideal) (ix2 r c) = 0 := by
  pointwise [k2_pay1]

theorem pay2_2_apply (acc : Vec Ideal S1024x1792 .f32) (x0 : Vec Ideal S1024x1024 .bf16) (x1 : Vec Ideal S1024x1792 .bf16)
    (r : Fin 1024) (c : Fin 1792) :
    k2_pay2 (F := Ideal) acc x0 x1 (ix2 r c) = acc (ix2 r c) + ∑ k : Fin 1024, x0 (ix2 k r) * x1 (ix2 k c) := by
  pointwise [k2_pay2]

end Cert.Kernel4Ideal.InProj

end
-- ==== Proof.InCalls.lean ====
/-
  The in-projection's three calls: the product by the laid-out weight, the input's gradient, and the weight's gradient
  accumulated over eight blocks of rows.
-/
module

public import proofs.«01_k».proof.Proof.Gen.Kernel4Ideal.Frame
public import proofs.«01_k».proof.Proof.InPay
public import Idealize.ShloMosaic.Lib.Pipeline.ValueKit.Acc

@[expose] public section

set_option maxRecDepth 16384

noncomputable section

open Idealize.ShloMosaic Idealize.ShloMosaic.TcCoe Idealize.SL.Sem Finset

namespace Cert.Kernel4Ideal.InProj

open Cert.Kernel4Ideal Cert.Kernel4Ideal.Gen Cert.Mlp

variable (V : (c : Dev nD) → (b : Ref sig .tc) → Buf (Elt Ideal) ((c : Thread nD τ).loc b)) (c : Dev nD)

/-! ## Call 0 -/

theorem index0 : ∀ t : Fin grid0.N,
    (win0_0.index t 0 = t.val % 8 ∧ win0_0.index t 1 = 0)
    ∧ (win0_1.index t 0 = 0 ∧ win0_1.index t 1 = t.val / 8)
    ∧ (win0_2.index t 0 = t.val % 8 ∧ win0_2.index t 1 = t.val / 8) := by
  decide +kernel

theorem size0 : ∀ t : Fin grid0.N,
    (win0_2.xsize (grid0.coords t) 0 = 1024 ∧ win0_2.xsize (grid0.coords t) 1 = 1792) := by
  decide +kernel

theorem block0_0 {f : ℕ → ℕ → EReal} (hV : V c main_v0 = plane (m := 8192) (n := 1024) f) (t : Fin cfg0.N) :
    Part (m := 1024) (n := 1024) (iblk0 V c 0 t) f (1024 * (t.val % 8)) 0 := by
  intro r d
  unfold iblk0
  rw [View.read_apply]
  show V c main_v0 _ = _
  rw [hV]
  refine plane_at f _ _ _ ?_ ?_
  · show win0_0.index t 0 * 1024 + 1 * r.val = _; rw [(index0 t).1.1]; omega
  · show win0_0.index t 1 * 1024 + 1 * d.val = _; rw [(index0 t).1.2]; omega

theorem block0_1 {f : ℕ → ℕ → EReal} (hV : V c main_v16 = plane (m := 1024) (n := 3584) f) (t : Fin cfg0.N) :
    Part (m := 1024) (n := 1792) (iblk0 V c 1 t) f 0 (1792 * (t.val / 8)) := by
  intro r d
  unfold iblk0
  rw [View.read_apply]
  show V c main_v16 _ = _
  rw [hV]
  refine plane_at f _ _ _ ?_ ?_
  · show win0_1.index t 0 * 1024 + 1 * r.val = _; rw [(index0 t).2.1.1]; omega
  · show win0_1.index t 1 * 1792 + 1 * d.val = _; rw [(index0 t).2.1.2]; omega

theorem read0_2 (t : Fin cfg0.N) (G : S8192x3584.Idx → EReal) (x : S1024x1792.Idx) :
    View.read (Elt Ideal) ((View.whole main_v17).slice (win0_2.rect t)) G x = G (((View.whole main_v17).slice (win0_2.rect t)).emb x) :=
  View.read_apply _ _

theorem mem_block0_2 (t : Fin cfg0.N) (i : S8192x3584.Idx) (h0 : (i 0).val / 1024 = t.val % 8) (h1 : (i 1).val / 1792 = t.val / 8):
    i ∈ ((cfg0.win 2).blk t).view.set := by
  show i ∈ ((View.whole main_v17).slice (win0_2.rect t)).set
  rw [View.set_slice_whole, Rect.mem_set_unit]
  have e := (index0 t).2.2
  have s := (size0 t)
  have hi0 : (i 0).val < 8192 := (i 0).isLt
  have hi1 : (i 1).val < 3584 := (i 1).isLt
  intro a
  match a with
  | ⟨0, _⟩ =>
    show win0_2.index t 0 * 1024 ≤ (i 0 : Nat) ∧ (i 0 : Nat) < win0_2.index t 0 * 1024 + win0_2.xsize (grid0.coords t) 0
    rw [e.1, s.1]; omega
  | ⟨1, _⟩ =>
    show win0_2.index t 1 * 1792 ≤ (i 1 : Nat) ∧ (i 1 : Nat) < win0_2.index t 1 * 1792 + win0_2.xsize (grid0.coords t) 1
    rw [e.2, s.2]; omega

/-- The projection. -/
theorem region0_out {f g : ℕ → ℕ → EReal} (h0 : V c main_v0 = plane (m := 8192) (n := 1024) f) (h1 : V c main_v16 = plane (m := 1024) (n := 3584) g) :
    (dat0 V c).arrAt 2 cfg0.N = plane (m := 8192) (n := 3584) (nn 1024 f g) := by
  refine (dat0 V c).arrAt_eq_of_cover 2 _ (fun t hf => ?_) fun i => ?_
  · have ht : t.val < 16 := t.isLt
    show (cfg0.win 2).cut (grid0.coords t) ((dat0 V c).after 2 t) = _
    rw [after0_2]
    have hb : Part (m := 1024) (n := 1792) (out0_2 (iblk0 V c 0 t) (iblk0 V c 1 t)) (nn 1024 f g) (1024 * (t.val % 8)) (1792 * (t.val / 8)) := by
      intro r d
      frame_out
      exact (pay0_1_apply _ _ r d).trans (nn_at (block0_0 V c h0 t) (block0_1 V c h1 t) r d)
    funext x
    obtain ⟨r, d, rfl⟩ : ∃ (r : Fin 1024) (d : Fin 1792), x = ix2 r d := ⟨x 0, x 1, eq_ix2 x⟩
    refine (hb r d).trans (Eq.trans ?_ (read0_2 t _ (ix2 r d)).symm)
    refine (plane_at (nn 1024 f g) _ _ _ ?_ ?_).symm
    · show win0_2.index t 0 * 1024 + 1 * r.val = _; rw [(index0 t).2.2.1]; omega
    · show win0_2.index t 1 * 1792 + 1 * d.val = _; rw [(index0 t).2.2.2]; omega
  · have hi0 : (i 0).val < 8192 := (i 0).isLt
    have hi1 : (i 1).val < 3584 := (i 1).isLt
    refine ⟨⟨(i 1).val / 1792 * 8 + (i 0).val / 1024, ?_⟩, flush0_2 _, mem_block0_2 _ i ?_ ?_⟩
    · show _ < 16; omega
    · show (i 0).val / 1024 = ((i 1).val / 1792 * 8 + (i 0).val / 1024) % 8; omega
    · show (i 1).val / 1792 = ((i 1).val / 1792 * 8 + (i 0).val / 1024) / 8; omega

/-! ## Call 1 -/

theorem index1 : ∀ t : Fin grid1.N,
    (win1_0.index t 0 = t.val ∧ win1_0.index t 1 = 0)
    ∧ (win1_1.index t 0 = 0 ∧ win1_1.index t 1 = 0)
    ∧ (win1_2.index t 0 = t.val ∧ win1_2.index t 1 = 0) := by
  decide +kernel

theorem size1 : ∀ t : Fin grid1.N,
    (win1_2.xsize (grid1.coords t) 0 = 512 ∧ win1_2.xsize (grid1.coords t) 1 = 1024) := by
  decide +kernel

theorem block1_0 {f : ℕ → ℕ → EReal} (hV : V c main_v21 = plane (m := 8192) (n := 3584) f) (t : Fin cfg1.N) :
    Part (m := 512) (n := 3584) (iblk1 V c 0 t) f (512 * (t.val)) 0 := by
  intro r d
  unfold iblk1
  rw [View.read_apply]
  show V c main_v21 _ = _
  rw [hV]
  refine plane_at f _ _ _ ?_ ?_
  · show win1_0.index t 0 * 512 + 1 * r.val = _; rw [(index1 t).1.1]; omega
  · show win1_0.index t 1 * 3584 + 1 * d.val = _; rw [(index1 t).1.2]; omega

theorem block1_1 {f : ℕ → ℕ → EReal} (hV : V c main_v16 = plane (m := 1024) (n := 3584) f) (t : Fin cfg1.N) :
    Part (m := 1024) (n := 3584) (iblk1 V c 1 t) f 0 0 := by
  intro r d
  unfold iblk1
  rw [View.read_apply]
  show V c main_v16 _ = _
  rw [hV]
  refine plane_at f _ _ _ ?_ ?_
  · show win1_1.index t 0 * 1024 + 1 * r.val = _; rw [(index1 t).2.1.1]; omega
  · show win1_1.index t 1 * 3584 + 1 * d.val = _; rw [(index1 t).2.1.2]; omega

theorem read1_2 (t : Fin cfg1.N) (G : S8192x1024.Idx → EReal) (x : S512x1024.Idx) :
    View.read (Elt Ideal) ((View.whole main_v22).slice (win1_2.rect t)) G x = G (((View.whole main_v22).slice (win1_2.rect t)).emb x) :=
  View.read_apply _ _

theorem mem_block1_2 (t : Fin cfg1.N) (i : S8192x1024.Idx) (h0 : (i 0).val / 512 = t.val) :
    i ∈ ((cfg1.win 2).blk t).view.set := by
  show i ∈ ((View.whole main_v22).slice (win1_2.rect t)).set
  rw [View.set_slice_whole, Rect.mem_set_unit]
  have e := (index1 t).2.2
  have s := (size1 t)
  have hi0 : (i 0).val < 8192 := (i 0).isLt
  have hi1 : (i 1).val < 1024 := (i 1).isLt
  intro a
  match a with
  | ⟨0, _⟩ =>
    show win1_2.index t 0 * 512 ≤ (i 0 : Nat) ∧ (i 0 : Nat) < win1_2.index t 0 * 512 + win1_2.xsize (grid1.coords t) 0
    rw [e.1, s.1]; omega
  | ⟨1, _⟩ =>
    show win1_2.index t 1 * 1024 ≤ (i 1 : Nat) ∧ (i 1 : Nat) < win1_2.index t 1 * 1024 + win1_2.xsize (grid1.coords t) 1
    rw [e.2, s.2]; omega

/-- The gradient of the input. -/
theorem region1_out {f g : ℕ → ℕ → EReal} (h0 : V c main_v21 = plane (m := 8192) (n := 3584) f) (h1 : V c main_v16 = plane (m := 1024) (n := 3584) g) :
    (dat1 V c).arrAt 2 cfg1.N = plane (m := 8192) (n := 1024) (nt 3584 f g) := by
  refine (dat1 V c).arrAt_eq_of_cover 2 _ (fun t hf => ?_) fun i => ?_
  · have ht : t.val < 16 := t.isLt
    show (cfg1.win 2).cut (grid1.coords t) ((dat1 V c).after 2 t) = _
    rw [after1_2]
    have hb : Part (m := 512) (n := 1024) (out1_2 (iblk1 V c 0 t) (iblk1 V c 1 t)) (nt 3584 f g) (512 * (t.val)) 0 := by
      intro r d
      frame_out
      exact (pay1_1_apply _ _ r d).trans (nt_at (block1_0 V c h0 t) (block1_1 V c h1 t) r d)
    funext x
    obtain ⟨r, d, rfl⟩ : ∃ (r : Fin 512) (d : Fin 1024), x = ix2 r d := ⟨x 0, x 1, eq_ix2 x⟩
    refine (hb r d).trans (Eq.trans ?_ (read1_2 t _ (ix2 r d)).symm)
    refine (plane_at (nt 3584 f g) _ _ _ ?_ ?_).symm
    · show win1_2.index t 0 * 512 + 1 * r.val = _; rw [(index1 t).2.2.1]; omega
    · show win1_2.index t 1 * 1024 + 1 * d.val = _; rw [(index1 t).2.2.2]; omega
  · have hi0 : (i 0).val < 8192 := (i 0).isLt
    have hi1 : (i 1).val < 1024 := (i 1).isLt
    refine ⟨⟨(i 0).val / 512, ?_⟩, flush1_2 _, mem_block1_2 _ i ?_⟩
    · show _ < 16; omega
    · show (i 0).val / 512 = ((i 0).val / 512); omega

/-! ## Call 2 -/

theorem index2 : ∀ t : Fin grid2.N,
    (win2_0.index t 0 = t.val % 8 ∧ win2_0.index t 1 = 0)
    ∧ (win2_1.index t 0 = t.val % 8 ∧ win2_1.index t 1 = t.val / 8)
    ∧ (win2_2.index t 0 = 0 ∧ win2_2.index t 1 = t.val / 8) := by
  decide +kernel

theorem size2 : ∀ t : Fin grid2.N,
    (win2_2.xsize (grid2.coords t) 0 = 1024 ∧ win2_2.xsize (grid2.coords t) 1 = 1792) := by
  decide +kernel

theorem block2_0 {f : ℕ → ℕ → EReal} (hV : V c main_v0 = plane (m := 8192) (n := 1024) f) (t : Fin cfg2.N) :
    Part (m := 1024) (n := 1024) (iblk2 V c 0 t) f (1024 * (t.val % 8)) 0 := by
  intro r d
  unfold iblk2
  rw [View.read_apply]
  show V c main_v0 _ = _
  rw [hV]
  refine plane_at f _ _ _ ?_ ?_
  · show win2_0.index t 0 * 1024 + 1 * r.val = _; rw [(index2 t).1.1]; omega
  · show win2_0.index t 1 * 1024 + 1 * d.val = _; rw [(index2 t).1.2]; omega

theorem block2_1 {f : ℕ → ℕ → EReal} (hV : V c main_v21 = plane (m := 8192) (n := 3584) f) (t : Fin cfg2.N) :
    Part (m := 1024) (n := 1792) (iblk2 V c 1 t) f (1024 * (t.val % 8)) (1792 * (t.val / 8)) := by
  intro r d
  unfold iblk2
  rw [View.read_apply]
  show V c main_v21 _ = _
  rw [hV]
  refine plane_at f _ _ _ ?_ ?_
  · show win2_1.index t 0 * 1024 + 1 * r.val = _; rw [(index2 t).2.1.1]; omega
  · show win2_1.index t 1 * 1792 + 1 * d.val = _; rw [(index2 t).2.1.2]; omega

theorem read2_2 (t : Fin cfg2.N) (G : S1024x3584.Idx → EReal) (x : S1024x1792.Idx) :
    View.read (Elt Ideal) ((View.whole main_v23).slice (win2_2.rect t)) G x = G (((View.whole main_v23).slice (win2_2.rect t)).emb x) :=
  View.read_apply _ _

theorem mem_block2_2 (t : Fin cfg2.N) (i : S1024x3584.Idx) (h1 : (i 1).val / 1792 = t.val / 8):
    i ∈ ((cfg2.win 2).blk t).view.set := by
  show i ∈ ((View.whole main_v23).slice (win2_2.rect t)).set
  rw [View.set_slice_whole, Rect.mem_set_unit]
  have e := (index2 t).2.2
  have s := (size2 t)
  have hi0 : (i 0).val < 1024 := (i 0).isLt
  have hi1 : (i 1).val < 3584 := (i 1).isLt
  intro a
  match a with
  | ⟨0, _⟩ =>
    show win2_2.index t 0 * 1024 ≤ (i 0 : Nat) ∧ (i 0 : Nat) < win2_2.index t 0 * 1024 + win2_2.xsize (grid2.coords t) 0
    rw [e.1, s.1]; omega
  | ⟨1, _⟩ =>
    show win2_2.index t 1 * 1792 ≤ (i 1 : Nat) ∧ (i 1 : Nat) < win2_2.index t 1 * 1792 + win2_2.xsize (grid2.coords t) 1
    rw [e.2, s.2]; omega

theorem left2 {f g : ℕ → ℕ → EReal} (h0 : V c main_v0 = plane (m := 8192) (n := 1024) f) (h1 : V c main_v21 = plane (m := 8192) (n := 3584) g) :
    ∀ (n : ℕ) (hn : n < cfg2.N), Part (m := 1024) (n := 1792) (outsAt2 V c n hn) (tn (1024 * (n % 8) + 1024) f g) (0) (1792 * (n / 8)) := by
  intro n
  induction n with
  | zero =>
    intro hn r d
    rw [outsAt2_A V c ⟨0, hn⟩ rfl]
    frame_out
    refine (pay2_2_apply _ _ _ r d).trans ?_
    rw [pay2_1_apply, ← tn_zero f g ((0) + r.val) ((1792 * (0 / 8)) + d.val)]
    exact tn_at (block2_0 V c h0 ⟨0, hn⟩) (block2_1 V c h1 ⟨0, hn⟩) r d
  | succ n ih =>
    intro hn r d
    have hp : n < cfg2.N := by omega
    by_cases hz : (n + 1) % 8 = 0
    · rw [outsAt2_A V c ⟨n + 1, hn⟩ hz]
      frame_out
      refine (pay2_2_apply _ _ _ r d).trans ?_
      have b0 := block2_0 V c h0 ⟨n + 1, hn⟩
      have b1 := block2_1 V c h1 ⟨n + 1, hn⟩
      dsimp only at b0 b1
      rw [hz, Nat.mul_zero] at b0 b1 ⊢
      rw [pay2_1_apply, ← tn_zero f g ((0) + r.val) ((1792 * ((n + 1) / 8)) + d.val)]
      exact tn_at b0 b1 r d
    · rw [outsAt2_B V c ⟨n + 1, hn⟩ hz]
      frame_out
      refine (pay2_2_apply _ _ _ r d).trans ?_
      have e := ih hp r d
      rw [show 1024 * (n % 8) + 1024 = 1024 * ((n + 1) % 8) by omega, show n / 8 = (n + 1) / 8 by omega] at e
      refine (congrArg (· + _) e).trans ?_
      exact tn_at (block2_0 V c h0 ⟨n + 1, hn⟩) (block2_1 V c h1 ⟨n + 1, hn⟩) r d

/-- The weight's gradient. -/
theorem region2_out {f g : ℕ → ℕ → EReal} (h0 : V c main_v0 = plane (m := 8192) (n := 1024) f) (h1 : V c main_v21 = plane (m := 8192) (n := 3584) g) :
    (dat2 V c).arrAt 2 cfg2.N = plane (m := 1024) (n := 3584) (tn 8192 f g) := by
  refine (dat2 V c).arrAt_eq_of_cover 2 _ (fun t hf => ?_) fun i => ?_
  · have ht : t.val < 16 := t.isLt
    show (cfg2.win 2).cut (grid2.coords t) ((dat2 V c).after 2 t) = _
    rw [after2_2]
    have hb := left2 V c h0 h1 t.val t.isLt
    rw [(flush2_2 t).mp hf, show 1024 * 7 + 1024 = 8192 from rfl] at hb
    funext x
    obtain ⟨r, d, rfl⟩ : ∃ (r : Fin 1024) (d : Fin 1792), x = ix2 r d := ⟨x 0, x 1, eq_ix2 x⟩
    refine (hb r d).trans (Eq.trans ?_ (read2_2 t _ (ix2 r d)).symm)
    refine (plane_at (tn 8192 f g) _ _ _ ?_ ?_).symm
    · show win2_2.index t 0 * 1024 + 1 * r.val = _; rw [(index2 t).2.2.1]; omega
    · show win2_2.index t 1 * 1792 + 1 * d.val = _; rw [(index2 t).2.2.2]; omega
  · have hi0 : (i 0).val < 1024 := (i 0).isLt
    have hi1 : (i 1).val < 3584 := (i 1).isLt
    refine ⟨⟨(i 1).val / 1792 * 8 + 7, ?_⟩, (flush2_2 _).mpr ?_, mem_block2_2 _ i ?_⟩
    · show _ < 16; omega
    · show ((i 1).val / 1792 * 8 + 7) % 8 = 7; omega
    · show (i 1).val / 1792 = ((i 1).val / 1792 * 8 + 7) / 8; omega

end Cert.Kernel4Ideal.InProj

end
-- ==== Proof.InRun.lean ====
/-
  The run of the in-projection with everything it leaves: from any memory with zero counters every weakly fair execution
  terminates, each buffer of the TensorCore ends at the contents that the last segment leaves, and every counter at zero.
-/
module

public import proofs.«01_k».proof.Proof.Gen.Kernel4Ideal.Frame

@[expose] public section

set_option maxRecDepth 16384

noncomputable section

namespace Cert.Kernel4Ideal.InProj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the three calls and the host code around them ends with each unscoped buffer at the contents `W6`. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)

end Cert.Kernel4Ideal.InProj
-- ==== Proof.InResults.lean ====
/-
  The in-projection's seven results: what its host code lays out for the three calls, what each call leaves, and the parts
  that the host code takes from it.
-/
module

public import proofs.«01_k».proof.Proof.InCalls
public import proofs.«01_k».proof.Proof.InSpec
public import proofs.«01_k».proof.Proof.InRun
public import Idealize.ShloMosaic.Lib.StableHlo.Run

@[expose] public section

set_option maxRecDepth 16384

noncomputable section

open Idealize.ShloMosaic Idealize.ShloMosaic.TcCoe Idealize.SL.Sem Idealize.ShloMosaic.StableHlo Finset

namespace Cert.Kernel4Ideal.InProj

open Cert.Kernel4Ideal Cert.Kernel4Ideal.Gen Cert.Mlp

variable (m : (ℓ : Loc nD τ sig) → Buf (Elt Ideal) ℓ) (ρ : Dev nD → PrngReg) (c : Dev nD)

/-! ## The arguments' numbers -/

/-- The input. -/
abbrev h : ℕ → ℕ → EReal := entries (m := 8192) (n := 1024) (m ((c.tc : Thread nD τ).loc main_arg0))

/-- The weight. -/
abbrev w : ℕ → ℕ → EReal := entries (m := 1024) (n := 3232) (m ((c.tc : Thread nD τ).loc main_arg1))

/-- The gradient of the state-space part. -/
abbrev du : ℕ → ℕ → EReal := entries (m := 8192) (n := 512) (m ((c.tc : Thread nD τ).loc main_arg2))

/-- The gradient of the compressed queries. -/
abbrev dq : ℕ → ℕ → EReal := entries (m := 8192) (n := 384) (m ((c.tc : Thread nD τ).loc main_arg3))

/-- The gradient of the compressed keys and values. -/
abbrev dk : ℕ → ℕ → EReal := entries (m := 8192) (n := 256) (m ((c.tc : Thread nD τ).loc main_arg4))

/-- The gradient of the rotary keys. -/
abbrev dp : ℕ → ℕ → EReal := entries (m := 8192) (n := 32) (m ((c.tc : Thread nD τ).loc main_arg5))

/-- The gradient of the gates. -/
abbrev dg : ℕ → ℕ → EReal := entries (m := 8192) (n := 2048) (m ((c.tc : Thread nD τ).loc main_arg6))

/-- The weight's columns as the calls take them. -/
abbrev wp : ℕ → ℕ → EReal := spaced (fun i j => w m c i (0 + j)) (fun i j => w m c i (512 + j)) (fun i j => w m c i (896 + j))
  (fun i j => w m c i (1152 + j)) (fun i j => w m c i (1184 + j))

/-- The gradient of the projection in that layout, and in the weight's. -/
abbrev dproj : ℕ → ℕ → EReal := spaced (du m c) (dq m c) (dk m c) (dp m c) (dg m c)
abbrev dout : ℕ → ℕ → EReal := packed (du m c) (dq m c) (dk m c) (dp m c) (dg m c)

/-! ## What the calls are handed -/

theorem zero_bf16 : Ideal.ofBits .bf16 0x0000#16 = 0 := by
  simp [Ideal.ofBits, Ideal.ieee]

theorem zeros_plane {n k : ℕ} {d : Fin 0 → Fin 2} (hb : S_.BroadcastsInDim (⟨2, ![n, k]⟩ : Shape) d) :
    broadcastInDim (⟨2, ![n, k]⟩ : Shape) d hb (constant (F := Ideal) S_ .bf16 0x0000#16) = plane zeros :=
  funext fun _ => zero_bf16

theorem weight_slice {k o : ℕ} (hs : S1024x3232.Slices ![0, o] (⟨2, ![1024, k]⟩ : Shape)) :
    extractStridedSlice (⟨2, ![1024, k]⟩ : Shape) ![0, o] (m ((c.tc : Thread nD τ).loc main_arg1)) hs = plane fun i j => w m c i (o + j) := by
  refine Eq.trans ?_ (slice_plane (n := 3232) (w m c) hs)
  exact congrArg (extractStridedSlice (⟨2, ![1024, k]⟩ : Shape) ![0, o] · hs) (eq_plane (m := 1024) (n := 3232) _)

theorem entry_v0 : V1 m ρ c main_v0 = plane (m := 8192) (n := 1024) (h m c) := by
  have e : V1 m ρ c main_v0 = m ((c.tc : Thread nD τ).loc main_arg0) := by
    show StableHlo.after hostOps0 _ (Proc.devRef .tc main_v0) = _
    after_results_simp <;> rfl
  rw [e]
  exact eq_plane (m := 8192) (n := 1024) _

theorem entry_v16 : V1 m ρ c main_v16 = plane (m := 1024) (n := 3584) (wp m c) := by
  show StableHlo.after hostOps0 _ (Proc.devRef .tc main_v16) = _
  after_results_simp
  refine (concatenate_cols (ps := [(2048, _), (512, _), (256, _), (64, _), (32, _), (32, _), (128, _), (384, _), (128, _)])
    (.cons ?_ (.cons ?_ (.cons ?_ (.cons ?_ (.cons ?_ (.cons ?_ (.cons ?_ (.cons ?_ (.cons ?_ .nil))))))))) _)
  all_goals dsimp only [Matrix.cons_val]
  all_goals after_results_simp
  · exact weight_slice m c slices_S1024x3232_S1024x2048_0_1184
  · exact weight_slice m c slices_S1024x3232_S1024x512_0_0
  · exact weight_slice m c slices_S1024x3232_S1024x256_0_896
  · exact zeros_plane bcast_S_S1024x64
  · exact weight_slice m c slices_S1024x3232_S1024x32_0_1152
  · exact zeros_plane bcast_S_S1024x32
  · exact zeros_plane bcast_S_S1024x128
  · exact weight_slice m c slices_S1024x3232_S1024x384_0_512
  · exact zeros_plane bcast_S_S1024x128

theorem at2_v6 : W2 m ρ c (Proc.devRef .tc main_v6) = plane (m := 8192) (n := 2048) (dg m c) := by
  refine (W2_of m ρ c main_v6 (by decide)).trans (Eq.trans ?_ (eq_plane (m := 8192) (n := 2048) (m ((c.tc : Thread nD τ).loc main_arg6))))
  show StableHlo.after hostOps0 _ (Proc.devRef .tc main_v6) = _
  after_results_simp <;> rfl

theorem at2_v2 : W2 m ρ c (Proc.devRef .tc main_v2) = plane (m := 8192) (n := 512) (du m c) := by
  refine (W2_of m ρ c main_v2 (by decide)).trans (Eq.trans ?_ (eq_plane (m := 8192) (n := 512) (m ((c.tc : Thread nD τ).loc main_arg2))))
  show StableHlo.after hostOps0 _ (Proc.devRef .tc main_v2) = _
  after_results_simp <;> rfl

theorem at2_v4 : W2 m ρ c (Proc.devRef .tc main_v4) = plane (m := 8192) (n := 256) (dk m c) := by
  refine (W2_of m ρ c main_v4 (by decide)).trans (Eq.trans ?_ (eq_plane (m := 8192) (n := 256) (m ((c.tc : Thread nD τ).loc main_arg4))))
  show StableHlo.after hostOps0 _ (Proc.devRef .tc main_v4) = _
  after_results_simp <;> rfl

theorem at2_v5 : W2 m ρ c (Proc.devRef .tc main_v5) = plane (m := 8192) (n := 32) (dp m c) := by
  refine (W2_of m ρ c main_v5 (by decide)).trans (Eq.trans ?_ (eq_plane (m := 8192) (n := 32) (m ((c.tc : Thread nD τ).loc main_arg5))))
  show StableHlo.after hostOps0 _ (Proc.devRef .tc main_v5) = _
  after_results_simp <;> rfl

theorem at2_v3 : W2 m ρ c (Proc.devRef .tc main_v3) = plane (m := 8192) (n := 384) (dq m c) := by
  refine (W2_of m ρ c main_v3 (by decide)).trans (Eq.trans ?_ (eq_plane (m := 8192) (n := 384) (m ((c.tc : Thread nD τ).loc main_arg3))))
  show StableHlo.after hostOps0 _ (Proc.devRef .tc main_v3) = _
  after_results_simp <;> rfl

theorem at3_v21 : V3 m ρ c main_v21 = plane (m := 8192) (n := 3584) (dproj m c) := by
  show StableHlo.after hostOps1 _ (Proc.devRef .tc main_v21) = _
  after_results_simp
  refine (concatenate_cols (ps := [(2048, dg m c), (512, du m c), (256, dk m c), (128, beside [(64, zeros), (32, dp m c)]), (128, zeros), (384, dq m c), (128, zeros)])
    (.cons ?_ (.cons ?_ (.cons ?_ (.cons ?_ (.cons ?_ (.cons ?_ (.cons ?_ .nil))))))) _).trans (congrArg plane (spaced_padded _ _ _ _ _))
  all_goals dsimp only [Matrix.cons_val]
  all_goals after_results_simp
  · exact at2_v6 m ρ c
  · exact at2_v2 m ρ c
  · exact at2_v4 m ρ c
  · refine Eq.trans ?_ (pad_cols (m := 8192) (N := 128) (hi := 32) (dp m c) (constant (F := Ideal) S_ .bf16 0x0000#16) h_S_ zero_bf16 pads_S8192x32_S8192x128_000_64320)
    exact congrArg (fun x => pad S8192x128 ![0, 64] ![0, 32] ![0, 0] x (constant (F := Ideal) S_ .bf16 0x0000#16) pads_S8192x32_S8192x128_000_64320 h_S_) (at2_v5 m ρ c)
  · exact zeros_plane bcast_S_S8192x128
  · exact at2_v3 m ρ c
  · exact zeros_plane bcast_S_S8192x128

theorem at3_v0 : V3 m ρ c main_v0 = plane (m := 8192) (n := 1024) (h m c) :=
  (W3_of m ρ c main_v0 (by decide)).trans ((W2_of m ρ c main_v0 (by decide)).trans (entry_v0 m ρ c))

theorem at4_v0 : V4 m ρ c main_v0 = plane (m := 8192) (n := 1024) (h m c) :=
  (W4_of m ρ c main_v0 (by decide)).trans (at3_v0 m ρ c)

theorem at3_v16 : V3 m ρ c main_v16 = plane (m := 1024) (n := 3584) (wp m c) :=
  (W3_of m ρ c main_v16 (by decide)).trans ((W2_of m ρ c main_v16 (by decide)).trans (entry_v16 m ρ c))

theorem at4_v21 : V4 m ρ c main_v21 = plane (m := 8192) (n := 3584) (dproj m c) :=
  (W4_of m ρ c main_v21 (by decide)).trans (at3_v21 m ρ c)

/-! ## What the calls leave -/

theorem at5_v17 : W5 m ρ c (Proc.devRef .tc main_v17) = plane (m := 8192) (n := 3584) (nn 1024 (h m c) (wp m c)) :=
  (W5_of m ρ c main_v17 (by decide)).trans ((W4_of m ρ c main_v17 (by decide)).trans ((W3_of m ρ c main_v17 (by decide)).trans
    ((W2_arr m ρ c 2).trans (region0_out (V1 m ρ) c (entry_v0 m ρ c) (entry_v16 m ρ c)))))

theorem at5_v23 : W5 m ρ c (Proc.devRef .tc main_v23) = plane (m := 1024) (n := 3584) (tn 8192 (h m c) (dproj m c)) :=
  (W5_arr m ρ c 2).trans (region2_out (V4 m ρ) c (at4_v0 m ρ c) (at4_v21 m ρ c))

/-- The gradient of the input: the gaps among the spaced columns add nothing. -/
theorem at6_v22 : W6 m ρ c (Proc.devRef .tc main_v22) = plane (m := 8192) (n := 1024) (nt 3232 (dout m c) (w m c)) := by
  refine (W6_of m ρ c main_v22 (by decide)).trans ((W5_of m ρ c main_v22 (by decide)).trans ((W4_arr m ρ c 2).trans
    ((region1_out (V3 m ρ) c (at3_v21 m ρ c) (at3_v16 m ρ c)).trans (plane_congr fun r _ j _ => ?_))))
  exact nt_place (fun k hk => spaced_place _ _ _ _ _ _ hk) (fun k hk => (spaced_place _ _ _ _ _ _ hk).trans (packed_parts _ _ hk))
    fun d hd hn => spaced_gap _ _ _ _ _ _ hd hn

/-! ## The parts that the host takes -/

/-- Columns of the projection, each the product by the weight's column `o + j` where the layout has that one at `a + j`. -/
theorem part {k a o : ℕ} (hs : S8192x3584.Slices ![0, a] (⟨2, ![8192, k]⟩ : Shape)) (hw : ∀ i, ∀ j < k, wp m c i (a + j) = w m c i (o + j)) :
    extractStridedSlice (⟨2, ![8192, k]⟩ : Shape) ![0, a] (W5 m ρ c (Proc.devRef .tc main_v17)) hs
      = plane fun i j => nn 1024 (h m c) (w m c) i (o + j) := by
  refine (congrArg (extractStridedSlice (⟨2, ![8192, k]⟩ : Shape) ![0, a] · hs) (at5_v17 m ρ c)).trans
    ((slice_plane (n := 3584) _ hs).trans (plane_congr fun r _ j hj => ?_))
  exact sum_congr rfl fun t _ => congrArg _ (hw t j hj)

theorem at6_v30 : W6 m ρ c (Proc.devRef .tc main_v30) = plane (m := 8192) (n := 512) fun i j => nn 1024 (h m c) (w m c) i (0 + j) := by
  show StableHlo.after hostOps3 _ (Proc.devRef .tc main_v30) = _
  after_results_simp
  exact part m ρ c slices_S8192x3584_S8192x512_0_2048 fun i j hj => spaced_u _ _ _ _ _ i hj

theorem at6_v31 : W6 m ρ c (Proc.devRef .tc main_v31) = plane (m := 8192) (n := 384) fun i j => nn 1024 (h m c) (w m c) i (512 + j) := by
  show StableHlo.after hostOps3 _ (Proc.devRef .tc main_v31) = _
  after_results_simp
  exact part m ρ c slices_S8192x3584_S8192x384_0_3072 fun i j hj => spaced_q _ _ _ _ _ i hj

theorem at6_v32 : W6 m ρ c (Proc.devRef .tc main_v32) = plane (m := 8192) (n := 256) fun i j => nn 1024 (h m c) (w m c) i (896 + j) := by
  show StableHlo.after hostOps3 _ (Proc.devRef .tc main_v32) = _
  after_results_simp
  exact part m ρ c slices_S8192x3584_S8192x256_0_2560 fun i j hj => spaced_k _ _ _ _ _ i hj

theorem at6_v33 : W6 m ρ c (Proc.devRef .tc main_v33) = plane (m := 8192) (n := 32) fun i j => nn 1024 (h m c) (w m c) i (1152 + j) := by
  show StableHlo.after hostOps3 _ (Proc.devRef .tc main_v33) = _
  after_results_simp
  exact part m ρ c slices_S8192x3584_S8192x32_0_2880 fun i j hj => spaced_p _ _ _ _ _ i hj

theorem at6_v34 : W6 m ρ c (Proc.devRef .tc main_v34) = plane (m := 8192) (n := 2048) fun i j => nn 1024 (h m c) (w m c) i (1184 + j) := by
  show StableHlo.after hostOps3 _ (Proc.devRef .tc main_v34) = _
  after_results_simp
  exact part m ρ c slices_S8192x3584_S8192x2048_0_0 fun i j hj => (congrArg _ (Nat.zero_add j)).trans (spaced_g _ _ _ _ _ i hj)

theorem weight_part {k a : ℕ} (hs : S1024x3584.Slices ![0, a] (⟨2, ![1024, k]⟩ : Shape)) :
    extractStridedSlice (⟨2, ![1024, k]⟩ : Shape) ![0, a] (W5 m ρ c (Proc.devRef .tc main_v23)) hs
      = plane fun i j => tn 8192 (h m c) (dproj m c) i (a + j) :=
  (congrArg (extractStridedSlice (⟨2, ![1024, k]⟩ : Shape) ![0, a] · hs) (at5_v23 m ρ c)).trans (slice_plane (n := 3584) _ hs)

/-- The weight's gradient, its columns back in the weight's order. -/
theorem at6_v29 : W6 m ρ c (Proc.devRef .tc main_v29) = plane (m := 1024) (n := 3232) (tn 8192 (h m c) (dout m c)) := by
  show StableHlo.after hostOps3 _ (Proc.devRef .tc main_v29) = _
  after_results_simp
  refine (concatenate_cols (ps := [(512, _), (384, _), (256, _), (32, _), (2048, _)])
    (.cons ?_ (.cons ?_ (.cons ?_ (.cons ?_ (.cons ?_ .nil))))) _).trans (Eq.trans (plane_congr fun r _ j hj => packed_places r (tn 8192 (h m c) (dproj m c)) hj)
      (plane_congr fun r _ j hj => ?_))
  case refine_6 => exact sum_congr rfl fun t _ => congrArg _ (spaced_place _ _ _ _ _ _ hj)
  all_goals dsimp only [Matrix.cons_val]
  all_goals after_results_simp
  · exact weight_part m ρ c slices_S1024x3584_S1024x512_0_2048
  · exact weight_part m ρ c slices_S1024x3584_S1024x384_0_3072
  · exact weight_part m ρ c slices_S1024x3584_S1024x256_0_2560
  · exact weight_part m ρ c slices_S1024x3584_S1024x32_0_2880
  · exact weight_part m ρ c slices_S1024x3584_S1024x2048_0_0

end Cert.Kernel4Ideal.InProj

end
-- ==== Proof.InRef.lean ====
/-
  The reference's seven results of the in-projection: the parts of the product, and the gradients of its input and of its
  weight from the five parts' gradients joined.
-/
module

public import proofs.«01_k».proof.Proof.Gen.Reference4Ideal.Read
public import proofs.«01_k».proof.Proof.InSpec

@[expose] public section

set_option maxRecDepth 16384

noncomputable section

open Idealize.ShloMosaic Finset

namespace Cert.Reference4Ideal.InProj

open Cert.Reference4Ideal Cert.Reference4Ideal.Gen Cert.Reference4Ideal.Read Cert.Mlp

variable (x0 : (⟨S8192x1024, .f32⟩ : BufTy).Contents (Elt Ideal)) (x1 : (⟨S1024x3232, .f32⟩ : BufTy).Contents (Elt Ideal))
  (x2 : (⟨S8192x512, .f32⟩ : BufTy).Contents (Elt Ideal)) (x3 : (⟨S8192x384, .f32⟩ : BufTy).Contents (Elt Ideal))
  (x4 : (⟨S8192x256, .f32⟩ : BufTy).Contents (Elt Ideal)) (x5 : (⟨S8192x32, .f32⟩ : BufTy).Contents (Elt Ideal))
  (x6 : (⟨S8192x2048, .f32⟩ : BufTy).Contents (Elt Ideal))

/-- The product of the input and the weight. -/
abbrev out : ℕ → ℕ → EReal := nn 1024 (entries (m := 8192) (n := 1024) x0) (entries (m := 1024) (n := 3232) x1)

/-- Its gradient. -/
abbrev dout : ℕ → ℕ → EReal := packed (entries (m := 8192) (n := 512) x2) (entries (m := 8192) (n := 384) x3)
  (entries (m := 8192) (n := 256) x4) (entries (m := 8192) (n := 32) x5) (entries (m := 8192) (n := 2048) x6)

theorem out_at (i : S8192x3232.Idx) (r c : ℕ) (h0 : (i 0).val = r) (h1 : (i 1).val = c) : val_main_v0 (F := Ideal) x0 x1 i = out x0 x1 r c := by
  subst h0 h1
  rw [val_main_v0_apply]
  unfold out nn
  rw [← Fin.sum_univ_eq_sum_range (fun k => entries (m := 8192) (n := 1024) x0 (i 0).val k * entries (m := 1024) (n := 3232) x1 k (i 1).val)]
  exact sum_congr rfl fun k _ => congrArg₂ (· * ·) (entries_at x0 _ _ _ rfl rfl) (entries_at x1 _ _ _ rfl rfl)

theorem u_plane : val_main_v1 (F := Ideal) x0 x1 = plane (m := 8192) (n := 512) fun r c => out x0 x1 r (0 + c) :=
  funext fun i => (val_main_v1_apply x0 x1 i).trans (out_at x0 x1 _ _ _ rfl (Nat.zero_add _).symm)

theorem q_plane : val_main_v2 (F := Ideal) x0 x1 = plane (m := 8192) (n := 384) fun r c => out x0 x1 r (512 + c) :=
  funext fun i => (val_main_v2_apply x0 x1 i).trans (out_at x0 x1 _ _ _ rfl rfl)

theorem k_plane : val_main_v3 (F := Ideal) x0 x1 = plane (m := 8192) (n := 256) fun r c => out x0 x1 r (896 + c) :=
  funext fun i => (val_main_v3_apply x0 x1 i).trans (out_at x0 x1 _ _ _ rfl rfl)

theorem p_plane : val_main_v4 (F := Ideal) x0 x1 = plane (m := 8192) (n := 32) fun r c => out x0 x1 r (1152 + c) :=
  funext fun i => (val_main_v4_apply x0 x1 i).trans (out_at x0 x1 _ _ _ rfl rfl)

theorem g_plane : val_main_v5 (F := Ideal) x0 x1 = plane (m := 8192) (n := 2048) fun r c => out x0 x1 r (1184 + c) :=
  funext fun i => (val_main_v5_apply x0 x1 i).trans (out_at x0 x1 _ _ _ rfl rfl)

theorem dout_plane : val_main_v6 (F := Ideal) x2 x3 x4 x5 x6 = plane (m := 8192) (n := 3232) (dout x2 x3 x4 x5 x6) :=
  concatenate_cols (.cons (eq_plane (m := 8192) (n := 512) x2) (.cons (eq_plane (m := 8192) (n := 384) x3) (.cons (eq_plane (m := 8192) (n := 256) x4)
    (.cons (eq_plane (m := 8192) (n := 32) x5) (.cons (eq_plane (m := 8192) (n := 2048) x6) .nil)))))
    concatenates_S8192x512_S8192x384_S8192x256_S8192x32_S8192x2048_S8192x3232_d1

theorem dout_at (i : S8192x3232.Idx) (r c : ℕ) (h0 : (i 0).val = r) (h1 : (i 1).val = c) :
    val_main_v6 (F := Ideal) x2 x3 x4 x5 x6 i = dout x2 x3 x4 x5 x6 r c :=
  (congrFun (dout_plane x2 x3 x4 x5 x6) i).trans (plane_at _ i r c h0 h1)

/-- The input's gradient. -/
theorem dh_plane : val_main_v9 (F := Ideal) x1 x2 x3 x4 x5 x6
    = plane (m := 8192) (n := 1024) (nt 3232 (dout x2 x3 x4 x5 x6) (entries (m := 1024) (n := 3232) x1)) := by
  funext i
  rw [val_main_v9_apply]
  unfold plane nt
  rw [← Fin.sum_univ_eq_sum_range (fun k => dout x2 x3 x4 x5 x6 (i 0).val k * entries (m := 1024) (n := 3232) x1 (i 1).val k)]
  exact sum_congr rfl fun k _ => congrArg₂ (· * ·) (dout_at x2 x3 x4 x5 x6 _ _ _ rfl rfl) (entries_at x1 _ _ _ rfl rfl)

/-- The weight's gradient. -/
theorem dw_plane : val_main_v8 (F := Ideal) x0 x2 x3 x4 x5 x6
    = plane (m := 1024) (n := 3232) (tn 8192 (entries (m := 8192) (n := 1024) x0) (dout x2 x3 x4 x5 x6)) := by
  funext i
  rw [val_main_v8_apply, val_main_v7_apply]
  unfold plane tn
  rw [← Fin.sum_univ_eq_sum_range (fun k => entries (m := 8192) (n := 1024) x0 k (i 0).val * dout x2 x3 x4 x5 x6 k (i 1).val)]
  exact sum_congr rfl fun k _ => (mul_comm _ _).trans
    (congrArg₂ (· * ·) (entries_at x0 _ _ _ rfl rfl) (dout_at x2 x3 x4 x5 x6 _ _ _ rfl rfl))

end Cert.Reference4Ideal.InProj

end
-- ==== Proof.GluSpec.lean ====
/-
  The gated layer as arrays of extended reals: the gelu, the logistic gate on its projection, and the gradients of both.
-/
module

public import proofs.«01_k».proof.Proof.GateSpec

@[expose] public section

set_option maxRecDepth 16384

noncomputable section

open Idealize.ShloMosaic Finset

namespace Cert.Mlp

/-- The gelu by its tanh formula; the three words are the numbers 0.5, sqrt(2 / pi) and 0.044715 as float32 holds them. -/
def gelu (x : EReal) : EReal :=
  Ideal.ofBits .f32 0x3F000000#32 * x * (1 + Ideal.tanh (Ideal.ofBits .f32 0x3F4C422A#32 * (x + Ideal.ofBits .f32 0x3D372713#32 * (x * x * x))))

/-- The gelu of every entry. -/
def geluOf (y : ℕ → ℕ → EReal) (r c : ℕ) : EReal := gelu (y r c)

/-- The two branches and the input, whose columns are scaled. -/
def ysum (a b u s : ℕ → ℕ → EReal) (r c : ℕ) : EReal := a r c + b r c + s 0 c * u r c

/-- The gelu of the rows, each entry multiplied by the logistic of the projection's. -/
def glu (y z b : ℕ → ℕ → EReal) (r c : ℕ) : EReal := gelu (y r c) * sigmoid (z r c + b 0 c)

/-- The rows' gradient as the gate lets it through. -/
def opened (e z b : ℕ → ℕ → EReal) (r c : ℕ) : EReal := e r c * sigmoid (z r c + b 0 c)

/-- The gradient of the gate's argument. -/
def dopen (e y z b : ℕ → ℕ → EReal) (r c : ℕ) : EReal :=
  e r c * gelu (y r c) * sigmoid (z r c + b 0 c) * (1 - sigmoid (z r c + b 0 c))

variable {M N : ℕ} {r0 : ℕ}

theorem ysum_at {x0 x1 x2 : (⟨2, ![M, N]⟩ : Shape).Idx → EReal} {x3 : (⟨2, ![1, N]⟩ : Shape).Idx → EReal} {a b u s : ℕ → ℕ → EReal}
    (h0 : Part x0 a r0 0) (h1 : Part x1 b r0 0) (h2 : Part x2 u r0 0) (h3 : Part x3 s 0 0) (r : Fin M) (c : Fin N) :
    x0 (ix2 r c) + x1 (ix2 r c) + x3 (ix2 0 c) * x2 (ix2 r c) = ysum a b u s (r0 + r.val) (0 + c.val) :=
  congrArg₂ (· + ·) (congrArg₂ (· + ·) (h0 r c) (h1 r c)) (congrArg₂ (· * ·) (h3 0 c) (h2 r c))

theorem open_at {x : (⟨2, ![M, N]⟩ : Shape).Idx → EReal} {y : (⟨2, ![1, N]⟩ : Shape).Idx → EReal} {z b : ℕ → ℕ → EReal}
    (hx : Part x z r0 0) (hy : Part y b 0 0) (r : Fin M) (c : Fin N) :
    sigmoid (x (ix2 r c) + y (ix2 0 c)) = sigmoid (z (r0 + r.val) (0 + c.val) + b 0 (0 + c.val)) :=
  congrArg sigmoid (congrArg₂ (· + ·) (hx r c) (hy 0 c))

/-! ## Vectors -/

/-- A vector as a row. -/
def row (x : (⟨1, ![512]⟩ : Shape).Idx → EReal) (_ c : ℕ) : EReal := if h : c < 512 then x (ValueIdx.ix1 (⟨c, h⟩ : Fin 512)) else 0

theorem row_at (x : (⟨1, ![512]⟩ : Shape).Idx → EReal) (i : (⟨1, ![512]⟩ : Shape).Idx) (z c : ℕ) (h : (i 0).val = c) : x i = row x z c := by
  subst h
  unfold row
  rw [dif_pos (show (i 0).val < 512 from (i 0).isLt)]
  exact congrArg x (funext fun a => match a with | ⟨0, _⟩ => rfl)

theorem row_plane (x : (⟨1, ![512]⟩ : Shape).Idx → EReal) (h : (⟨1, ![512]⟩ : Shape).ShapeCasts (⟨2, ![1, 512]⟩ : Shape)) :
    shapeCast ⟨2, ![1, 512]⟩ x h = plane (m := 1) (n := 512) (row x) := by
  funext i
  have b0 : (i 0).val < 1 := (i 0).isLt
  have b1 : (i 1).val < 512 := (i 1).isLt
  rw [shapeCast_apply _ h i (ValueIdx.ix1 (⟨(i 1).val, b1⟩ : Fin 512)) (by
    rw [Shape.rowMajor_val_one, Shape.rowMajor_val_two]
    show (i 1).val = (i 0).val * 512 + (i 1).val
    omega)]
  exact row_at x _ _ _ rfl

/-- The first row as a vector. -/
def flat (f : ℕ → ℕ → EReal) (i : (⟨1, ![512]⟩ : Shape).Idx) : EReal := f 0 (i 0).val

theorem flat_plane (f : ℕ → ℕ → EReal) (h : (⟨2, ![1, 512]⟩ : Shape).ShapeCasts (⟨1, ![512]⟩ : Shape)) :
    shapeCast ⟨1, ![512]⟩ (plane (m := 1) (n := 512) f) h = flat f := by
  funext i
  have b0 : (i 0).val < 512 := (i 0).isLt
  rw [shapeCast_apply _ h i (ix2 (0 : Fin 1) (⟨(i 0).val, b0⟩ : Fin 512)) (by
    rw [Shape.rowMajor_val_one, Shape.rowMajor_val_two]
    show 0 * 512 + (i 0).val = (i 0).val
    omega)]
  rfl

end Cert.Mlp

end
-- ==== Proof.GluPay.lean ====
/-
  The stores of the gated layer's six calls, read at an index.
-/
module

public import proofs.«01_k».proof.Proof.Gen.Kernel5Ideal.Skeleton
public import proofs.«01_k».proof.Proof.GluSpec
public import Idealize.ShloMosaic.Lib.Pointwise

@[expose] public section

set_option maxRecDepth 16384

noncomputable section

open Idealize.ShloMosaic Finset

namespace Cert.Kernel5Ideal.Glu

open Cert.Kernel5Ideal Cert.Kernel5Ideal.Gen Cert.Mlp

theorem pay0_2_apply (v0 v1 v2 : Vec Ideal S1024x512 .f32) (v3 : Vec Ideal S1x512 .f32) (r : Fin 1024) (c : Fin 512) :
    k0_pay2 (F := Ideal) v0 v1 v2 v3 (ix2 r c) = v0 (ix2 r c) + v1 (ix2 r c) + v3 (ix2 0 c) * v2 (ix2 r c) := by
  pointwise [k0_pay2, k0_pay1]

theorem pay0_3_apply (v0 v1 v2 : Vec Ideal S1024x512 .f32) (v3 : Vec Ideal S1x512 .f32) (r : Fin 1024) (c : Fin 512) :
    k0_pay3 (F := Ideal) v0 v1 v2 v3 (ix2 r c) = gelu (v0 (ix2 r c) + v1 (ix2 r c) + v3 (ix2 0 c) * v2 (ix2 r c)) := by
  unfold gelu
  pointwise [k0_pay3, k0_pay1]

theorem pay1_1_apply (x0 : Vec Ideal S1024x512 .bf16) (x1 : Vec Ideal S512x512 .bf16) (r : Fin 1024) (c : Fin 512) :
    k1_pay1 (F := Ideal) x0 x1 (ix2 r c) = ∑ k : Fin 512, x0 (ix2 r k) * x1 (ix2 k c) := by
  pointwise [k1_pay1]

theorem pay2_1_apply (v0 v2 : Vec Ideal S1024x512 .f32) (v4 : Vec Ideal S1x512 .f32) (r : Fin 1024) (c : Fin 512) :
    k2_pay1 (F := Ideal) v0 v2 v4 (ix2 r c) = gelu (v0 (ix2 r c)) * sigmoid (v2 (ix2 r c) + v4 (ix2 0 c)) := by
  unfold gelu sigmoid
  pointwise [k2_pay1]
  simp only [zero_sub]

theorem pay3_3_apply (v3 : Vec Ideal S1024x512 .f32) (v5 : Vec Ideal S1x512 .f32) (r : Fin 1024) (c : Fin 512) :
    k3_pay3 (F := Ideal) v3 v5 (ix2 r c) = sigmoid (v3 (ix2 r c) + v5 (ix2 0 c)) := by
  unfold sigmoid
  pointwise [k3_pay3]
  simp only [zero_sub]

theorem pay3_5_apply (v0 v3 : Vec Ideal S1024x512 .f32) (v5 : Vec Ideal S1x512 .f32) (r : Fin 1024) (c : Fin 512) :
    k3_pay5 (F := Ideal) v0 v3 v5 (ix2 r c) = v0 (ix2 r c) * sigmoid (v3 (ix2 r c) + v5 (ix2 0 c)) := by
  rw [← pay3_3_apply]
  pointwise [k3_pay5]

theorem pay3_4_apply (v0 v1 v3 : Vec Ideal S1024x512 .f32) (v5 : Vec Ideal S1x512 .f32) (r : Fin 1024) (c : Fin 512) :
    k3_pay4 (F := Ideal) v0 v1 v3 v5 (ix2 r c) = v0 (ix2 r c) * gelu (v1 (ix2 r c)) * sigmoid (v3 (ix2 r c) + v5 (ix2 0 c))
      * (1 - sigmoid (v3 (ix2 r c) + v5 (ix2 0 c))) := by
  rw [← pay3_3_apply]
  unfold gelu
  pointwise [k3_pay4]

theorem pay3_6_apply (v0 v1 v3 : Vec Ideal S1024x512 .f32) (v5 : Vec Ideal S1x512 .f32) (r : Fin 1) (c : Fin 512) :
    k3_pay6 (F := Ideal) v0 v1 v3 v5 (ix2 r c) = ∑ k : Fin 1024, k3_pay4 (F := Ideal) v0 v1 v3 v5 (ix2 k c) := by
  pointwise [k3_pay6]

theorem pay3_7_apply (v0 v1 v3 : Vec Ideal S1024x512 .f32) (v5 : Vec Ideal S1x512 .f32) (r : Fin 1024) (c : Fin 512) :
    k3_pay7 (F := Ideal) v0 v1 v3 v5 (ix2 r c) = v0 (ix2 r c) * gelu (v1 (ix2 r c)) * sigmoid (v3 (ix2 r c) + v5 (ix2 0 c))
      * (1 - sigmoid (v3 (ix2 r c) + v5 (ix2 0 c))) := by
  rw [← pay3_4_apply]
  rfl

theorem pay3_1_apply (r : Fin 1) (c : Fin 512) : k3_pay1 (F := Ideal) (ix2 r c) = 0 := by
  pointwise [k3_pay1]

theorem pay3_2_apply (x acc : Vec Ideal S1x512 .f32) (r : Fin 1) (c : Fin 512) :
    k3_pay2 (F := Ideal) x acc (ix2 r c) = acc (ix2 r c) + x (ix2 r c) := by
  pointwise [k3_pay2]

theorem pay4_1_apply (x0 : Vec Ideal S1024x512 .bf16) (x1 : Vec Ideal S512x512 .bf16) (r : Fin 1024) (c : Fin 512) :
    k4_pay1 (F := Ideal) x0 x1 (ix2 r c) = ∑ k : Fin 512, x0 (ix2 r k) * x1 (ix2 c k) := by
  pointwise [k4_pay1]

theorem pay5_1_apply (r : Fin 512) (c : Fin 512) : k5_pay1 (F := Ideal) (ix2 r c) = 0 := by
  pointwise [k5_pay1]

theorem pay5_2_apply (acc : Vec Ideal S512x512 .f32) (x0 : Vec Ideal S1024x512 .bf16) (x1 : Vec Ideal S1024x512 .bf16)
    (r : Fin 512) (c : Fin 512) :
    k5_pay2 (F := Ideal) acc x0 x1 (ix2 r c) = acc (ix2 r c) + ∑ k : Fin 1024, x0 (ix2 k r) * x1 (ix2 k c) := by
  pointwise [k5_pay2]

end Cert.Kernel5Ideal.Glu

end
-- ==== Proof.GluCalls.lean ====
/-
  The gated layer's six calls: the sum of the branches and its gelu, the projection, the gated rows, and the gradients of the
  projection's argument, of its input and of its weight.
-/
module

public import proofs.«01_k».proof.Proof.Gen.Kernel5Ideal.Frame
public import proofs.«01_k».proof.Proof.GluPay
public import Idealize.ShloMosaic.Lib.Pipeline.ValueKit.Acc

@[expose] public section

set_option maxRecDepth 16384

noncomputable section

open Idealize.ShloMosaic Idealize.ShloMosaic.TcCoe Idealize.SL.Sem Finset

namespace Cert.Kernel5Ideal.Glu

open Cert.Kernel5Ideal Cert.Kernel5Ideal.Gen Cert.Mlp

variable (V : (c : Dev nD) → (b : Ref sig .tc) → Buf (Elt Ideal) ((c : Thread nD τ).loc b)) (c : Dev nD)

/-! ## Call 0 -/

theorem index0 : ∀ t : Fin grid0.N,
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0) := by
  decide +kernel

theorem size0 : ∀ t : Fin grid0.N,
    (win0_4.xsize (grid0.coords t) 0 = 1024 ∧ win0_4.xsize (grid0.coords t) 1 = 512)
    ∧ (win0_5.xsize (grid0.coords t) 0 = 1024 ∧ win0_5.xsize (grid0.coords t) 1 = 512) := by
  decide +kernel

theorem block0_0 {f : ℕ → ℕ → EReal} (hV : V c main_arg0 = plane (m := 8192) (n := 512) f) (t : Fin cfg0.N) :
    Part (m := 1024) (n := 512) (iblk0 V c 0 t) f (1024 * (t.val)) 0 := by
  intro r d
  unfold iblk0
  rw [View.read_apply]
  show V c main_arg0 _ = _
  rw [hV]
  refine plane_at f _ _ _ ?_ ?_
  · show win0_0.index t 0 * 1024 + 1 * r.val = _; rw [(index0 t).1.1]; omega
  · show win0_0.index t 1 * 512 + 1 * d.val = _; rw [(index0 t).1.2]; omega

theorem block0_1 {f : ℕ → ℕ → EReal} (hV : V c main_arg1 = plane (m := 8192) (n := 512) f) (t : Fin cfg0.N) :
    Part (m := 1024) (n := 512) (iblk0 V c 1 t) f (1024 * (t.val)) 0 := by
  intro r d
  unfold iblk0
  rw [View.read_apply]
  show V c main_arg1 _ = _
  rw [hV]
  refine plane_at f _ _ _ ?_ ?_
  · show win0_1.index t 0 * 1024 + 1 * r.val = _; rw [(index0 t).2.1.1]; omega
  · show win0_1.index t 1 * 512 + 1 * d.val = _; rw [(index0 t).2.1.2]; omega

theorem block0_2 {f : ℕ → ℕ → EReal} (hV : V c main_arg2 = plane (m := 8192) (n := 512) f) (t : Fin cfg0.N) :
    Part (m := 1024) (n := 512) (iblk0 V c 2 t) f (1024 * (t.val)) 0 := by
  intro r d
  unfold iblk0
  rw [View.read_apply]
  show V c main_arg2 _ = _
  rw [hV]
  refine plane_at f _ _ _ ?_ ?_
  · show win0_2.index t 0 * 1024 + 1 * r.val = _; rw [(index0 t).2.2.1.1]; omega
  · show win0_2.index t 1 * 512 + 1 * d.val = _; rw [(index0 t).2.2.1.2]; omega

theorem block0_3 {f : ℕ → ℕ → EReal} (hV : V c main_v1 = plane (m := 1) (n := 512) f) (t : Fin cfg0.N) :
    Part (m := 1) (n := 512) (iblk0 V c 3 t) f 0 0 := by
  intro r d
  unfold iblk0
  rw [View.read_apply]
  show V c main_v1 _ = _
  rw [hV]
  refine plane_at f _ _ _ ?_ ?_
  · show win0_3.index t 0 * 1 + 1 * r.val = _; rw [(index0 t).2.2.2.1.1]; omega
  · show win0_3.index t 1 * 512 + 1 * d.val = _; rw [(index0 t).2.2.2.1.2]; omega

theorem read0_4 (t : Fin cfg0.N) (G : S8192x512.Idx → EReal) (x : S1024x512.Idx) :
    View.read (Elt Ideal) ((View.whole main_v3_0).slice (win0_4.rect t)) G x = G (((View.whole main_v3_0).slice (win0_4.rect t)).emb x) :=
  View.read_apply _ _

theorem mem_block0_4 (t : Fin cfg0.N) (i : S8192x512.Idx) (h0 : (i 0).val / 1024 = t.val) :
    i ∈ ((cfg0.win 4).blk t).view.set := by
  show i ∈ ((View.whole main_v3_0).slice (win0_4.rect t)).set
  rw [View.set_slice_whole, Rect.mem_set_unit]
  have e := (index0 t).2.2.2.2.1
  have s := (size0 t).1
  have hi0 : (i 0).val < 8192 := (i 0).isLt
  have hi1 : (i 1).val < 512 := (i 1).isLt
  intro a
  match a with
  | ⟨0, _⟩ =>
    show win0_4.index t 0 * 1024 ≤ (i 0 : Nat) ∧ (i 0 : Nat) < win0_4.index t 0 * 1024 + win0_4.xsize (grid0.coords t) 0
    rw [e.1, s.1]; omega
  | ⟨1, _⟩ =>
    show win0_4.index t 1 * 512 ≤ (i 1 : Nat) ∧ (i 1 : Nat) < win0_4.index t 1 * 512 + win0_4.xsize (grid0.coords t) 1
    rw [e.2, s.2]; omega

theorem read0_5 (t : Fin cfg0.N) (G : S8192x512.Idx → EReal) (x : S1024x512.Idx) :
    View.read (Elt Ideal) ((View.whole main_v3_1).slice (win0_5.rect t)) G x = G (((View.whole main_v3_1).slice (win0_5.rect t)).emb x) :=
  View.read_apply _ _

theorem mem_block0_5 (t : Fin cfg0.N) (i : S8192x512.Idx) (h0 : (i 0).val / 1024 = t.val) :
    i ∈ ((cfg0.win 5).blk t).view.set := by
  show i ∈ ((View.whole main_v3_1).slice (win0_5.rect t)).set
  rw [View.set_slice_whole, Rect.mem_set_unit]
  have e := (index0 t).2.2.2.2.2
  have s := (size0 t).2
  have hi0 : (i 0).val < 8192 := (i 0).isLt
  have hi1 : (i 1).val < 512 := (i 1).isLt
  intro a
  match a with
  | ⟨0, _⟩ =>
    show win0_5.index t 0 * 1024 ≤ (i 0 : Nat) ∧ (i 0 : Nat) < win0_5.index t 0 * 1024 + win0_5.xsize (grid0.coords t) 0
    rw [e.1, s.1]; omega
  | ⟨1, _⟩ =>
    show win0_5.index t 1 * 512 ≤ (i 1 : Nat) ∧ (i 1 : Nat) < win0_5.index t 1 * 512 + win0_5.xsize (grid0.coords t) 1
    rw [e.2, s.2]; omega

/-- The branches and the scaled input added. -/
theorem region0_sum {a b u s : ℕ → ℕ → EReal} (h0 : V c main_arg0 = plane (m := 8192) (n := 512) a) (h1 : V c main_arg1 = plane (m := 8192) (n := 512) b) (h2 : V c main_arg2 = plane (m := 8192) (n := 512) u) (h3 : V c main_v1 = plane (m := 1) (n := 512) s) :
    (dat0 V c).arrAt 4 cfg0.N = plane (m := 8192) (n := 512) (ysum a b u s) := by
  refine (dat0 V c).arrAt_eq_of_cover 4 _ (fun t hf => ?_) fun i => ?_
  · have ht : t.val < 8 := t.isLt
    show (cfg0.win 4).cut (grid0.coords t) ((dat0 V c).after 4 t) = _
    rw [after0_4]
    have hb : Part (m := 1024) (n := 512) (out0_4 (iblk0 V c 0 t) (iblk0 V c 1 t) (iblk0 V c 2 t) (iblk0 V c 3 t)) (ysum a b u s) (1024 * (t.val)) 0 := by
      intro r d
      frame_out
      exact (pay0_2_apply _ _ _ _ r d).trans (ysum_at (block0_0 V c h0 t) (block0_1 V c h1 t) (block0_2 V c h2 t) (block0_3 V c h3 t) r d)
    funext x
    obtain ⟨r, d, rfl⟩ : ∃ (r : Fin 1024) (d : Fin 512), x = ix2 r d := ⟨x 0, x 1, eq_ix2 x⟩
    refine (hb r d).trans (Eq.trans ?_ (read0_4 t _ (ix2 r d)).symm)
    refine (plane_at (ysum a b u s) _ _ _ ?_ ?_).symm
    · show win0_4.index t 0 * 1024 + 1 * r.val = _; rw [(index0 t).2.2.2.2.1.1]; omega
    · show win0_4.index t 1 * 512 + 1 * d.val = _; rw [(index0 t).2.2.2.2.1.2]; omega
  · have hi0 : (i 0).val < 8192 := (i 0).isLt
    have hi1 : (i 1).val < 512 := (i 1).isLt
    refine ⟨⟨(i 0).val / 1024, ?_⟩, flush0_4 _, mem_block0_4 _ i ?_⟩
    · show _ < 8; omega
    · show (i 0).val / 1024 = ((i 0).val / 1024); omega

/-- Its gelu. -/
theorem region0_gelu {a b u s : ℕ → ℕ → EReal} (h0 : V c main_arg0 = plane (m := 8192) (n := 512) a) (h1 : V c main_arg1 = plane (m := 8192) (n := 512) b) (h2 : V c main_arg2 = plane (m := 8192) (n := 512) u) (h3 : V c main_v1 = plane (m := 1) (n := 512) s) :
    (dat0 V c).arrAt 5 cfg0.N = plane (m := 8192) (n := 512) (geluOf (ysum a b u s)) := by
  refine (dat0 V c).arrAt_eq_of_cover 5 _ (fun t hf => ?_) fun i => ?_
  · have ht : t.val < 8 := t.isLt
    show (cfg0.win 5).cut (grid0.coords t) ((dat0 V c).after 5 t) = _
    rw [after0_5]
    have hb : Part (m := 1024) (n := 512) (out0_5 (iblk0 V c 0 t) (iblk0 V c 1 t) (iblk0 V c 2 t) (iblk0 V c 3 t)) (geluOf (ysum a b u s)) (1024 * (t.val)) 0 := by
      intro r d
      frame_out
      exact (pay0_3_apply _ _ _ _ r d).trans (congrArg gelu
        (ysum_at (block0_0 V c h0 t) (block0_1 V c h1 t) (block0_2 V c h2 t) (block0_3 V c h3 t) r d))
    funext x
    obtain ⟨r, d, rfl⟩ : ∃ (r : Fin 1024) (d : Fin 512), x = ix2 r d := ⟨x 0, x 1, eq_ix2 x⟩
    refine (hb r d).trans (Eq.trans ?_ (read0_5 t _ (ix2 r d)).symm)
    refine (plane_at (geluOf (ysum a b u s)) _ _ _ ?_ ?_).symm
    · show win0_5.index t 0 * 1024 + 1 * r.val = _; rw [(index0 t).2.2.2.2.2.1]; omega
    · show win0_5.index t 1 * 512 + 1 * d.val = _; rw [(index0 t).2.2.2.2.2.2]; omega
  · have hi0 : (i 0).val < 8192 := (i 0).isLt
    have hi1 : (i 1).val < 512 := (i 1).isLt
    refine ⟨⟨(i 0).val / 1024, ?_⟩, flush0_5 _, mem_block0_5 _ i ?_⟩
    · show _ < 8; omega
    · show (i 0).val / 1024 = ((i 0).val / 1024); omega

/-! ## Call 1 -/

theorem index1 : ∀ t : Fin grid1.N,
    (win1_0.index t 0 = t.val ∧ win1_0.index t 1 = 0)
    ∧ (win1_1.index t 0 = 0 ∧ win1_1.index t 1 = 0)
    ∧ (win1_2.index t 0 = t.val ∧ win1_2.index t 1 = 0) := by
  decide +kernel

theorem size1 : ∀ t : Fin grid1.N,
    (win1_2.xsize (grid1.coords t) 0 = 1024 ∧ win1_2.xsize (grid1.coords t) 1 = 512) := by
  decide +kernel

theorem block1_0 {f : ℕ → ℕ → EReal} (hV : V c main_v3_1 = plane (m := 8192) (n := 512) f) (t : Fin cfg1.N) :
    Part (m := 1024) (n := 512) (iblk1 V c 0 t) f (1024 * (t.val)) 0 := by
  intro r d
  unfold iblk1
  rw [View.read_apply]
  show V c main_v3_1 _ = _
  rw [hV]
  refine plane_at f _ _ _ ?_ ?_
  · show win1_0.index t 0 * 1024 + 1 * r.val = _; rw [(index1 t).1.1]; omega
  · show win1_0.index t 1 * 512 + 1 * d.val = _; rw [(index1 t).1.2]; omega

theorem block1_1 {f : ℕ → ℕ → EReal} (hV : V c main_v0 = plane (m := 512) (n := 512) f) (t : Fin cfg1.N) :
    Part (m := 512) (n := 512) (iblk1 V c 1 t) f 0 0 := by
  intro r d
  unfold iblk1
  rw [View.read_apply]
  show V c main_v0 _ = _
  rw [hV]
  refine plane_at f _ _ _ ?_ ?_
  · show win1_1.index t 0 * 512 + 1 * r.val = _; rw [(index1 t).2.1.1]; omega
  · show win1_1.index t 1 * 512 + 1 * d.val = _; rw [(index1 t).2.1.2]; omega

theorem read1_2 (t : Fin cfg1.N) (G : S8192x512.Idx → EReal) (x : S1024x512.Idx) :
    View.read (Elt Ideal) ((View.whole main_v4).slice (win1_2.rect t)) G x = G (((View.whole main_v4).slice (win1_2.rect t)).emb x) :=
  View.read_apply _ _

theorem mem_block1_2 (t : Fin cfg1.N) (i : S8192x512.Idx) (h0 : (i 0).val / 1024 = t.val) :
    i ∈ ((cfg1.win 2).blk t).view.set := by
  show i ∈ ((View.whole main_v4).slice (win1_2.rect t)).set
  rw [View.set_slice_whole, Rect.mem_set_unit]
  have e := (index1 t).2.2
  have s := (size1 t)
  have hi0 : (i 0).val < 8192 := (i 0).isLt
  have hi1 : (i 1).val < 512 := (i 1).isLt
  intro a
  match a with
  | ⟨0, _⟩ =>
    show win1_2.index t 0 * 1024 ≤ (i 0 : Nat) ∧ (i 0 : Nat) < win1_2.index t 0 * 1024 + win1_2.xsize (grid1.coords t) 0
    rw [e.1, s.1]; omega
  | ⟨1, _⟩ =>
    show win1_2.index t 1 * 512 ≤ (i 1 : Nat) ∧ (i 1 : Nat) < win1_2.index t 1 * 512 + win1_2.xsize (grid1.coords t) 1
    rw [e.2, s.2]; omega

/-- The projection. -/
theorem region1_out {f g : ℕ → ℕ → EReal} (h0 : V c main_v3_1 = plane (m := 8192) (n := 512) f) (h1 : V c main_v0 = plane (m := 512) (n := 512) g) :
    (dat1 V c).arrAt 2 cfg1.N = plane (m := 8192) (n := 512) (nn 512 f g) := by
  refine (dat1 V c).arrAt_eq_of_cover 2 _ (fun t hf => ?_) fun i => ?_
  · have ht : t.val < 8 := t.isLt
    show (cfg1.win 2).cut (grid1.coords t) ((dat1 V c).after 2 t) = _
    rw [after1_2]
    have hb : Part (m := 1024) (n := 512) (out1_2 (iblk1 V c 0 t) (iblk1 V c 1 t)) (nn 512 f g) (1024 * (t.val)) 0 := by
      intro r d
      frame_out
      exact (pay1_1_apply _ _ r d).trans (nn_at (block1_0 V c h0 t) (block1_1 V c h1 t) r d)
    funext x
    obtain ⟨r, d, rfl⟩ : ∃ (r : Fin 1024) (d : Fin 512), x = ix2 r d := ⟨x 0, x 1, eq_ix2 x⟩
    refine (hb r d).trans (Eq.trans ?_ (read1_2 t _ (ix2 r d)).symm)
    refine (plane_at (nn 512 f g) _ _ _ ?_ ?_).symm
    · show win1_2.index t 0 * 1024 + 1 * r.val = _; rw [(index1 t).2.2.1]; omega
    · show win1_2.index t 1 * 512 + 1 * d.val = _; rw [(index1 t).2.2.2]; omega
  · have hi0 : (i 0).val < 8192 := (i 0).isLt
    have hi1 : (i 1).val < 512 := (i 1).isLt
    refine ⟨⟨(i 0).val / 1024, ?_⟩, flush1_2 _, mem_block1_2 _ i ?_⟩
    · show _ < 8; omega
    · show (i 0).val / 1024 = ((i 0).val / 1024); omega

/-! ## Call 2 -/

theorem index2 : ∀ t : Fin grid2.N,
    (win2_0.index t 0 = t.val ∧ win2_0.index t 1 = 0)
    ∧ (win2_1.index t 0 = t.val ∧ win2_1.index t 1 = 0)
    ∧ (win2_2.index t 0 = 0 ∧ win2_2.index t 1 = 0)
    ∧ (win2_3.index t 0 = t.val ∧ win2_3.index t 1 = 0) := by
  decide +kernel

theorem size2 : ∀ t : Fin grid2.N,
    (win2_3.xsize (grid2.coords t) 0 = 1024 ∧ win2_3.xsize (grid2.coords t) 1 = 512) := by
  decide +kernel

theorem block2_0 {f : ℕ → ℕ → EReal} (hV : V c main_v3_0 = plane (m := 8192) (n := 512) f) (t : Fin cfg2.N) :
    Part (m := 1024) (n := 512) (iblk2 V c 0 t) f (1024 * (t.val)) 0 := by
  intro r d
  unfold iblk2
  rw [View.read_apply]
  show V c main_v3_0 _ = _
  rw [hV]
  refine plane_at f _ _ _ ?_ ?_
  · show win2_0.index t 0 * 1024 + 1 * r.val = _; rw [(index2 t).1.1]; omega
  · show win2_0.index t 1 * 512 + 1 * d.val = _; rw [(index2 t).1.2]; omega

theorem block2_1 {f : ℕ → ℕ → EReal} (hV : V c main_v4 = plane (m := 8192) (n := 512) f) (t : Fin cfg2.N) :
    Part (m := 1024) (n := 512) (iblk2 V c 1 t) f (1024 * (t.val)) 0 := by
  intro r d
  unfold iblk2
  rw [View.read_apply]
  show V c main_v4 _ = _
  rw [hV]
  refine plane_at f _ _ _ ?_ ?_
  · show win2_1.index t 0 * 1024 + 1 * r.val = _; rw [(index2 t).2.1.1]; omega
  · show win2_1.index t 1 * 512 + 1 * d.val = _; rw [(index2 t).2.1.2]; omega

theorem block2_2 {f : ℕ → ℕ → EReal} (hV : V c main_v2 = plane (m := 1) (n := 512) f) (t : Fin cfg2.N) :
    Part (m := 1) (n := 512) (iblk2 V c 2 t) f 0 0 := by
  intro r d
  unfold iblk2
  rw [View.read_apply]
  show V c main_v2 _ = _
  rw [hV]
  refine plane_at f _ _ _ ?_ ?_
  · show win2_2.index t 0 * 1 + 1 * r.val = _; rw [(index2 t).2.2.1.1]; omega
  · show win2_2.index t 1 * 512 + 1 * d.val = _; rw [(index2 t).2.2.1.2]; omega

theorem read2_3 (t : Fin cfg2.N) (G : S8192x512.Idx → EReal) (x : S1024x512.Idx) :
    View.read (Elt Ideal) ((View.whole main_v5).slice (win2_3.rect t)) G x = G (((View.whole main_v5).slice (win2_3.rect t)).emb x) :=
  View.read_apply _ _

theorem mem_block2_3 (t : Fin cfg2.N) (i : S8192x512.Idx) (h0 : (i 0).val / 1024 = t.val) :
    i ∈ ((cfg2.win 3).blk t).view.set := by
  show i ∈ ((View.whole main_v5).slice (win2_3.rect t)).set
  rw [View.set_slice_whole, Rect.mem_set_unit]
  have e := (index2 t).2.2.2
  have s := (size2 t)
  have hi0 : (i 0).val < 8192 := (i 0).isLt
  have hi1 : (i 1).val < 512 := (i 1).isLt
  intro a
  match a with
  | ⟨0, _⟩ =>
    show win2_3.index t 0 * 1024 ≤ (i 0 : Nat) ∧ (i 0 : Nat) < win2_3.index t 0 * 1024 + win2_3.xsize (grid2.coords t) 0
    rw [e.1, s.1]; omega
  | ⟨1, _⟩ =>
    show win2_3.index t 1 * 512 ≤ (i 1 : Nat) ∧ (i 1 : Nat) < win2_3.index t 1 * 512 + win2_3.xsize (grid2.coords t) 1
    rw [e.2, s.2]; omega

/-- The gated rows. -/
theorem region2_out {y z b : ℕ → ℕ → EReal} (h0 : V c main_v3_0 = plane (m := 8192) (n := 512) y) (h1 : V c main_v4 = plane (m := 8192) (n := 512) z) (h2 : V c main_v2 = plane (m := 1) (n := 512) b) :
    (dat2 V c).arrAt 3 cfg2.N = plane (m := 8192) (n := 512) (glu y z b) := by
  refine (dat2 V c).arrAt_eq_of_cover 3 _ (fun t hf => ?_) fun i => ?_
  · have ht : t.val < 8 := t.isLt
    show (cfg2.win 3).cut (grid2.coords t) ((dat2 V c).after 3 t) = _
    rw [after2_3]
    have hb : Part (m := 1024) (n := 512) (out2_3 (iblk2 V c 0 t) (iblk2 V c 1 t) (iblk2 V c 2 t)) (glu y z b) (1024 * (t.val)) 0 := by
      intro r d
      frame_out
      exact (pay2_1_apply _ _ _ r d).trans (congrArg₂ (· * ·) (congrArg gelu (block2_0 V c h0 t r d))
        (open_at (block2_1 V c h1 t) (block2_2 V c h2 t) r d))
    funext x
    obtain ⟨r, d, rfl⟩ : ∃ (r : Fin 1024) (d : Fin 512), x = ix2 r d := ⟨x 0, x 1, eq_ix2 x⟩
    refine (hb r d).trans (Eq.trans ?_ (read2_3 t _ (ix2 r d)).symm)
    refine (plane_at (glu y z b) _ _ _ ?_ ?_).symm
    · show win2_3.index t 0 * 1024 + 1 * r.val = _; rw [(index2 t).2.2.2.1]; omega
    · show win2_3.index t 1 * 512 + 1 * d.val = _; rw [(index2 t).2.2.2.2]; omega
  · have hi0 : (i 0).val < 8192 := (i 0).isLt
    have hi1 : (i 1).val < 512 := (i 1).isLt
    refine ⟨⟨(i 0).val / 1024, ?_⟩, flush2_3 _, mem_block2_3 _ i ?_⟩
    · show _ < 8; omega
    · show (i 0).val / 1024 = ((i 0).val / 1024); omega

/-! ## Call 3 -/

theorem index3 : ∀ t : Fin grid3.N,
    (win3_0.index t 0 = t.val ∧ win3_0.index t 1 = 0)
    ∧ (win3_1.index t 0 = t.val ∧ win3_1.index t 1 = 0)
    ∧ (win3_2.index t 0 = t.val ∧ win3_2.index t 1 = 0)
    ∧ (win3_3.index t 0 = 0 ∧ win3_3.index t 1 = 0)
    ∧ (win3_4.index t 0 = t.val ∧ win3_4.index t 1 = 0)
    ∧ (win3_5.index t 0 = t.val ∧ win3_5.index t 1 = 0)
    ∧ (win3_6.index t 0 = 0 ∧ win3_6.index t 1 = 0) := by
  decide +kernel

theorem size3 : ∀ t : Fin grid3.N,
    (win3_4.xsize (grid3.coords t) 0 = 1024 ∧ win3_4.xsize (grid3.coords t) 1 = 512)
    ∧ (win3_5.xsize (grid3.coords t) 0 = 1024 ∧ win3_5.xsize (grid3.coords t) 1 = 512)
    ∧ (win3_6.xsize (grid3.coords t) 0 = 1 ∧ win3_6.xsize (grid3.coords t) 1 = 512) := by
  decide +kernel

theorem block3_0 {f : ℕ → ℕ → EReal} (hV : V c main_arg6 = plane (m := 8192) (n := 512) f) (t : Fin cfg3.N) :
    Part (m := 1024) (n := 512) (iblk3 V c 0 t) f (1024 * (t.val)) 0 := by
  intro r d
  unfold iblk3
  rw [View.read_apply]
  show V c main_arg6 _ = _
  rw [hV]
  refine plane_at f _ _ _ ?_ ?_
  · show win3_0.index t 0 * 1024 + 1 * r.val = _; rw [(index3 t).1.1]; omega
  · show win3_0.index t 1 * 512 + 1 * d.val = _; rw [(index3 t).1.2]; omega

theorem block3_1 {f : ℕ → ℕ → EReal} (hV : V c main_v3_0 = plane (m := 8192) (n := 512) f) (t : Fin cfg3.N) :
    Part (m := 1024) (n := 512) (iblk3 V c 1 t) f (1024 * (t.val)) 0 := by
  intro r d
  unfold iblk3
  rw [View.read_apply]
  show V c main_v3_0 _ = _
  rw [hV]
  refine plane_at f _ _ _ ?_ ?_
  · show win3_1.index t 0 * 1024 + 1 * r.val = _; rw [(index3 t).2.1.1]; omega
  · show win3_1.index t 1 * 512 + 1 * d.val = _; rw [(index3 t).2.1.2]; omega

theorem block3_2 {f : ℕ → ℕ → EReal} (hV : V c main_v4 = plane (m := 8192) (n := 512) f) (t : Fin cfg3.N) :
    Part (m := 1024) (n := 512) (iblk3 V c 2 t) f (1024 * (t.val)) 0 := by
  intro r d
  unfold iblk3
  rw [View.read_apply]
  show V c main_v4 _ = _
  rw [hV]
  refine plane_at f _ _ _ ?_ ?_
  · show win3_2.index t 0 * 1024 + 1 * r.val = _; rw [(index3 t).2.2.1.1]; omega
  · show win3_2.index t 1 * 512 + 1 * d.val = _; rw [(index3 t).2.2.1.2]; omega

theorem block3_3 {f : ℕ → ℕ → EReal} (hV : V c main_v2 = plane (m := 1) (n := 512) f) (t : Fin cfg3.N) :
    Part (m := 1) (n := 512) (iblk3 V c 3 t) f 0 0 := by
  intro r d
  unfold iblk3
  rw [View.read_apply]
  show V c main_v2 _ = _
  rw [hV]
  refine plane_at f _ _ _ ?_ ?_
  · show win3_3.index t 0 * 1 + 1 * r.val = _; rw [(index3 t).2.2.2.1.1]; omega
  · show win3_3.index t 1 * 512 + 1 * d.val = _; rw [(index3 t).2.2.2.1.2]; omega

theorem read3_4 (t : Fin cfg3.N) (G : S8192x512.Idx → EReal) (x : S1024x512.Idx) :
    View.read (Elt Ideal) ((View.whole main_v6_0).slice (win3_4.rect t)) G x = G (((View.whole main_v6_0).slice (win3_4.rect t)).emb x) :=
  View.read_apply _ _

theorem mem_block3_4 (t : Fin cfg3.N) (i : S8192x512.Idx) (h0 : (i 0).val / 1024 = t.val) :
    i ∈ ((cfg3.win 4).blk t).view.set := by
  show i ∈ ((View.whole main_v6_0).slice (win3_4.rect t)).set
  rw [View.set_slice_whole, Rect.mem_set_unit]
  have e := (index3 t).2.2.2.2.1
  have s := (size3 t).1
  have hi0 : (i 0).val < 8192 := (i 0).isLt
  have hi1 : (i 1).val < 512 := (i 1).isLt
  intro a
  match a with
  | ⟨0, _⟩ =>
    show win3_4.index t 0 * 1024 ≤ (i 0 : Nat) ∧ (i 0 : Nat) < win3_4.index t 0 * 1024 + win3_4.xsize (grid3.coords t) 0
    rw [e.1, s.1]; omega
  | ⟨1, _⟩ =>
    show win3_4.index t 1 * 512 ≤ (i 1 : Nat) ∧ (i 1 : Nat) < win3_4.index t 1 * 512 + win3_4.xsize (grid3.coords t) 1
    rw [e.2, s.2]; omega

theorem read3_5 (t : Fin cfg3.N) (G : S8192x512.Idx → EReal) (x : S1024x512.Idx) :
    View.read (Elt Ideal) ((View.whole main_v6_1).slice (win3_5.rect t)) G x = G (((View.whole main_v6_1).slice (win3_5.rect t)).emb x) :=
  View.read_apply _ _

theorem mem_block3_5 (t : Fin cfg3.N) (i : S8192x512.Idx) (h0 : (i 0).val / 1024 = t.val) :
    i ∈ ((cfg3.win 5).blk t).view.set := by
  show i ∈ ((View.whole main_v6_1).slice (win3_5.rect t)).set
  rw [View.set_slice_whole, Rect.mem_set_unit]
  have e := (index3 t).2.2.2.2.2.1
  have s := (size3 t).2.1
  have hi0 : (i 0).val < 8192 := (i 0).isLt
  have hi1 : (i 1).val < 512 := (i 1).isLt
  intro a
  match a with
  | ⟨0, _⟩ =>
    show win3_5.index t 0 * 1024 ≤ (i 0 : Nat) ∧ (i 0 : Nat) < win3_5.index t 0 * 1024 + win3_5.xsize (grid3.coords t) 0
    rw [e.1, s.1]; omega
  | ⟨1, _⟩ =>
    show win3_5.index t 1 * 512 ≤ (i 1 : Nat) ∧ (i 1 : Nat) < win3_5.index t 1 * 512 + win3_5.xsize (grid3.coords t) 1
    rw [e.2, s.2]; omega

theorem read3_6 (t : Fin cfg3.N) (G : S1x512.Idx → EReal) (x : S1x512.Idx) :
    View.read (Elt Ideal) ((View.whole main_v6_2).slice (win3_6.rect t)) G x = G (((View.whole main_v6_2).slice (win3_6.rect t)).emb x) :=
  View.read_apply _ _

theorem mem_block3_6 (t : Fin cfg3.N) (i : S1x512.Idx) :
    i ∈ ((cfg3.win 6).blk t).view.set := by
  show i ∈ ((View.whole main_v6_2).slice (win3_6.rect t)).set
  rw [View.set_slice_whole, Rect.mem_set_unit]
  have e := (index3 t).2.2.2.2.2.2
  have s := (size3 t).2.2
  have hi0 : (i 0).val < 1 := (i 0).isLt
  have hi1 : (i 1).val < 512 := (i 1).isLt
  intro a
  match a with
  | ⟨0, _⟩ =>
    show win3_6.index t 0 * 1 ≤ (i 0 : Nat) ∧ (i 0 : Nat) < win3_6.index t 0 * 1 + win3_6.xsize (grid3.coords t) 0
    rw [e.1, s.1]; omega
  | ⟨1, _⟩ =>
    show win3_6.index t 1 * 512 ≤ (i 1 : Nat) ∧ (i 1 : Nat) < win3_6.index t 1 * 512 + win3_6.xsize (grid3.coords t) 1
    rw [e.2, s.2]; omega

theorem darg3 {e y z b : ℕ → ℕ → EReal} (h0 : V c main_arg6 = plane (m := 8192) (n := 512) e) (h1 : V c main_v3_0 = plane (m := 8192) (n := 512) y)
    (h2 : V c main_v4 = plane (m := 8192) (n := 512) z) (h3 : V c main_v2 = plane (m := 1) (n := 512) b) (t : Fin cfg3.N) :
    Part (m := 1024) (n := 512) (k3_pay4 (iblk3 V c 0 t) (iblk3 V c 1 t) (iblk3 V c 2 t) (iblk3 V c 3 t)) (dopen e y z b) (1024 * t.val) 0 :=
  fun r d => (pay3_4_apply _ _ _ _ r d).trans (congrArg₂ (fun x y : EReal => x * y * (1 - y))
    (congrArg₂ (· * ·) (block3_0 V c h0 t r d) (congrArg gelu (block3_1 V c h1 t r d)))
    (open_at (block3_2 V c h2 t) (block3_3 V c h3 t) r d))

theorem darg3_half {e y z b : ℕ → ℕ → EReal} (h0 : V c main_arg6 = plane (m := 8192) (n := 512) e) (h1 : V c main_v3_0 = plane (m := 8192) (n := 512) y)
    (h2 : V c main_v4 = plane (m := 8192) (n := 512) z) (h3 : V c main_v2 = plane (m := 1) (n := 512) b) (t : Fin cfg3.N) :
    Part (m := 1024) (n := 512) (k3_pay7 (iblk3 V c 0 t) (iblk3 V c 1 t) (iblk3 V c 2 t) (iblk3 V c 3 t)) (dopen e y z b) (1024 * t.val) 0 :=
  fun r d => (pay3_7_apply _ _ _ _ r d).trans (congrArg₂ (fun x y : EReal => x * y * (1 - y))
    (congrArg₂ (· * ·) (block3_0 V c h0 t r d) (congrArg gelu (block3_1 V c h1 t r d)))
    (open_at (block3_2 V c h2 t) (block3_3 V c h3 t) r d))

theorem direct3 {e z b : ℕ → ℕ → EReal} (h0 : V c main_arg6 = plane (m := 8192) (n := 512) e)
    (h2 : V c main_v4 = plane (m := 8192) (n := 512) z) (h3 : V c main_v2 = plane (m := 1) (n := 512) b) (t : Fin cfg3.N) :
    Part (m := 1024) (n := 512) (k3_pay5 (iblk3 V c 0 t) (iblk3 V c 2 t) (iblk3 V c 3 t)) (opened e z b) (1024 * t.val) 0 :=
  fun r d => (pay3_5_apply _ _ _ r d).trans (congrArg₂ (· * ·) (block3_0 V c h0 t r d)
    (open_at (block3_2 V c h2 t) (block3_3 V c h3 t) r d))

/-- What a point leaves in the two blocks of rows, whichever case it is. -/
theorem rows3 (t : Fin cfg3.N) :
    (outsAt3 V c t.val t.isLt).1 = k3_pay7 (iblk3 V c 0 t) (iblk3 V c 1 t) (iblk3 V c 2 t) (iblk3 V c 3 t)
    ∧ (outsAt3 V c t.val t.isLt).2.1 = k3_pay5 (iblk3 V c 0 t) (iblk3 V c 2 t) (iblk3 V c 3 t) := by
  by_cases h : t.val % 8 = 0
  · rw [outsAt3_A V c t h]
    dsimp only
    refine ⟨?_, ?_⟩ <;> frame_out
  · rw [outsAt3_B V c t h]
    dsimp only
    refine ⟨?_, ?_⟩ <;> frame_out

/-- The column sums so far, at every point. -/
theorem sums3 {e y z b : ℕ → ℕ → EReal} (h0 : V c main_arg6 = plane (m := 8192) (n := 512) e) (h1 : V c main_v3_0 = plane (m := 8192) (n := 512) y)
    (h2 : V c main_v4 = plane (m := 8192) (n := 512) z) (h3 : V c main_v2 = plane (m := 1) (n := 512) b) :
    ∀ (n : ℕ) (hn : n < cfg3.N), Part (m := 1) (n := 512) (outsAt3 V c n hn).2.2 (colsum (1024 * n + 1024) (dopen e y z b)) 0 0 := by
  intro n
  induction n with
  | zero =>
    intro hn
    rw [outsAt3_A V c ⟨0, hn⟩ rfl]
    dsimp only
    intro r d
    frame_out
    refine (pay3_2_apply _ _ r d).trans ?_
    rw [pay3_1_apply, pay3_6_apply, ← colsum_zero (dopen e y z b) (0 + r.val) (0 + d.val)]
    exact colsum_at (darg3 V c h0 h1 h2 h3 ⟨0, hn⟩) d
  | succ n ih =>
    intro hn
    have hN : n + 1 < 8 := hn
    have hp : n < cfg3.N := by omega
    rw [outsAt3_B V c ⟨n + 1, hn⟩ (by show ¬(n + 1) % 8 = 0; omega)]
    dsimp only
    intro r d
    frame_out
    refine (pay3_2_apply _ _ r d).trans ((congrArg (· + _) (ih hp r d)).trans ?_)
    rw [pay3_6_apply]
    exact colsum_at (b := 1024 * (n + 1)) (darg3 V c h0 h1 h2 h3 ⟨n + 1, hn⟩) d

/-- The gradient of the projection's argument. -/
theorem region3_arg {e y z b : ℕ → ℕ → EReal} (h0 : V c main_arg6 = plane (m := 8192) (n := 512) e) (h1 : V c main_v3_0 = plane (m := 8192) (n := 512) y) (h2 : V c main_v4 = plane (m := 8192) (n := 512) z) (h3 : V c main_v2 = plane (m := 1) (n := 512) b) :
    (dat3 V c).arrAt 4 cfg3.N = plane (m := 8192) (n := 512) (dopen e y z b) := by
  refine (dat3 V c).arrAt_eq_of_cover 4 _ (fun t hf => ?_) fun i => ?_
  · have ht : t.val < 8 := t.isLt
    show (cfg3.win 4).cut (grid3.coords t) ((dat3 V c).after 4 t) = _
    rw [after3_4]
    rw [(rows3 V c t).1]
    have hb := darg3_half V c h0 h1 h2 h3 t
    funext x
    obtain ⟨r, d, rfl⟩ : ∃ (r : Fin 1024) (d : Fin 512), x = ix2 r d := ⟨x 0, x 1, eq_ix2 x⟩
    refine (hb r d).trans (Eq.trans ?_ (read3_4 t _ (ix2 r d)).symm)
    refine (plane_at (dopen e y z b) _ _ _ ?_ ?_).symm
    · show win3_4.index t 0 * 1024 + 1 * r.val = _; rw [(index3 t).2.2.2.2.1.1]; omega
    · show win3_4.index t 1 * 512 + 1 * d.val = _; rw [(index3 t).2.2.2.2.1.2]; omega
  · have hi0 : (i 0).val < 8192 := (i 0).isLt
    have hi1 : (i 1).val < 512 := (i 1).isLt
    refine ⟨⟨(i 0).val / 1024, ?_⟩, flush3_4 _, mem_block3_4 _ i ?_⟩
    · show _ < 8; omega
    · show (i 0).val / 1024 = ((i 0).val / 1024); omega

/-- The part of the rows' gradient that does not pass through the projection. -/
theorem region3_direct {e y z b : ℕ → ℕ → EReal} (h0 : V c main_arg6 = plane (m := 8192) (n := 512) e) (h1 : V c main_v3_0 = plane (m := 8192) (n := 512) y) (h2 : V c main_v4 = plane (m := 8192) (n := 512) z) (h3 : V c main_v2 = plane (m := 1) (n := 512) b) :
    (dat3 V c).arrAt 5 cfg3.N = plane (m := 8192) (n := 512) (opened e z b) := by
  refine (dat3 V c).arrAt_eq_of_cover 5 _ (fun t hf => ?_) fun i => ?_
  · have ht : t.val < 8 := t.isLt
    show (cfg3.win 5).cut (grid3.coords t) ((dat3 V c).after 5 t) = _
    rw [after3_5]
    rw [(rows3 V c t).2]
    have hb := direct3 V c h0 h2 h3 t
    funext x
    obtain ⟨r, d, rfl⟩ : ∃ (r : Fin 1024) (d : Fin 512), x = ix2 r d := ⟨x 0, x 1, eq_ix2 x⟩
    refine (hb r d).trans (Eq.trans ?_ (read3_5 t _ (ix2 r d)).symm)
    refine (plane_at (opened e z b) _ _ _ ?_ ?_).symm
    · show win3_5.index t 0 * 1024 + 1 * r.val = _; rw [(index3 t).2.2.2.2.2.1.1]; omega
    · show win3_5.index t 1 * 512 + 1 * d.val = _; rw [(index3 t).2.2.2.2.2.1.2]; omega
  · have hi0 : (i 0).val < 8192 := (i 0).isLt
    have hi1 : (i 1).val < 512 := (i 1).isLt
    refine ⟨⟨(i 0).val / 1024, ?_⟩, flush3_5 _, mem_block3_5 _ i ?_⟩
    · show _ < 8; omega
    · show (i 0).val / 1024 = ((i 0).val / 1024); omega

/-- The bias's gradient. -/
theorem region3_sum {e y z b : ℕ → ℕ → EReal} (h0 : V c main_arg6 = plane (m := 8192) (n := 512) e) (h1 : V c main_v3_0 = plane (m := 8192) (n := 512) y) (h2 : V c main_v4 = plane (m := 8192) (n := 512) z) (h3 : V c main_v2 = plane (m := 1) (n := 512) b) :
    (dat3 V c).arrAt 6 cfg3.N = plane (m := 1) (n := 512) (colsum 8192 (dopen e y z b)) := by
  refine (dat3 V c).arrAt_eq_of_cover 6 _ (fun t hf => ?_) fun i => ?_
  · have ht : t.val < 8 := t.isLt
    show (cfg3.win 6).cut (grid3.coords t) ((dat3 V c).after 6 t) = _
    rw [after3_6]
    have hb := sums3 V c h0 h1 h2 h3 t.val t.isLt
    rw [show 1024 * t.val + 1024 = 8192 by have := (flush3_6 t).mp hf; omega] at hb
    funext x
    obtain ⟨r, d, rfl⟩ : ∃ (r : Fin 1) (d : Fin 512), x = ix2 r d := ⟨x 0, x 1, eq_ix2 x⟩
    refine (hb r d).trans (Eq.trans ?_ (read3_6 t _ (ix2 r d)).symm)
    refine (plane_at (colsum 8192 (dopen e y z b)) _ _ _ ?_ ?_).symm
    · show win3_6.index t 0 * 1 + 1 * r.val = _; rw [(index3 t).2.2.2.2.2.2.1]; omega
    · show win3_6.index t 1 * 512 + 1 * d.val = _; rw [(index3 t).2.2.2.2.2.2.2]; omega
  · have hi0 : (i 0).val < 1 := (i 0).isLt
    have hi1 : (i 1).val < 512 := (i 1).isLt
    refine ⟨⟨7, ?_⟩, (flush3_6 _).mpr ?_, mem_block3_6 _ i ⟩
    · show _ < 8; omega
    · show (7) % 8 = 7; omega

/-! ## Call 4 -/

theorem index4 : ∀ t : Fin grid4.N,
    (win4_0.index t 0 = t.val ∧ win4_0.index t 1 = 0)
    ∧ (win4_1.index t 0 = 0 ∧ win4_1.index t 1 = 0)
    ∧ (win4_2.index t 0 = t.val ∧ win4_2.index t 1 = 0) := by
  decide +kernel

theorem size4 : ∀ t : Fin grid4.N,
    (win4_2.xsize (grid4.coords t) 0 = 1024 ∧ win4_2.xsize (grid4.coords t) 1 = 512) := by
  decide +kernel

theorem block4_0 {f : ℕ → ℕ → EReal} (hV : V c main_v6_0 = plane (m := 8192) (n := 512) f) (t : Fin cfg4.N) :
    Part (m := 1024) (n := 512) (iblk4 V c 0 t) f (1024 * (t.val)) 0 := by
  intro r d
  unfold iblk4
  rw [View.read_apply]
  show V c main_v6_0 _ = _
  rw [hV]
  refine plane_at f _ _ _ ?_ ?_
  · show win4_0.index t 0 * 1024 + 1 * r.val = _; rw [(index4 t).1.1]; omega
  · show win4_0.index t 1 * 512 + 1 * d.val = _; rw [(index4 t).1.2]; omega

theorem block4_1 {f : ℕ → ℕ → EReal} (hV : V c main_v0 = plane (m := 512) (n := 512) f) (t : Fin cfg4.N) :
    Part (m := 512) (n := 512) (iblk4 V c 1 t) f 0 0 := by
  intro r d
  unfold iblk4
  rw [View.read_apply]
  show V c main_v0 _ = _
  rw [hV]
  refine plane_at f _ _ _ ?_ ?_
  · show win4_1.index t 0 * 512 + 1 * r.val = _; rw [(index4 t).2.1.1]; omega
  · show win4_1.index t 1 * 512 + 1 * d.val = _; rw [(index4 t).2.1.2]; omega

theorem read4_2 (t : Fin cfg4.N) (G : S8192x512.Idx → EReal) (x : S1024x512.Idx) :
    View.read (Elt Ideal) ((View.whole main_v7).slice (win4_2.rect t)) G x = G (((View.whole main_v7).slice (win4_2.rect t)).emb x) :=
  View.read_apply _ _

theorem mem_block4_2 (t : Fin cfg4.N) (i : S8192x512.Idx) (h0 : (i 0).val / 1024 = t.val) :
    i ∈ ((cfg4.win 2).blk t).view.set := by
  show i ∈ ((View.whole main_v7).slice (win4_2.rect t)).set
  rw [View.set_slice_whole, Rect.mem_set_unit]
  have e := (index4 t).2.2
  have s := (size4 t)
  have hi0 : (i 0).val < 8192 := (i 0).isLt
  have hi1 : (i 1).val < 512 := (i 1).isLt
  intro a
  match a with
  | ⟨0, _⟩ =>
    show win4_2.index t 0 * 1024 ≤ (i 0 : Nat) ∧ (i 0 : Nat) < win4_2.index t 0 * 1024 + win4_2.xsize (grid4.coords t) 0
    rw [e.1, s.1]; omega
  | ⟨1, _⟩ =>
    show win4_2.index t 1 * 512 ≤ (i 1 : Nat) ∧ (i 1 : Nat) < win4_2.index t 1 * 512 + win4_2.xsize (grid4.coords t) 1
    rw [e.2, s.2]; omega

/-- The gradient of the projection's input. -/
theorem region4_out {f g : ℕ → ℕ → EReal} (h0 : V c main_v6_0 = plane (m := 8192) (n := 512) f) (h1 : V c main_v0 = plane (m := 512) (n := 512) g) :
    (dat4 V c).arrAt 2 cfg4.N = plane (m := 8192) (n := 512) (nt 512 f g) := by
  refine (dat4 V c).arrAt_eq_of_cover 2 _ (fun t hf => ?_) fun i => ?_
  · have ht : t.val < 8 := t.isLt
    show (cfg4.win 2).cut (grid4.coords t) ((dat4 V c).after 2 t) = _
    rw [after4_2]
    have hb : Part (m := 1024) (n := 512) (out4_2 (iblk4 V c 0 t) (iblk4 V c 1 t)) (nt 512 f g) (1024 * (t.val)) 0 := by
      intro r d
      frame_out
      exact (pay4_1_apply _ _ r d).trans (nt_at (block4_0 V c h0 t) (block4_1 V c h1 t) r d)
    funext x
    obtain ⟨r, d, rfl⟩ : ∃ (r : Fin 1024) (d : Fin 512), x = ix2 r d := ⟨x 0, x 1, eq_ix2 x⟩
    refine (hb r d).trans (Eq.trans ?_ (read4_2 t _ (ix2 r d)).symm)
    refine (plane_at (nt 512 f g) _ _ _ ?_ ?_).symm
    · show win4_2.index t 0 * 1024 + 1 * r.val = _; rw [(index4 t).2.2.1]; omega
    · show win4_2.index t 1 * 512 + 1 * d.val = _; rw [(index4 t).2.2.2]; omega
  · have hi0 : (i 0).val < 8192 := (i 0).isLt
    have hi1 : (i 1).val < 512 := (i 1).isLt
    refine ⟨⟨(i 0).val / 1024, ?_⟩, flush4_2 _, mem_block4_2 _ i ?_⟩
    · show _ < 8; omega
    · show (i 0).val / 1024 = ((i 0).val / 1024); omega

/-! ## Call 5 -/

theorem index5 : ∀ t : Fin grid5.N,
    (win5_0.index t 0 = t.val % 8 ∧ win5_0.index t 1 = 0)
    ∧ (win5_1.index t 0 = t.val % 8 ∧ win5_1.index t 1 = 0)
    ∧ (win5_2.index t 0 = 0 ∧ win5_2.index t 1 = 0) := by
  decide +kernel

theorem size5 : ∀ t : Fin grid5.N,
    (win5_2.xsize (grid5.coords t) 0 = 512 ∧ win5_2.xsize (grid5.coords t) 1 = 512) := by
  decide +kernel

theorem block5_0 {f : ℕ → ℕ → EReal} (hV : V c main_v3_1 = plane (m := 8192) (n := 512) f) (t : Fin cfg5.N) :
    Part (m := 1024) (n := 512) (iblk5 V c 0 t) f (1024 * (t.val % 8)) 0 := by
  intro r d
  unfold iblk5
  rw [View.read_apply]
  show V c main_v3_1 _ = _
  rw [hV]
  refine plane_at f _ _ _ ?_ ?_
  · show win5_0.index t 0 * 1024 + 1 * r.val = _; rw [(index5 t).1.1]; omega
  · show win5_0.index t 1 * 512 + 1 * d.val = _; rw [(index5 t).1.2]; omega

theorem block5_1 {f : ℕ → ℕ → EReal} (hV : V c main_v6_0 = plane (m := 8192) (n := 512) f) (t : Fin cfg5.N) :
    Part (m := 1024) (n := 512) (iblk5 V c 1 t) f (1024 * (t.val % 8)) 0 := by
  intro r d
  unfold iblk5
  rw [View.read_apply]
  show V c main_v6_0 _ = _
  rw [hV]
  refine plane_at f _ _ _ ?_ ?_
  · show win5_1.index t 0 * 1024 + 1 * r.val = _; rw [(index5 t).2.1.1]; omega
  · show win5_1.index t 1 * 512 + 1 * d.val = _; rw [(index5 t).2.1.2]; omega

theorem read5_2 (t : Fin cfg5.N) (G : S512x512.Idx → EReal) (x : S512x512.Idx) :
    View.read (Elt Ideal) ((View.whole main_v8).slice (win5_2.rect t)) G x = G (((View.whole main_v8).slice (win5_2.rect t)).emb x) :=
  View.read_apply _ _

theorem mem_block5_2 (t : Fin cfg5.N) (i : S512x512.Idx) :
    i ∈ ((cfg5.win 2).blk t).view.set := by
  show i ∈ ((View.whole main_v8).slice (win5_2.rect t)).set
  rw [View.set_slice_whole, Rect.mem_set_unit]
  have e := (index5 t).2.2
  have s := (size5 t)
  have hi0 : (i 0).val < 512 := (i 0).isLt
  have hi1 : (i 1).val < 512 := (i 1).isLt
  intro a
  match a with
  | ⟨0, _⟩ =>
    show win5_2.index t 0 * 512 ≤ (i 0 : Nat) ∧ (i 0 : Nat) < win5_2.index t 0 * 512 + win5_2.xsize (grid5.coords t) 0
    rw [e.1, s.1]; omega
  | ⟨1, _⟩ =>
    show win5_2.index t 1 * 512 ≤ (i 1 : Nat) ∧ (i 1 : Nat) < win5_2.index t 1 * 512 + win5_2.xsize (grid5.coords t) 1
    rw [e.2, s.2]; omega

theorem left5 {f g : ℕ → ℕ → EReal} (h0 : V c main_v3_1 = plane (m := 8192) (n := 512) f) (h1 : V c main_v6_0 = plane (m := 8192) (n := 512) g) :
    ∀ (n : ℕ) (hn : n < cfg5.N), Part (m := 512) (n := 512) (outsAt5 V c n hn) (tn (1024 * (n % 8) + 1024) f g) (0) (0) := by
  intro n
  induction n with
  | zero =>
    intro hn r d
    rw [outsAt5_A V c ⟨0, hn⟩ rfl]
    frame_out
    refine (pay5_2_apply _ _ _ r d).trans ?_
    rw [pay5_1_apply, ← tn_zero f g ((0) + r.val) ((0) + d.val)]
    exact tn_at (block5_0 V c h0 ⟨0, hn⟩) (block5_1 V c h1 ⟨0, hn⟩) r d
  | succ n ih =>
    intro hn r d
    have hp : n < cfg5.N := by omega
    by_cases hz : (n + 1) % 8 = 0
    · rw [outsAt5_A V c ⟨n + 1, hn⟩ hz]
      frame_out
      refine (pay5_2_apply _ _ _ r d).trans ?_
      have b0 := block5_0 V c h0 ⟨n + 1, hn⟩
      have b1 := block5_1 V c h1 ⟨n + 1, hn⟩
      dsimp only at b0 b1
      rw [hz, Nat.mul_zero] at b0 b1 ⊢
      rw [pay5_1_apply, ← tn_zero f g ((0) + r.val) ((0) + d.val)]
      exact tn_at b0 b1 r d
    · rw [outsAt5_B V c ⟨n + 1, hn⟩ hz]
      frame_out
      refine (pay5_2_apply _ _ _ r d).trans ?_
      have e := ih hp r d
      rw [show 1024 * (n % 8) + 1024 = 1024 * ((n + 1) % 8) by omega] at e
      refine (congrArg (· + _) e).trans ?_
      exact tn_at (block5_0 V c h0 ⟨n + 1, hn⟩) (block5_1 V c h1 ⟨n + 1, hn⟩) r d

/-- The weight's gradient. -/
theorem region5_out {f g : ℕ → ℕ → EReal} (h0 : V c main_v3_1 = plane (m := 8192) (n := 512) f) (h1 : V c main_v6_0 = plane (m := 8192) (n := 512) g) :
    (dat5 V c).arrAt 2 cfg5.N = plane (m := 512) (n := 512) (tn 8192 f g) := by
  refine (dat5 V c).arrAt_eq_of_cover 2 _ (fun t hf => ?_) fun i => ?_
  · have ht : t.val < 8 := t.isLt
    show (cfg5.win 2).cut (grid5.coords t) ((dat5 V c).after 2 t) = _
    rw [after5_2]
    have hb := left5 V c h0 h1 t.val t.isLt
    rw [(flush5_2 t).mp hf, show 1024 * 7 + 1024 = 8192 from rfl] at hb
    funext x
    obtain ⟨r, d, rfl⟩ : ∃ (r : Fin 512) (d : Fin 512), x = ix2 r d := ⟨x 0, x 1, eq_ix2 x⟩
    refine (hb r d).trans (Eq.trans ?_ (read5_2 t _ (ix2 r d)).symm)
    refine (plane_at (tn 8192 f g) _ _ _ ?_ ?_).symm
    · show win5_2.index t 0 * 512 + 1 * r.val = _; rw [(index5 t).2.2.1]; omega
    · show win5_2.index t 1 * 512 + 1 * d.val = _; rw [(index5 t).2.2.2]; omega
  · have hi0 : (i 0).val < 512 := (i 0).isLt
    have hi1 : (i 1).val < 512 := (i 1).isLt
    refine ⟨⟨7, ?_⟩, (flush5_2 _).mpr ?_, mem_block5_2 _ i ⟩
    · show _ < 8; omega
    · show (7) % 8 = 7; omega

end Cert.Kernel5Ideal.Glu

end
-- ==== Proof.GluRun.lean ====
/-
  The run of the gated layer with everything it leaves: from any memory with zero counters every weakly fair execution
  terminates, each buffer of the TensorCore ends at the contents that the last segment leaves, and every counter at zero.
-/
module

public import proofs.«01_k».proof.Proof.Gen.Kernel5Ideal.Frame

@[expose] public section

set_option maxRecDepth 16384

noncomputable section

namespace Cert.Kernel5Ideal.Glu

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the six calls and the host code around them ends with each unscoped buffer at the contents `W8`. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

end Cert.Kernel5Ideal.Glu
-- ==== Proof.GluResults.lean ====
/-
  The gated layer's four results: what the host code hands to the six calls, what each call leaves, and what the host code
  takes from them.
-/
module

public import proofs.«01_k».proof.Proof.GluCalls
public import proofs.«01_k».proof.Proof.GluSpec
public import proofs.«01_k».proof.Proof.GluRun
public import Idealize.ShloMosaic.Lib.StableHlo.Run

@[expose] public section

set_option maxRecDepth 16384

noncomputable section

open Idealize.ShloMosaic Idealize.ShloMosaic.TcCoe Idealize.SL.Sem Idealize.ShloMosaic.StableHlo Finset

namespace Cert.Kernel5Ideal.Glu

open Cert.Kernel5Ideal Cert.Kernel5Ideal.Gen Cert.Mlp

variable (m : (ℓ : Loc nD τ sig) → Buf (Elt Ideal) ℓ) (ρ : Dev nD → PrngReg) (c : Dev nD)

/-! ## The arguments' numbers -/

/-- The forward branch's rows. -/
abbrev yf : ℕ → ℕ → EReal := entries (m := 8192) (n := 512) (m ((c.tc : Thread nD τ).loc main_arg0))

/-- The backward branch's rows. -/
abbrev yb : ℕ → ℕ → EReal := entries (m := 8192) (n := 512) (m ((c.tc : Thread nD τ).loc main_arg1))

/-- The input's rows. -/
abbrev ux : ℕ → ℕ → EReal := entries (m := 8192) (n := 512) (m ((c.tc : Thread nD τ).loc main_arg2))

/-- The weight. -/
abbrev wt : ℕ → ℕ → EReal := entries (m := 512) (n := 512) (m ((c.tc : Thread nD τ).loc main_arg4))

/-- The cotangent. -/
abbrev ct : ℕ → ℕ → EReal := entries (m := 8192) (n := 512) (m ((c.tc : Thread nD τ).loc main_arg6))

/-- The input's scales. -/
abbrev sd : ℕ → ℕ → EReal := row (m ((c.tc : Thread nD τ).loc main_arg3))

/-- The bias. -/
abbrev bs : ℕ → ℕ → EReal := row (m ((c.tc : Thread nD τ).loc main_arg5))

/-- The sum of the branches. -/
abbrev ysm : ℕ → ℕ → EReal := ysum (yf m c) (yb m c) (ux m c) (sd m c)

/-- Its gelu. -/
abbrev yg : ℕ → ℕ → EReal := geluOf (ysm m c)

/-- The projection. -/
abbrev zp : ℕ → ℕ → EReal := nn 512 (yg m c) (wt m c)

/-- The gradient of the projection's argument. -/
abbrev dz : ℕ → ℕ → EReal := dopen (ct m c) (ysm m c) (zp m c) (bs m c)

/-- The part of the rows' gradient that does not pass through the projection. -/
abbrev od : ℕ → ℕ → EReal := opened (ct m c) (zp m c) (bs m c)

/-! ## From call to call -/

theorem at1_v0 : V1 m ρ c main_v0 = plane (m := 512) (n := 512) (wt m c) := by
  have e : W1 m ρ c (Proc.devRef .tc main_v0) = m ((c.tc : Thread nD τ).loc main_arg4) := by
    show StableHlo.after hostOps0 _ (Proc.devRef .tc main_v0) = _
    after_results_simp <;> rfl
  exact e.trans (eq_plane (m := 512) (n := 512) _)

theorem at1_v1 : V1 m ρ c main_v1 = plane (m := 1) (n := 512) (sd m c) := by
  refine Eq.trans ?_ (row_plane (m ((c.tc : Thread nD τ).loc main_arg3)) shapeCasts_S512_S1x512)
  show StableHlo.after hostOps0 _ (Proc.devRef .tc main_v1) = _
  after_results_simp <;> rfl

theorem at1_v2 : V1 m ρ c main_v2 = plane (m := 1) (n := 512) (bs m c) := by
  refine Eq.trans ?_ (row_plane (m ((c.tc : Thread nD τ).loc main_arg5)) shapeCasts_S512_S1x512)
  show StableHlo.after hostOps0 _ (Proc.devRef .tc main_v2) = _
  after_results_simp <;> rfl

theorem at1_arg0 : V1 m ρ c main_arg0 = plane (m := 8192) (n := 512) (yf m c) :=
  (W1_args m ρ c main_arg0 (by decide)).trans (eq_plane (m := 8192) (n := 512) _)

theorem at1_arg1 : V1 m ρ c main_arg1 = plane (m := 8192) (n := 512) (yb m c) :=
  (W1_args m ρ c main_arg1 (by decide)).trans (eq_plane (m := 8192) (n := 512) _)

theorem at1_arg2 : V1 m ρ c main_arg2 = plane (m := 8192) (n := 512) (ux m c) :=
  (W1_args m ρ c main_arg2 (by decide)).trans (eq_plane (m := 8192) (n := 512) _)

theorem at2_v3_0 : V2 m ρ c main_v3_0 = plane (m := 8192) (n := 512) (ysm m c) :=
  (W2_arr m ρ c 4).trans (region0_sum (V1 m ρ) c (at1_arg0 m ρ c) (at1_arg1 m ρ c) (at1_arg2 m ρ c) (at1_v1 m ρ c))

theorem at2_v3_1 : V2 m ρ c main_v3_1 = plane (m := 8192) (n := 512) (yg m c) :=
  (W2_arr m ρ c 5).trans (region0_gelu (V1 m ρ) c (at1_arg0 m ρ c) (at1_arg1 m ρ c) (at1_arg2 m ρ c) (at1_v1 m ρ c))

theorem at2_v0 : V2 m ρ c main_v0 = plane (m := 512) (n := 512) (wt m c) :=
  (W2_of m ρ c main_v0 (by decide)).trans (at1_v0 m ρ c)

theorem at3_v4 : V3 m ρ c main_v4 = plane (m := 8192) (n := 512) (zp m c) :=
  (W3_arr m ρ c 2).trans (region1_out (V2 m ρ) c (at2_v3_1 m ρ c) (at2_v0 m ρ c))

theorem at3_v3_0 : V3 m ρ c main_v3_0 = plane (m := 8192) (n := 512) (ysm m c) :=
  (W3_of m ρ c main_v3_0 (by decide)).trans (at2_v3_0 m ρ c)

theorem at3_v2 : V3 m ρ c main_v2 = plane (m := 1) (n := 512) (bs m c) :=
  (W3_of m ρ c main_v2 (by decide)).trans ((W2_of m ρ c main_v2 (by decide)).trans (at1_v2 m ρ c))

theorem at4_v5 : V4 m ρ c main_v5 = plane (m := 8192) (n := 512) (glu (ysm m c) (zp m c) (bs m c)) :=
  (W4_arr m ρ c 3).trans (region2_out (V3 m ρ) c (at3_v3_0 m ρ c) (at3_v4 m ρ c) (at3_v2 m ρ c))

theorem at4_arg6 : V4 m ρ c main_arg6 = plane (m := 8192) (n := 512) (ct m c) :=
  (W4_args m ρ c main_arg6 (by decide)).trans (eq_plane (m := 8192) (n := 512) _)

theorem at4_v3_0 : V4 m ρ c main_v3_0 = plane (m := 8192) (n := 512) (ysm m c) :=
  (W4_of m ρ c main_v3_0 (by decide)).trans (at3_v3_0 m ρ c)

theorem at4_v4 : V4 m ρ c main_v4 = plane (m := 8192) (n := 512) (zp m c) :=
  (W4_of m ρ c main_v4 (by decide)).trans (at3_v4 m ρ c)

theorem at4_v2 : V4 m ρ c main_v2 = plane (m := 1) (n := 512) (bs m c) :=
  (W4_of m ρ c main_v2 (by decide)).trans (at3_v2 m ρ c)

theorem at5_v6_0 : V5 m ρ c main_v6_0 = plane (m := 8192) (n := 512) (dz m c) :=
  (W5_arr m ρ c 4).trans (region3_arg (V4 m ρ) c (at4_arg6 m ρ c) (at4_v3_0 m ρ c) (at4_v4 m ρ c) (at4_v2 m ρ c))

theorem at5_v6_1 : V5 m ρ c main_v6_1 = plane (m := 8192) (n := 512) (od m c) :=
  (W5_arr m ρ c 5).trans (region3_direct (V4 m ρ) c (at4_arg6 m ρ c) (at4_v3_0 m ρ c) (at4_v4 m ρ c) (at4_v2 m ρ c))

theorem at5_v6_2 : V5 m ρ c main_v6_2 = plane (m := 1) (n := 512) (colsum 8192 (dz m c)) :=
  (W5_arr m ρ c 6).trans (region3_sum (V4 m ρ) c (at4_arg6 m ρ c) (at4_v3_0 m ρ c) (at4_v4 m ρ c) (at4_v2 m ρ c))

theorem at5_v0 : V5 m ρ c main_v0 = plane (m := 512) (n := 512) (wt m c) :=
  (W5_of m ρ c main_v0 (by decide)).trans ((W4_of m ρ c main_v0 (by decide)).trans ((W3_of m ρ c main_v0 (by decide)).trans (at2_v0 m ρ c)))

theorem at6_v7 : V6 m ρ c main_v7 = plane (m := 8192) (n := 512) (nt 512 (dz m c) (wt m c)) :=
  (W6_arr m ρ c 2).trans (region4_out (V5 m ρ) c (at5_v6_0 m ρ c) (at5_v0 m ρ c))

theorem at6_v3_1 : V6 m ρ c main_v3_1 = plane (m := 8192) (n := 512) (yg m c) :=
  (W6_of m ρ c main_v3_1 (by decide)).trans ((W5_of m ρ c main_v3_1 (by decide)).trans ((W4_of m ρ c main_v3_1 (by decide)).trans ((W3_of m ρ c main_v3_1 (by decide)).trans (at2_v3_1 m ρ c))))

theorem at6_v6_0 : V6 m ρ c main_v6_0 = plane (m := 8192) (n := 512) (dz m c) :=
  (W6_of m ρ c main_v6_0 (by decide)).trans (at5_v6_0 m ρ c)

theorem at7_v8 : W7 m ρ c (Proc.devRef .tc main_v8) = plane (m := 512) (n := 512) (tn 8192 (yg m c) (dz m c)) :=
  (W7_arr m ρ c 2).trans (region5_out (V6 m ρ) c (at6_v3_1 m ρ c) (at6_v6_0 m ρ c))

theorem at7_v5 : W7 m ρ c (Proc.devRef .tc main_v5) = plane (m := 8192) (n := 512) (glu (ysm m c) (zp m c) (bs m c)) :=
  (W7_of m ρ c main_v5 (by decide)).trans ((W6_of m ρ c main_v5 (by decide)).trans ((W5_of m ρ c main_v5 (by decide)).trans (at4_v5 m ρ c)))

theorem at7_v6_1 : W7 m ρ c (Proc.devRef .tc main_v6_1) = plane (m := 8192) (n := 512) (od m c) :=
  (W7_of m ρ c main_v6_1 (by decide)).trans ((W6_of m ρ c main_v6_1 (by decide)).trans (at5_v6_1 m ρ c))

theorem at7_v7 : W7 m ρ c (Proc.devRef .tc main_v7) = plane (m := 8192) (n := 512) (nt 512 (dz m c) (wt m c)) :=
  (W7_of m ρ c main_v7 (by decide)).trans (at6_v7 m ρ c)

theorem at7_v6_2 : W7 m ρ c (Proc.devRef .tc main_v6_2) = plane (m := 1) (n := 512) (colsum 8192 (dz m c)) :=
  (W7_of m ρ c main_v6_2 (by decide)).trans ((W6_of m ρ c main_v6_2 (by decide)).trans (at5_v6_2 m ρ c))

/-! ## The results -/

theorem at8_v9 : W8 m ρ c (Proc.devRef .tc main_v9) = plane (m := 8192) (n := 512) (glu (ysm m c) (zp m c) (bs m c)) := by
  rw [← at7_v5 m ρ c]
  show StableHlo.after hostOps6 _ (Proc.devRef .tc main_v9) = _
  after_results_simp <;> rfl

theorem at8_v10 : W8 m ρ c (Proc.devRef .tc main_v10) = plane (m := 8192) (n := 512) (fun r j => od m c r j + nt 512 (dz m c) (wt m c) r j) := by
  refine Eq.trans ?_ (show addf (F := Ideal) (φ := .f32) (plane (m := 8192) (n := 512) (od m c)) (plane (m := 8192) (n := 512) (nt 512 (dz m c) (wt m c))) = _ from rfl)
  rw [← at7_v6_1 m ρ c, ← at7_v7 m ρ c]
  show StableHlo.after hostOps6 _ (Proc.devRef .tc main_v10) = _
  after_results_simp <;> rfl

theorem at8_v8 : W8 m ρ c (Proc.devRef .tc main_v8) = plane (m := 512) (n := 512) (tn 8192 (yg m c) (dz m c)) :=
  (W8_of m ρ c main_v8 (by decide)).trans (at7_v8 m ρ c)

theorem at8_v11 : W8 m ρ c (Proc.devRef .tc main_v11) = flat (colsum 8192 (dz m c)) := by
  refine Eq.trans ?_ (flat_plane (colsum 8192 (dz m c)) shapeCasts_S1x512_S512)
  rw [← at7_v6_2 m ρ c]
  show StableHlo.after hostOps6 _ (Proc.devRef .tc main_v11) = _
  after_results_simp <;> rfl

end Cert.Kernel5Ideal.Glu

end
-- ==== Proof.GluRef.lean ====
/-
  The reference's four results of the gated layer: the gated rows, and the gradients of the gelu, of the weight and of the
  bias.
-/
module

public import proofs.«01_k».proof.Proof.Gen.Reference5Ideal.Read
public import proofs.«01_k».proof.Proof.GluSpec

@[expose] public section

set_option maxRecDepth 16384

noncomputable section

open Idealize.ShloMosaic Finset

namespace Cert.Reference5Ideal.Glu

open Cert.Reference5Ideal Cert.Reference5Ideal.Gen Cert.Reference5Ideal.Read Cert.Mlp

variable (x0 x1 x2 : (⟨S8192x512, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal))
  (x6 : (⟨S8192x512, .f32⟩ : BufTy).Contents (Elt Ideal))

/-- The weight. -/
abbrev wt : ℕ → ℕ → EReal := entries (m := 512) (n := 512) x4

/-- The cotangent. -/
abbrev ct : ℕ → ℕ → EReal := entries (m := 8192) (n := 512) x6

/-- The sum of the branches. -/
abbrev ysm : ℕ → ℕ → EReal := ysum (entries (m := 8192) (n := 512) x0) (entries (m := 8192) (n := 512) x1) (entries (m := 8192) (n := 512) x2) (row x3)

/-- Its gelu. -/
abbrev yg : ℕ → ℕ → EReal := geluOf (ysm x0 x1 x2 x3)

/-- The projection. -/
abbrev zp : ℕ → ℕ → EReal := nn 512 (yg x0 x1 x2 x3) (wt x4)

/-- The gradient of the projection's argument. -/
abbrev dz : ℕ → ℕ → EReal := dopen (ct x6) (ysm x0 x1 x2 x3) (zp x0 x1 x2 x3 x4) (row x5)

/-- The part of the rows' gradient that does not pass through the projection. -/
abbrev od : ℕ → ℕ → EReal := opened (ct x6) (zp x0 x1 x2 x3 x4) (row x5)

/-! ## Forward -/

theorem ysm_at (i : S8192x512.Idx) (r c : ℕ) (h0 : (i 0).val = r) (h1 : (i 1).val = c) :
    val_main_v4 (F := Ideal) x0 x1 x2 x3 i = ysm x0 x1 x2 x3 r c := by
  subst h0 h1
  rw [val_main_v4_apply, val_main_v0_apply, val_main_v3_apply, val_main_v2_apply, val_main_v1_apply]
  exact congrArg₂ (· + ·) (congrArg₂ (· + ·) (entries_at x0 _ _ _ rfl rfl) (entries_at x1 _ _ _ rfl rfl))
    (congrArg₂ (· * ·) (row_at x3 _ _ _ rfl) (entries_at x2 _ _ _ rfl rfl))

theorem yg_at (i : S8192x512.Idx) (r c : ℕ) (h0 : (i 0).val = r) (h1 : (i 1).val = c) :
    val_main_v17 (F := Ideal) x0 x1 x2 x3 i = yg x0 x1 x2 x3 r c := by
  rw [val_main_v17_apply, val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_cst_apply, val_main_cst_0_apply, val_main_cst_1_apply, val_main_cst_2_apply,
    ysm_at x0 x1 x2 x3 i r c h0 h1]
  generalize e : ysm x0 x1 x2 x3 r c = y
  show y * (Ideal.ofBits .f32 0x3F000000#32 * (Ideal.ofBits .f32 0x3F800000#32 + Ideal.tanh
    (Ideal.ofBits .f32 0x3F4C422A#32 * (y + Ideal.ofBits .f32 0x3D372713#32 * (y * y * y))))) = gelu (ysm x0 x1 x2 x3 r c)
  rw [e, Ideal.ofBits_one_f32]
  unfold gelu
  rw [← mul_assoc, mul_comm y]

theorem zp_at (i : S8192x512.Idx) (r c : ℕ) (h0 : (i 0).val = r) (h1 : (i 1).val = c) :
    val_main_v18 (F := Ideal) x0 x1 x2 x3 x4 i = zp x0 x1 x2 x3 x4 r c := by
  subst h0 h1
  rw [val_main_v18_apply]
  unfold zp nn
  rw [← Fin.sum_univ_eq_sum_range (fun k => yg x0 x1 x2 x3 (i 0).val k * wt x4 k (i 1).val)]
  exact sum_congr rfl fun k _ => congrArg₂ (· * ·) (yg_at x0 x1 x2 x3 _ _ _ rfl rfl) (entries_at x4 _ _ _ rfl rfl)

theorem open_at' (i : S8192x512.Idx) (r c : ℕ) (h0 : (i 0).val = r) (h1 : (i 1).val = c) :
    val_main_v27 (F := Ideal) x0 x1 x2 x3 x4 x5 i = sigmoid (zp x0 x1 x2 x3 x4 r c + row x5 0 c) := by
  rw [val_main_v27_apply, val_main_v26_apply, val_main_v25_apply, val_main_v24_apply, val_main_v23_apply, val_main_v22_apply,
    val_main_v21_apply, val_main_v20_apply, val_main_v19_apply, val_main_cst_3_apply, val_main_cst_4_apply,
    zp_at x0 x1 x2 x3 x4 i r c h0 h1, row_at x5 _ 0 c h1]
  show Ideal.div (Ideal.ofBits .f32 0x3F800000#32) (Ideal.ofBits .f32 0x3F800000#32 + Ideal.exp (-(_ + _))) = sigmoid _
  rw [Ideal.ofBits_one_f32]
  rfl

/-- The gated rows. -/
theorem glu_plane : val_main_v31 (F := Ideal) x0 x1 x2 x3 x4 x5
    = plane (m := 8192) (n := 512) (glu (ysm x0 x1 x2 x3) (zp x0 x1 x2 x3 x4) (row x5)) := by
  funext i
  rw [val_main_v31_apply, yg_at x0 x1 x2 x3 i _ _ rfl rfl, open_at' x0 x1 x2 x3 x4 x5 i _ _ rfl rfl]
  rfl

/-! ## Backward -/

theorem dz_at (i : S8192x512.Idx) (r c : ℕ) (h0 : (i 0).val = r) (h1 : (i 1).val = c) :
    val_main_v34 (F := Ideal) x0 x1 x2 x3 x4 x5 x6 i = dz x0 x1 x2 x3 x4 x5 x6 r c := by
  rw [val_main_v34_apply, val_main_v32_apply, val_main_v30_apply, val_main_v29_apply, val_main_v28_apply, val_main_cst_5_apply,
    yg_at x0 x1 x2 x3 i r c h0 h1, open_at' x0 x1 x2 x3 x4 x5 i r c h0 h1, entries_at x6 i r c h0 h1]
  show gelu _ * _ * (_ * (Ideal.ofBits .f32 0x3F800000#32 - _)) = _
  rw [Ideal.ofBits_one_f32, mul_comm (gelu _)]
  exact (mul_assoc _ _ _).symm

/-- The gradient of the gelu. -/
theorem dyg_plane : val_main_v41 (F := Ideal) x0 x1 x2 x3 x4 x5 x6
    = plane (m := 8192) (n := 512) fun r j => od x0 x1 x2 x3 x4 x5 x6 r j + nt 512 (dz x0 x1 x2 x3 x4 x5 x6) (wt x4) r j := by
  funext i
  rw [val_main_v41_apply, val_main_v33_apply, val_main_v40_apply, open_at' x0 x1 x2 x3 x4 x5 i _ _ rfl rfl]
  unfold plane nt
  beta_reduce
  rw [← Fin.sum_univ_eq_sum_range (fun k => dz x0 x1 x2 x3 x4 x5 x6 (i 0).val k * wt x4 (i 1).val k)]
  exact congrArg₂ (· + ·) (congrArg (· * _) (entries_at x6 _ _ _ rfl rfl)) (sum_congr rfl fun k _ =>
    congrArg₂ (· * ·) (dz_at x0 x1 x2 x3 x4 x5 x6 _ _ _ rfl rfl) (entries_at x4 _ _ _ rfl rfl))

/-- The weight's gradient. -/
theorem dw_plane : val_main_v39 (F := Ideal) x0 x1 x2 x3 x4 x5 x6
    = plane (m := 512) (n := 512) (tn 8192 (yg x0 x1 x2 x3) (dz x0 x1 x2 x3 x4 x5 x6)) := by
  funext i
  rw [val_main_v39_apply, val_main_v38_apply]
  unfold plane tn
  rw [← Fin.sum_univ_eq_sum_range (fun k => yg x0 x1 x2 x3 k (i 0).val * dz x0 x1 x2 x3 x4 x5 x6 k (i 1).val)]
  exact sum_congr rfl fun k _ => (mul_comm _ _).trans
    (congrArg₂ (· * ·) (yg_at x0 x1 x2 x3 _ _ _ rfl rfl) (dz_at x0 x1 x2 x3 x4 x5 x6 _ _ _ rfl rfl))

theorem zero_6 (i : S_.Idx) : val_main_cst_6 (F := Ideal) i = 0 := (val_main_cst_6_apply i).trans Ideal.ofBits_zero_f32
theorem zero_7 (i : S_.Idx) : val_main_cst_7 (F := Ideal) i = 0 := (val_main_cst_7_apply i).trans Ideal.ofBits_zero_f32

/-- The bias's gradient. -/
theorem db_vec : val_main_v37 (F := Ideal) x0 x1 x2 x3 x4 x5 x6 = flat (colsum 8192 (dz x0 x1 x2 x3 x4 x5 x6)) := by
  funext i
  have b0 : (i 0).val < 512 := (i 0).isLt
  rw [val_main_v37_apply, zero_7, zero_add, Fin.sum_univ_one, val_main_v36_apply, val_main_v35_apply, zero_6, zero_add]
  unfold flat colsum
  rw [← Fin.sum_univ_eq_sum_range (fun k => dz x0 x1 x2 x3 x4 x5 x6 k (i 0).val)]
  refine sum_congr rfl fun k _ => dz_at x0 x1 x2 x3 x4 x5 x6 _ _ _ rfl ?_
  show 0 * 512 + (i 0).val = (i 0).val
  omega

end Cert.Reference5Ideal.Glu

end
-- ==== Proof.UpSpec.lean ====
/-
  Arrays of eight heads, the products' columns read as heads, the layout in which the heads stand 128 columns apart, and
  the sums over that layout.
-/
module

public import proofs.«01_k».proof.Proof.InSpec

@[expose] public section

set_option maxRecDepth 16384

noncomputable section

open Idealize.ShloMosaic Finset

namespace Cert.Mlp

/-- The array of heads that holds `f` in row, head and lane. -/
def cube {M n : ℕ} (f : ℕ → ℕ → ℕ → EReal) : (⟨3, ![M, 8, n]⟩ : Shape).Idx → EReal := fun i => f (i 0).val (i 1).val (i 2).val

/-- The numbers of an array of heads, zero outside it. -/
def heads {M n : ℕ} (x : (⟨3, ![M, 8, n]⟩ : Shape).Idx → EReal) (r h d : ℕ) : EReal :=
  if H : r < M ∧ h < 8 ∧ d < n then x (ValueIdx.ix3 ⟨r, H.1⟩ ⟨h, H.2.1⟩ ⟨d, H.2.2⟩) else 0

theorem eq_cube {M n : ℕ} (x : (⟨3, ![M, 8, n]⟩ : Shape).Idx → EReal) : x = cube (heads x) := by
  funext i
  unfold cube heads
  rw [dif_pos ⟨(i 0).isLt, (i 1).isLt, (i 2).isLt⟩]
  refine congrArg x (funext fun a => ?_)
  match a with
  | ⟨0, _⟩ => rfl
  | ⟨1, _⟩ => rfl
  | ⟨2, _⟩ => rfl

theorem cube_congr {M n : ℕ} {f g : ℕ → ℕ → ℕ → EReal} (H : ∀ r < M, ∀ h < 8, ∀ d < n, f r h d = g r h d) :
    cube (M := M) (n := n) f = cube g :=
  funext fun i => H _ (i 0).isLt _ (i 1).isLt _ (i 2).isLt

/-- Columns as heads of `n` lanes. -/
def split (n : ℕ) (f : ℕ → ℕ → EReal) (r h d : ℕ) : EReal := f r (h * n + d)

/-- Heads of `n` lanes side by side. -/
def merged (n : ℕ) (f : ℕ → ℕ → ℕ → EReal) (r c : ℕ) : EReal := f r (c / n) (c % n)

/-- Heads of `n` lanes, each with zeros up to 128 lanes, side by side. -/
def wide (n : ℕ) (f : ℕ → ℕ → ℕ → EReal) (r c : ℕ) : EReal := if c % 128 < n then f r (c / 128) (c % 128) else 0

/-- The lanes from `o` on. -/
def off (o : ℕ) (f : ℕ → ℕ → ℕ → EReal) (r h d : ℕ) : EReal := f r h (o + d)

/-- Two arrays of heads of 64 lanes, side by side in each head. -/
def paired (f g : ℕ → ℕ → ℕ → EReal) (r h d : ℕ) : EReal := if d < 64 then f r h d else g r h (d - 64)

theorem merged_split (n : ℕ) (f : ℕ → ℕ → EReal) (r c : ℕ) : merged n (split n f) r c = f r c :=
  congrArg (f r) (Nat.div_add_mod' c n)

theorem wide_at {n : ℕ} (f : ℕ → ℕ → ℕ → EReal) {d : ℕ} (hn : n ≤ 128) (hd : d < n) (r h : ℕ) : wide n f r (h * 128 + d) = f r h d := by
  unfold wide
  rw [show (h * 128 + d) % 128 = d by omega, show (h * 128 + d) / 128 = h by omega, if_pos hd]

/-! ## The layout operations -/

theorem cast_heads {M n N : ℕ} (hN : N = 8 * n) (f : ℕ → ℕ → EReal) (h : (⟨2, ![M, N]⟩ : Shape).ShapeCasts (⟨3, ![M, 8, n]⟩ : Shape)) :
    shapeCast ⟨3, ![M, 8, n]⟩ (plane (m := M) (n := N) f) h = cube (split n f) := by
  subst hN
  funext i
  have b0 : (i 0).val < M := (i 0).isLt
  have b1 : (i 1).val < 8 := (i 1).isLt
  have b2 : (i 2).val < n := (i 2).isLt
  have hc : (i 1).val * n + (i 2).val < 8 * n := by
    have := Nat.mul_le_mul_right n (show (i 1).val + 1 ≤ 8 from b1)
    rw [Nat.add_mul, Nat.one_mul] at this
    omega
  rw [shapeCast_apply _ h i (ix2 (⟨(i 0).val, b0⟩ : Fin M) (⟨(i 1).val * n + (i 2).val, hc⟩ : Fin (8 * n))) (by
    rw [Shape.rowMajor_val_three, Shape.rowMajor_val_two]
    show (i 0).val * (8 * n) + ((i 1).val * n + (i 2).val) = ((i 0).val * 8 + (i 1).val) * n + (i 2).val
    ring)]
  rfl

theorem cast_back {M n N : ℕ} (hN : N = 8 * n) (f : ℕ → ℕ → ℕ → EReal) (h : (⟨3, ![M, 8, n]⟩ : Shape).ShapeCasts (⟨2, ![M, N]⟩ : Shape)) :
    shapeCast ⟨2, ![M, N]⟩ (cube (M := M) (n := n) f) h = plane (merged n f) := by
  subst hN
  funext i
  have b0 : (i 0).val < M := (i 0).isLt
  have b1 : (i 1).val < 8 * n := (i 1).isLt
  have hn : 0 < n := by omega
  have hh : (i 1).val / n < 8 := Nat.div_lt_of_lt_mul (by omega)
  have e := Nat.div_add_mod' (i 1).val n
  rw [shapeCast_apply _ h i (ValueIdx.ix3 (⟨(i 0).val, b0⟩ : Fin M) (⟨(i 1).val / n, hh⟩ : Fin 8) (⟨(i 1).val % n, Nat.mod_lt _ hn⟩ : Fin n)) (by
    rw [Shape.rowMajor_val_three, Shape.rowMajor_val_two]
    show ((i 0).val * 8 + (i 1).val / n) * n + (i 1).val % n = (i 0).val * (8 * n) + (i 1).val
    rw [Nat.add_mul, Nat.add_assoc, e, Nat.mul_assoc])]
  rfl

theorem slice_heads {M n k o : ℕ} (f : ℕ → ℕ → ℕ → EReal) (h : (⟨3, ![M, 8, n]⟩ : Shape).Slices ![0, 0, o] (⟨3, ![M, 8, k]⟩ : Shape)) :
    extractStridedSlice (⟨3, ![M, 8, k]⟩ : Shape) ![0, 0, o] (cube (M := M) (n := n) f) h = cube (off o f) := by
  have h2 : o + k ≤ n := h.2 2
  funext i
  have b0 : (i 0).val < M := (i 0).isLt
  have b1 : (i 1).val < 8 := (i 1).isLt
  have b2 : (i 2).val < k := (i 2).isLt
  rw [extractStridedSlice_apply _ _ h i (ValueIdx.ix3 (⟨(i 0).val, b0⟩ : Fin M) (⟨(i 1).val, b1⟩ : Fin 8) (⟨o + (i 2).val, by omega⟩ : Fin n)) (by
    intro a
    match a with
    | ⟨0, _⟩ => show (i 0).val = 0 + (i 0).val; omega
    | ⟨1, _⟩ => show (i 1).val = 0 + (i 1).val; omega
    | ⟨2, _⟩ => rfl)]
  rfl

theorem pad_heads {M n p : ℕ} (f : ℕ → ℕ → ℕ → EReal) {u : Shape} (z : u.Idx → EReal) (hu : 0 < u.numel) (h0 : z (Shape.Idx.first hu) = 0)
    (hp : (⟨3, ![M, 8, n]⟩ : Shape).Pads ![0, 0, 0] ![0, 0, p] ![0, 0, 0] (⟨3, ![M, 8, 128]⟩ : Shape)) :
    pad ⟨3, ![M, 8, 128]⟩ ![0, 0, 0] ![0, 0, p] ![0, 0, 0] (cube (M := M) (n := n) f) z hp hu
      = cube fun r h d => if d < n then f r h d else 0 := by
  funext i
  have b0 : (i 0).val < M := (i 0).isLt
  have b1 : (i 1).val < 8 := (i 1).isLt
  unfold cube
  beta_reduce
  by_cases hn : (i 2).val < n
  · rw [if_pos hn, pad_apply_of_inside _ _ _ _ z hp hu _ (ValueIdx.ix3 (⟨(i 0).val, b0⟩ : Fin M) (⟨(i 1).val, b1⟩ : Fin 8) (⟨(i 2).val, hn⟩ : Fin n)) (by
      intro a
      match a with
      | ⟨0, _⟩ => show (i 0).val = 0 + (i 0).val * (0 + 1); omega
      | ⟨1, _⟩ => show (i 1).val = 0 + (i 1).val * (0 + 1); omega
      | ⟨2, _⟩ => show (i 2).val = 0 + (i 2).val * (0 + 1); omega)]
    rfl
  · rw [if_neg hn, pad_apply_of_not_inside _ _ _ _ z hp hu _ 2 (by
      intro h
      have h2 : ((i 2).val - 0) / (0 + 1) < n := h.2.2
      rw [Nat.sub_zero, Nat.zero_add, Nat.div_one] at h2
      exact hn h2), h0]

theorem pad_before {M : ℕ} (f : ℕ → ℕ → ℕ → EReal) {u : Shape} (z : u.Idx → EReal) (hu : 0 < u.numel) (h0 : z (Shape.Idx.first hu) = 0)
    (hp : (⟨3, ![M, 8, 64]⟩ : Shape).Pads ![0, 0, 64] ![0, 0, 0] ![0, 0, 0] (⟨3, ![M, 8, 128]⟩ : Shape)) :
    pad ⟨3, ![M, 8, 128]⟩ ![0, 0, 64] ![0, 0, 0] ![0, 0, 0] (cube (M := M) (n := 64) f) z hp hu
      = cube fun r h d => if d < 64 then 0 else f r h (d - 64) := by
  funext i
  have b0 : (i 0).val < M := (i 0).isLt
  have b1 : (i 1).val < 8 := (i 1).isLt
  have b2 : (i 2).val < 128 := (i 2).isLt
  unfold cube
  beta_reduce
  by_cases hn : (i 2).val < 64
  · rw [if_pos hn, pad_apply_of_not_inside _ _ _ _ z hp hu _ 2 (by
      intro h
      have h2 : 64 ≤ (i 2).val := h.1
      omega), h0]
  · rw [if_neg hn, pad_apply_of_inside _ _ _ _ z hp hu _ (ValueIdx.ix3 (⟨(i 0).val, b0⟩ : Fin M) (⟨(i 1).val, b1⟩ : Fin 8) (⟨(i 2).val - 64, by omega⟩ : Fin 64)) (by
      intro a
      match a with
      | ⟨0, _⟩ => show (i 0).val = 0 + (i 0).val * (0 + 1); omega
      | ⟨1, _⟩ => show (i 1).val = 0 + (i 1).val * (0 + 1); omega
      | ⟨2, _⟩ => show (i 2).val = 64 + ((i 2).val - 64) * (0 + 1); omega)]
    rfl

theorem pair_heads {M : ℕ} (f g : ℕ → ℕ → ℕ → EReal)
    (hc : Shape.Concatenates [(⟨3, ![M, 8, 64]⟩ : Shape), (⟨3, ![M, 8, 64]⟩ : Shape)] (⟨3, ![M, 8, 128]⟩ : Shape) 2) :
    concatenate (⟨3, ![M, 8, 128]⟩ : Shape) 2 [⟨(⟨3, ![M, 8, 64]⟩ : Shape), cube f⟩, ⟨(⟨3, ![M, 8, 64]⟩ : Shape), cube g⟩] hc = cube (paired f g) := by
  funext i
  have b0 : (i 0).val < M := (i 0).isLt
  have b1 : (i 1).val < 8 := (i 1).isLt
  have b2 : (i 2).val < 128 := (i 2).isLt
  show _ = if (i 2).val < 64 then f (i 0).val (i 1).val (i 2).val else g (i 0).val (i 1).val ((i 2).val - 64)
  by_cases hl : (i 2).val < 64
  · rw [if_pos hl, concatenate_pair_apply_left (t := ⟨3, ![M, 8, 128]⟩) (s₁ := ⟨3, ![M, 8, 64]⟩) (s₂ := ⟨3, ![M, 8, 64]⟩) (2 : Fin 3) _ _ hc i rfl
      (ValueIdx.ix3 (⟨(i 0).val, b0⟩ : Fin M) (⟨(i 1).val, b1⟩ : Fin 8) (⟨(i 2).val, hl⟩ : Fin 64)) (by
        intro b
        match b with
        | ⟨0, _⟩ => rfl
        | ⟨1, _⟩ => rfl
        | ⟨2, _⟩ => rfl)]
    rfl
  · rw [if_neg hl, concatenate_pair_apply_right (t := ⟨3, ![M, 8, 128]⟩) (s₁ := ⟨3, ![M, 8, 64]⟩) (s₂ := ⟨3, ![M, 8, 64]⟩) (2 : Fin 3) _ _ hc i rfl rfl
      (ValueIdx.ix3 (⟨(i 0).val, b0⟩ : Fin M) (⟨(i 1).val, b1⟩ : Fin 8) (⟨(i 2).val - 64, by omega⟩ : Fin 64)) (by
        intro b hb
        match b, hb with
        | ⟨0, _⟩, _ => rfl
        | ⟨1, _⟩, _ => rfl
        | ⟨2, _⟩, hb => exact absurd rfl hb) (by show (i 2).val - 64 + 64 = (i 2).val; omega)]
    rfl

/-- The heads padded with zeros to 128 lanes, side by side. -/
theorem wide_layout {M n p : ℕ} (f : ℕ → ℕ → ℕ → EReal) {u : Shape} (z : u.Idx → EReal) (hu : 0 < u.numel) (h0 : z (Shape.Idx.first hu) = 0)
    (hp : (⟨3, ![M, 8, n]⟩ : Shape).Pads ![0, 0, 0] ![0, 0, p] ![0, 0, 0] (⟨3, ![M, 8, 128]⟩ : Shape))
    (hs : (⟨3, ![M, 8, 128]⟩ : Shape).ShapeCasts (⟨2, ![M, 1024]⟩ : Shape)) :
    shapeCast ⟨2, ![M, 1024]⟩ (pad ⟨3, ![M, 8, 128]⟩ ![0, 0, 0] ![0, 0, p] ![0, 0, 0] (cube (M := M) (n := n) f) z hp hu) hs
      = plane (wide n f) := by
  rw [pad_heads f z hu h0 hp, cast_back (n := 128) (N := 1024) rfl]
  rfl

/-! ## Sums over the layout -/

/-- The 1024 columns of the weight of the queries, from the 768. -/
theorem nt_wide (f g : ℕ → ℕ → ℕ → EReal) (r c : ℕ) : nt 1024 (wide 96 f) (wide 96 g) r c = nt 768 (merged 96 f) (merged 96 g) r c := by
  unfold nt
  symm
  refine sum_of_injOn (fun k => k / 96 * 128 + k % 96) (fun a ha b hb h => ?_) (fun k hk => ?_) (fun d hd hn => ?_) fun k hk => ?_
  · have h' : a / 96 * 128 + a % 96 = b / 96 * 128 + b % 96 := h
    omega
  · have hk' : k < 768 := mem_range.mp hk
    refine mem_coe.mpr (mem_range.mpr ?_)
    show k / 96 * 128 + k % 96 < 1024
    omega
  · have hd' : d < 1024 := mem_range.mp hd
    have h : ¬ d % 128 < 96 := fun h => hn ⟨d / 128 * 96 + d % 128, mem_coe.mpr (mem_range.mpr (by omega)), by
      show (d / 128 * 96 + d % 128) / 96 * 128 + (d / 128 * 96 + d % 128) % 96 = d; omega⟩
    unfold wide
    rw [if_neg h, zero_mul]
  · have hk' : k % 96 < 96 := Nat.mod_lt _ (by omega)
    show _ = wide 96 f r (k / 96 * 128 + k % 96) * wide 96 g c (k / 96 * 128 + k % 96)
    rw [wide_at f (by omega) hk', wide_at g (by omega) hk']
    rfl

/-- Two arrays of heads in the layout, one after the other. -/
def both (f g : ℕ → ℕ → ℕ → EReal) : ℕ → ℕ → EReal := beside [(1024, wide 64 f), (1024, wide 64 g)]

theorem both_left (f g : ℕ → ℕ → ℕ → EReal) {h d : ℕ} (hh : h < 8) (hd : d < 64) (r : ℕ) : both f g r (h * 128 + d) = f r h d :=
  (beside_lt r (show h * 128 + d < 1024 by omega)).trans (wide_at f (by omega) hd r h)

theorem both_right (f g : ℕ → ℕ → ℕ → EReal) {h d : ℕ} (hh : h < 8) (hd : d < 64) (r : ℕ) : both f g r (1024 + (h * 128 + d)) = g r h d := by
  unfold both
  rw [beside_ge r (by omega), beside_lt r (by omega), show 1024 + (h * 128 + d) - 1024 = h * 128 + d by omega, wide_at g (by omega) hd]

/-- Where a column of the pairs stands in the two layouts. -/
def seat (k : ℕ) : ℕ := if k % 128 < 64 then k else 1024 + (k - 64)

theorem both_seat (f g : ℕ → ℕ → ℕ → EReal) {k : ℕ} (hk : k < 1024) (r : ℕ) : both f g r (seat k) = merged 128 (paired f g) r k := by
  unfold seat merged paired
  by_cases h : k % 128 < 64
  · rw [if_pos h, if_pos h, ← both_left f g (show k / 128 < 8 by omega) h, Nat.div_add_mod']
  · rw [if_neg h, if_neg h, ← both_right f g (show k / 128 < 8 by omega) (show k % 128 - 64 < 64 by omega)]
    exact congrArg _ (by omega)

theorem both_gap (f g : ℕ → ℕ → ℕ → EReal) {k : ℕ} (h : ¬ k % 128 < 64) (hk : k < 2048) (r : ℕ) : both f g r k = 0 := by
  unfold both
  by_cases h1 : k < 1024
  · rw [beside_lt r h1, wide, if_neg h]
  · rw [beside_ge r (by omega), beside_lt r (by omega), wide, if_neg (by omega)]

/-- The 2048 columns of the weight of the keys and values, from the 1024. -/
theorem nt_both (f g f' g' : ℕ → ℕ → ℕ → EReal) (r c : ℕ) :
    nt 2048 (both f g) (both f' g') r c = nt 1024 (merged 128 (paired f g)) (merged 128 (paired f' g')) r c := by
  unfold nt
  symm
  refine sum_of_injOn seat (fun a ha b hb h => ?_) (fun k hk => ?_) (fun d hd hn => ?_) fun k hk => ?_
  · have ha' : a < 1024 := mem_range.mp ha
    have hb' : b < 1024 := mem_range.mp hb
    unfold seat at h
    split_ifs at h <;> omega
  · have hk' : k < 1024 := mem_range.mp hk
    refine mem_coe.mpr (mem_range.mpr ?_)
    unfold seat
    split_ifs <;> omega
  · have hd' : d < 2048 := mem_range.mp hd
    have h : ¬ d % 128 < 64 := fun h => hn (by
      by_cases h1 : d < 1024
      · exact ⟨d, mem_coe.mpr (mem_range.mpr h1), by unfold seat; rw [if_pos h]⟩
      · exact ⟨d - 1024 + 64, mem_coe.mpr (mem_range.mpr (by omega)), by unfold seat; rw [if_neg (by omega)]; omega⟩)
    rw [both_gap f g h hd', zero_mul]
  · have hk' : k < 1024 := mem_range.mp hk
    rw [both_seat f g hk', both_seat f' g' hk']

end Cert.Mlp

end
-- ==== Proof.UpPay.lean ====
/-
  The stores of the up-projections' six calls, read at an index.
-/
module

public import proofs.«01_k».proof.Proof.Gen.Kernel6Ideal.Skeleton
public import proofs.«01_k».proof.Proof.UpSpec
public import Idealize.ShloMosaic.Lib.Pointwise

@[expose] public section

set_option maxRecDepth 16384

noncomputable section

open Idealize.ShloMosaic Finset

namespace Cert.Kernel6Ideal.Up

open Cert.Kernel6Ideal Cert.Kernel6Ideal.Gen Cert.Mlp

theorem pay0_1_apply (x0 : Vec Ideal S1024x384 .bf16) (x1 : Vec Ideal S384x1024 .bf16) (r : Fin 1024) (c : Fin 1024) :
    k0_pay1 (F := Ideal) x0 x1 (ix2 r c) = ∑ k : Fin 384, x0 (ix2 r k) * x1 (ix2 k c) := by
  pointwise [k0_pay1]

theorem pay1_1_apply (x0 : Vec Ideal S1024x256 .bf16) (x1 : Vec Ideal S256x2048 .bf16) (r : Fin 1024) (c : Fin 2048) :
    k1_pay1 (F := Ideal) x0 x1 (ix2 r c) = ∑ k : Fin 256, x0 (ix2 r k) * x1 (ix2 k c) := by
  pointwise [k1_pay1]

theorem pay2_1_apply (x0 : Vec Ideal S1024x1024 .bf16) (x1 : Vec Ideal S384x1024 .bf16) (r : Fin 1024) (c : Fin 384) :
    k2_pay1 (F := Ideal) x0 x1 (ix2 r c) = ∑ k : Fin 1024, x0 (ix2 r k) * x1 (ix2 c k) := by
  pointwise [k2_pay1]

theorem pay3_1_apply (r : Fin 384) (c : Fin 1024) : k3_pay1 (F := Ideal) (ix2 r c) = 0 := by
  pointwise [k3_pay1]

theorem pay3_2_apply (acc : Vec Ideal S384x1024 .f32) (x0 : Vec Ideal S1024x384 .bf16) (x1 : Vec Ideal S1024x1024 .bf16)
    (r : Fin 384) (c : Fin 1024) :
    k3_pay2 (F := Ideal) acc x0 x1 (ix2 r c) = acc (ix2 r c) + ∑ k : Fin 1024, x0 (ix2 k r) * x1 (ix2 k c) := by
  pointwise [k3_pay2]

theorem pay4_1_apply (x0 : Vec Ideal S512x2048 .bf16) (x1 : Vec Ideal S256x2048 .bf16) (r : Fin 512) (c : Fin 256) :
    k4_pay1 (F := Ideal) x0 x1 (ix2 r c) = ∑ k : Fin 2048, x0 (ix2 r k) * x1 (ix2 c k) := by
  pointwise [k4_pay1]

theorem pay5_1_apply (r : Fin 256) (c : Fin 2048) : k5_pay1 (F := Ideal) (ix2 r c) = 0 := by
  pointwise [k5_pay1]

theorem pay5_2_apply (acc : Vec Ideal S256x2048 .f32) (x0 : Vec Ideal S1024x256 .bf16) (x1 : Vec Ideal S1024x2048 .bf16)
    (r : Fin 256) (c : Fin 2048) :
    k5_pay2 (F := Ideal) acc x0 x1 (ix2 r c) = acc (ix2 r c) + ∑ k : Fin 1024, x0 (ix2 k r) * x1 (ix2 k c) := by
  pointwise [k5_pay2]

end Cert.Kernel6Ideal.Up

end
-- ==== Proof.UpCalls.lean ====
/-
  The six calls of the up-projections: the two products, and the gradients of their inputs and weights.
-/
module

public import proofs.«01_k».proof.Proof.Gen.Kernel6Ideal.Frame
public import proofs.«01_k».proof.Proof.UpPay
public import Idealize.ShloMosaic.Lib.Pipeline.ValueKit.Acc

@[expose] public section

set_option maxRecDepth 16384

noncomputable section

open Idealize.ShloMosaic Idealize.ShloMosaic.TcCoe Idealize.SL.Sem Finset

namespace Cert.Kernel6Ideal.Up

open Cert.Kernel6Ideal Cert.Kernel6Ideal.Gen Cert.Mlp

variable (V : (c : Dev nD) → (b : Ref sig .tc) → Buf (Elt Ideal) ((c : Thread nD τ).loc b)) (c : Dev nD)

/-! ## Call 0 -/

theorem index0 : ∀ t : Fin grid0.N,
    (win0_0.index t 0 = t.val ∧ win0_0.index t 1 = 0)
    ∧ (win0_1.index t 0 = 0 ∧ win0_1.index t 1 = 0)
    ∧ (win0_2.index t 0 = t.val ∧ win0_2.index t 1 = 0) := by
  decide +kernel

theorem size0 : ∀ t : Fin grid0.N,
    (win0_2.xsize (grid0.coords t) 0 = 1024 ∧ win0_2.xsize (grid0.coords t) 1 = 1024) := by
  decide +kernel

theorem block0_0 {f : ℕ → ℕ → EReal} (hV : V c main_v0 = plane (m := 8192) (n := 384) f) (t : Fin cfg0.N) :
    Part (m := 1024) (n := 384) (iblk0 V c 0 t) f (1024 * (t.val)) 0 := by
  intro r d
  unfold iblk0
  rw [View.read_apply]
  show V c main_v0 _ = _
  rw [hV]
  refine plane_at f _ _ _ ?_ ?_
  · show win0_0.index t 0 * 1024 + 1 * r.val = _; rw [(index0 t).1.1]; omega
  · show win0_0.index t 1 * 384 + 1 * d.val = _; rw [(index0 t).1.2]; omega

theorem block0_1 {f : ℕ → ℕ → EReal} (hV : V c main_v5 = plane (m := 384) (n := 1024) f) (t : Fin cfg0.N) :
    Part (m := 384) (n := 1024) (iblk0 V c 1 t) f 0 0 := by
  intro r d
  unfold iblk0
  rw [View.read_apply]
  show V c main_v5 _ = _
  rw [hV]
  refine plane_at f _ _ _ ?_ ?_
  · show win0_1.index t 0 * 384 + 1 * r.val = _; rw [(index0 t).2.1.1]; omega
  · show win0_1.index t 1 * 1024 + 1 * d.val = _; rw [(index0 t).2.1.2]; omega

theorem read0_2 (t : Fin cfg0.N) (G : S8192x1024.Idx → EReal) (x : S1024x1024.Idx) :
    View.read (Elt Ideal) ((View.whole main_v24).slice (win0_2.rect t)) G x = G (((View.whole main_v24).slice (win0_2.rect t)).emb x) :=
  View.read_apply _ _

theorem mem_block0_2 (t : Fin cfg0.N) (i : S8192x1024.Idx) (h0 : (i 0).val / 1024 = t.val) :
    i ∈ ((cfg0.win 2).blk t).view.set := by
  show i ∈ ((View.whole main_v24).slice (win0_2.rect t)).set
  rw [View.set_slice_whole, Rect.mem_set_unit]
  have e := (index0 t).2.2
  have s := (size0 t)
  have hi0 : (i 0).val < 8192 := (i 0).isLt
  have hi1 : (i 1).val < 1024 := (i 1).isLt
  intro a
  match a with
  | ⟨0, _⟩ =>
    show win0_2.index t 0 * 1024 ≤ (i 0 : Nat) ∧ (i 0 : Nat) < win0_2.index t 0 * 1024 + win0_2.xsize (grid0.coords t) 0
    rw [e.1, s.1]; omega
  | ⟨1, _⟩ =>
    show win0_2.index t 1 * 1024 ≤ (i 1 : Nat) ∧ (i 1 : Nat) < win0_2.index t 1 * 1024 + win0_2.xsize (grid0.coords t) 1
    rw [e.2, s.2]; omega

/-- The queries. -/
theorem region0_out {f g : ℕ → ℕ → EReal} (h0 : V c main_v0 = plane (m := 8192) (n := 384) f) (h1 : V c main_v5 = plane (m := 384) (n := 1024) g) :
    (dat0 V c).arrAt 2 cfg0.N = plane (m := 8192) (n := 1024) (nn 384 f g) := by
  refine (dat0 V c).arrAt_eq_of_cover 2 _ (fun t hf => ?_) fun i => ?_
  · have ht : t.val < 8 := t.isLt
    show (cfg0.win 2).cut (grid0.coords t) ((dat0 V c).after 2 t) = _
    rw [after0_2]
    have hb : Part (m := 1024) (n := 1024) (out0_2 (iblk0 V c 0 t) (iblk0 V c 1 t)) (nn 384 f g) (1024 * (t.val)) 0 := by
      intro r d
      frame_out
      exact (pay0_1_apply _ _ r d).trans (nn_at (block0_0 V c h0 t) (block0_1 V c h1 t) r d)
    funext x
    obtain ⟨r, d, rfl⟩ : ∃ (r : Fin 1024) (d : Fin 1024), x = ix2 r d := ⟨x 0, x 1, eq_ix2 x⟩
    refine (hb r d).trans (Eq.trans ?_ (read0_2 t _ (ix2 r d)).symm)
    refine (plane_at (nn 384 f g) _ _ _ ?_ ?_).symm
    · show win0_2.index t 0 * 1024 + 1 * r.val = _; rw [(index0 t).2.2.1]; omega
    · show win0_2.index t 1 * 1024 + 1 * d.val = _; rw [(index0 t).2.2.2]; omega
  · have hi0 : (i 0).val < 8192 := (i 0).isLt
    have hi1 : (i 1).val < 1024 := (i 1).isLt
    refine ⟨⟨(i 0).val / 1024, ?_⟩, flush0_2 _, mem_block0_2 _ i ?_⟩
    · show _ < 8; omega
    · show (i 0).val / 1024 = ((i 0).val / 1024); omega

/-! ## Call 1 -/

theorem index1 : ∀ t : Fin grid1.N,
    (win1_0.index t 0 = t.val ∧ win1_0.index t 1 = 0)
    ∧ (win1_1.index t 0 = 0 ∧ win1_1.index t 1 = 0)
    ∧ (win1_2.index t 0 = t.val ∧ win1_2.index t 1 = 0) := by
  decide +kernel

theorem size1 : ∀ t : Fin grid1.N,
    (win1_2.xsize (grid1.coords t) 0 = 1024 ∧ win1_2.xsize (grid1.coords t) 1 = 2048) := by
  decide +kernel

theorem block1_0 {f : ℕ → ℕ → EReal} (hV : V c main_v1 = plane (m := 8192) (n := 256) f) (t : Fin cfg1.N) :
    Part (m := 1024) (n := 256) (iblk1 V c 0 t) f (1024 * (t.val)) 0 := by
  intro r d
  unfold iblk1
  rw [View.read_apply]
  show V c main_v1 _ = _
  rw [hV]
  refine plane_at f _ _ _ ?_ ?_
  · show win1_0.index t 0 * 1024 + 1 * r.val = _; rw [(index1 t).1.1]; omega
  · show win1_0.index t 1 * 256 + 1 * d.val = _; rw [(index1 t).1.2]; omega

theorem block1_1 {f : ℕ → ℕ → EReal} (hV : V c main_v14 = plane (m := 256) (n := 2048) f) (t : Fin cfg1.N) :
    Part (m := 256) (n := 2048) (iblk1 V c 1 t) f 0 0 := by
  intro r d
  unfold iblk1
  rw [View.read_apply]
  show V c main_v14 _ = _
  rw [hV]
  refine plane_at f _ _ _ ?_ ?_
  · show win1_1.index t 0 * 256 + 1 * r.val = _; rw [(index1 t).2.1.1]; omega
  · show win1_1.index t 1 * 2048 + 1 * d.val = _; rw [(index1 t).2.1.2]; omega

theorem read1_2 (t : Fin cfg1.N) (G : S8192x2048.Idx → EReal) (x : S1024x2048.Idx) :
    View.read (Elt Ideal) ((View.whole main_v25).slice (win1_2.rect t)) G x = G (((View.whole main_v25).slice (win1_2.rect t)).emb x) :=
  View.read_apply _ _

theorem mem_block1_2 (t : Fin cfg1.N) (i : S8192x2048.Idx) (h0 : (i 0).val / 1024 = t.val) :
    i ∈ ((cfg1.win 2).blk t).view.set := by
  show i ∈ ((View.whole main_v25).slice (win1_2.rect t)).set
  rw [View.set_slice_whole, Rect.mem_set_unit]
  have e := (index1 t).2.2
  have s := (size1 t)
  have hi0 : (i 0).val < 8192 := (i 0).isLt
  have hi1 : (i 1).val < 2048 := (i 1).isLt
  intro a
  match a with
  | ⟨0, _⟩ =>
    show win1_2.index t 0 * 1024 ≤ (i 0 : Nat) ∧ (i 0 : Nat) < win1_2.index t 0 * 1024 + win1_2.xsize (grid1.coords t) 0
    rw [e.1, s.1]; omega
  | ⟨1, _⟩ =>
    show win1_2.index t 1 * 2048 ≤ (i 1 : Nat) ∧ (i 1 : Nat) < win1_2.index t 1 * 2048 + win1_2.xsize (grid1.coords t) 1
    rw [e.2, s.2]; omega

/-- The keys and values. -/
theorem region1_out {f g : ℕ → ℕ → EReal} (h0 : V c main_v1 = plane (m := 8192) (n := 256) f) (h1 : V c main_v14 = plane (m := 256) (n := 2048) g) :
    (dat1 V c).arrAt 2 cfg1.N = plane (m := 8192) (n := 2048) (nn 256 f g) := by
  refine (dat1 V c).arrAt_eq_of_cover 2 _ (fun t hf => ?_) fun i => ?_
  · have ht : t.val < 8 := t.isLt
    show (cfg1.win 2).cut (grid1.coords t) ((dat1 V c).after 2 t) = _
    rw [after1_2]
    have hb : Part (m := 1024) (n := 2048) (out1_2 (iblk1 V c 0 t) (iblk1 V c 1 t)) (nn 256 f g) (1024 * (t.val)) 0 := by
      intro r d
      frame_out
      exact (pay1_1_apply _ _ r d).trans (nn_at (block1_0 V c h0 t) (block1_1 V c h1 t) r d)
    funext x
    obtain ⟨r, d, rfl⟩ : ∃ (r : Fin 1024) (d : Fin 2048), x = ix2 r d := ⟨x 0, x 1, eq_ix2 x⟩
    refine (hb r d).trans (Eq.trans ?_ (read1_2 t _ (ix2 r d)).symm)
    refine (plane_at (nn 256 f g) _ _ _ ?_ ?_).symm
    · show win1_2.index t 0 * 1024 + 1 * r.val = _; rw [(index1 t).2.2.1]; omega
    · show win1_2.index t 1 * 2048 + 1 * d.val = _; rw [(index1 t).2.2.2]; omega
  · have hi0 : (i 0).val < 8192 := (i 0).isLt
    have hi1 : (i 1).val < 2048 := (i 1).isLt
    refine ⟨⟨(i 0).val / 1024, ?_⟩, flush1_2 _, mem_block1_2 _ i ?_⟩
    · show _ < 8; omega
    · show (i 0).val / 1024 = ((i 0).val / 1024); omega

/-! ## Call 2 -/

theorem index2 : ∀ t : Fin grid2.N,
    (win2_0.index t 0 = t.val ∧ win2_0.index t 1 = 0)
    ∧ (win2_1.index t 0 = 0 ∧ win2_1.index t 1 = 0)
    ∧ (win2_2.index t 0 = t.val ∧ win2_2.index t 1 = 0) := by
  decide +kernel

theorem size2 : ∀ t : Fin grid2.N,
    (win2_2.xsize (grid2.coords t) 0 = 1024 ∧ win2_2.xsize (grid2.coords t) 1 = 384) := by
  decide +kernel

theorem block2_0 {f : ℕ → ℕ → EReal} (hV : V c main_v17 = plane (m := 8192) (n := 1024) f) (t : Fin cfg2.N) :
    Part (m := 1024) (n := 1024) (iblk2 V c 0 t) f (1024 * (t.val)) 0 := by
  intro r d
  unfold iblk2
  rw [View.read_apply]
  show V c main_v17 _ = _
  rw [hV]
  refine plane_at f _ _ _ ?_ ?_
  · show win2_0.index t 0 * 1024 + 1 * r.val = _; rw [(index2 t).1.1]; omega
  · show win2_0.index t 1 * 1024 + 1 * d.val = _; rw [(index2 t).1.2]; omega

theorem block2_1 {f : ℕ → ℕ → EReal} (hV : V c main_v5 = plane (m := 384) (n := 1024) f) (t : Fin cfg2.N) :
    Part (m := 384) (n := 1024) (iblk2 V c 1 t) f 0 0 := by
  intro r d
  unfold iblk2
  rw [View.read_apply]
  show V c main_v5 _ = _
  rw [hV]
  refine plane_at f _ _ _ ?_ ?_
  · show win2_1.index t 0 * 384 + 1 * r.val = _; rw [(index2 t).2.1.1]; omega
  · show win2_1.index t 1 * 1024 + 1 * d.val = _; rw [(index2 t).2.1.2]; omega

theorem read2_2 (t : Fin cfg2.N) (G : S8192x384.Idx → EReal) (x : S1024x384.Idx) :
    View.read (Elt Ideal) ((View.whole main_v26).slice (win2_2.rect t)) G x = G (((View.whole main_v26).slice (win2_2.rect t)).emb x) :=
  View.read_apply _ _

theorem mem_block2_2 (t : Fin cfg2.N) (i : S8192x384.Idx) (h0 : (i 0).val / 1024 = t.val) :
    i ∈ ((cfg2.win 2).blk t).view.set := by
  show i ∈ ((View.whole main_v26).slice (win2_2.rect t)).set
  rw [View.set_slice_whole, Rect.mem_set_unit]
  have e := (index2 t).2.2
  have s := (size2 t)
  have hi0 : (i 0).val < 8192 := (i 0).isLt
  have hi1 : (i 1).val < 384 := (i 1).isLt
  intro a
  match a with
  | ⟨0, _⟩ =>
    show win2_2.index t 0 * 1024 ≤ (i 0 : Nat) ∧ (i 0 : Nat) < win2_2.index t 0 * 1024 + win2_2.xsize (grid2.coords t) 0
    rw [e.1, s.1]; omega
  | ⟨1, _⟩ =>
    show win2_2.index t 1 * 384 ≤ (i 1 : Nat) ∧ (i 1 : Nat) < win2_2.index t 1 * 384 + win2_2.xsize (grid2.coords t) 1
    rw [e.2, s.2]; omega

/-- The gradient of the queries' input. -/
theorem region2_out {f g : ℕ → ℕ → EReal} (h0 : V c main_v17 = plane (m := 8192) (n := 1024) f) (h1 : V c main_v5 = plane (m := 384) (n := 1024) g) :
    (dat2 V c).arrAt 2 cfg2.N = plane (m := 8192) (n := 384) (nt 1024 f g) := by
  refine (dat2 V c).arrAt_eq_of_cover 2 _ (fun t hf => ?_) fun i => ?_
  · have ht : t.val < 8 := t.isLt
    show (cfg2.win 2).cut (grid2.coords t) ((dat2 V c).after 2 t) = _
    rw [after2_2]
    have hb : Part (m := 1024) (n := 384) (out2_2 (iblk2 V c 0 t) (iblk2 V c 1 t)) (nt 1024 f g) (1024 * (t.val)) 0 := by
      intro r d
      frame_out
      exact (pay2_1_apply _ _ r d).trans (nt_at (block2_0 V c h0 t) (block2_1 V c h1 t) r d)
    funext x
    obtain ⟨r, d, rfl⟩ : ∃ (r : Fin 1024) (d : Fin 384), x = ix2 r d := ⟨x 0, x 1, eq_ix2 x⟩
    refine (hb r d).trans (Eq.trans ?_ (read2_2 t _ (ix2 r d)).symm)
    refine (plane_at (nt 1024 f g) _ _ _ ?_ ?_).symm
    · show win2_2.index t 0 * 1024 + 1 * r.val = _; rw [(index2 t).2.2.1]; omega
    · show win2_2.index t 1 * 384 + 1 * d.val = _; rw [(index2 t).2.2.2]; omega
  · have hi0 : (i 0).val < 8192 := (i 0).isLt
    have hi1 : (i 1).val < 384 := (i 1).isLt
    refine ⟨⟨(i 0).val / 1024, ?_⟩, flush2_2 _, mem_block2_2 _ i ?_⟩
    · show _ < 8; omega
    · show (i 0).val / 1024 = ((i 0).val / 1024); omega

/-! ## Call 3 -/

theorem index3 : ∀ t : Fin grid3.N,
    (win3_0.index t 0 = t.val % 8 ∧ win3_0.index t 1 = 0)
    ∧ (win3_1.index t 0 = t.val % 8 ∧ win3_1.index t 1 = 0)
    ∧ (win3_2.index t 0 = 0 ∧ win3_2.index t 1 = 0) := by
  decide +kernel

theorem size3 : ∀ t : Fin grid3.N,
    (win3_2.xsize (grid3.coords t) 0 = 384 ∧ win3_2.xsize (grid3.coords t) 1 = 1024) := by
  decide +kernel

theorem block3_0 {f : ℕ → ℕ → EReal} (hV : V c main_v0 = plane (m := 8192) (n := 384) f) (t : Fin cfg3.N) :
    Part (m := 1024) (n := 384) (iblk3 V c 0 t) f (1024 * (t.val % 8)) 0 := by
  intro r d
  unfold iblk3
  rw [View.read_apply]
  show V c main_v0 _ = _
  rw [hV]
  refine plane_at f _ _ _ ?_ ?_
  · show win3_0.index t 0 * 1024 + 1 * r.val = _; rw [(index3 t).1.1]; omega
  · show win3_0.index t 1 * 384 + 1 * d.val = _; rw [(index3 t).1.2]; omega

theorem block3_1 {f : ℕ → ℕ → EReal} (hV : V c main_v17 = plane (m := 8192) (n := 1024) f) (t : Fin cfg3.N) :
    Part (m := 1024) (n := 1024) (iblk3 V c 1 t) f (1024 * (t.val % 8)) 0 := by
  intro r d
  unfold iblk3
  rw [View.read_apply]
  show V c main_v17 _ = _
  rw [hV]
  refine plane_at f _ _ _ ?_ ?_
  · show win3_1.index t 0 * 1024 + 1 * r.val = _; rw [(index3 t).2.1.1]; omega
  · show win3_1.index t 1 * 1024 + 1 * d.val = _; rw [(index3 t).2.1.2]; omega

theorem read3_2 (t : Fin cfg3.N) (G : S384x1024.Idx → EReal) (x : S384x1024.Idx) :
    View.read (Elt Ideal) ((View.whole main_v27).slice (win3_2.rect t)) G x = G (((View.whole main_v27).slice (win3_2.rect t)).emb x) :=
  View.read_apply _ _

theorem mem_block3_2 (t : Fin cfg3.N) (i : S384x1024.Idx) :
    i ∈ ((cfg3.win 2).blk t).view.set := by
  show i ∈ ((View.whole main_v27).slice (win3_2.rect t)).set
  rw [View.set_slice_whole, Rect.mem_set_unit]
  have e := (index3 t).2.2
  have s := (size3 t)
  have hi0 : (i 0).val < 384 := (i 0).isLt
  have hi1 : (i 1).val < 1024 := (i 1).isLt
  intro a
  match a with
  | ⟨0, _⟩ =>
    show win3_2.index t 0 * 384 ≤ (i 0 : Nat) ∧ (i 0 : Nat) < win3_2.index t 0 * 384 + win3_2.xsize (grid3.coords t) 0
    rw [e.1, s.1]; omega
  | ⟨1, _⟩ =>
    show win3_2.index t 1 * 1024 ≤ (i 1 : Nat) ∧ (i 1 : Nat) < win3_2.index t 1 * 1024 + win3_2.xsize (grid3.coords t) 1
    rw [e.2, s.2]; omega

theorem left3 {f g : ℕ → ℕ → EReal} (h0 : V c main_v0 = plane (m := 8192) (n := 384) f) (h1 : V c main_v17 = plane (m := 8192) (n := 1024) g) :
    ∀ (n : ℕ) (hn : n < cfg3.N), Part (m := 384) (n := 1024) (outsAt3 V c n hn) (tn (1024 * (n % 8) + 1024) f g) (0) (0) := by
  intro n
  induction n with
  | zero =>
    intro hn r d
    rw [outsAt3_A V c ⟨0, hn⟩ rfl]
    frame_out
    refine (pay3_2_apply _ _ _ r d).trans ?_
    rw [pay3_1_apply, ← tn_zero f g ((0) + r.val) ((0) + d.val)]
    exact tn_at (block3_0 V c h0 ⟨0, hn⟩) (block3_1 V c h1 ⟨0, hn⟩) r d
  | succ n ih =>
    intro hn r d
    have hp : n < cfg3.N := by omega
    by_cases hz : (n + 1) % 8 = 0
    · rw [outsAt3_A V c ⟨n + 1, hn⟩ hz]
      frame_out
      refine (pay3_2_apply _ _ _ r d).trans ?_
      have b0 := block3_0 V c h0 ⟨n + 1, hn⟩
      have b1 := block3_1 V c h1 ⟨n + 1, hn⟩
      dsimp only at b0 b1
      rw [hz, Nat.mul_zero] at b0 b1 ⊢
      rw [pay3_1_apply, ← tn_zero f g ((0) + r.val) ((0) + d.val)]
      exact tn_at b0 b1 r d
    · rw [outsAt3_B V c ⟨n + 1, hn⟩ hz]
      frame_out
      refine (pay3_2_apply _ _ _ r d).trans ?_
      have e := ih hp r d
      rw [show 1024 * (n % 8) + 1024 = 1024 * ((n + 1) % 8) by omega] at e
      refine (congrArg (· + _) e).trans ?_
      exact tn_at (block3_0 V c h0 ⟨n + 1, hn⟩) (block3_1 V c h1 ⟨n + 1, hn⟩) r d

/-- The gradient of the queries' weight. -/
theorem region3_out {f g : ℕ → ℕ → EReal} (h0 : V c main_v0 = plane (m := 8192) (n := 384) f) (h1 : V c main_v17 = plane (m := 8192) (n := 1024) g) :
    (dat3 V c).arrAt 2 cfg3.N = plane (m := 384) (n := 1024) (tn 8192 f g) := by
  refine (dat3 V c).arrAt_eq_of_cover 2 _ (fun t hf => ?_) fun i => ?_
  · have ht : t.val < 8 := t.isLt
    show (cfg3.win 2).cut (grid3.coords t) ((dat3 V c).after 2 t) = _
    rw [after3_2]
    have hb := left3 V c h0 h1 t.val t.isLt
    rw [(flush3_2 t).mp hf, show 1024 * 7 + 1024 = 8192 from rfl] at hb
    funext x
    obtain ⟨r, d, rfl⟩ : ∃ (r : Fin 384) (d : Fin 1024), x = ix2 r d := ⟨x 0, x 1, eq_ix2 x⟩
    refine (hb r d).trans (Eq.trans ?_ (read3_2 t _ (ix2 r d)).symm)
    refine (plane_at (tn 8192 f g) _ _ _ ?_ ?_).symm
    · show win3_2.index t 0 * 384 + 1 * r.val = _; rw [(index3 t).2.2.1]; omega
    · show win3_2.index t 1 * 1024 + 1 * d.val = _; rw [(index3 t).2.2.2]; omega
  · have hi0 : (i 0).val < 384 := (i 0).isLt
    have hi1 : (i 1).val < 1024 := (i 1).isLt
    refine ⟨⟨7, ?_⟩, (flush3_2 _).mpr ?_, mem_block3_2 _ i ⟩
    · show _ < 8; omega
    · show (7) % 8 = 7; omega

/-! ## Call 4 -/

theorem index4 : ∀ t : Fin grid4.N,
    (win4_0.index t 0 = t.val ∧ win4_0.index t 1 = 0)
    ∧ (win4_1.index t 0 = 0 ∧ win4_1.index t 1 = 0)
    ∧ (win4_2.index t 0 = t.val ∧ win4_2.index t 1 = 0) := by
  decide +kernel

theorem size4 : ∀ t : Fin grid4.N,
    (win4_2.xsize (grid4.coords t) 0 = 512 ∧ win4_2.xsize (grid4.coords t) 1 = 256) := by
  decide +kernel

theorem block4_0 {f : ℕ → ℕ → EReal} (hV : V c main_v23 = plane (m := 8192) (n := 2048) f) (t : Fin cfg4.N) :
    Part (m := 512) (n := 2048) (iblk4 V c 0 t) f (512 * (t.val)) 0 := by
  intro r d
  unfold iblk4
  rw [View.read_apply]
  show V c main_v23 _ = _
  rw [hV]
  refine plane_at f _ _ _ ?_ ?_
  · show win4_0.index t 0 * 512 + 1 * r.val = _; rw [(index4 t).1.1]; omega
  · show win4_0.index t 1 * 2048 + 1 * d.val = _; rw [(index4 t).1.2]; omega

theorem block4_1 {f : ℕ → ℕ → EReal} (hV : V c main_v14 = plane (m := 256) (n := 2048) f) (t : Fin cfg4.N) :
    Part (m := 256) (n := 2048) (iblk4 V c 1 t) f 0 0 := by
  intro r d
  unfold iblk4
  rw [View.read_apply]
  show V c main_v14 _ = _
  rw [hV]
  refine plane_at f _ _ _ ?_ ?_
  · show win4_1.index t 0 * 256 + 1 * r.val = _; rw [(index4 t).2.1.1]; omega
  · show win4_1.index t 1 * 2048 + 1 * d.val = _; rw [(index4 t).2.1.2]; omega

theorem read4_2 (t : Fin cfg4.N) (G : S8192x256.Idx → EReal) (x : S512x256.Idx) :
    View.read (Elt Ideal) ((View.whole main_v31).slice (win4_2.rect t)) G x = G (((View.whole main_v31).slice (win4_2.rect t)).emb x) :=
  View.read_apply _ _

theorem mem_block4_2 (t : Fin cfg4.N) (i : S8192x256.Idx) (h0 : (i 0).val / 512 = t.val) :
    i ∈ ((cfg4.win 2).blk t).view.set := by
  show i ∈ ((View.whole main_v31).slice (win4_2.rect t)).set
  rw [View.set_slice_whole, Rect.mem_set_unit]
  have e := (index4 t).2.2
  have s := (size4 t)
  have hi0 : (i 0).val < 8192 := (i 0).isLt
  have hi1 : (i 1).val < 256 := (i 1).isLt
  intro a
  match a with
  | ⟨0, _⟩ =>
    show win4_2.index t 0 * 512 ≤ (i 0 : Nat) ∧ (i 0 : Nat) < win4_2.index t 0 * 512 + win4_2.xsize (grid4.coords t) 0
    rw [e.1, s.1]; omega
  | ⟨1, _⟩ =>
    show win4_2.index t 1 * 256 ≤ (i 1 : Nat) ∧ (i 1 : Nat) < win4_2.index t 1 * 256 + win4_2.xsize (grid4.coords t) 1
    rw [e.2, s.2]; omega

/-- The gradient of the keys' and values' input. -/
theorem region4_out {f g : ℕ → ℕ → EReal} (h0 : V c main_v23 = plane (m := 8192) (n := 2048) f) (h1 : V c main_v14 = plane (m := 256) (n := 2048) g) :
    (dat4 V c).arrAt 2 cfg4.N = plane (m := 8192) (n := 256) (nt 2048 f g) := by
  refine (dat4 V c).arrAt_eq_of_cover 2 _ (fun t hf => ?_) fun i => ?_
  · have ht : t.val < 16 := t.isLt
    show (cfg4.win 2).cut (grid4.coords t) ((dat4 V c).after 2 t) = _
    rw [after4_2]
    have hb : Part (m := 512) (n := 256) (out4_2 (iblk4 V c 0 t) (iblk4 V c 1 t)) (nt 2048 f g) (512 * (t.val)) 0 := by
      intro r d
      frame_out
      exact (pay4_1_apply _ _ r d).trans (nt_at (block4_0 V c h0 t) (block4_1 V c h1 t) r d)
    funext x
    obtain ⟨r, d, rfl⟩ : ∃ (r : Fin 512) (d : Fin 256), x = ix2 r d := ⟨x 0, x 1, eq_ix2 x⟩
    refine (hb r d).trans (Eq.trans ?_ (read4_2 t _ (ix2 r d)).symm)
    refine (plane_at (nt 2048 f g) _ _ _ ?_ ?_).symm
    · show win4_2.index t 0 * 512 + 1 * r.val = _; rw [(index4 t).2.2.1]; omega
    · show win4_2.index t 1 * 256 + 1 * d.val = _; rw [(index4 t).2.2.2]; omega
  · have hi0 : (i 0).val < 8192 := (i 0).isLt
    have hi1 : (i 1).val < 256 := (i 1).isLt
    refine ⟨⟨(i 0).val / 512, ?_⟩, flush4_2 _, mem_block4_2 _ i ?_⟩
    · show _ < 16; omega
    · show (i 0).val / 512 = ((i 0).val / 512); omega

/-! ## Call 5 -/

theorem index5 : ∀ t : Fin grid5.N,
    (win5_0.index t 0 = t.val % 8 ∧ win5_0.index t 1 = 0)
    ∧ (win5_1.index t 0 = t.val % 8 ∧ win5_1.index t 1 = 0)
    ∧ (win5_2.index t 0 = 0 ∧ win5_2.index t 1 = 0) := by
  decide +kernel

theorem size5 : ∀ t : Fin grid5.N,
    (win5_2.xsize (grid5.coords t) 0 = 256 ∧ win5_2.xsize (grid5.coords t) 1 = 2048) := by
  decide +kernel

theorem block5_0 {f : ℕ → ℕ → EReal} (hV : V c main_v1 = plane (m := 8192) (n := 256) f) (t : Fin cfg5.N) :
    Part (m := 1024) (n := 256) (iblk5 V c 0 t) f (1024 * (t.val % 8)) 0 := by
  intro r d
  unfold iblk5
  rw [View.read_apply]
  show V c main_v1 _ = _
  rw [hV]
  refine plane_at f _ _ _ ?_ ?_
  · show win5_0.index t 0 * 1024 + 1 * r.val = _; rw [(index5 t).1.1]; omega
  · show win5_0.index t 1 * 256 + 1 * d.val = _; rw [(index5 t).1.2]; omega

theorem block5_1 {f : ℕ → ℕ → EReal} (hV : V c main_v23 = plane (m := 8192) (n := 2048) f) (t : Fin cfg5.N) :
    Part (m := 1024) (n := 2048) (iblk5 V c 1 t) f (1024 * (t.val % 8)) 0 := by
  intro r d
  unfold iblk5
  rw [View.read_apply]
  show V c main_v23 _ = _
  rw [hV]
  refine plane_at f _ _ _ ?_ ?_
  · show win5_1.index t 0 * 1024 + 1 * r.val = _; rw [(index5 t).2.1.1]; omega
  · show win5_1.index t 1 * 2048 + 1 * d.val = _; rw [(index5 t).2.1.2]; omega

theorem read5_2 (t : Fin cfg5.N) (G : S256x2048.Idx → EReal) (x : S256x2048.Idx) :
    View.read (Elt Ideal) ((View.whole main_v32).slice (win5_2.rect t)) G x = G (((View.whole main_v32).slice (win5_2.rect t)).emb x) :=
  View.read_apply _ _

theorem mem_block5_2 (t : Fin cfg5.N) (i : S256x2048.Idx) :
    i ∈ ((cfg5.win 2).blk t).view.set := by
  show i ∈ ((View.whole main_v32).slice (win5_2.rect t)).set
  rw [View.set_slice_whole, Rect.mem_set_unit]
  have e := (index5 t).2.2
  have s := (size5 t)
  have hi0 : (i 0).val < 256 := (i 0).isLt
  have hi1 : (i 1).val < 2048 := (i 1).isLt
  intro a
  match a with
  | ⟨0, _⟩ =>
    show win5_2.index t 0 * 256 ≤ (i 0 : Nat) ∧ (i 0 : Nat) < win5_2.index t 0 * 256 + win5_2.xsize (grid5.coords t) 0
    rw [e.1, s.1]; omega
  | ⟨1, _⟩ =>
    show win5_2.index t 1 * 2048 ≤ (i 1 : Nat) ∧ (i 1 : Nat) < win5_2.index t 1 * 2048 + win5_2.xsize (grid5.coords t) 1
    rw [e.2, s.2]; omega

theorem left5 {f g : ℕ → ℕ → EReal} (h0 : V c main_v1 = plane (m := 8192) (n := 256) f) (h1 : V c main_v23 = plane (m := 8192) (n := 2048) g) :
    ∀ (n : ℕ) (hn : n < cfg5.N), Part (m := 256) (n := 2048) (outsAt5 V c n hn) (tn (1024 * (n % 8) + 1024) f g) (0) (0) := by
  intro n
  induction n with
  | zero =>
    intro hn r d
    rw [outsAt5_A V c ⟨0, hn⟩ rfl]
    frame_out
    refine (pay5_2_apply _ _ _ r d).trans ?_
    rw [pay5_1_apply, ← tn_zero f g ((0) + r.val) ((0) + d.val)]
    exact tn_at (block5_0 V c h0 ⟨0, hn⟩) (block5_1 V c h1 ⟨0, hn⟩) r d
  | succ n ih =>
    intro hn r d
    have hp : n < cfg5.N := by omega
    by_cases hz : (n + 1) % 8 = 0
    · rw [outsAt5_A V c ⟨n + 1, hn⟩ hz]
      frame_out
      refine (pay5_2_apply _ _ _ r d).trans ?_
      have b0 := block5_0 V c h0 ⟨n + 1, hn⟩
      have b1 := block5_1 V c h1 ⟨n + 1, hn⟩
      dsimp only at b0 b1
      rw [hz, Nat.mul_zero] at b0 b1 ⊢
      rw [pay5_1_apply, ← tn_zero f g ((0) + r.val) ((0) + d.val)]
      exact tn_at b0 b1 r d
    · rw [outsAt5_B V c ⟨n + 1, hn⟩ hz]
      frame_out
      refine (pay5_2_apply _ _ _ r d).trans ?_
      have e := ih hp r d
      rw [show 1024 * (n % 8) + 1024 = 1024 * ((n + 1) % 8) by omega] at e
      refine (congrArg (· + _) e).trans ?_
      exact tn_at (block5_0 V c h0 ⟨n + 1, hn⟩) (block5_1 V c h1 ⟨n + 1, hn⟩) r d

/-- The gradient of the keys' and values' weight. -/
theorem region5_out {f g : ℕ → ℕ → EReal} (h0 : V c main_v1 = plane (m := 8192) (n := 256) f) (h1 : V c main_v23 = plane (m := 8192) (n := 2048) g) :
    (dat5 V c).arrAt 2 cfg5.N = plane (m := 256) (n := 2048) (tn 8192 f g) := by
  refine (dat5 V c).arrAt_eq_of_cover 2 _ (fun t hf => ?_) fun i => ?_
  · have ht : t.val < 8 := t.isLt
    show (cfg5.win 2).cut (grid5.coords t) ((dat5 V c).after 2 t) = _
    rw [after5_2]
    have hb := left5 V c h0 h1 t.val t.isLt
    rw [(flush5_2 t).mp hf, show 1024 * 7 + 1024 = 8192 from rfl] at hb
    funext x
    obtain ⟨r, d, rfl⟩ : ∃ (r : Fin 256) (d : Fin 2048), x = ix2 r d := ⟨x 0, x 1, eq_ix2 x⟩
    refine (hb r d).trans (Eq.trans ?_ (read5_2 t _ (ix2 r d)).symm)
    refine (plane_at (tn 8192 f g) _ _ _ ?_ ?_).symm
    · show win5_2.index t 0 * 256 + 1 * r.val = _; rw [(index5 t).2.2.1]; omega
    · show win5_2.index t 1 * 2048 + 1 * d.val = _; rw [(index5 t).2.2.2]; omega
  · have hi0 : (i 0).val < 256 := (i 0).isLt
    have hi1 : (i 1).val < 2048 := (i 1).isLt
    refine ⟨⟨7, ?_⟩, (flush5_2 _).mpr ?_, mem_block5_2 _ i ⟩
    · show _ < 8; omega
    · show (7) % 8 = 7; omega

end Cert.Kernel6Ideal.Up

end
-- ==== Proof.UpRun.lean ====
/-
  The run of the up-projections with everything it leaves: from any memory with zero counters every weakly fair execution
  terminates, each buffer of the TensorCore ends at the contents that the last segment leaves, and every counter at zero.
-/
module

public import proofs.«01_k».proof.Proof.Gen.Kernel6Ideal.Frame

@[expose] public section

set_option maxRecDepth 16384

noncomputable section

namespace Cert.Kernel6Ideal.Up

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the six calls and the host code around them ends with each unscoped buffer at the contents `W15`. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W15 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => h)

end Cert.Kernel6Ideal.Up
-- ==== Proof.UpResults.lean ====
/-
  The up-projections' seven results: what the host code hands to the six calls, what each call leaves, and what the host
  code takes from them.
-/
module

public import proofs.«01_k».proof.Proof.UpCalls
public import proofs.«01_k».proof.Proof.UpSpec
public import proofs.«01_k».proof.Proof.UpRun
public import Idealize.ShloMosaic.Lib.StableHlo.Run

@[expose] public section

set_option maxRecDepth 16384

noncomputable section

open Idealize.ShloMosaic Idealize.ShloMosaic.TcCoe Idealize.SL.Sem Idealize.ShloMosaic.StableHlo Finset

namespace Cert.Kernel6Ideal.Up

open Cert.Kernel6Ideal Cert.Kernel6Ideal.Gen Cert.Mlp

variable (m : (ℓ : Loc nD τ sig) → Buf (Elt Ideal) ℓ) (ρ : Dev nD → PrngReg) (c : Dev nD)

/-! ## The arguments' numbers -/

/-- The queries' input. -/
abbrev cq : ℕ → ℕ → EReal := entries (m := 8192) (n := 384) (m ((c.tc : Thread nD τ).loc main_arg0))

/-- The keys' and values' input. -/
abbrev ck : ℕ → ℕ → EReal := entries (m := 8192) (n := 256) (m ((c.tc : Thread nD τ).loc main_arg1))

/-- The queries' weight. -/
abbrev wq : ℕ → ℕ → EReal := entries (m := 384) (n := 768) (m ((c.tc : Thread nD τ).loc main_arg2))

/-- The keys' and values' weight. -/
abbrev wk : ℕ → ℕ → EReal := entries (m := 256) (n := 1024) (m ((c.tc : Thread nD τ).loc main_arg3))

/-- The gradient of the queries. -/
abbrev dq : ℕ → ℕ → ℕ → EReal := heads (M := 8192) (n := 96) (m ((c.tc : Thread nD τ).loc main_arg4))

/-- The gradient of the keys. -/
abbrev dk : ℕ → ℕ → ℕ → EReal := heads (M := 8192) (n := 64) (m ((c.tc : Thread nD τ).loc main_arg5))

/-- The gradient of the values. -/
abbrev dv : ℕ → ℕ → ℕ → EReal := heads (M := 8192) (n := 64) (m ((c.tc : Thread nD τ).loc main_arg6))

/-- The queries' weight as the call takes it. -/
abbrev pq : ℕ → ℕ → EReal := wide 96 (split 96 (wq m c))

/-- The keys' and values' weight as the calls take it. -/
abbrev pk : ℕ → ℕ → EReal := both (off 0 (split 128 (wk m c))) (off 64 (split 128 (wk m c)))

/-- The gradient of the keys and values as the calls take it. -/
abbrev dkv : ℕ → ℕ → EReal := both (dk m c) (dv m c)

theorem zero_word : FloatOps.sitofp (F := Ideal) .bf16 0#32 = (0 : EReal) := by
  show (((0#32 : BitVec 32).toInt : ℝ) : EReal) = 0
  simp

theorem zero_const : constant (F := Ideal) S_ .f32 0x00000000#32 (Shape.Idx.first h_S_) = (0 : EReal) :=
  Ideal.ofBits_zero_f32

/-! ## What the host code hands to the calls -/

theorem at1_v0 : W1 m ρ c (Proc.devRef .tc main_v0) = plane (m := 8192) (n := 384) (cq m c) := by
  have e : W1 m ρ c (Proc.devRef .tc main_v0) = m ((c.tc : Thread nD τ).loc main_arg0) := by
    show StableHlo.after hostOps0 _ (Proc.devRef .tc main_v0) = _
    after_results_simp <;> rfl
  exact e.trans (eq_plane (m := 8192) (n := 384) _)

theorem at1_v1 : W1 m ρ c (Proc.devRef .tc main_v1) = plane (m := 8192) (n := 256) (ck m c) := by
  have e : W1 m ρ c (Proc.devRef .tc main_v1) = m ((c.tc : Thread nD τ).loc main_arg1) := by
    show StableHlo.after hostOps0 _ (Proc.devRef .tc main_v1) = _
    after_results_simp <;> rfl
  exact e.trans (eq_plane (m := 8192) (n := 256) _)

theorem at7_v0 : V7 m ρ c main_v0 = plane (m := 8192) (n := 384) (cq m c) :=
  (W7_of m ρ c main_v0 (by decide)).trans ((W6_of m ρ c main_v0 (by decide)).trans ((W5_of m ρ c main_v0 (by decide)).trans ((W4_of m ρ c main_v0 (by decide)).trans ((W3_of m ρ c main_v0 (by decide)).trans ((W2_of m ρ c main_v0 (by decide)).trans (at1_v0 m ρ c))))))

theorem at7_v1 : V7 m ρ c main_v1 = plane (m := 8192) (n := 256) (ck m c) :=
  (W7_of m ρ c main_v1 (by decide)).trans ((W6_of m ρ c main_v1 (by decide)).trans ((W5_of m ρ c main_v1 (by decide)).trans ((W4_of m ρ c main_v1 (by decide)).trans ((W3_of m ρ c main_v1 (by decide)).trans ((W2_of m ρ c main_v1 (by decide)).trans (at1_v1 m ρ c))))))

theorem at1_v3 : W1 m ρ c (Proc.devRef .tc main_v3) = cube (M := 384) (n := 96) (split 96 (wq m c)) := by
  refine Eq.trans ?_ (cast_heads (n := 96) rfl (wq m c) shapeCasts_S384x768_S384x8x96)
  rw [← eq_plane (m := 384) (n := 768)]
  show StableHlo.after hostOps0 _ (Proc.devRef .tc main_v3) = _
  after_results_simp <;> rfl

theorem at1_c : W1 m ρ c (Proc.devRef .tc main_c) = constantI S_ 32 0#32 := by
  show StableHlo.after hostOps0 _ (Proc.devRef .tc main_c) = _
  after_results_simp <;> rfl

theorem at2_v4 : W2 m ρ c (Proc.devRef .tc main_v4) = pad S384x8x128 ![0, 0, 0] ![0, 0, 32] ![0, 0, 0]
    (cube (M := 384) (n := 96) (split 96 (wq m c))) (sitofp (F := Ideal) .bf16 (constantI S_ 32 0#32))
    pads_S384x8x96_S384x8x128_000_000_0320 h_S_ := by
  rw [← at1_v3 m ρ c, ← at1_c m ρ c]
  show StableHlo.after hostOps0_1 _ (Proc.devRef .tc main_v4) = _
  after_results_simp <;> rfl

theorem at3_v5 : W3 m ρ c (Proc.devRef .tc main_v5) = plane (m := 384) (n := 1024) (pq m c) := by
  refine Eq.trans ?_ (wide_layout (split 96 (wq m c)) (sitofp (F := Ideal) .bf16 (constantI S_ 32 0#32)) h_S_ zero_word
    pads_S384x8x96_S384x8x128_000_000_0320 shapeCasts_S384x8x128_S384x1024)
  rw [← at2_v4 m ρ c]
  show StableHlo.after hostOps0_2 _ (Proc.devRef .tc main_v5) = _
  after_results_simp <;> rfl

theorem at7_v5 : V7 m ρ c main_v5 = plane (m := 384) (n := 1024) (pq m c) :=
  (W7_of m ρ c main_v5 (by decide)).trans ((W6_of m ρ c main_v5 (by decide)).trans ((W5_of m ρ c main_v5 (by decide)).trans ((W4_of m ρ c main_v5 (by decide)).trans (at3_v5 m ρ c))))

theorem at2_arg3 : W2 m ρ c (Proc.devRef .tc main_arg3) = plane (m := 256) (n := 1024) (wk m c) :=
  (W2_args m ρ c main_arg3 (by decide)).trans (eq_plane (m := 256) (n := 1024) _)

theorem at3_v7 : W3 m ρ c (Proc.devRef .tc main_v7) = cube (M := 256) (n := 128) (split 128 (wk m c)) := by
  refine Eq.trans ?_ (cast_heads (n := 128) rfl (wk m c) shapeCasts_S256x1024_S256x8x128)
  rw [← at2_arg3 m ρ c]
  show StableHlo.after hostOps0_2 _ (Proc.devRef .tc main_v7) = _
  after_results_simp <;> rfl

theorem at3_v8 : W3 m ρ c (Proc.devRef .tc main_v8) = cube (M := 256) (n := 64) (off 0 (split 128 (wk m c))) := by
  refine Eq.trans ?_ (slice_heads (split 128 (wk m c)) slices_S256x8x128_S256x8x64_0_0_0)
  rw [← at3_v7 m ρ c]
  show StableHlo.after hostOps0_2 _ (Proc.devRef .tc main_v8) = extractStridedSlice S256x8x64 ![0, 0, 0] (StableHlo.after hostOps0_2 _ (Proc.devRef .tc main_v7)) _
  after_results_simp <;> rfl

theorem at3_c_0 : W3 m ρ c (Proc.devRef .tc main_c_0) = constantI S_ 32 0#32 := by
  show StableHlo.after hostOps0_2 _ (Proc.devRef .tc main_c_0) = _
  after_results_simp <;> rfl

theorem at4_v9 : W4 m ρ c (Proc.devRef .tc main_v9) = pad S256x8x128 ![0, 0, 0] ![0, 0, 64] ![0, 0, 0]
    (cube (M := 256) (n := 64) (off 0 (split 128 (wk m c)))) (sitofp (F := Ideal) .bf16 (constantI S_ 32 0#32))
    pads_S256x8x64_S256x8x128_000_000_0640 h_S_ := by
  rw [← at3_v8 m ρ c, ← at3_c_0 m ρ c]
  show StableHlo.after hostOps0_3 _ (Proc.devRef .tc main_v9) = _
  after_results_simp <;> rfl

theorem at5_v10 : W5 m ρ c (Proc.devRef .tc main_v10) = cube (M := 256) (n := 64) (off 64 (split 128 (wk m c))) := by
  refine Eq.trans ?_ (slice_heads (split 128 (wk m c)) slices_S256x8x128_S256x8x64_0_0_64)
  rw [← (W4_of m ρ c main_v7 (by decide)).trans (at3_v7 m ρ c)]
  show StableHlo.after hostOps0_4 _ (Proc.devRef .tc main_v10) = _
  after_results_simp <;> rfl

theorem at5_c_1 : W5 m ρ c (Proc.devRef .tc main_c_1) = constantI S_ 32 0#32 := by
  show StableHlo.after hostOps0_4 _ (Proc.devRef .tc main_c_1) = _
  after_results_simp <;> rfl

theorem at6_v11 : W6 m ρ c (Proc.devRef .tc main_v11) = pad S256x8x128 ![0, 0, 0] ![0, 0, 64] ![0, 0, 0]
    (cube (M := 256) (n := 64) (off 64 (split 128 (wk m c)))) (sitofp (F := Ideal) .bf16 (constantI S_ 32 0#32))
    pads_S256x8x64_S256x8x128_000_000_0640 h_S_ := by
  rw [← at5_v10 m ρ c, ← at5_c_1 m ρ c]
  show StableHlo.after hostOps0_5 _ (Proc.devRef .tc main_v11) = _
  after_results_simp <;> rfl

theorem at7_v14 : V7 m ρ c main_v14 = plane (m := 256) (n := 2048) (pk m c) := by
  refine Eq.trans ?_ (concatenate_cols (ps := [(1024, wide 64 (off 0 (split 128 (wk m c)))), (1024, wide 64 (off 64 (split 128 (wk m c))))])
    (.cons (wide_layout (off 0 (split 128 (wk m c))) (sitofp (F := Ideal) .bf16 (constantI S_ 32 0#32)) h_S_ zero_word
      pads_S256x8x64_S256x8x128_000_000_0640 shapeCasts_S256x8x128_S256x1024)
    (.cons (wide_layout (off 64 (split 128 (wk m c))) (sitofp (F := Ideal) .bf16 (constantI S_ 32 0#32)) h_S_ zero_word
      pads_S256x8x64_S256x8x128_000_000_0640 shapeCasts_S256x8x128_S256x1024) .nil)) concatenates_S256x1024_S256x1024_S256x2048_d1)
  rw [← at6_v11 m ρ c, ← (W6_of m ρ c main_v9 (by decide)).trans ((W5_of m ρ c main_v9 (by decide)).trans (at4_v9 m ρ c))]
  show StableHlo.after hostOps0_6 _ (Proc.devRef .tc main_v14) = _
  after_results_simp <;> rfl

theorem at6_arg4 : W6 m ρ c (Proc.devRef .tc main_arg4) = cube (M := 8192) (n := 96) (dq m c) :=
  (W6_args m ρ c main_arg4 (by decide)).trans (eq_cube (M := 8192) (n := 96) _)

theorem at6_arg5 : W6 m ρ c (Proc.devRef .tc main_arg5) = cube (M := 8192) (n := 64) (dk m c) :=
  (W6_args m ρ c main_arg5 (by decide)).trans (eq_cube (M := 8192) (n := 64) _)

theorem at6_arg6 : W6 m ρ c (Proc.devRef .tc main_arg6) = cube (M := 8192) (n := 64) (dv m c) :=
  (W6_args m ρ c main_arg6 (by decide)).trans (eq_cube (M := 8192) (n := 64) _)

theorem at7_v17 : V7 m ρ c main_v17 = plane (m := 8192) (n := 1024) (wide 96 (dq m c)) := by
  refine Eq.trans ?_ (wide_layout (dq m c) (constant (F := Ideal) S_ .f32 0x00000000#32) h_S_ zero_const
      pads_S8192x8x96_S8192x8x128_000_000_0320 shapeCasts_S8192x8x128_S8192x1024)
  rw [← at6_arg4 m ρ c]
  show StableHlo.after hostOps0_6 _ (Proc.devRef .tc main_v17) = _
  after_results_simp <;> rfl

theorem at7_v23 : V7 m ρ c main_v23 = plane (m := 8192) (n := 2048) (dkv m c) := by
  refine Eq.trans ?_ (concatenate_cols (ps := [(1024, wide 64 (dk m c)), (1024, wide 64 (dv m c))])
    (.cons (wide_layout (dk m c) (constant (F := Ideal) S_ .f32 0x00000000#32) h_S_ zero_const
      pads_S8192x8x64_S8192x8x128_000_000_0640 shapeCasts_S8192x8x128_S8192x1024)
    (.cons (wide_layout (dv m c) (constant (F := Ideal) S_ .f32 0x00000000#32) h_S_ zero_const
      pads_S8192x8x64_S8192x8x128_000_000_0640 shapeCasts_S8192x8x128_S8192x1024) .nil)) concatenates_S8192x1024_S8192x1024_S8192x2048_d1)
  rw [← at6_arg5 m ρ c, ← at6_arg6 m ρ c]
  show StableHlo.after hostOps0_6 _ (Proc.devRef .tc main_v23) = _
  after_results_simp <;> rfl

/-! ## From call to call -/

theorem at8_v24 : V8 m ρ c main_v24 = plane (m := 8192) (n := 1024) (nn 384 (cq m c) (pq m c)) :=
  (W8_arr m ρ c 2).trans (region0_out (V7 m ρ) c (at7_v0 m ρ c) (at7_v5 m ρ c))

theorem at8_v1 : V8 m ρ c main_v1 = plane (m := 8192) (n := 256) (ck m c) :=
  (W8_of m ρ c main_v1 (by decide)).trans (at7_v1 m ρ c)

theorem at8_v14 : V8 m ρ c main_v14 = plane (m := 256) (n := 2048) (pk m c) :=
  (W8_of m ρ c main_v14 (by decide)).trans (at7_v14 m ρ c)

theorem at9_v25 : V9 m ρ c main_v25 = plane (m := 8192) (n := 2048) (nn 256 (ck m c) (pk m c)) :=
  (W9_arr m ρ c 2).trans (region1_out (V8 m ρ) c (at8_v1 m ρ c) (at8_v14 m ρ c))

theorem at9_v17 : V9 m ρ c main_v17 = plane (m := 8192) (n := 1024) (wide 96 (dq m c)) :=
  (W9_of m ρ c main_v17 (by decide)).trans ((W8_of m ρ c main_v17 (by decide)).trans (at7_v17 m ρ c))

theorem at9_v5 : V9 m ρ c main_v5 = plane (m := 384) (n := 1024) (pq m c) :=
  (W9_of m ρ c main_v5 (by decide)).trans ((W8_of m ρ c main_v5 (by decide)).trans (at7_v5 m ρ c))

theorem at10_v26 : V10 m ρ c main_v26 = plane (m := 8192) (n := 384) (nt 1024 (wide 96 (dq m c)) (pq m c)) :=
  (W10_arr m ρ c 2).trans (region2_out (V9 m ρ) c (at9_v17 m ρ c) (at9_v5 m ρ c))

theorem at10_v0 : V10 m ρ c main_v0 = plane (m := 8192) (n := 384) (cq m c) :=
  (W10_of m ρ c main_v0 (by decide)).trans ((W9_of m ρ c main_v0 (by decide)).trans ((W8_of m ρ c main_v0 (by decide)).trans (at7_v0 m ρ c)))

theorem at10_v17 : V10 m ρ c main_v17 = plane (m := 8192) (n := 1024) (wide 96 (dq m c)) :=
  (W10_of m ρ c main_v17 (by decide)).trans (at9_v17 m ρ c)

theorem at11_v27 : W11 m ρ c (Proc.devRef .tc main_v27) = plane (m := 384) (n := 1024) (tn 8192 (cq m c) (wide 96 (dq m c))) :=
  (W11_arr m ρ c 2).trans (region3_out (V10 m ρ) c (at10_v0 m ρ c) (at10_v17 m ρ c))

theorem at12_v30 : V12 m ρ c main_v30 = plane (m := 384) (n := 768) (merged 96 (off 0 (split 128 (tn 8192 (cq m c) (wide 96 (dq m c)))))) := by
  refine Eq.trans ?_ (cast_back (n := 96) rfl (off 0 (split 128 (tn 8192 (cq m c) (wide 96 (dq m c))))) shapeCasts_S384x8x96_S384x768)
  rw [← slice_heads (M := 384) (n := 128) (k := 96) (split 128 (tn 8192 (cq m c) (wide 96 (dq m c)))) slices_S384x8x128_S384x8x96_0_0_0,
    ← cast_heads (N := 1024) rfl (tn 8192 (cq m c) (wide 96 (dq m c))) shapeCasts_S384x1024_S384x8x128, ← at11_v27 m ρ c]
  show StableHlo.after hostOps4 _ (Proc.devRef .tc main_v30) = _
  after_results_simp <;> rfl

theorem at12_v23 : V12 m ρ c main_v23 = plane (m := 8192) (n := 2048) (dkv m c) :=
  (W12_of m ρ c main_v23 (by decide)).trans ((W11_of m ρ c main_v23 (by decide)).trans ((W10_of m ρ c main_v23 (by decide)).trans ((W9_of m ρ c main_v23 (by decide)).trans ((W8_of m ρ c main_v23 (by decide)).trans (at7_v23 m ρ c)))))

theorem at12_v14 : V12 m ρ c main_v14 = plane (m := 256) (n := 2048) (pk m c) :=
  (W12_of m ρ c main_v14 (by decide)).trans ((W11_of m ρ c main_v14 (by decide)).trans ((W10_of m ρ c main_v14 (by decide)).trans ((W9_of m ρ c main_v14 (by decide)).trans (at8_v14 m ρ c))))

theorem at13_v31 : V13 m ρ c main_v31 = plane (m := 8192) (n := 256) (nt 2048 (dkv m c) (pk m c)) :=
  (W13_arr m ρ c 2).trans (region4_out (V12 m ρ) c (at12_v23 m ρ c) (at12_v14 m ρ c))

theorem at13_v1 : V13 m ρ c main_v1 = plane (m := 8192) (n := 256) (ck m c) :=
  (W13_of m ρ c main_v1 (by decide)).trans ((W12_of m ρ c main_v1 (by decide)).trans ((W11_of m ρ c main_v1 (by decide)).trans ((W10_of m ρ c main_v1 (by decide)).trans ((W9_of m ρ c main_v1 (by decide)).trans (at8_v1 m ρ c)))))

theorem at13_v23 : V13 m ρ c main_v23 = plane (m := 8192) (n := 2048) (dkv m c) :=
  (W13_of m ρ c main_v23 (by decide)).trans (at12_v23 m ρ c)

theorem at14_v32 : W14 m ρ c (Proc.devRef .tc main_v32) = plane (m := 256) (n := 2048) (tn 8192 (ck m c) (dkv m c)) :=
  (W14_arr m ρ c 2).trans (region5_out (V13 m ρ) c (at13_v1 m ρ c) (at13_v23 m ρ c))

theorem at14_v24 : W14 m ρ c (Proc.devRef .tc main_v24) = plane (m := 8192) (n := 1024) (nn 384 (cq m c) (pq m c)) :=
  (W14_of m ρ c main_v24 (by decide)).trans ((W13_of m ρ c main_v24 (by decide)).trans ((W12_of m ρ c main_v24 (by decide)).trans ((W11_of m ρ c main_v24 (by decide)).trans ((W10_of m ρ c main_v24 (by decide)).trans ((W9_of m ρ c main_v24 (by decide)).trans (at8_v24 m ρ c))))))

theorem at14_v25 : W14 m ρ c (Proc.devRef .tc main_v25) = plane (m := 8192) (n := 2048) (nn 256 (ck m c) (pk m c)) :=
  (W14_of m ρ c main_v25 (by decide)).trans ((W13_of m ρ c main_v25 (by decide)).trans ((W12_of m ρ c main_v25 (by decide)).trans ((W11_of m ρ c main_v25 (by decide)).trans ((W10_of m ρ c main_v25 (by decide)).trans (at9_v25 m ρ c)))))

/-! ## The results -/

theorem lanes_q : cube (M := 8192) (n := 96) (off 0 (split 128 (nn 384 (cq m c) (pq m c)))) = cube (split 96 (nn 384 (cq m c) (wq m c))) :=
  cube_congr fun r _ h _ d hd => by
    show nn 384 (cq m c) (pq m c) r (h * 128 + (0 + d)) = nn 384 (cq m c) (wq m c) r (h * 96 + d)
    rw [Nat.zero_add]
    exact sum_congr rfl fun k _ => congrArg _ (wide_at _ (by omega) hd k h)

theorem lanes_k : cube (M := 8192) (n := 64) (off 0 (split 128 (fun r j => nn 256 (ck m c) (pk m c) r (0 + j))))
    = cube (off 0 (split 128 (nn 256 (ck m c) (wk m c)))) :=
  cube_congr fun r _ h hh d hd => by
    show nn 256 (ck m c) (pk m c) r (0 + (h * 128 + (0 + d))) = nn 256 (ck m c) (wk m c) r (h * 128 + (0 + d))
    rw [Nat.zero_add, Nat.zero_add]
    exact sum_congr rfl fun k _ => congrArg _ ((both_left _ _ hh hd k).trans (congrArg (fun x => wk m c k (h * 128 + x)) (Nat.zero_add d)))

theorem lanes_v : cube (M := 8192) (n := 64) (off 0 (split 128 (fun r j => nn 256 (ck m c) (pk m c) r (1024 + j))))
    = cube (off 64 (split 128 (nn 256 (ck m c) (wk m c)))) :=
  cube_congr fun r _ h hh d hd => by
    show nn 256 (ck m c) (pk m c) r (1024 + (h * 128 + (0 + d))) = nn 256 (ck m c) (wk m c) r (h * 128 + (64 + d))
    rw [Nat.zero_add]
    exact sum_congr rfl fun k _ => congrArg _ (both_right _ _ hh hd k)

theorem at15_v42 : W15 m ρ c (Proc.devRef .tc main_v42) = cube (M := 8192) (n := 96) (split 96 (nn 384 (cq m c) (wq m c))) := by
  refine Eq.trans ?_ (lanes_q m c)
  rw [← slice_heads (M := 8192) (n := 128) (k := 96) (split 128 (nn 384 (cq m c) (pq m c))) slices_S8192x8x128_S8192x8x96_0_0_0,
    ← cast_heads (N := 1024) rfl (nn 384 (cq m c) (pq m c)) shapeCasts_S8192x1024_S8192x8x128, ← at14_v24 m ρ c]
  show StableHlo.after hostOps6 _ (Proc.devRef .tc main_v42) = _
  after_results_simp <;> rfl

theorem at15_v45 : W15 m ρ c (Proc.devRef .tc main_v45) = cube (M := 8192) (n := 64) (off 0 (split 128 (nn 256 (ck m c) (wk m c)))) := by
  refine Eq.trans ?_ (lanes_k m c)
  rw [← slice_heads (M := 8192) (n := 128) (k := 64) (split 128 (fun r j => nn 256 (ck m c) (pk m c) r (0 + j))) slices_S8192x8x128_S8192x8x64_0_0_0,
    ← cast_heads (N := 1024) rfl (fun r j => nn 256 (ck m c) (pk m c) r (0 + j)) shapeCasts_S8192x1024_S8192x8x128,
    ← slice_plane (m := 8192) (n := 2048) (k := 1024) (o := 0) (nn 256 (ck m c) (pk m c)) slices_S8192x2048_S8192x1024_0_0, ← at14_v25 m ρ c]
  show StableHlo.after hostOps6 _ (Proc.devRef .tc main_v45) = _
  after_results_simp <;> rfl

theorem at15_v48 : W15 m ρ c (Proc.devRef .tc main_v48) = cube (M := 8192) (n := 64) (off 64 (split 128 (nn 256 (ck m c) (wk m c)))) := by
  refine Eq.trans ?_ (lanes_v m c)
  rw [← slice_heads (M := 8192) (n := 128) (k := 64) (split 128 (fun r j => nn 256 (ck m c) (pk m c) r (1024 + j))) slices_S8192x8x128_S8192x8x64_0_0_0,
    ← cast_heads (N := 1024) rfl (fun r j => nn 256 (ck m c) (pk m c) r (1024 + j)) shapeCasts_S8192x1024_S8192x8x128,
    ← slice_plane (m := 8192) (n := 2048) (k := 1024) (o := 1024) (nn 256 (ck m c) (pk m c)) slices_S8192x2048_S8192x1024_0_1024, ← at14_v25 m ρ c]
  show StableHlo.after hostOps6 _ (Proc.devRef .tc main_v48) = _
  after_results_simp <;> rfl

theorem at15_v26 : W15 m ρ c (Proc.devRef .tc main_v26) = plane (m := 8192) (n := 384) (nt 768 (merged 96 (dq m c)) (wq m c)) := by
  refine ((W15_of m ρ c main_v26 (by decide)).trans ((W14_of m ρ c main_v26 (by decide)).trans ((W13_of m ρ c main_v26 (by decide)).trans ((W12_of m ρ c main_v26 (by decide)).trans ((W11_of m ρ c main_v26 (by decide)).trans (at10_v26 m ρ c)))))).trans (plane_congr fun r _ j _ => (nt_wide _ _ r j).trans ?_)
  exact sum_congr rfl fun k _ => congrArg _ (merged_split 96 (wq m c) j k)

theorem paired_split (f : ℕ → ℕ → EReal) (r k : ℕ) : merged 128 (paired (off 0 (split 128 f)) (off 64 (split 128 f))) r k = f r k := by
  unfold merged paired off split
  have e := Nat.div_add_mod' k 128
  by_cases h : k % 128 < 64
  · rw [if_pos h, Nat.zero_add, e]
  · rw [if_neg h, show 64 + (k % 128 - 64) = k % 128 by omega, e]

theorem at15_v31 : W15 m ρ c (Proc.devRef .tc main_v31) = plane (m := 8192) (n := 256) (nt 1024 (merged 128 (paired (dk m c) (dv m c))) (wk m c)) := by
  refine ((W15_of m ρ c main_v31 (by decide)).trans ((W14_of m ρ c main_v31 (by decide)).trans (at13_v31 m ρ c))).trans (plane_congr fun r _ j _ => (nt_both _ _ _ _ r j).trans ?_)
  exact sum_congr rfl fun k _ => congrArg _ (paired_split (wk m c) j k)

theorem at15_v30 : W15 m ρ c (Proc.devRef .tc main_v30) = plane (m := 384) (n := 768) (tn 8192 (cq m c) (merged 96 (dq m c))) := by
  refine ((W15_of m ρ c main_v30 (by decide)).trans ((W14_of m ρ c main_v30 (by decide)).trans ((W13_of m ρ c main_v30 (by decide)).trans (at12_v30 m ρ c)))).trans (plane_congr fun r _ j hj => ?_)
  show tn 8192 (cq m c) (wide 96 (dq m c)) r (j / 96 * 128 + (0 + j % 96)) = _
  rw [Nat.zero_add]
  exact sum_congr rfl fun k _ => congrArg _ (wide_at _ (by omega) (Nat.mod_lt _ (by omega)) k _)

theorem at15_v40 : W15 m ρ c (Proc.devRef .tc main_v40) = plane (m := 256) (n := 1024) (tn 8192 (ck m c) (merged 128 (paired (dk m c) (dv m c)))) := by
  have e : plane (m := 256) (n := 1024) (merged 128 (paired (off 0 (split 128 (fun r j => tn 8192 (ck m c) (dkv m c) r (0 + j)))) (off 0 (split 128 (fun r j => tn 8192 (ck m c) (dkv m c) r (1024 + j))))))
      = plane (tn 8192 (ck m c) (merged 128 (paired (dk m c) (dv m c)))) := plane_congr fun r _ j hj => by
    unfold merged paired off split
    beta_reduce
    by_cases h : j % 128 < 64
    · rw [if_pos h, Nat.zero_add, Nat.zero_add]
      refine sum_congr rfl fun k _ => congrArg _ ?_
      beta_reduce
      rw [if_pos h]
      exact both_left _ _ (by omega) h k
    · rw [if_neg h, Nat.zero_add]
      refine sum_congr rfl fun k _ => congrArg _ ?_
      beta_reduce
      rw [if_neg h]
      exact both_right _ _ (by omega) (by omega) k
  refine Eq.trans ?_ e
  rw [← cast_back (M := 256) (n := 128) (N := 1024) rfl (paired (off 0 (split 128 (fun r j => tn 8192 (ck m c) (dkv m c) r (0 + j)))) (off 0 (split 128 (fun r j => tn 8192 (ck m c) (dkv m c) r (1024 + j))))) shapeCasts_S256x8x128_S256x1024,
    ← pair_heads (off 0 (split 128 (fun r j => tn 8192 (ck m c) (dkv m c) r (0 + j)))) (off 0 (split 128 (fun r j => tn 8192 (ck m c) (dkv m c) r (1024 + j)))) concatenates_S256x8x64_S256x8x64_S256x8x128_d2,
    ← slice_heads (M := 256) (n := 128) (k := 64) (split 128 (fun r j => tn 8192 (ck m c) (dkv m c) r (0 + j))) slices_S256x8x128_S256x8x64_0_0_0,
    ← slice_heads (M := 256) (n := 128) (k := 64) (split 128 (fun r j => tn 8192 (ck m c) (dkv m c) r (1024 + j))) slices_S256x8x128_S256x8x64_0_0_0,
    ← cast_heads (N := 1024) rfl (fun r j => tn 8192 (ck m c) (dkv m c) r (0 + j)) shapeCasts_S256x1024_S256x8x128,
    ← cast_heads (N := 1024) rfl (fun r j => tn 8192 (ck m c) (dkv m c) r (1024 + j)) shapeCasts_S256x1024_S256x8x128,
    ← slice_plane (m := 256) (n := 2048) (k := 1024) (o := 0) (tn 8192 (ck m c) (dkv m c)) slices_S256x2048_S256x1024_0_0,
    ← slice_plane (m := 256) (n := 2048) (k := 1024) (o := 1024) (tn 8192 (ck m c) (dkv m c)) slices_S256x2048_S256x1024_0_1024, ← at14_v32 m ρ c]
  show StableHlo.after hostOps6 _ (Proc.devRef .tc main_v40) = _
  after_results_simp <;> rfl

end Cert.Kernel6Ideal.Up

end
-- ==== Proof.UpRef.lean ====
/-
  The reference's seven results of the up-projections: the queries, the keys and the values, and the gradients of the two
  inputs and the two weights.
-/
module

public import proofs.«01_k».proof.Proof.Gen.Reference6Ideal.Read
public import proofs.«01_k».proof.Proof.UpSpec

@[expose] public section

set_option maxRecDepth 16384

noncomputable section

open Idealize.ShloMosaic Finset

namespace Cert.Reference6Ideal.Up

open Cert.Reference6Ideal Cert.Reference6Ideal.Gen Cert.Reference6Ideal.Read Cert.Mlp

variable (x0 : (⟨S8192x384, .f32⟩ : BufTy).Contents (Elt Ideal)) (x1 : (⟨S8192x256, .f32⟩ : BufTy).Contents (Elt Ideal))
  (x2 : (⟨S384x768, .f32⟩ : BufTy).Contents (Elt Ideal)) (x3 : (⟨S256x1024, .f32⟩ : BufTy).Contents (Elt Ideal))
  (x4 : (⟨S8192x8x96, .f32⟩ : BufTy).Contents (Elt Ideal)) (x5 x6 : (⟨S8192x8x64, .f32⟩ : BufTy).Contents (Elt Ideal))

/-- The queries' input. -/
abbrev cq : ℕ → ℕ → EReal := entries (m := 8192) (n := 384) x0

/-- The keys' and values' input. -/
abbrev ck : ℕ → ℕ → EReal := entries (m := 8192) (n := 256) x1

/-- The queries' weight. -/
abbrev wq : ℕ → ℕ → EReal := entries (m := 384) (n := 768) x2

/-- The keys' and values' weight. -/
abbrev wk : ℕ → ℕ → EReal := entries (m := 256) (n := 1024) x3

/-- The gradient of the queries, heads side by side. -/
abbrev gq : ℕ → ℕ → EReal := merged 96 (heads (M := 8192) (n := 96) x4)

/-- The gradient of the keys and values, in pairs, heads side by side. -/
abbrev gk : ℕ → ℕ → EReal := merged 128 (paired (heads (M := 8192) (n := 64) x5) (heads (M := 8192) (n := 64) x6))

theorem zero_const : constant (F := Ideal) S_ .f32 0x00000000#32 (Shape.Idx.first h_S_) = (0 : EReal) :=
  Ideal.ofBits_zero_f32

/-! ## Forward -/

theorem q_cube : val_main_v1 (F := Ideal) x0 x2 = cube (M := 8192) (n := 96) (split 96 (nn 384 (cq x0) (wq x2))) := by
  have e : val_main_v0 (F := Ideal) x0 x2 = plane (m := 8192) (n := 768) (nn 384 (cq x0) (wq x2)) := by
    funext i
    rw [val_main_v0_apply]
    unfold plane nn
    rw [← Fin.sum_univ_eq_sum_range (fun k => cq x0 (i 0).val k * wq x2 k (i 1).val)]
    exact sum_congr rfl fun k _ => congrArg₂ (· * ·) (entries_at x0 _ _ _ rfl rfl) (entries_at x2 _ _ _ rfl rfl)
  unfold val_main_v1
  rw [e]
  exact cast_heads rfl _ _

theorem kv_cube : val_main_v3 (F := Ideal) x1 x3 = cube (M := 8192) (n := 128) (split 128 (nn 256 (ck x1) (wk x3))) := by
  have e : val_main_v2 (F := Ideal) x1 x3 = plane (m := 8192) (n := 1024) (nn 256 (ck x1) (wk x3)) := by
    funext i
    rw [val_main_v2_apply]
    unfold plane nn
    rw [← Fin.sum_univ_eq_sum_range (fun k => ck x1 (i 0).val k * wk x3 k (i 1).val)]
    exact sum_congr rfl fun k _ => congrArg₂ (· * ·) (entries_at x1 _ _ _ rfl rfl) (entries_at x3 _ _ _ rfl rfl)
  unfold val_main_v3
  rw [e]
  exact cast_heads rfl _ _

theorem k_cube : val_main_v4 (F := Ideal) x1 x3 = cube (M := 8192) (n := 64) (off 0 (split 128 (nn 256 (ck x1) (wk x3)))) := by
  unfold val_main_v4
  rw [kv_cube]
  exact slice_heads _ _

theorem v_cube : val_main_v5 (F := Ideal) x1 x3 = cube (M := 8192) (n := 64) (off 64 (split 128 (nn 256 (ck x1) (wk x3)))) := by
  unfold val_main_v5
  rw [kv_cube]
  exact slice_heads _ _

/-! ## Backward -/

theorem gq_plane : val_main_v13 (F := Ideal) x4 = plane (m := 8192) (n := 768) (gq x4) := by
  unfold val_main_v13
  refine Eq.trans ?_ (cast_back (M := 8192) (n := 96) rfl (heads (M := 8192) (n := 96) x4) shapeCasts_S8192x8x96_S8192x768)
  rw [← eq_cube (M := 8192) (n := 96)]

theorem gk_plane : val_main_v9 (F := Ideal) x5 x6 = plane (m := 8192) (n := 1024) (gk x5 x6) := by
  have e6 : val_main_v6 (F := Ideal) x6 = cube (M := 8192) (n := 128) fun r h d => if d < 64 then 0 else heads (M := 8192) (n := 64) x6 r h (d - 64) := by
    refine Eq.trans ?_ (pad_before (heads (M := 8192) (n := 64) x6) (constant (F := Ideal) S_ .f32 0x00000000#32) h_S_ zero_const
      pads_S8192x8x64_S8192x8x128_000_000_6400)
    rw [← eq_cube (M := 8192) (n := 64)]
    rfl
  have e7 : val_main_v7 (F := Ideal) x5 = cube (M := 8192) (n := 128) fun r h d => if d < 64 then heads (M := 8192) (n := 64) x5 r h d else 0 := by
    refine Eq.trans ?_ (pad_heads (heads (M := 8192) (n := 64) x5) (constant (F := Ideal) S_ .f32 0x00000000#32) h_S_ zero_const
      pads_S8192x8x64_S8192x8x128_000_000_0640)
    rw [← eq_cube (M := 8192) (n := 64)]
    rfl
  have e8 : val_main_v8 (F := Ideal) x5 x6 = cube (M := 8192) (n := 128) (paired (heads (M := 8192) (n := 64) x5) (heads (M := 8192) (n := 64) x6)) := by
    funext i
    rw [val_main_v8_apply, e6, e7]
    unfold cube paired
    beta_reduce
    by_cases h : (i 2).val < 64
    · rw [if_pos h, if_pos h, if_pos h]
      exact zero_add _
    · rw [if_neg h, if_neg h, if_neg h]
      exact add_zero _
  unfold val_main_v9
  rw [e8]
  exact cast_back (M := 8192) (n := 128) rfl _ _

theorem gq_at (i : S8192x768.Idx) (r c : ℕ) (h0 : (i 0).val = r) (h1 : (i 1).val = c) : val_main_v13 (F := Ideal) x4 i = gq x4 r c := by
  rw [gq_plane]
  exact plane_at _ _ _ _ h0 h1

theorem gk_at (i : S8192x1024.Idx) (r c : ℕ) (h0 : (i 0).val = r) (h1 : (i 1).val = c) : val_main_v9 (F := Ideal) x5 x6 i = gk x5 x6 r c := by
  rw [gk_plane]
  exact plane_at _ _ _ _ h0 h1

theorem dcq_plane : val_main_v16 (F := Ideal) x2 x4 = plane (m := 8192) (n := 384) (nt 768 (gq x4) (wq x2)) := by
  funext i
  rw [val_main_v16_apply]
  unfold plane nt
  rw [← Fin.sum_univ_eq_sum_range (fun k => gq x4 (i 0).val k * wq x2 (i 1).val k)]
  exact sum_congr rfl fun k _ => congrArg₂ (· * ·) (gq_at x4 _ _ _ rfl rfl) (entries_at x2 _ _ _ rfl rfl)

theorem dck_plane : val_main_v12 (F := Ideal) x3 x5 x6 = plane (m := 8192) (n := 256) (nt 1024 (gk x5 x6) (wk x3)) := by
  funext i
  rw [val_main_v12_apply]
  unfold plane nt
  rw [← Fin.sum_univ_eq_sum_range (fun k => gk x5 x6 (i 0).val k * wk x3 (i 1).val k)]
  exact sum_congr rfl fun k _ => congrArg₂ (· * ·) (gk_at x5 x6 _ _ _ rfl rfl) (entries_at x3 _ _ _ rfl rfl)

theorem dwq_plane : val_main_v15 (F := Ideal) x0 x4 = plane (m := 384) (n := 768) (tn 8192 (cq x0) (gq x4)) := by
  funext i
  rw [val_main_v15_apply, val_main_v14_apply]
  unfold plane tn
  rw [← Fin.sum_univ_eq_sum_range (fun k => cq x0 k (i 0).val * gq x4 k (i 1).val)]
  exact sum_congr rfl fun k _ => (mul_comm _ _).trans (congrArg₂ (· * ·) (entries_at x0 _ _ _ rfl rfl) (gq_at x4 _ _ _ rfl rfl))

theorem dwk_plane : val_main_v11 (F := Ideal) x1 x5 x6 = plane (m := 256) (n := 1024) (tn 8192 (ck x1) (gk x5 x6)) := by
  funext i
  rw [val_main_v11_apply, val_main_v10_apply]
  unfold plane tn
  rw [← Fin.sum_univ_eq_sum_range (fun k => ck x1 k (i 0).val * gk x5 x6 k (i 1).val)]
  exact sum_congr rfl fun k _ => (mul_comm _ _).trans (congrArg₂ (· * ·) (entries_at x1 _ _ _ rfl rfl) (gk_at x5 x6 _ _ _ rfl rfl))

end Cert.Reference6Ideal.Up

end
-- ==== Proof.lean ====
/-
  The claims, put together: the kernels' frames are the generated ones, a reference's is its run read at its arguments,
  and a kernel's results are its reference's: real arrays for the attention, arrays of extended reals for the other calls.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Run
public import proofs.«01_k».proof.Proof.Results
public import proofs.«01_k».proof.Proof.RefResults
public import proofs.«01_k».proof.Proof.Finite
public import proofs.«01_k».proof.Proof.MlpResults
public import proofs.«01_k».proof.Proof.MlpRef
public import proofs.«01_k».proof.Proof.GateResults
public import proofs.«01_k».proof.Proof.GateRef
public import proofs.«01_k».proof.Proof.InResults
public import proofs.«01_k».proof.Proof.InRef
public import proofs.«01_k».proof.Proof.GluResults
public import proofs.«01_k».proof.Proof.GluRef
public import proofs.«01_k».proof.Proof.UpResults
public import proofs.«01_k».proof.Proof.UpRef
public import Idealize.ShloMosaic.Adequacy
public import Idealize.ShloMosaic.Init

@[expose] public section

noncomputable section

namespace Cert.Proof

open Idealize.ShloMosaic Idealize.ShloMosaic.TcCoe Idealize.SL.Sem Cert.Attn

/-! ## The frames -/

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite := fun m ρ _ => Cert.KernelIdeal.Gen.frame m ρ

/-- The reference's run read at its arguments, which no operation writes; it declares no semaphore. -/
theorem frame_ref : Cert.quiescent_ReferenceIdeal := by
  intro m ρ _
  exact (θ_run Cert.ReferenceIdeal.defs _ _).mono (fun r h => ⟨fun c => (h c).2.2.2.2,
    sem_eq_zero_of_no_sems (by decide) r.2⟩) (Cert.ReferenceIdeal.Value.run m ρ)

theorem frame_ref_finite : Cert.quiescent_ReferenceIdeal_pre_finite := by
  intro m ρ _
  exact (θ_run Cert.ReferenceIdeal.defs _ _).mono (fun r h => ⟨fun c => (h c).2.2.2.2,
    sem_eq_zero_of_no_sems (by decide) r.2⟩) (Cert.ReferenceIdeal.Value.run m ρ)

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_ref2 : Cert.quiescent_Reference2Ideal := by
  intro m ρ _
  exact (θ_run Cert.Reference2Ideal.defs _ _).mono (fun r h => ⟨fun c => (h c).2.2.2.2,
    sem_eq_zero_of_no_sems (by decide) r.2⟩) (Cert.Reference2Ideal.Value.run m ρ)

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_ref3 : Cert.quiescent_Reference3Ideal := by
  intro m ρ _
  exact (θ_run Cert.Reference3Ideal.defs _ _).mono (fun r h => ⟨fun c => (h c).2.2.2.2.2.2.2.2,
    sem_eq_zero_of_no_sems (by decide) r.2⟩) (Cert.Reference3Ideal.Value.run m ρ)

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_ref4 : Cert.quiescent_Reference4Ideal := by
  intro m ρ _
  exact (θ_run Cert.Reference4Ideal.defs _ _).mono (fun r h => ⟨fun c => (h c).2.2.2.2.2.2.2,
    sem_eq_zero_of_no_sems (by decide) r.2⟩) (Cert.Reference4Ideal.Value.run m ρ)

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_ref5 : Cert.quiescent_Reference5Ideal := by
  intro m ρ _
  exact (θ_run Cert.Reference5Ideal.defs _ _).mono (fun r h => ⟨fun c => (h c).2.2.2.2,
    sem_eq_zero_of_no_sems (by decide) r.2⟩) (Cert.Reference5Ideal.Value.run m ρ)

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_ref6 : Cert.quiescent_Reference6Ideal := by
  intro m ρ _
  exact (θ_run Cert.Reference6Ideal.defs _ _).mono (fun r h => ⟨fun c => (h c).2.2.2.2.2.2.2,
    sem_eq_zero_of_no_sems (by decide) r.2⟩) (Cert.Reference6Ideal.Value.run m ρ)

/-! ## The attention's value claim -/

section Value

variable (m : (ℓ : Loc Cert.KernelIdeal.nD Cert.KernelIdeal.τ Cert.KernelIdeal.sig) → Buf (Elt Ideal) ℓ)

/-- The real arrays that device `c`'s arguments hold; the values have a one in the lane after the last. -/
abbrev qs (c : Dev Cert.KernelIdeal.nD) : ℕ → ℕ → ℕ → ℝ :=
  reals (n := 96) (m ((c.tc : Thread Cert.KernelIdeal.nD Cert.KernelIdeal.τ).loc Cert.KernelIdeal.main_arg0))
abbrev ks (c : Dev Cert.KernelIdeal.nD) : ℕ → ℕ → ℕ → ℝ :=
  reals (n := 96) (m ((c.tc : Thread Cert.KernelIdeal.nD Cert.KernelIdeal.τ).loc Cert.KernelIdeal.main_arg1))
abbrev vs (c : Dev Cert.KernelIdeal.nD) : ℕ → ℕ → ℕ → ℝ :=
  withOne (reals (n := 64) (m ((c.tc : Thread Cert.KernelIdeal.nD Cert.KernelIdeal.τ).loc Cert.KernelIdeal.main_arg2)))
abbrev gs (c : Dev Cert.KernelIdeal.nD) : ℕ → ℕ → ℕ → ℝ :=
  reals (n := 64) (m ((c.tc : Thread Cert.KernelIdeal.nD Cert.KernelIdeal.τ).loc Cert.KernelIdeal.main_arg3))

theorem vs_one (c : Dev Cert.KernelIdeal.nD) (h i : ℕ) : vs m c h i 64 = 1 := if_pos rfl

theorem vs_zero (c : Dev Cert.KernelIdeal.nD) (h i d : ℕ) (hd : 65 ≤ d) : vs m c h i d = 0 :=
  (if_neg (by omega)).trans (reals_zero _ h i d (by omega))

end Value

set_option maxHeartbeats 1000000 in
/-- The kernel and the reference end with the same four arrays. -/
theorem algebraic : Cert.algebraic_KernelIdeal_ReferenceIdeal_pre_finite := by
  intro m ρ m' ρ' hpre hag
  have hf := fun c => Cert.Pre_finite.Attn.reals_of (hpre c)
  have hq := fun c => holding_reals (hf c).1.1
  have hk := fun c => holding_reals (hf c).1.2
  have hv := fun c => holding_withOne (holding_reals (hf c).2.1)
  have hg := fun c => holding_reals (hf c).2.2
  refine ⟨fun c => spread 64 fun h => out (qs m c h) (ks m c h) (vs m c h),
    fun c => spread 96 fun h => dqTo (qs m c h) (ks m c h) (vs m c h) (gs m c h) 8192,
    fun c => spread 96 fun h => dkTo (qs m c h) (ks m c h) (vs m c h) (gs m c h) 8192,
    fun c => spread 64 fun h => dvTo (qs m c h) (ks m c h) (gs m c h) 8192, ?_, ?_⟩
  · refine (θ_run Cert.KernelIdeal.defs _ _).mono (fun r h c => ⟨?_, ?_, ?_, ?_, ?_, ?_, ?_, ?_⟩) (Cert.KernelIdeal.Attn.run_all m ρ)
    · exact (h c _ (Cert.KernelIdeal.Gen.mem_uc Cert.KernelIdeal.main_v16 (by decide))).trans
        (eq_spread (Cert.KernelIdeal.Attn.trimmed_out m ρ c (hq c) (hk c) (hv c) (hg c) (fun h i d => reals_zero _ h i d) (fun h i d => reals_zero _ h i d)
          (fun h i d => reals_zero _ h i d) (vs_one m c) (vs_zero m c)))
    · exact (h c _ (Cert.KernelIdeal.Gen.mem_uc Cert.KernelIdeal.main_v18 (by decide))).trans
        (eq_spread (Cert.KernelIdeal.Attn.trimmed_dq m ρ c (hq c) (hk c) (hv c) (hg c) (fun h i d => reals_zero _ h i d) (fun h i d => reals_zero _ h i d)
          (fun h i d => reals_zero _ h i d) (vs_one m c) (vs_zero m c)))
    · exact (h c _ (Cert.KernelIdeal.Gen.mem_uc Cert.KernelIdeal.main_v20 (by decide))).trans
        (eq_spread (Cert.KernelIdeal.Attn.trimmed_dk m ρ c (hq c) (hk c) (hv c) (hg c) (fun h i d => reals_zero _ h i d) (fun h i d => reals_zero _ h i d)
          (fun h i d => reals_zero _ h i d) (vs_one m c) (vs_zero m c)))
    · exact (h c _ (Cert.KernelIdeal.Gen.mem_uc Cert.KernelIdeal.main_v22 (by decide))).trans
        (eq_spread (Cert.KernelIdeal.Attn.trimmed_dv m ρ c (hq c) (hk c) (hv c) (hg c) (fun h i d => reals_zero _ h i d) (fun h i d => reals_zero _ h i d)
          (fun h i d => reals_zero _ h i d) (vs_one m c) (vs_zero m c)))
    · exact (h c _ (Cert.KernelIdeal.Gen.mem_uc Cert.KernelIdeal.main_arg0 (by decide))).trans (Cert.KernelIdeal.Gen.W5_main_arg0 m ρ c)
    · exact (h c _ (Cert.KernelIdeal.Gen.mem_uc Cert.KernelIdeal.main_arg1 (by decide))).trans (Cert.KernelIdeal.Gen.W5_main_arg1 m ρ c)
    · exact (h c _ (Cert.KernelIdeal.Gen.mem_uc Cert.KernelIdeal.main_arg2 (by decide))).trans (Cert.KernelIdeal.Gen.W5_main_arg2 m ρ c)
    · exact (h c _ (Cert.KernelIdeal.Gen.mem_uc Cert.KernelIdeal.main_arg3 (by decide))).trans (Cert.KernelIdeal.Gen.W5_main_arg3 m ρ c)
  · refine (θ_run Cert.ReferenceIdeal.defs _ _).mono (fun r h c => ?_) (Cert.ReferenceIdeal.Value.run m' ρ')
    obtain ⟨e0, e1, e2, e3, ha⟩ := h c
    have hq' : Holding (n := 96) (m' ((c.tc : Thread Cert.ReferenceIdeal.nD Cert.ReferenceIdeal.τ).loc Cert.ReferenceIdeal.main_arg0)) (qs m c) := by
      rw [(hag c).1]; exact hq c
    have hk' : Holding (n := 96) (m' ((c.tc : Thread Cert.ReferenceIdeal.nD Cert.ReferenceIdeal.τ).loc Cert.ReferenceIdeal.main_arg1)) (ks m c) := by
      rw [(hag c).2.1]; exact hk c
    have hv' : Holding (n := 64) (m' ((c.tc : Thread Cert.ReferenceIdeal.nD Cert.ReferenceIdeal.τ).loc Cert.ReferenceIdeal.main_arg2)) (vs m c) := by
      rw [(hag c).2.2.1]; exact hv c
    have hg' : Holding (n := 64) (m' ((c.tc : Thread Cert.ReferenceIdeal.nD Cert.ReferenceIdeal.τ).loc Cert.ReferenceIdeal.main_arg3)) (gs m c) := by
      rw [(hag c).2.2.2]; exact hg c
    have zq : ∀ h i d, 96 ≤ d → qs m c h i d = 0 := fun h i d => reals_zero _ h i d
    have zk : ∀ h i d, 96 ≤ d → ks m c h i d = 0 := fun h i d => reals_zero _ h i d
    have zg : ∀ h i d, 64 ≤ d → gs m c h i d = 0 := fun h i d => reals_zero _ h i d
    refine ⟨e0.trans ?_, e1.trans ?_, e2.trans ?_, e3.trans ?_, ha⟩
    · exact (Cert.ReferenceIdeal.Read.val_main_v30_eq _ _ _).trans (eq_spread (Cert.ReferenceIdeal.Attn.out_holds hq' hk' zq hv'))
    · exact (Cert.ReferenceIdeal.Read.val_main_v50_eq m' c).trans (eq_spread (Cert.ReferenceIdeal.Attn.dq_holds hq' hk' hv' hg' zq zk zg))
    · exact (Cert.ReferenceIdeal.Read.val_main_v48_eq m' c).trans (eq_spread (Cert.ReferenceIdeal.Attn.dk_holds hq' hk' hv' hg' zq zg))
    · exact (Cert.ReferenceIdeal.Read.val_main_v34_eq _ _ _).trans (eq_spread (Cert.ReferenceIdeal.Attn.dv_holds hq' hk' zq hg' zg))

/-! ## The perceptron's value claim -/

open Cert.Mlp (plane nn nt tn act) in
set_option maxHeartbeats 1000000 in
/-- The six calls and the reference end with the same four arrays. -/
theorem algebraic2 : Cert.algebraic_Kernel2Ideal_Reference2Ideal := by
  intro m ρ m' ρ' _ hag
  refine ⟨fun c => plane (m := 8192) (n := 1024) fun i j =>
      nn 4096 (act (Cert.Kernel2Ideal.Mlp.pre m c)) (Cert.Kernel2Ideal.Mlp.w2 m c) i j + Cert.Kernel2Ideal.Mlp.res m c i j,
    fun c => plane (m := 8192) (n := 1024) (nt 4096 (Cert.Kernel2Ideal.Mlp.dpre m c) (Cert.Kernel2Ideal.Mlp.w1 m c)),
    fun c => plane (m := 1024) (n := 4096) (tn 8192 (Cert.Kernel2Ideal.Mlp.h m c) (Cert.Kernel2Ideal.Mlp.dpre m c)),
    fun c => plane (m := 4096) (n := 1024) (tn 8192 (act (Cert.Kernel2Ideal.Mlp.pre m c)) (Cert.Kernel2Ideal.Mlp.ct m c)), ?_, ?_⟩
  · refine (θ_run Cert.Kernel2Ideal.defs _ _).mono (fun r h c => ⟨?_, ?_, ?_, ?_, ?_, ?_, ?_, ?_, ?_⟩) (Cert.Kernel2Ideal.Mlp.run_all m ρ)
    · exact (h c _ (Cert.Kernel2Ideal.Gen.mem_uc Cert.Kernel2Ideal.main_v5 (by decide))).trans (Cert.Kernel2Ideal.Mlp.at7_v5 m ρ c)
    · exact (h c _ (Cert.Kernel2Ideal.Gen.mem_uc Cert.Kernel2Ideal.main_v8 (by decide))).trans (Cert.Kernel2Ideal.Mlp.at7_v8 m ρ c)
    · exact (h c _ (Cert.Kernel2Ideal.Gen.mem_uc Cert.Kernel2Ideal.main_v9 (by decide))).trans (Cert.Kernel2Ideal.Mlp.at7_v9 m ρ c)
    · exact (h c _ (Cert.Kernel2Ideal.Gen.mem_uc Cert.Kernel2Ideal.main_v7 (by decide))).trans (Cert.Kernel2Ideal.Mlp.at7_v7 m ρ c)
    · exact (h c _ (Cert.Kernel2Ideal.Gen.mem_uc Cert.Kernel2Ideal.main_arg0 (by decide))).trans (Cert.Kernel2Ideal.Gen.W7_main_arg0 m ρ c)
    · exact (h c _ (Cert.Kernel2Ideal.Gen.mem_uc Cert.Kernel2Ideal.main_arg1 (by decide))).trans (Cert.Kernel2Ideal.Gen.W7_main_arg1 m ρ c)
    · exact (h c _ (Cert.Kernel2Ideal.Gen.mem_uc Cert.Kernel2Ideal.main_arg2 (by decide))).trans (Cert.Kernel2Ideal.Gen.W7_main_arg2 m ρ c)
    · exact (h c _ (Cert.Kernel2Ideal.Gen.mem_uc Cert.Kernel2Ideal.main_arg3 (by decide))).trans (Cert.Kernel2Ideal.Gen.W7_main_arg3 m ρ c)
    · exact (h c _ (Cert.Kernel2Ideal.Gen.mem_uc Cert.Kernel2Ideal.main_arg4 (by decide))).trans (Cert.Kernel2Ideal.Gen.W7_main_arg4 m ρ c)
  · refine (θ_run Cert.Reference2Ideal.defs _ _).mono (fun r h c => ?_) (Cert.Reference2Ideal.Value.run m' ρ')
    obtain ⟨e0, e1, e2, e3, ha⟩ := h c
    obtain ⟨a0, a1, a2, a3, a4⟩ := hag c
    refine ⟨e0.trans ?_, e1.trans ?_, e2.trans ?_, e3.trans ?_, ha⟩
    · rw [a0, a1, a2, a3]
      exact (Cert.Reference2Ideal.Read.val_main_v9_eq _ _ _ _).trans (Cert.Reference2Ideal.Mlp.out_plane _ _ _ _)
    · rw [a0, a2, a3, a4]
      exact (Cert.Reference2Ideal.Read.val_main_v19_eq _ _ _ _).trans (Cert.Reference2Ideal.Mlp.dh_plane _ _ _ _)
    · rw [a0, a2, a3, a4]
      exact (Cert.Reference2Ideal.Read.val_main_v18_eq _ _ _ _).trans (Cert.Reference2Ideal.Mlp.dw1_plane _ _ _ _)
    · rw [a0, a2, a4]
      exact (Cert.Reference2Ideal.Read.val_main_v12_eq _ _ _).trans (Cert.Reference2Ideal.Mlp.dw2_plane _ _ _)

/-! ## The gates' value claim -/

open Cert.Mlp (plane entries nn nt tn beside colsum headed) in
set_option maxHeartbeats 1000000 in
/-- The eleven calls and the reference end with the same eight arrays. -/
theorem algebraic3 : Cert.algebraic_Kernel3Ideal_Reference3Ideal := by
  intro m ρ m' ρ' _ hag
  refine ⟨fun c => plane (m := 8192) (n := 1024) (fun i j => nn 1024 (Cert.Kernel3Ideal.Gate.mg m c) (Cert.Kernel3Ideal.Gate.wo m c) i j + Cert.Kernel3Ideal.Gate.xr m c i j),
    fun c => plane (m := 8192) (n := 512) (nt 1024 (Cert.Kernel3Ideal.Gate.db m c 0) (Cert.Kernel3Ideal.Gate.ws m c)),
    fun c => headed (nt 1024 (Cert.Kernel3Ideal.Gate.db m c 1) (Cert.Kernel3Ideal.Gate.wm m c)),
    fun c => plane (m := 8192) (n := 2048) (beside [(1024, Cert.Kernel3Ideal.Gate.dg m c 0), (1024, Cert.Kernel3Ideal.Gate.dg m c 1)]),
    fun c => plane (m := 2) (n := 1024) (fun k j => colsum 8192 (Cert.Kernel3Ideal.Gate.dg m c k) 0 j),
    fun c => plane (m := 512) (n := 1024) (tn 8192 (Cert.Kernel3Ideal.Gate.ys m c) (Cert.Kernel3Ideal.Gate.db m c 0)),
    fun c => plane (m := 512) (n := 1024) (tn 8192 (Cert.Kernel3Ideal.Gate.ym m c) (Cert.Kernel3Ideal.Gate.db m c 1)),
    fun c => plane (m := 1024) (n := 1024) (tn 8192 (Cert.Kernel3Ideal.Gate.mg m c) (Cert.Kernel3Ideal.Gate.ct m c)), ?_, ?_⟩
  · refine (θ_run Cert.Kernel3Ideal.defs _ _).mono (fun r h c => ⟨?_, ?_, ?_, ?_, ?_, ?_, ?_, ?_, ?_, ?_, ?_, ?_, ?_, ?_, ?_, ?_, ?_⟩) (Cert.Kernel3Ideal.Gate.run_all m ρ)
    · exact (h c _ (Cert.Kernel3Ideal.Gen.mem_uc Cert.Kernel3Ideal.main_v15 (by decide))).trans (Cert.Kernel3Ideal.Gate.at16_v15 m ρ c)
    · exact (h c _ (Cert.Kernel3Ideal.Gen.mem_uc Cert.Kernel3Ideal.main_v20 (by decide))).trans (Cert.Kernel3Ideal.Gate.at16_v20 m ρ c)
    · exact (h c _ (Cert.Kernel3Ideal.Gen.mem_uc Cert.Kernel3Ideal.main_v28 (by decide))).trans (Cert.Kernel3Ideal.Gate.at16_v28 m ρ c)
    · exact (h c _ (Cert.Kernel3Ideal.Gen.mem_uc Cert.Kernel3Ideal.main_v29 (by decide))).trans (Cert.Kernel3Ideal.Gate.at16_v29 m ρ c)
    · exact (h c _ (Cert.Kernel3Ideal.Gen.mem_uc Cert.Kernel3Ideal.main_v19 (by decide))).trans (Cert.Kernel3Ideal.Gate.at16_v19 m ρ c)
    · exact (h c _ (Cert.Kernel3Ideal.Gen.mem_uc Cert.Kernel3Ideal.main_v21 (by decide))).trans (Cert.Kernel3Ideal.Gate.at16_v21 m ρ c)
    · exact (h c _ (Cert.Kernel3Ideal.Gen.mem_uc Cert.Kernel3Ideal.main_v26 (by decide))).trans (Cert.Kernel3Ideal.Gate.at16_v26 m ρ c)
    · exact (h c _ (Cert.Kernel3Ideal.Gen.mem_uc Cert.Kernel3Ideal.main_v17 (by decide))).trans (Cert.Kernel3Ideal.Gate.at16_v17 m ρ c)
    · exact (h c _ (Cert.Kernel3Ideal.Gen.mem_uc Cert.Kernel3Ideal.main_arg0 (by decide))).trans (Cert.Kernel3Ideal.Gen.W16_main_arg0 m ρ c)
    · exact (h c _ (Cert.Kernel3Ideal.Gen.mem_uc Cert.Kernel3Ideal.main_arg1 (by decide))).trans (Cert.Kernel3Ideal.Gen.W16_main_arg1 m ρ c)
    · exact (h c _ (Cert.Kernel3Ideal.Gen.mem_uc Cert.Kernel3Ideal.main_arg2 (by decide))).trans (Cert.Kernel3Ideal.Gen.W16_main_arg2 m ρ c)
    · exact (h c _ (Cert.Kernel3Ideal.Gen.mem_uc Cert.Kernel3Ideal.main_arg3 (by decide))).trans (Cert.Kernel3Ideal.Gen.W16_main_arg3 m ρ c)
    · exact (h c _ (Cert.Kernel3Ideal.Gen.mem_uc Cert.Kernel3Ideal.main_arg4 (by decide))).trans (Cert.Kernel3Ideal.Gen.W16_main_arg4 m ρ c)
    · exact (h c _ (Cert.Kernel3Ideal.Gen.mem_uc Cert.Kernel3Ideal.main_arg5 (by decide))).trans (Cert.Kernel3Ideal.Gen.W16_main_arg5 m ρ c)
    · exact (h c _ (Cert.Kernel3Ideal.Gen.mem_uc Cert.Kernel3Ideal.main_arg6 (by decide))).trans (Cert.Kernel3Ideal.Gen.W16_main_arg6 m ρ c)
    · exact (h c _ (Cert.Kernel3Ideal.Gen.mem_uc Cert.Kernel3Ideal.main_arg7 (by decide))).trans (Cert.Kernel3Ideal.Gen.W16_main_arg7 m ρ c)
    · exact (h c _ (Cert.Kernel3Ideal.Gen.mem_uc Cert.Kernel3Ideal.main_arg8 (by decide))).trans (Cert.Kernel3Ideal.Gen.W16_main_arg8 m ρ c)
  · refine (θ_run Cert.Reference3Ideal.defs _ _).mono (fun r h c => ?_) (Cert.Reference3Ideal.Value.run m' ρ')
    obtain ⟨e0, e1, e2, e3, e4, e5, e6, e7, ha⟩ := h c
    obtain ⟨a0, a1, a2, a3, a4, a5, a6, a7, a8⟩ := hag c
    refine ⟨e0.trans ?_, e1.trans ?_, e2.trans ?_, e3.trans ?_, e4.trans ?_, e5.trans ?_, e6.trans ?_, e7.trans ?_, ha⟩
    · rw [a0, a1, a2, a3, a4, a5, a6, a7]
      exact (Cert.Reference3Ideal.Read.val_main_v24_eq _ _ _ _ _ _ _ _).trans (Cert.Reference3Ideal.Gate.out_plane _ _ _ _ _ _ _ _)
    · rw [a2, a3, a4, a6, a8]
      exact (Cert.Reference3Ideal.Read.val_main_v41_eq _ _ _ _ _).trans (Cert.Reference3Ideal.Gate.dys_plane _ _ _ _ _)
    · rw [a2, a3, a5, a6, a8]
      exact (Cert.Reference3Ideal.Read.val_main_v34_eq _ _ _ _ _).trans (Cert.Reference3Ideal.Gate.dym_headed _ _ _ _ _)
    · rw [a0, a1, a2, a3, a4, a5, a6, a8]
      exact (Cert.Reference3Ideal.Read.val_main_v49_eq _ _ _ _ _ _ _ _).trans (Cert.Reference3Ideal.Gate.dgp_plane _ _ _ _ _ _ _ _)
    · rw [a0, a1, a2, a3, a4, a5, a6, a8]
      exact (Cert.Reference3Ideal.Read.val_main_v48_eq _ _ _ _ _ _ _ _).trans (Cert.Reference3Ideal.Gate.dgb_plane _ _ _ _ _ _ _ _)
    · rw [a0, a2, a3, a6, a8]
      exact (Cert.Reference3Ideal.Read.val_main_v40_eq _ _ _ _ _).trans (Cert.Reference3Ideal.Gate.dws_plane _ _ _ _ _)
    · rw [a1, a2, a3, a6, a8]
      exact (Cert.Reference3Ideal.Read.val_main_v32_eq _ _ _ _ _).trans (Cert.Reference3Ideal.Gate.dwm_plane _ _ _ _ _)
    · rw [a0, a1, a2, a3, a4, a5, a8]
      exact (Cert.Reference3Ideal.Read.val_main_v27_eq _ _ _ _ _ _ _).trans (Cert.Reference3Ideal.Gate.dwo_plane _ _ _ _ _ _ _)

/-! ## The in-projection's value claim -/

open Cert.Mlp (plane nn nt tn) in
set_option maxHeartbeats 1000000 in
/-- The three calls and the reference end with the same seven arrays. -/
theorem algebraic4 : Cert.algebraic_Kernel4Ideal_Reference4Ideal := by
  intro m ρ m' ρ' _ hag
  refine ⟨fun c => plane (m := 8192) (n := 512) fun i j => nn 1024 (Cert.Kernel4Ideal.InProj.h m c) (Cert.Kernel4Ideal.InProj.w m c) i (0 + j),
    fun c => plane (m := 8192) (n := 384) fun i j => nn 1024 (Cert.Kernel4Ideal.InProj.h m c) (Cert.Kernel4Ideal.InProj.w m c) i (512 + j),
    fun c => plane (m := 8192) (n := 256) fun i j => nn 1024 (Cert.Kernel4Ideal.InProj.h m c) (Cert.Kernel4Ideal.InProj.w m c) i (896 + j),
    fun c => plane (m := 8192) (n := 32) fun i j => nn 1024 (Cert.Kernel4Ideal.InProj.h m c) (Cert.Kernel4Ideal.InProj.w m c) i (1152 + j),
    fun c => plane (m := 8192) (n := 2048) fun i j => nn 1024 (Cert.Kernel4Ideal.InProj.h m c) (Cert.Kernel4Ideal.InProj.w m c) i (1184 + j),
    fun c => plane (m := 8192) (n := 1024) (nt 3232 (Cert.Kernel4Ideal.InProj.dout m c) (Cert.Kernel4Ideal.InProj.w m c)),
    fun c => plane (m := 1024) (n := 3232) (tn 8192 (Cert.Kernel4Ideal.InProj.h m c) (Cert.Kernel4Ideal.InProj.dout m c)), ?_, ?_⟩
  · refine (θ_run Cert.Kernel4Ideal.defs _ _).mono (fun r h c => ⟨?_, ?_, ?_, ?_, ?_, ?_, ?_, ?_, ?_, ?_, ?_, ?_, ?_, ?_⟩) (Cert.Kernel4Ideal.InProj.run_all m ρ)
    · exact (h c _ (Cert.Kernel4Ideal.Gen.mem_uc Cert.Kernel4Ideal.main_v30 (by decide))).trans (Cert.Kernel4Ideal.InProj.at6_v30 m ρ c)
    · exact (h c _ (Cert.Kernel4Ideal.Gen.mem_uc Cert.Kernel4Ideal.main_v31 (by decide))).trans (Cert.Kernel4Ideal.InProj.at6_v31 m ρ c)
    · exact (h c _ (Cert.Kernel4Ideal.Gen.mem_uc Cert.Kernel4Ideal.main_v32 (by decide))).trans (Cert.Kernel4Ideal.InProj.at6_v32 m ρ c)
    · exact (h c _ (Cert.Kernel4Ideal.Gen.mem_uc Cert.Kernel4Ideal.main_v33 (by decide))).trans (Cert.Kernel4Ideal.InProj.at6_v33 m ρ c)
    · exact (h c _ (Cert.Kernel4Ideal.Gen.mem_uc Cert.Kernel4Ideal.main_v34 (by decide))).trans (Cert.Kernel4Ideal.InProj.at6_v34 m ρ c)
    · exact (h c _ (Cert.Kernel4Ideal.Gen.mem_uc Cert.Kernel4Ideal.main_v22 (by decide))).trans (Cert.Kernel4Ideal.InProj.at6_v22 m ρ c)
    · exact (h c _ (Cert.Kernel4Ideal.Gen.mem_uc Cert.Kernel4Ideal.main_v29 (by decide))).trans (Cert.Kernel4Ideal.InProj.at6_v29 m ρ c)
    · exact (h c _ (Cert.Kernel4Ideal.Gen.mem_uc Cert.Kernel4Ideal.main_arg0 (by decide))).trans (Cert.Kernel4Ideal.Gen.W6_main_arg0 m ρ c)
    · exact (h c _ (Cert.Kernel4Ideal.Gen.mem_uc Cert.Kernel4Ideal.main_arg1 (by decide))).trans (Cert.Kernel4Ideal.Gen.W6_main_arg1 m ρ c)
    · exact (h c _ (Cert.Kernel4Ideal.Gen.mem_uc Cert.Kernel4Ideal.main_arg2 (by decide))).trans (Cert.Kernel4Ideal.Gen.W6_main_arg2 m ρ c)
    · exact (h c _ (Cert.Kernel4Ideal.Gen.mem_uc Cert.Kernel4Ideal.main_arg3 (by decide))).trans (Cert.Kernel4Ideal.Gen.W6_main_arg3 m ρ c)
    · exact (h c _ (Cert.Kernel4Ideal.Gen.mem_uc Cert.Kernel4Ideal.main_arg4 (by decide))).trans (Cert.Kernel4Ideal.Gen.W6_main_arg4 m ρ c)
    · exact (h c _ (Cert.Kernel4Ideal.Gen.mem_uc Cert.Kernel4Ideal.main_arg5 (by decide))).trans (Cert.Kernel4Ideal.Gen.W6_main_arg5 m ρ c)
    · exact (h c _ (Cert.Kernel4Ideal.Gen.mem_uc Cert.Kernel4Ideal.main_arg6 (by decide))).trans (Cert.Kernel4Ideal.Gen.W6_main_arg6 m ρ c)
  · refine (θ_run Cert.Reference4Ideal.defs _ _).mono (fun r h c => ?_) (Cert.Reference4Ideal.Value.run m' ρ')
    obtain ⟨e0, e1, e2, e3, e4, e5, e6, ha⟩ := h c
    obtain ⟨a0, a1, a2, a3, a4, a5, a6⟩ := hag c
    refine ⟨e0.trans ?_, e1.trans ?_, e2.trans ?_, e3.trans ?_, e4.trans ?_, e5.trans ?_, e6.trans ?_, ha⟩
    · rw [a0, a1]
      exact (Cert.Reference4Ideal.Read.val_main_v1_eq _ _).trans (Cert.Reference4Ideal.InProj.u_plane _ _)
    · rw [a0, a1]
      exact (Cert.Reference4Ideal.Read.val_main_v2_eq _ _).trans (Cert.Reference4Ideal.InProj.q_plane _ _)
    · rw [a0, a1]
      exact (Cert.Reference4Ideal.Read.val_main_v3_eq _ _).trans (Cert.Reference4Ideal.InProj.k_plane _ _)
    · rw [a0, a1]
      exact (Cert.Reference4Ideal.Read.val_main_v4_eq _ _).trans (Cert.Reference4Ideal.InProj.p_plane _ _)
    · rw [a0, a1]
      exact (Cert.Reference4Ideal.Read.val_main_v5_eq _ _).trans (Cert.Reference4Ideal.InProj.g_plane _ _)
    · rw [a1, a2, a3, a4, a5, a6]
      exact (Cert.Reference4Ideal.Read.val_main_v9_eq _ _ _ _ _ _).trans (Cert.Reference4Ideal.InProj.dh_plane _ _ _ _ _ _)
    · rw [a0, a2, a3, a4, a5, a6]
      exact (Cert.Reference4Ideal.Read.val_main_v8_eq _ _ _ _ _ _).trans (Cert.Reference4Ideal.InProj.dw_plane _ _ _ _ _ _)

/-! ## The gated layer's value claim -/

open Cert.Mlp (plane nt tn glu colsum flat) in
set_option maxHeartbeats 1000000 in
/-- The six calls and the reference end with the same four arrays. -/
theorem algebraic5 : Cert.algebraic_Kernel5Ideal_Reference5Ideal := by
  intro m ρ m' ρ' _ hag
  refine ⟨fun c => plane (m := 8192) (n := 512) (glu (Cert.Kernel5Ideal.Glu.ysm m c) (Cert.Kernel5Ideal.Glu.zp m c) (Cert.Kernel5Ideal.Glu.bs m c)),
    fun c => plane (m := 8192) (n := 512) (fun r j => Cert.Kernel5Ideal.Glu.od m c r j + nt 512 (Cert.Kernel5Ideal.Glu.dz m c) (Cert.Kernel5Ideal.Glu.wt m c) r j),
    fun c => plane (m := 512) (n := 512) (tn 8192 (Cert.Kernel5Ideal.Glu.yg m c) (Cert.Kernel5Ideal.Glu.dz m c)),
    fun c => flat (colsum 8192 (Cert.Kernel5Ideal.Glu.dz m c)), ?_, ?_⟩
  · refine (θ_run Cert.Kernel5Ideal.defs _ _).mono (fun r h c => ⟨?_, ?_, ?_, ?_, ?_, ?_, ?_, ?_, ?_, ?_, ?_⟩) (Cert.Kernel5Ideal.Glu.run_all m ρ)
    · exact (h c _ (Cert.Kernel5Ideal.Gen.mem_uc Cert.Kernel5Ideal.main_v9 (by decide))).trans (Cert.Kernel5Ideal.Glu.at8_v9 m ρ c)
    · exact (h c _ (Cert.Kernel5Ideal.Gen.mem_uc Cert.Kernel5Ideal.main_v10 (by decide))).trans (Cert.Kernel5Ideal.Glu.at8_v10 m ρ c)
    · exact (h c _ (Cert.Kernel5Ideal.Gen.mem_uc Cert.Kernel5Ideal.main_v8 (by decide))).trans (Cert.Kernel5Ideal.Glu.at8_v8 m ρ c)
    · exact (h c _ (Cert.Kernel5Ideal.Gen.mem_uc Cert.Kernel5Ideal.main_v11 (by decide))).trans (Cert.Kernel5Ideal.Glu.at8_v11 m ρ c)
    · exact (h c _ (Cert.Kernel5Ideal.Gen.mem_uc Cert.Kernel5Ideal.main_arg0 (by decide))).trans (Cert.Kernel5Ideal.Gen.W8_main_arg0 m ρ c)
    · exact (h c _ (Cert.Kernel5Ideal.Gen.mem_uc Cert.Kernel5Ideal.main_arg1 (by decide))).trans (Cert.Kernel5Ideal.Gen.W8_main_arg1 m ρ c)
    · exact (h c _ (Cert.Kernel5Ideal.Gen.mem_uc Cert.Kernel5Ideal.main_arg2 (by decide))).trans (Cert.Kernel5Ideal.Gen.W8_main_arg2 m ρ c)
    · exact (h c _ (Cert.Kernel5Ideal.Gen.mem_uc Cert.Kernel5Ideal.main_arg3 (by decide))).trans (Cert.Kernel5Ideal.Gen.W8_main_arg3 m ρ c)
    · exact (h c _ (Cert.Kernel5Ideal.Gen.mem_uc Cert.Kernel5Ideal.main_arg4 (by decide))).trans (Cert.Kernel5Ideal.Gen.W8_main_arg4 m ρ c)
    · exact (h c _ (Cert.Kernel5Ideal.Gen.mem_uc Cert.Kernel5Ideal.main_arg5 (by decide))).trans (Cert.Kernel5Ideal.Gen.W8_main_arg5 m ρ c)
    · exact (h c _ (Cert.Kernel5Ideal.Gen.mem_uc Cert.Kernel5Ideal.main_arg6 (by decide))).trans (Cert.Kernel5Ideal.Gen.W8_main_arg6 m ρ c)
  · refine (θ_run Cert.Reference5Ideal.defs _ _).mono (fun r h c => ?_) (Cert.Reference5Ideal.Value.run m' ρ')
    obtain ⟨e0, e1, e2, e3, ha⟩ := h c
    obtain ⟨a0, a1, a2, a3, a4, a5, a6⟩ := hag c
    refine ⟨e0.trans ?_, e1.trans ?_, e2.trans ?_, e3.trans ?_, ha⟩
    · refine (Cert.Reference5Ideal.Read.val_main_v31_eq _ _).trans ?_
      rw [a0, a1, a2, a3, a4, a5]
      exact Cert.Reference5Ideal.Glu.glu_plane _ _ _ _ _ _
    · refine (Cert.Reference5Ideal.Read.val_main_v41_eq _ _).trans ?_
      rw [a0, a1, a2, a3, a4, a5, a6]
      exact Cert.Reference5Ideal.Glu.dyg_plane _ _ _ _ _ _ _
    · refine (Cert.Reference5Ideal.Read.val_main_v39_eq _ _).trans ?_
      rw [a0, a1, a2, a3, a4, a5, a6]
      exact Cert.Reference5Ideal.Glu.dw_plane _ _ _ _ _ _ _
    · refine (Cert.Reference5Ideal.Read.val_main_v37_eq _ _).trans ?_
      rw [a0, a1, a2, a3, a4, a5, a6]
      exact Cert.Reference5Ideal.Glu.db_vec _ _ _ _ _ _ _

/-! ## The up-projections' value claim -/

open Cert.Mlp (plane cube split off merged paired nn nt tn) in
set_option maxHeartbeats 1000000 in
/-- The six calls and the reference end with the same seven arrays. -/
theorem algebraic6 : Cert.algebraic_Kernel6Ideal_Reference6Ideal := by
  intro m ρ m' ρ' _ hag
  refine ⟨fun c => cube (M := 8192) (n := 96) (split 96 (nn 384 (Cert.Kernel6Ideal.Up.cq m c) (Cert.Kernel6Ideal.Up.wq m c))),
    fun c => cube (M := 8192) (n := 64) (off 0 (split 128 (nn 256 (Cert.Kernel6Ideal.Up.ck m c) (Cert.Kernel6Ideal.Up.wk m c)))),
    fun c => cube (M := 8192) (n := 64) (off 64 (split 128 (nn 256 (Cert.Kernel6Ideal.Up.ck m c) (Cert.Kernel6Ideal.Up.wk m c)))),
    fun c => plane (m := 8192) (n := 384) (nt 768 (merged 96 (Cert.Kernel6Ideal.Up.dq m c)) (Cert.Kernel6Ideal.Up.wq m c)),
    fun c => plane (m := 8192) (n := 256) (nt 1024 (merged 128 (paired (Cert.Kernel6Ideal.Up.dk m c) (Cert.Kernel6Ideal.Up.dv m c))) (Cert.Kernel6Ideal.Up.wk m c)),
    fun c => plane (m := 384) (n := 768) (tn 8192 (Cert.Kernel6Ideal.Up.cq m c) (merged 96 (Cert.Kernel6Ideal.Up.dq m c))),
    fun c => plane (m := 256) (n := 1024) (tn 8192 (Cert.Kernel6Ideal.Up.ck m c) (merged 128 (paired (Cert.Kernel6Ideal.Up.dk m c) (Cert.Kernel6Ideal.Up.dv m c)))), ?_, ?_⟩
  · refine (θ_run Cert.Kernel6Ideal.defs _ _).mono (fun r h c => ⟨?_, ?_, ?_, ?_, ?_, ?_, ?_, ?_, ?_, ?_, ?_, ?_, ?_, ?_⟩) (Cert.Kernel6Ideal.Up.run_all m ρ)
    · exact (h c _ (Cert.Kernel6Ideal.Gen.mem_uc Cert.Kernel6Ideal.main_v42 (by decide))).trans (Cert.Kernel6Ideal.Up.at15_v42 m ρ c)
    · exact (h c _ (Cert.Kernel6Ideal.Gen.mem_uc Cert.Kernel6Ideal.main_v45 (by decide))).trans (Cert.Kernel6Ideal.Up.at15_v45 m ρ c)
    · exact (h c _ (Cert.Kernel6Ideal.Gen.mem_uc Cert.Kernel6Ideal.main_v48 (by decide))).trans (Cert.Kernel6Ideal.Up.at15_v48 m ρ c)
    · exact (h c _ (Cert.Kernel6Ideal.Gen.mem_uc Cert.Kernel6Ideal.main_v26 (by decide))).trans (Cert.Kernel6Ideal.Up.at15_v26 m ρ c)
    · exact (h c _ (Cert.Kernel6Ideal.Gen.mem_uc Cert.Kernel6Ideal.main_v31 (by decide))).trans (Cert.Kernel6Ideal.Up.at15_v31 m ρ c)
    · exact (h c _ (Cert.Kernel6Ideal.Gen.mem_uc Cert.Kernel6Ideal.main_v30 (by decide))).trans (Cert.Kernel6Ideal.Up.at15_v30 m ρ c)
    · exact (h c _ (Cert.Kernel6Ideal.Gen.mem_uc Cert.Kernel6Ideal.main_v40 (by decide))).trans (Cert.Kernel6Ideal.Up.at15_v40 m ρ c)
    · exact (h c _ (Cert.Kernel6Ideal.Gen.mem_uc Cert.Kernel6Ideal.main_arg0 (by decide))).trans (Cert.Kernel6Ideal.Gen.W15_main_arg0 m ρ c)
    · exact (h c _ (Cert.Kernel6Ideal.Gen.mem_uc Cert.Kernel6Ideal.main_arg1 (by decide))).trans (Cert.Kernel6Ideal.Gen.W15_main_arg1 m ρ c)
    · exact (h c _ (Cert.Kernel6Ideal.Gen.mem_uc Cert.Kernel6Ideal.main_arg2 (by decide))).trans (Cert.Kernel6Ideal.Gen.W15_main_arg2 m ρ c)
    · exact (h c _ (Cert.Kernel6Ideal.Gen.mem_uc Cert.Kernel6Ideal.main_arg3 (by decide))).trans (Cert.Kernel6Ideal.Gen.W15_main_arg3 m ρ c)
    · exact (h c _ (Cert.Kernel6Ideal.Gen.mem_uc Cert.Kernel6Ideal.main_arg4 (by decide))).trans (Cert.Kernel6Ideal.Gen.W15_main_arg4 m ρ c)
    · exact (h c _ (Cert.Kernel6Ideal.Gen.mem_uc Cert.Kernel6Ideal.main_arg5 (by decide))).trans (Cert.Kernel6Ideal.Gen.W15_main_arg5 m ρ c)
    · exact (h c _ (Cert.Kernel6Ideal.Gen.mem_uc Cert.Kernel6Ideal.main_arg6 (by decide))).trans (Cert.Kernel6Ideal.Gen.W15_main_arg6 m ρ c)
  · refine (θ_run Cert.Reference6Ideal.defs _ _).mono (fun r h c => ?_) (Cert.Reference6Ideal.Value.run m' ρ')
    obtain ⟨e0, e1, e2, e3, e4, e5, e6, ha⟩ := h c
    obtain ⟨a0, a1, a2, a3, a4, a5, a6⟩ := hag c
    refine ⟨e0.trans ?_, e1.trans ?_, e2.trans ?_, e3.trans ?_, e4.trans ?_, e5.trans ?_, e6.trans ?_, ha⟩
    · rw [a0, a2]
      exact (Cert.Reference6Ideal.Read.val_main_v1_eq _ _).trans (Cert.Reference6Ideal.Up.q_cube _ _)
    · rw [a1, a3]
      exact (Cert.Reference6Ideal.Read.val_main_v4_eq _ _).trans (Cert.Reference6Ideal.Up.k_cube _ _)
    · rw [a1, a3]
      exact (Cert.Reference6Ideal.Read.val_main_v5_eq _ _).trans (Cert.Reference6Ideal.Up.v_cube _ _)
    · rw [a2, a4]
      exact (Cert.Reference6Ideal.Read.val_main_v16_eq _ _).trans (Cert.Reference6Ideal.Up.dcq_plane _ _)
    · rw [a3, a5, a6]
      exact (Cert.Reference6Ideal.Read.val_main_v12_eq _ _ _).trans (Cert.Reference6Ideal.Up.dck_plane _ _ _)
    · rw [a0, a4]
      exact (Cert.Reference6Ideal.Read.val_main_v15_eq _ _).trans (Cert.Reference6Ideal.Up.dwq_plane _ _)
    · rw [a1, a5, a6]
      exact (Cert.Reference6Ideal.Read.val_main_v11_eq _ _ _).trans (Cert.Reference6Ideal.Up.dwk_plane _ _ _)

/-- Everything claimed. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Pre_finite.Gen.facts,
    frame_kernel, frame_ideal, frame_ideal_finite, frame_ref, frame_ref_finite, frame_kernel2, frame_ideal2,
    frame_ref2, frame_kernel3, frame_ideal3, frame_ref3, frame_kernel4, frame_ideal4, frame_ref4, frame_kernel5,
    frame_ideal5, frame_ref5, frame_kernel6, frame_ideal6, frame_ref6,
    trivial, algebraic, trivial, algebraic2, trivial, algebraic3, trivial, algebraic4, trivial, algebraic5, trivial,
    algebraic6⟩

end Cert.Proof

end
